-- ==== Defs.lean ====
def Pre_Kernel [hPre_inputs : Cert.Pre_inputs.Facts] (m : (ℓ : Loc Cert.Kernel.nD Cert.Kernel.τ Cert.Kernel.sig) → Buf (Elt Bits) ℓ) : Prop :=
  ∀ c : Dev Cert.Kernel.nD,
    (Cert.Pre_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_inputs : Cert.Pre_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_inputs : Cert.Pre_inputs.Facts),
    quiescent_Kernel (hKernel := hKernel) (hPre_inputs := hPre_inputs)
    ∧ quiescent_KernelIdeal (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal (hKernelIdeal := hKernelIdeal) (hReferenceIdeal := hReferenceIdeal) (hPre_inputs := hPre_inputs)
-- ==== Pre_inputs.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S_ : Shape := ⟨0, ![]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S131x128 : S_.BroadcastsInDim S131x128 (![] : Fin 0 → Fin S131x128.rank)
  reducesTo_S131x128_S_d0_1 : S131x128.ReducesTo [0, 1] S_

variable [Facts]

def fn_part3 {F : FTy → Type} [FloatOps F] (main_arg10 : FVec F S131x128 .f32) (main_arg12 : FVec F S128x128 .f32) (main_v50 : IVec S_ 1) : IVec S_ 1 :=
  let main_v51 : FVec F S131x128 .f32 := Host.absf main_arg10
  let main_cst_19 : FVec F S_ .f32 := constant S_ .f32 0x7F800000#32
  let main_v52 : FVec F S131x128 .f32 := broadcastInDim S131x128 ![] bcast_S_S131x128 main_cst_19
  let main_v53 : IVec S131x128 1 := cmpf .olt main_v51 main_v52
  let main_c_20 : IVec S_ 1 := constantI S_ 1 1#1
  let main_v54 : IVec S_ 1 := (fun x v => Host.reduce IntOp.andi x v reducesTo_S131x128_S_d0_1 h_S_) main_v53 main_c_20
  let main_v55 : IVec S_ 1 := andi main_v50 main_v54
  let main_v56 : FVec F S128x128 .f32 := Host.absf main_arg12
  let main_cst_21 : FVec F S_ .f32 := constant S_ .f32 0x7F800000#32
  let main_v57 : FVec F S128x128 .f32 := broadcastInDim S128x128 ![] bcast_S_S128x128 main_cst_21
  let main_v58 : IVec S128x128 1 := cmpf .olt main_v56 main_v57
  let main_c_22 : IVec S_ 1 := constantI S_ 1 1#1
  let main_v59 : IVec S_ 1 := (fun x v => Host.reduce IntOp.andi x v reducesTo_S128x128_S_d0_1 h_S_) main_v58 main_c_22
  let main_v60 : IVec S_ 1 := andi main_v55 main_v59
  main_v60

def fn_part2 {F : FTy → Type} [FloatOps F] (main_arg7 : FVec F S128 .f32) (main_arg8 : FVec F S128x3 .f32) (main_arg9 : FVec F S3 .f32) (main_arg10 : FVec F S131x128 .f32) (main_arg12 : FVec F S128x128 .f32) (main_v30 : IVec S_ 1) (main_v33 : IVec S128x128 1) : IVec S_ 1 :=
  let main_c_12 : IVec S_ 1 := constantI S_ 1 1#1
  let main_v34 : IVec S_ 1 := (fun x v => Host.reduce IntOp.andi x v reducesTo_S128x128_S_d0_1 h_S_) main_v33 main_c_12
  let main_v35 : IVec S_ 1 := andi main_v30 main_v34
  let main_v36 : FVec F S128 .f32 := Host.absf main_arg7
  let main_cst_13 : FVec F S_ .f32 := constant S_ .f32 0x7F800000#32
  let main_v37 : FVec F S128 .f32 := broadcastInDim S128 ![] bcast_S_S128 main_cst_13
  let main_v38 : IVec S128 1 := cmpf .olt main_v36 main_v37
  let main_c_14 : IVec S_ 1 := constantI S_ 1 1#1
  let main_v39 : IVec S_ 1 := (fun x v => Host.reduce IntOp.andi x v reducesTo_S128_S_d0 h_S_) main_v38 main_c_14
  let main_v40 : IVec S_ 1 := andi main_v35 main_v39
  let main_v41 : FVec F S128x3 .f32 := Host.absf main_arg8
  let main_cst_15 : FVec F S_ .f32 := constant S_ .f32 0x7F800000#32
  let main_v42 : FVec F S128x3 .f32 := broadcastInDim S128x3 ![] bcast_S_S128x3 main_cst_15
  let main_v43 : IVec S128x3 1 := cmpf .olt main_v41 main_v42
  let main_c_16 : IVec S_ 1 := constantI S_ 1 1#1
  let main_v44 : IVec S_ 1 := (fun x v => Host.reduce IntOp.andi x v reducesTo_S128x3_S_d0_1 h_S_) main_v43 main_c_16
  let main_v45 : IVec S_ 1 := andi main_v40 main_v44
  let main_v46 : FVec F S3 .f32 := Host.absf main_arg9
  let main_cst_17 : FVec F S_ .f32 := constant S_ .f32 0x7F800000#32
  let main_v47 : FVec F S3 .f32 := broadcastInDim S3 ![] bcast_S_S3 main_cst_17
  let main_v48 : IVec S3 1 := cmpf .olt main_v46 main_v47
  let main_c_18 : IVec S_ 1 := constantI S_ 1 1#1
  let main_v49 : IVec S_ 1 := (fun x v => Host.reduce IntOp.andi x v reducesTo_S3_S_d0 h_S_) main_v48 main_c_18
  let main_v50 : IVec S_ 1 := andi main_v45 main_v49
  fn_part3 (F := F) main_arg10 main_arg12 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x3 .f32) (main_arg9 : FVec F S3 .f32) (main_arg10 : FVec F S131x128 .f32) (main_arg12 : FVec F S128x128 .f32) (main_v15 : IVec S_ 1) (main_v16 : FVec F S128 .f32) : IVec S_ 1 :=
  let main_cst_5 : FVec F S_ .f32 := constant S_ .f32 0x7F800000#32
  let main_v17 : FVec F S128 .f32 := broadcastInDim S128 ![] bcast_S_S128 main_cst_5
  let main_v18 : IVec S128 1 := cmpf .olt main_v16 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v15 main_v19
  let main_v21 : FVec F S128x128 .f32 := Host.absf main_arg4
  let main_cst_7 : FVec F S_ .f32 := constant S_ .f32 0x7F800000#32
  let main_v22 : FVec F S128x128 .f32 := broadcastInDim S128x128 ![] bcast_S_S128x128 main_cst_7
  let main_v23 : IVec S128x128 1 := cmpf .olt main_v21 main_v22
  let main_c_8 : IVec S_ 1 := constantI S_ 1 1#1
  let main_v24 : IVec S_ 1 := (fun x v => Host.reduce IntOp.andi x v reducesTo_S128x128_S_d0_1 h_S_) main_v23 main_c_8
  let main_v25 : IVec S_ 1 := andi main_v20 main_v24
  let main_v26 : FVec F S128 .f32 := Host.absf main_arg5
  let main_cst_9 : FVec F S_ .f32 := constant S_ .f32 0x7F800000#32
  let main_v27 : FVec F S128 .f32 := broadcastInDim S128 ![] bcast_S_S128 main_cst_9
  let main_v28 : IVec S128 1 := cmpf .olt main_v26 main_v27
  let main_c_10 : IVec S_ 1 := constantI S_ 1 1#1
  let main_v29 : IVec S_ 1 := (fun x v => Host.reduce IntOp.andi x v reducesTo_S128_S_d0 h_S_) main_v28 main_c_10
  let main_v30 : IVec S_ 1 := andi main_v25 main_v29
  let main_v31 : FVec F S128x128 .f32 := Host.absf main_arg6
  let main_cst_11 : FVec F S_ .f32 := constant S_ .f32 0x7F800000#32
  let main_v32 : FVec F S128x128 .f32 := broadcastInDim S128x128 ![] bcast_S_S128x128 main_cst_11
  let main_v33 : IVec S128x128 1 := cmpf .olt main_v31 main_v32
  fn_part2 (F := F) main_arg7 main_arg8 main_arg9 main_arg10 main_arg12 main_v30 main_v33

def fn {F : FTy → Type} [FloatOps F] (main_arg0 : FVec F S10000x128 .f32) (main_arg1 : IVec S2x320000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x3 .f32) (main_arg9 : FVec F S3 .f32) (main_arg10 : FVec F S131x128 .f32) (main_arg11 : FVec F S128 .f32) (main_arg12 : FVec F S128x128 .f32) (main_arg13 : FVec F S128 .f32) (main_arg14 : FVec F S128x128 .f32) (main_arg15 : FVec F S128 .f32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  let main_c_1 : IVec S_ 1 := constantI S_ 1 1#1
  let main_v5 : IVec S_ 1 := (fun x v => Host.reduce IntOp.andi x v reducesTo_S2x320000_S_d0_1 h_S_) main_v4 main_c_1
  let main_v6 : FVec F S10000x128 .f32 := Host.absf main_arg0
  let main_cst : FVec F S_ .f32 := constant S_ .f32 0x7F800000#32
  let main_v7 : FVec F S10000x128 .f32 := broadcastInDim S10000x128 ![] bcast_S_S10000x128 main_cst
  let main_v8 : IVec S10000x128 1 := cmpf .olt main_v6 main_v7
  let main_c_2 : IVec S_ 1 := constantI S_ 1 1#1
  let main_v9 : IVec S_ 1 := (fun x v => Host.reduce IntOp.andi x v reducesTo_S10000x128_S_d0_1 h_S_) main_v8 main_c_2
  let main_v10 : IVec S_ 1 := andi main_v5 main_v9
  let main_v11 : FVec F S128x128 .f32 := Host.absf main_arg2
  let main_cst_3 : FVec F S_ .f32 := constant S_ .f32 0x7F800000#32
  let main_v12 : FVec F S128x128 .f32 := broadcastInDim S128x128 ![] bcast_S_S128x128 main_cst_3
  let main_v13 : IVec S128x128 1 := cmpf .olt main_v11 main_v12
  let main_c_4 : IVec S_ 1 := constantI S_ 1 1#1
  let main_v14 : IVec S_ 1 := (fun x v => Host.reduce IntOp.andi x v reducesTo_S128x128_S_d0_1 h_S_) main_v13 main_c_4
  let main_v15 : IVec S_ 1 := andi main_v10 main_v14
  let main_v16 : FVec F S128 .f32 := Host.absf main_arg3
  fn_part1 (F := F) main_arg4 main_arg5 main_arg6 main_arg7 main_arg8 main_arg9 main_arg10 main_arg12 main_v15 main_v16
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S128x10000 : Shape := ⟨2, ![128, 10000]⟩
abbrev S_ : Shape := ⟨0, ![]⟩
abbrev S128x10240 : Shape := ⟨2, ![128, 10240]⟩
abbrev S1x320000 : Shape := ⟨2, ![1, 320000]⟩
abbrev S320000 : Shape := ⟨1, ![320000]⟩
abbrev S128x1 : Shape := ⟨2, ![128, 1]⟩
abbrev S3x128 : Shape := ⟨2, ![3, 128]⟩
abbrev S3x1 : Shape := ⟨2, ![3, 1]⟩
abbrev S128x2048 : Shape := ⟨2, ![128, 2048]⟩
abbrev S3x2048 : Shape := ⟨2, ![3, 2048]⟩
abbrev S10240 : Shape := ⟨1, ![10240]⟩
abbrev S8000 : Shape := ⟨1, ![8000]⟩
abbrev S1x10240 : Shape := ⟨2, ![1, 10240]⟩
abbrev S16 : Shape := ⟨1, ![16]⟩

abbrev nBuf : Table → Nat
  | .hbm => 55
  | .local .tc .vmem => 50
  | .local .scVector .vmem => 36
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x3, .f32⟩
  | .hbm, ⟨9, _⟩ => ⟨S3, .f32⟩
  | .hbm, ⟨10, _⟩ => ⟨S131x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x10000, .f32⟩
  | .hbm, ⟨17, _⟩ => ⟨S_, .i32⟩
  | .hbm, ⟨18, _⟩ => ⟨S_, .f32⟩
  | .hbm, ⟨19, _⟩ => ⟨S128x10240, .f32⟩
  | .hbm, ⟨20, _⟩ => ⟨S1x320000, .i32⟩
  | .hbm, ⟨21, _⟩ => ⟨S320000, .i32⟩
  | .hbm, ⟨22, _⟩ => ⟨S1x320000, .i32⟩
  | .hbm, ⟨23, _⟩ => ⟨S320000, .i32⟩
  | .hbm, ⟨24, _⟩ => ⟨S128x128, .f32⟩
  | .hbm, ⟨25, _⟩ => ⟨S128x1, .f32⟩
  | .hbm, ⟨26, _⟩ => ⟨S128x128, .f32⟩
  | .hbm, ⟨27, _⟩ => ⟨S128x1, .f32⟩
  | .hbm, ⟨28, _⟩ => ⟨S128x128, .f32⟩
  | .hbm, ⟨29, _⟩ => ⟨S128x1, .f32⟩
  | .hbm, ⟨30, _⟩ => ⟨S3x128, .f32⟩
  | .hbm, ⟨31, _⟩ => ⟨S3x1, .f32⟩
  | .hbm, ⟨32, _⟩ => ⟨S3x128, .f32⟩
  | .hbm, ⟨33, _⟩ => ⟨S128x3, .f32⟩
  | .hbm, ⟨34, _⟩ => ⟨S128x1, .f32⟩
  | .hbm, ⟨35, _⟩ => ⟨S128x128, .f32⟩
  | .hbm, ⟨36, _⟩ => ⟨S128x1, .f32⟩
  | .hbm, ⟨37, _⟩ => ⟨S128x128, .f32⟩
  | .hbm, ⟨38, _⟩ => ⟨S128x128, .f32⟩
  | .hbm, ⟨39, _⟩ => ⟨S128x10240, .f32⟩
  | .hbm, ⟨40, _⟩ => ⟨S128x10240, .f32⟩
  | .hbm, ⟨41, _⟩ => ⟨S128x10240, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x10240, .f32⟩
  | .hbm, ⟨46, _⟩ => ⟨S128x10240, .f32⟩
  | .hbm, ⟨47, _⟩ => ⟨S128x10240, .f32⟩
  | .hbm, ⟨48, _⟩ => ⟨S128x10240, .f32⟩
  | .hbm, ⟨49, _⟩ => ⟨S128x10240, .f32⟩
  | .hbm, ⟨50, _⟩ => ⟨S128x128, .f32⟩
  | .hbm, ⟨51, _⟩ => ⟨S128x1, .f32⟩
  | .hbm, ⟨52, _⟩ => ⟨S128x10240, .f32⟩
  | .hbm, ⟨53, _⟩ => ⟨S128x10000, .f32⟩
  | .hbm, ⟨54, _⟩ => ⟨S10000x128, .f32⟩
  | .local .tc .vmem, ⟨0, _⟩ => ⟨S128x2048, .f32⟩
  | .local .tc .vmem, ⟨1, _⟩ => ⟨S128x2048, .f32⟩
  | .local .tc .vmem, ⟨2, _⟩ => ⟨S128x128, .f32⟩
  | .local .tc .vmem, ⟨3, _⟩ => ⟨S128x1, .f32⟩
  | .local .tc .vmem, ⟨4, _⟩ => ⟨S128x128, .f32⟩
  | .local .tc .vmem, ⟨5, _⟩ => ⟨S128x1, .f32⟩
  | .local .tc .vmem, ⟨6, _⟩ => ⟨S128x128, .f32⟩
  | .local .tc .vmem, ⟨7, _⟩ => ⟨S128x1, .f32⟩
  | .local .tc .vmem, ⟨8, _⟩ => ⟨S3x128, .f32⟩
  | .local .tc .vmem, ⟨9, _⟩ => ⟨S3x1, .f32⟩
  | .local .tc .vmem, ⟨10, _⟩ => ⟨S128x3, .f32⟩
  | .local .tc .vmem, ⟨11, _⟩ => ⟨S128x1, .f32⟩
  | .local .tc .vmem, ⟨12, _⟩ => ⟨S128x128, .f32⟩
  | .local .tc .vmem, ⟨13, _⟩ => ⟨S128x1, .f32⟩
  | .local .tc .vmem, ⟨14, _⟩ => ⟨S128x128, .f32⟩
  | .local .tc .vmem, ⟨15, _⟩ => ⟨S128x2048, .f32⟩
  | .local .tc .vmem, ⟨16, _⟩ => ⟨S128x2048, .f32⟩
  | .local .tc .vmem, ⟨17, _⟩ => ⟨S128x2048, .f32⟩
  | .local .tc .vmem, ⟨18, _⟩ => ⟨S128x2048, .f32⟩
  | .local .tc .vmem, ⟨19, _⟩ => ⟨S128x2048, .f32⟩
  | .local .tc .vmem, ⟨20, _⟩ => ⟨S128x2048, .f32⟩
  | .local .tc .vmem, ⟨21, _⟩ => ⟨S128x2048, .f32⟩
  | .local .tc .vmem, ⟨22, _⟩ => ⟨S128x2048, .f32⟩
  | .local .tc .vmem, ⟨23, _⟩ => ⟨S128x2048, .f32⟩
  | .local .tc .vmem, ⟨24, _⟩ => ⟨S128x2048, .f32⟩
  | .local .tc .vmem, ⟨25, _⟩ => ⟨S128x2048, .f32⟩
  | .local .tc .vmem, ⟨26, _⟩ => ⟨S128x2048, .f32⟩
  | .local .tc .vmem, ⟨27, _⟩ => ⟨S128x128, .f32⟩
  | .local .tc .vmem, ⟨28, _⟩ => ⟨S128x128, .f32⟩
  | .local .tc .vmem, ⟨29, _⟩ => ⟨S128x2048, .f32⟩
  | .local .tc .vmem, ⟨30, _⟩ => ⟨S128x2048, .f32⟩
  | .local .tc .vmem, ⟨31, _⟩ => ⟨S128x2048, .f32⟩
  | .local .tc .vmem, ⟨32, _⟩ => ⟨S128x2048, .f32⟩
  | .local .tc .vmem, ⟨33, _⟩ => ⟨S128x2048, .f32⟩
  | .local .tc .vmem, ⟨34, _⟩ => ⟨S128x2048, .f32⟩
  | .local .tc .vmem, ⟨35, _⟩ => ⟨S128x2048, .f32⟩
  | .local .tc .vmem, ⟨36, _⟩ => ⟨S128x2048, .f32⟩
  | .local .tc .vmem, ⟨37, _⟩ => ⟨S128x128, .f32⟩
  | .local .tc .vmem, ⟨38, _⟩ => ⟨S128x128, .f32⟩
  | .local .tc .vmem, ⟨39, _⟩ => ⟨S128x2048, .f32⟩
  | .local .tc .vmem, ⟨40, _⟩ => ⟨S128x2048, .f32⟩
  | .local .tc .vmem, ⟨41, _⟩ => ⟨S128x2048, .f32⟩
  | .local .tc .vmem, ⟨42, _⟩ => ⟨S128x2048, .f32⟩
  | .local .tc .vmem, ⟨43, _⟩ => ⟨S128x2048, .f32⟩
  | .local .tc .vmem, ⟨44, _⟩ => ⟨S128x2048, .f32⟩
  | .local .tc .vmem, ⟨45, _⟩ => ⟨S128x128, .f32⟩
  | .local .tc .vmem, ⟨46, _⟩ => ⟨S128x128, .f32⟩
  | .local .tc .vmem, ⟨47, _⟩ => ⟨S128x1, .f32⟩
  | .local .tc .vmem, ⟨48, _⟩ => ⟨S128x2048, .f32⟩
  | .local .tc .vmem, ⟨49, _⟩ => ⟨S128x2048, .f32⟩
  | .local .scVector .vmem, ⟨0, _⟩ => ⟨S10240, .f32⟩
  | .local .scVector .vmem, ⟨1, _⟩ => ⟨S10240, .f32⟩
  | .local .scVector .vmem, ⟨2, _⟩ => ⟨S10240, .f32⟩
  | .local .scVector .vmem, ⟨3, _⟩ => ⟨S10240, .f32⟩
  | .local .scVector .vmem, ⟨4, _⟩ => ⟨S10240, .f32⟩
  | .local .scVector .vmem, ⟨5, _⟩ => ⟨S10240, .f32⟩
  | .local .scVector .vmem, ⟨6, _⟩ => ⟨S10240, .f32⟩
  | .local .scVector .vmem, ⟨7, _⟩ => ⟨S10240, .f32⟩
  | .local .scVector .vmem, ⟨8, _⟩ => ⟨S8000, .i32⟩
  | .local .scVector .vmem, ⟨9, _⟩ => ⟨S8000, .i32⟩
  | .local .scVector .vmem, ⟨10, _⟩ => ⟨S8000, .i32⟩
  | .local .scVector .vmem, ⟨11, _⟩ => ⟨S8000, .i32⟩
  | .local .scVector .vmem, ⟨12, _⟩ => ⟨S10240, .f32⟩
  | .local .scVector .vmem, ⟨13, _⟩ => ⟨S10240, .f32⟩
  | .local .scVector .vmem, ⟨14, _⟩ => ⟨S10240, .f32⟩
  | .local .scVector .vmem, ⟨15, _⟩ => ⟨S10240, .f32⟩
  | .local .scVector .vmem, ⟨16, _⟩ => ⟨S10240, .f32⟩
  | .local .scVector .vmem, ⟨17, _⟩ => ⟨S10240, .f32⟩
  | .local .scVector .vmem, ⟨18, _⟩ => ⟨S10240, .f32⟩
  | .local .scVector .vmem, ⟨19, _⟩ => ⟨S10240, .f32⟩
  | .local .scVector .vmem, ⟨20, _⟩ => ⟨S8000, .i32⟩
  | .local .scVector .vmem, ⟨21, _⟩ => ⟨S8000, .i32⟩
  | .local .scVector .vmem, ⟨22, _⟩ => ⟨S8000, .i32⟩
  | .local .scVector .vmem, ⟨23, _⟩ => ⟨S8000, .i32⟩
  | .local .scVector .vmem, ⟨24, _⟩ => ⟨S10240, .f32⟩
  | .local .scVector .vmem, ⟨25, _⟩ => ⟨S10240, .f32⟩
  | .local .scVector .vmem, ⟨26, _⟩ => ⟨S10240, .f32⟩
  | .local .scVector .vmem, ⟨27, _⟩ => ⟨S10240, .f32⟩
  | .local .scVector .vmem, ⟨28, _⟩ => ⟨S10240, .f32⟩
  | .local .scVector .vmem, ⟨29, _⟩ => ⟨S10240, .f32⟩
  | .local .scVector .vmem, ⟨30, _⟩ => ⟨S10240, .f32⟩
  | .local .scVector .vmem, ⟨31, _⟩ => ⟨S10240, .f32⟩
  | .local .scVector .vmem, ⟨32, _⟩ => ⟨S8000, .i32⟩
  | .local .scVector .vmem, ⟨33, _⟩ => ⟨S8000, .i32⟩
  | .local .scVector .vmem, ⟨34, _⟩ => ⟨S8000, .i32⟩
  | .local .scVector .vmem, ⟨35, _⟩ => ⟨S8000, .i32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => false
  | ⟨74, _⟩ => false
  | ⟨75, _⟩ => false
  | ⟨76, _⟩ => false
  | ⟨77, _⟩ => false
  | ⟨78, _⟩ => false
  | ⟨79, _⟩ => false
  | ⟨80, _⟩ => false
  | ⟨81, _⟩ => false
  | ⟨82, _⟩ => false
  | ⟨83, _⟩ => false
  | ⟨84, _⟩ => false
  | ⟨85, _⟩ => false
  | ⟨86, _⟩ => false
  | ⟨87, _⟩ => false
  | ⟨88, _⟩ => false
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTables nBuf rfl bufTy 4 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21_0 : Ref sig .tc := ⟨.hbm, 39, rfl⟩
abbrev main_v21_1 : Ref sig .tc := ⟨.hbm, 40, rfl⟩
abbrev main_v21_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v21_0_scv : Ref sig .scVector := ⟨.hbm, 39, rfl⟩
abbrev main_v3_scv : Ref sig .scVector := ⟨.hbm, 21, rfl⟩
abbrev main_v5_scv : Ref sig .scVector := ⟨.hbm, 23, rfl⟩
abbrev main_v25_scv : Ref sig .scVector := ⟨.hbm, 45, rfl⟩
abbrev main_v26_scv : Ref sig .scVector := ⟨.hbm, 46, rfl⟩
abbrev main_v27_scv : Ref sig .scVector := ⟨.hbm, 47, rfl⟩
abbrev main_v28_scv : Ref sig .scVector := ⟨.hbm, 48, rfl⟩
abbrev main_v29_scv : Ref sig .scVector := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg5_1 : Ref sig .tc := ⟨.vmem, 49, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc1_scratch11 : Ref sig .scVector := ⟨.vmem, 11, rfl⟩
abbrev cc3_scratch0 : Ref sig .scVector := ⟨.vmem, 12, rfl⟩
abbrev cc3_scratch1 : Ref sig .scVector := ⟨.vmem, 13, rfl⟩
abbrev cc3_scratch2 : Ref sig .scVector := ⟨.vmem, 14, rfl⟩
abbrev cc3_scratch3 : Ref sig .scVector := ⟨.vmem, 15, rfl⟩
abbrev cc3_scratch4 : Ref sig .scVector := ⟨.vmem, 16, rfl⟩
abbrev cc3_scratch5 : Ref sig .scVector := ⟨.vmem, 17, rfl⟩
abbrev cc3_scratch6 : Ref sig .scVector := ⟨.vmem, 18, rfl⟩
abbrev cc3_scratch7 : Ref sig .scVector := ⟨.vmem, 19, rfl⟩
abbrev cc3_scratch8 : Ref sig .scVector := ⟨.vmem, 20, rfl⟩
abbrev cc3_scratch9 : Ref sig .scVector := ⟨.vmem, 21, rfl⟩
abbrev cc3_scratch10 : Ref sig .scVector := ⟨.vmem, 22, rfl⟩
abbrev cc3_scratch11 : Ref sig .scVector := ⟨.vmem, 23, rfl⟩
abbrev cc5_scratch0 : Ref sig .scVector := ⟨.vmem, 24, rfl⟩
abbrev cc5_scratch1 : Ref sig .scVector := ⟨.vmem, 25, rfl⟩
abbrev cc5_scratch2 : Ref sig .scVector := ⟨.vmem, 26, rfl⟩
abbrev cc5_scratch3 : Ref sig .scVector := ⟨.vmem, 27, rfl⟩
abbrev cc5_scratch4 : Ref sig .scVector := ⟨.vmem, 28, rfl⟩
abbrev cc5_scratch5 : Ref sig .scVector := ⟨.vmem, 29, rfl⟩
abbrev cc5_scratch6 : Ref sig .scVector := ⟨.vmem, 30, rfl⟩
abbrev cc5_scratch7 : Ref sig .scVector := ⟨.vmem, 31, rfl⟩
abbrev cc5_scratch8 : Ref sig .scVector := ⟨.vmem, 32, rfl⟩
abbrev cc5_scratch9 : Ref sig .scVector := ⟨.vmem, 33, rfl⟩
abbrev cc5_scratch10 : Ref sig .scVector := ⟨.vmem, 34, rfl⟩
abbrev cc5_scratch11 : Ref sig .scVector := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc2_sem0_0 : DmaSem sig := 37
abbrev cc2_sem0_1 : DmaSem sig := 38
abbrev cc2_sem1_0 : DmaSem sig := 39
abbrev cc2_sem1_1 : DmaSem sig := 40
abbrev cc2_sem2_0 : DmaSem sig := 41
abbrev cc2_sem2_1 : DmaSem sig := 42
abbrev cc2_sem3_0 : DmaSem sig := 43
abbrev cc2_sem4_0 : DmaSem sig := 44
abbrev cc2_sem5_0 : DmaSem sig := 45
abbrev cc2_sem5_1 : DmaSem sig := 46
abbrev cc4_sem0_0 : DmaSem sig := 63
abbrev cc4_sem0_1 : DmaSem sig := 64
abbrev cc4_sem1_0 : DmaSem sig := 65
abbrev cc4_sem1_1 : DmaSem sig := 66
abbrev cc4_sem2_0 : DmaSem sig := 67
abbrev cc4_sem2_1 : DmaSem sig := 68
abbrev cc4_sem3_0 : DmaSem sig := 69
abbrev cc4_sem4_0 : DmaSem sig := 70
abbrev cc4_sem5_0 : DmaSem sig := 71
abbrev cc4_sem5_1 : DmaSem sig := 72
abbrev cc6_sem0_0 : DmaSem sig := 89
abbrev cc6_sem0_1 : DmaSem sig := 90
abbrev cc6_sem1_0 : DmaSem sig := 91
abbrev cc6_sem1_1 : DmaSem sig := 92
abbrev cc6_sem2_0 : DmaSem sig := 93
abbrev cc6_sem3_0 : DmaSem sig := 94
abbrev cc6_sem4_0 : DmaSem sig := 95
abbrev cc6_sem5_0 : DmaSem sig := 96
abbrev cc6_sem5_1 : DmaSem sig := 97
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨2, ![2, 16], ![false, false]⟩

def k1_off1 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c0_i32_19_r0 : BitVec 32 := 0#32
  ![v3.toNat, 0]
@[reducible] def k1_t1_loop : Scf.Loop 32 :=
  let c0_i32_12 : BitVec 32 := 0#32
  let c20_i32 : BitVec 32 := 20#32
  let v23 : BitVec 32 := Scalar.addi c0_i32_12 c20_i32
  let c1_i32_13 : BitVec 32 := 1#32
  ⟨c0_i32_12, v23, c1_i32_13⟩
def k1_off2 (k1_t1 : Fin k1_t1_loop.trips) : Fin 1 → Nat :=
  let c0_i32_12 : BitVec 32 := 0#32
  let c1_i32_13 : BitVec 32 := 1#32
  let arg22 : BitVec 32 := Scf.iv c0_i32_12 c1_i32_13 k1_t1
  let c2_i32_19 : BitVec 32 := 2#32
  let v28 : BitVec 32 := Scalar.muli arg22 c2_i32_19
  let c1_i32_24 : BitVec 32 := 1#32
  let v33 : BitVec 32 := Scalar.addi v28 c1_i32_24
  let c8000_i32 : BitVec 32 := 8000#32
  let v34 : BitVec 32 := Scalar.muli v33 c8000_i32
  ![v34.toNat]
@[reducible] def k1_t2_loop : Scf.Loop 32 :=
  let c0_i32_25 : BitVec 32 := 0#32
  let c500_i32 : BitVec 32 := 500#32
  let v40 : BitVec 32 := Scalar.addi c0_i32_25 c500_i32
  let c1_i32_26 : BitVec 32 := 1#32
  ⟨c0_i32_25, v40, c1_i32_26⟩
def k1_off3 (k1_t2 : Fin k1_t2_loop.trips) : Fin 1 → Nat :=
  let c0_i32_25 : BitVec 32 := 0#32
  let c1_i32_26 : BitVec 32 := 1#32
  let arg23 : BitVec 32 := Scf.iv c0_i32_25 c1_i32_26 k1_t2
  let c16_i32 : BitVec 32 := 16#32
  let v73 : BitVec 32 := Scalar.muli arg23 c16_i32
  let v74 : Index := Scalar.indexCast v73
  ![v74.toNat]

def k1_chk1 (v75 : IVec S16 32) : Prop :=
  (∀ a x, ((![v75] : Fin 1 → IVec S16 32) a x).toNat < S10240.size a) ∧
  (∀ a x, ((![v75] : Fin 1 → IVec S16 32) a x).toNat < S10240.size a) ∧
  (∀ a x, ((![v75] : Fin 1 → IVec S16 32) a x).toNat < S10240.size a) ∧
  (∀ a x, ((![v75] : Fin 1 → IVec S16 32) a x).toNat < S10240.size a)
theorem k1_idx1_inb : ∀ (v75 : IVec S16 32) (k1_hw1 : k1_chk1 v75), ∀ a x, ((![v75] : Fin 1 → IVec S16 32) a x).toNat < S10240.size a := fun v75 k1_hw1 => k1_hw1.1
theorem k1_idx2_inb : ∀ (v75 : IVec S16 32) (k1_hw1 : k1_chk1 v75), ∀ a x, ((![v75] : Fin 1 → IVec S16 32) a x).toNat < S10240.size a := fun v75 k1_hw1 => k1_hw1.2.1
theorem k1_idx3_inb : ∀ (v75 : IVec S16 32) (k1_hw1 : k1_chk1 v75), ∀ a x, ((![v75] : Fin 1 → IVec S16 32) a x).toNat < S10240.size a := fun v75 k1_hw1 => k1_hw1.2.2.1
theorem k1_idx4_inb : ∀ (v75 : IVec S16 32) (k1_hw1 : k1_chk1 v75), ∀ a x, ((![v75] : Fin 1 → IVec S16 32) a x).toNat < S10240.size a := fun v75 k1_hw1 => k1_hw1.2.2.2

def k1_chk2 (v77 : IVec S16 32) : Prop :=
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a)
theorem k1_idx5_inb : ∀ (v77 : IVec S16 32) (k1_hw2 : k1_chk2 v77), ∀ a x, ((![v77] : Fin 1 → IVec S16 32) a x).toNat < S10240.size a := fun v77 k1_hw2 => k1_hw2.1
theorem k1_idx6_inb : ∀ (v77 : IVec S16 32) (k1_hw2 : k1_chk2 v77), ∀ a x, ((![v77] : Fin 1 → IVec S16 32) a x).toNat < S10240.size a := fun v77 k1_hw2 => k1_hw2.2.1
theorem k1_idx7_inb : ∀ (v77 : IVec S16 32) (k1_hw2 : k1_chk2 v77), ∀ a x, ((![v77] : Fin 1 → IVec S16 32) a x).toNat < S10240.size a := fun v77 k1_hw2 => k1_hw2.2.2.1
theorem k1_idx8_inb : ∀ (v77 : IVec S16 32) (k1_hw2 : k1_chk2 v77), ∀ a x, ((![v77] : Fin 1 → IVec S16 32) a x).toNat < S10240.size a := fun v77 k1_hw2 => k1_hw2.2.2.2.1
theorem k1_idx9_inb : ∀ (v77 : IVec S16 32) (k1_hw2 : k1_chk2 v77), ∀ a x, ((![v77] : Fin 1 → IVec S16 32) a x).toNat < S10240.size a := fun v77 k1_hw2 => k1_hw2.2.2.2.2.1
theorem k1_idx10_inb : ∀ (v77 : IVec S16 32) (k1_hw2 : k1_chk2 v77), ∀ a x, ((![v77] : Fin 1 → IVec S16 32) a x).toNat < S10240.size a := fun v77 k1_hw2 => k1_hw2.2.2.2.2.2.1
theorem k1_idx11_inb : ∀ (v77 : IVec S16 32) (k1_hw2 : k1_chk2 v77), ∀ a x, ((![v77] : Fin 1 → IVec S16 32) a x).toNat < S10240.size a := fun v77 k1_hw2 => k1_hw2.2.2.2.2.2.2.1
theorem k1_idx12_inb : ∀ (v77 : IVec S16 32) (k1_hw2 : k1_chk2 v77), ∀ a x, ((![v77] : Fin 1 → IVec S16 32) a x).toNat < S10240.size a := fun v77 k1_hw2 => k1_hw2.2.2.2.2.2.2.2.1
theorem k1_idx13_inb : ∀ (v77 : IVec S16 32) (k1_hw2 : k1_chk2 v77), ∀ a x, ((![v77] : Fin 1 → IVec S16 32) a x).toNat < S10240.size a := fun v77 k1_hw2 => k1_hw2.2.2.2.2.2.2.2.2.1
theorem k1_idx14_inb : ∀ (v77 : IVec S16 32) (k1_hw2 : k1_chk2 v77), ∀ a x, ((![v77] : Fin 1 → IVec S16 32) a x).toNat < S10240.size a := fun v77 k1_hw2 => k1_hw2.2.2.2.2.2.2.2.2.2.1
theorem k1_idx15_inb : ∀ (v77 : IVec S16 32) (k1_hw2 : k1_chk2 v77), ∀ a x, ((![v77] : Fin 1 → IVec S16 32) a x).toNat < S10240.size a := fun v77 k1_hw2 => k1_hw2.2.2.2.2.2.2.2.2.2.2.1
theorem k1_idx16_inb : ∀ (v77 : IVec S16 32) (k1_hw2 : k1_chk2 v77), ∀ a x, ((![v77] : Fin 1 → IVec S16 32) a x).toNat < S10240.size a := fun v77 k1_hw2 => k1_hw2.2.2.2.2.2.2.2.2.2.2.2.1
theorem k1_idx17_inb : ∀ (v77 : IVec S16 32) (k1_hw2 : k1_chk2 v77), ∀ a x, ((![v77] : Fin 1 → IVec S16 32) a x).toNat < S10240.size a := fun v77 k1_hw2 => k1_hw2.2.2.2.2.2.2.2.2.2.2.2.2.1
theorem k1_idx18_inb : ∀ (v77 : IVec S16 32) (k1_hw2 : k1_chk2 v77), ∀ a x, ((![v77] : Fin 1 → IVec S16 32) a x).toNat < S10240.size a := fun v77 k1_hw2 => k1_hw2.2.2.2.2.2.2.2.2.2.2.2.2.2.1
theorem k1_idx19_inb : ∀ (v77 : IVec S16 32) (k1_hw2 : k1_chk2 v77), ∀ a x, ((![v77] : Fin 1 → IVec S16 32) a x).toNat < S10240.size a := fun v77 k1_hw2 => k1_hw2.2.2.2.2.2.2.2.2.2.2.2.2.2.2.1
theorem k1_idx20_inb : ∀ (v77 : IVec S16 32) (k1_hw2 : k1_chk2 v77), ∀ a x, ((![v77] : Fin 1 → IVec S16 32) a x).toNat < S10240.size a := fun v77 k1_hw2 => k1_hw2.2.2.2.2.2.2.2.2.2.2.2.2.2.2.2
@[reducible] def k1_t3_loop : Scf.Loop 32 :=
  let c0_i32_48 : BitVec 32 := 0#32
  let c500_i32_49 : BitVec 32 := 500#32
  let v73 : BitVec 32 := Scalar.addi c0_i32_48 c500_i32_49
  let c1_i32_50 : BitVec 32 := 1#32
  ⟨c0_i32_48, v73, c1_i32_50⟩
def k1_off4 (k1_t3 : Fin k1_t3_loop.trips) : Fin 1 → Nat :=
  let c0_i32_48 : BitVec 32 := 0#32
  let c1_i32_50 : BitVec 32 := 1#32
  let arg23 : BitVec 32 := Scf.iv c0_i32_48 c1_i32_50 k1_t3
  let c16_i32 : BitVec 32 := 16#32
  let v74 : BitVec 32 := Scalar.muli arg23 c16_i32
  let v75 : Index := Scalar.indexCast v74
  ![v75.toNat]
def k1_cond1 (v48 : BitVec 32) : BitVec 1 :=
  let c0_i32_30 : BitVec 32 := 0#32
  let v49 : BitVec 1 := Scalar.cmpi .sgt v48 c0_i32_30
  let v50 : BitVec 32 := Scalar.extui v49
  let c0_i32_31 : BitVec 32 := 0#32
  let v51 : BitVec 1 := Scalar.cmpi .ne v50 c0_i32_31
  v51

def k1_chk3 (v48 : BitVec 32) (v76 : IVec S16 32) : Prop :=
  (∀ (k1_h1 : k1_cond1 v48 = 1#1), ∀ a x, ((![v76] : Fin 1 → IVec S16 32) a x).toNat < S10240.size a) ∧
  (∀ (k1_h1 : k1_cond1 v48 = 1#1), ∀ a x, ((![v76] : Fin 1 → IVec S16 32) a x).toNat < S10240.size a) ∧
  (∀ (k1_h1 : k1_cond1 v48 = 1#1), ∀ a x, ((![v76] : Fin 1 → IVec S16 32) a x).toNat < S10240.size a) ∧
  (∀ (k1_h1 : k1_cond1 v48 = 1#1), ∀ a x, ((![v76] : Fin 1 → IVec S16 32) a x).toNat < S10240.size a)
theorem k1_idx21_inb : ∀ (v48 : BitVec 32) (v76 : IVec S16 32) (k1_hw3 : k1_chk3 v48 v76), ∀ (k1_h1 : k1_cond1 v48 = 1#1), ∀ a x, ((![v76] : Fin 1 → IVec S16 32) a x).toNat < S10240.size a := fun v48 v76 k1_hw3 k1_h1 => k1_hw3.1 k1_h1
theorem k1_idx22_inb : ∀ (v48 : BitVec 32) (v76 : IVec S16 32) (k1_hw3 : k1_chk3 v48 v76), ∀ (k1_h1 : k1_cond1 v48 = 1#1), ∀ a x, ((![v76] : Fin 1 → IVec S16 32) a x).toNat < S10240.size a := fun v48 v76 k1_hw3 k1_h1 => k1_hw3.2.1 k1_h1
theorem k1_idx23_inb : ∀ (v48 : BitVec 32) (v76 : IVec S16 32) (k1_hw3 : k1_chk3 v48 v76), ∀ (k1_h1 : k1_cond1 v48 = 1#1), ∀ a x, ((![v76] : Fin 1 → IVec S16 32) a x).toNat < S10240.size a := fun v48 v76 k1_hw3 k1_h1 => k1_hw3.2.2.1 k1_h1
theorem k1_idx24_inb : ∀ (v48 : BitVec 32) (v76 : IVec S16 32) (k1_hw3 : k1_chk3 v48 v76), ∀ (k1_h1 : k1_cond1 v48 = 1#1), ∀ a x, ((![v76] : Fin 1 → IVec S16 32) a x).toNat < S10240.size a := fun v48 v76 k1_hw3 k1_h1 => k1_hw3.2.2.2 k1_h1
@[reducible] def k1_t4_loop (v18 : BitVec 32) (v89 : BitVec 32) : Scf.Loop 32 :=
  let c1_i32_57 : BitVec 32 := 1#32
  let v90 : BitVec 32 := Scalar.addi v89 c1_i32_57
  let v91 : BitVec 32 := Scalar.subi v90 v18
  let c1_i32_59 : BitVec 32 := 1#32
  let v93 : BitVec 32 := Scalar.divsi v91 c1_i32_59
  let v94 : BitVec 32 := Scalar.muli v93 c1_i32_59
  let v95 : BitVec 32 := Scalar.addi v18 v94
  let c1_i32_60 : BitVec 32 := 1#32
  ⟨v18, v95, c1_i32_60⟩

@[reducible] def k1_t5_loop (v18 : BitVec 32) (v89 : BitVec 32) : Scf.Loop 32 :=
  let c1_i32_57 : BitVec 32 := 1#32
  let v90 : BitVec 32 := Scalar.addi v89 c1_i32_57
  let v91 : BitVec 32 := Scalar.subi v90 v18
  let c1_i32_59 : BitVec 32 := 1#32
  let v93 : BitVec 32 := Scalar.divsi v91 c1_i32_59
  let v94 : BitVec 32 := Scalar.muli v93 c1_i32_59
  let v95 : BitVec 32 := Scalar.addi v18 v94
  let v92 : BitVec 32 := Scalar.addi v18 v91
  let c1_i32_61 : BitVec 32 := 1#32
  ⟨v95, v92, c1_i32_61⟩

def k1_chk4 (v18 : BitVec 32) (v48 : BitVec 32) (v78 : IVec S16 32) (v89 : BitVec 32) : Prop :=
  (∀ (k1_h1 : k1_cond1 v48 = 1#1), (k1_t4_loop v18 v89).OK) ∧
  (∀ k1_t4 : Fin (k1_t4_loop v18 v89).trips, ∀ (k1_h1 : k1_cond1 v48 = 1#1), ∀ a x, ((![v78] : Fin 1 → IVec S16 32) a x).toNat < S10240.size a) ∧
  (∀ k1_t4 : Fin (k1_t4_loop v18 v89).trips, ∀ (k1_h1 : k1_cond1 v48 = 1#1), ∀ a x, ((![v78] : Fin 1 → IVec S16 32) a x).toNat < S10240.size a) ∧
  (∀ k1_t4 : Fin (k1_t4_loop v18 v89).trips, ∀ (k1_h1 : k1_cond1 v48 = 1#1), ∀ a x, ((![v78] : Fin 1 → IVec S16 32) a x).toNat < S10240.size a) ∧
  (∀ k1_t4 : Fin (k1_t4_loop v18 v89).trips, ∀ (k1_h1 : k1_cond1 v48 = 1#1), ∀ a x, ((![v78] : Fin 1 → IVec S16 32) a x).toNat < S10240.size a) ∧
  (∀ k1_t4 : Fin (k1_t4_loop v18 v89).trips, ∀ (k1_h1 : k1_cond1 v48 = 1#1), ∀ a x, ((![v78] : Fin 1 → IVec S16 32) a x).toNat < S10240.size a) ∧
  (∀ k1_t4 : Fin (k1_t4_loop v18 v89).trips, ∀ (k1_h1 : k1_cond1 v48 = 1#1), ∀ a x, ((![v78] : Fin 1 → IVec S16 32) a x).toNat < S10240.size a) ∧
  (∀ k1_t4 : Fin (k1_t4_loop v18 v89).trips, ∀ (k1_h1 : k1_cond1 v48 = 1#1), ∀ a x, ((![v78] : Fin 1 → IVec S16 32) a x).toNat < S10240.size a) ∧
  (∀ k1_t4 : Fin (k1_t4_loop v18 v89).trips, ∀ (k1_h1 : k1_cond1 v48 = 1#1), ∀ a x, ((![v78] : Fin 1 → IVec S16 32) a x).toNat < S10240.size a) ∧
  (∀ (k1_h1 : k1_cond1 v48 = 1#1), (k1_t5_loop v18 v89).OK) ∧
  (∀ k1_t5 : Fin (k1_t5_loop v18 v89).trips, ∀ (k1_h1 : k1_cond1 v48 = 1#1), ∀ a x, ((![v78] : Fin 1 → IVec S16 32) a x).toNat < S10240.size a) ∧
  (∀ k1_t5 : Fin (k1_t5_loop v18 v89).trips, ∀ (k1_h1 : k1_cond1 v48 = 1#1), ∀ a x, ((![v78] : Fin 1 → IVec S16 32) a x).toNat < S10240.size a) ∧
  (∀ k1_t5 : Fin (k1_t5_loop v18 v89).trips, ∀ (k1_h1 : k1_cond1 v48 = 1#1), ∀ a x, ((![v78] : Fin 1 → IVec S16 32) a x).toNat < S10240.size a) ∧
  (∀ k1_t5 : Fin (k1_t5_loop v18 v89).trips, ∀ (k1_h1 : k1_cond1 v48 = 1#1), ∀ a x, ((![v78] : Fin 1 → IVec S16 32) a x).toNat < S10240.size a) ∧
  (∀ k1_t5 : Fin (k1_t5_loop v18 v89).trips, ∀ (k1_h1 : k1_cond1 v48 = 1#1), ∀ a x, ((![v78] : Fin 1 → IVec S16 32) a x).toNat < S10240.size a) ∧
  (∀ k1_t5 : Fin (k1_t5_loop v18 v89).trips, ∀ (k1_h1 : k1_cond1 v48 = 1#1), ∀ a x, ((![v78] : Fin 1 → IVec S16 32) a x).toNat < S10240.size a) ∧
  (∀ k1_t5 : Fin (k1_t5_loop v18 v89).trips, ∀ (k1_h1 : k1_cond1 v48 = 1#1), ∀ a x, ((![v78] : Fin 1 → IVec S16 32) a x).toNat < S10240.size a) ∧
  (∀ k1_t5 : Fin (k1_t5_loop v18 v89).trips, ∀ (k1_h1 : k1_cond1 v48 = 1#1), ∀ a x, ((![v78] : Fin 1 → IVec S16 32) a x).toNat < S10240.size a)
theorem k1_t4_ok : ∀ (v18 : BitVec 32) (v48 : BitVec 32) (v78 : IVec S16 32) (v89 : BitVec 32) (k1_hw4 : k1_chk4 v18 v48 v78 v89), ∀ (k1_h1 : k1_cond1 v48 = 1#1), (k1_t4_loop v18 v89).OK := fun v18 v48 v78 v89 k1_hw4 k1_h1 => k1_hw4.1 k1_h1
theorem k1_idx25_inb : ∀ (v18 : BitVec 32) (v48 : BitVec 32) (v78 : IVec S16 32) (v89 : BitVec 32) (k1_hw4 : k1_chk4 v18 v48 v78 v89) (k1_t4 : Fin (k1_t4_loop v18 v89).trips), ∀ (k1_h1 : k1_cond1 v48 = 1#1), ∀ a x, ((![v78] : Fin 1 → IVec S16 32) a x).toNat < S10240.size a := fun v18 v48 v78 v89 k1_hw4 k1_t4 k1_h1 => k1_hw4.2.1 k1_t4 k1_h1
theorem k1_idx26_inb : ∀ (v18 : BitVec 32) (v48 : BitVec 32) (v78 : IVec S16 32) (v89 : BitVec 32) (k1_hw4 : k1_chk4 v18 v48 v78 v89) (k1_t4 : Fin (k1_t4_loop v18 v89).trips), ∀ (k1_h1 : k1_cond1 v48 = 1#1), ∀ a x, ((![v78] : Fin 1 → IVec S16 32) a x).toNat < S10240.size a := fun v18 v48 v78 v89 k1_hw4 k1_t4 k1_h1 => k1_hw4.2.2.1 k1_t4 k1_h1
theorem k1_idx27_inb : ∀ (v18 : BitVec 32) (v48 : BitVec 32) (v78 : IVec S16 32) (v89 : BitVec 32) (k1_hw4 : k1_chk4 v18 v48 v78 v89) (k1_t4 : Fin (k1_t4_loop v18 v89).trips), ∀ (k1_h1 : k1_cond1 v48 = 1#1), ∀ a x, ((![v78] : Fin 1 → IVec S16 32) a x).toNat < S10240.size a := fun v18 v48 v78 v89 k1_hw4 k1_t4 k1_h1 => k1_hw4.2.2.2.1 k1_t4 k1_h1
theorem k1_idx28_inb : ∀ (v18 : BitVec 32) (v48 : BitVec 32) (v78 : IVec S16 32) (v89 : BitVec 32) (k1_hw4 : k1_chk4 v18 v48 v78 v89) (k1_t4 : Fin (k1_t4_loop v18 v89).trips), ∀ (k1_h1 : k1_cond1 v48 = 1#1), ∀ a x, ((![v78] : Fin 1 → IVec S16 32) a x).toNat < S10240.size a := fun v18 v48 v78 v89 k1_hw4 k1_t4 k1_h1 => k1_hw4.2.2.2.2.1 k1_t4 k1_h1
theorem k1_idx29_inb : ∀ (v18 : BitVec 32) (v48 : BitVec 32) (v78 : IVec S16 32) (v89 : BitVec 32) (k1_hw4 : k1_chk4 v18 v48 v78 v89) (k1_t4 : Fin (k1_t4_loop v18 v89).trips), ∀ (k1_h1 : k1_cond1 v48 = 1#1), ∀ a x, ((![v78] : Fin 1 → IVec S16 32) a x).toNat < S10240.size a := fun v18 v48 v78 v89 k1_hw4 k1_t4 k1_h1 => k1_hw4.2.2.2.2.2.1 k1_t4 k1_h1
theorem k1_idx30_inb : ∀ (v18 : BitVec 32) (v48 : BitVec 32) (v78 : IVec S16 32) (v89 : BitVec 32) (k1_hw4 : k1_chk4 v18 v48 v78 v89) (k1_t4 : Fin (k1_t4_loop v18 v89).trips), ∀ (k1_h1 : k1_cond1 v48 = 1#1), ∀ a x, ((![v78] : Fin 1 → IVec S16 32) a x).toNat < S10240.size a := fun v18 v48 v78 v89 k1_hw4 k1_t4 k1_h1 => k1_hw4.2.2.2.2.2.2.1 k1_t4 k1_h1
theorem k1_idx31_inb : ∀ (v18 : BitVec 32) (v48 : BitVec 32) (v78 : IVec S16 32) (v89 : BitVec 32) (k1_hw4 : k1_chk4 v18 v48 v78 v89) (k1_t4 : Fin (k1_t4_loop v18 v89).trips), ∀ (k1_h1 : k1_cond1 v48 = 1#1), ∀ a x, ((![v78] : Fin 1 → IVec S16 32) a x).toNat < S10240.size a := fun v18 v48 v78 v89 k1_hw4 k1_t4 k1_h1 => k1_hw4.2.2.2.2.2.2.2.1 k1_t4 k1_h1
theorem k1_idx32_inb : ∀ (v18 : BitVec 32) (v48 : BitVec 32) (v78 : IVec S16 32) (v89 : BitVec 32) (k1_hw4 : k1_chk4 v18 v48 v78 v89) (k1_t4 : Fin (k1_t4_loop v18 v89).trips), ∀ (k1_h1 : k1_cond1 v48 = 1#1), ∀ a x, ((![v78] : Fin 1 → IVec S16 32) a x).toNat < S10240.size a := fun v18 v48 v78 v89 k1_hw4 k1_t4 k1_h1 => k1_hw4.2.2.2.2.2.2.2.2.1 k1_t4 k1_h1
theorem k1_t5_ok : ∀ (v18 : BitVec 32) (v48 : BitVec 32) (v78 : IVec S16 32) (v89 : BitVec 32) (k1_hw4 : k1_chk4 v18 v48 v78 v89), ∀ (k1_h1 : k1_cond1 v48 = 1#1), (k1_t5_loop v18 v89).OK := fun v18 v48 v78 v89 k1_hw4 k1_h1 => k1_hw4.2.2.2.2.2.2.2.2.2.1 k1_h1
theorem k1_idx33_inb : ∀ (v18 : BitVec 32) (v48 : BitVec 32) (v78 : IVec S16 32) (v89 : BitVec 32) (k1_hw4 : k1_chk4 v18 v48 v78 v89) (k1_t5 : Fin (k1_t5_loop v18 v89).trips), ∀ (k1_h1 : k1_cond1 v48 = 1#1), ∀ a x, ((![v78] : Fin 1 → IVec S16 32) a x).toNat < S10240.size a := fun v18 v48 v78 v89 k1_hw4 k1_t5 k1_h1 => k1_hw4.2.2.2.2.2.2.2.2.2.2.1 k1_t5 k1_h1
theorem k1_idx34_inb : ∀ (v18 : BitVec 32) (v48 : BitVec 32) (v78 : IVec S16 32) (v89 : BitVec 32) (k1_hw4 : k1_chk4 v18 v48 v78 v89) (k1_t5 : Fin (k1_t5_loop v18 v89).trips), ∀ (k1_h1 : k1_cond1 v48 = 1#1), ∀ a x, ((![v78] : Fin 1 → IVec S16 32) a x).toNat < S10240.size a := fun v18 v48 v78 v89 k1_hw4 k1_t5 k1_h1 => k1_hw4.2.2.2.2.2.2.2.2.2.2.2.1 k1_t5 k1_h1
theorem k1_idx35_inb : ∀ (v18 : BitVec 32) (v48 : BitVec 32) (v78 : IVec S16 32) (v89 : BitVec 32) (k1_hw4 : k1_chk4 v18 v48 v78 v89) (k1_t5 : Fin (k1_t5_loop v18 v89).trips), ∀ (k1_h1 : k1_cond1 v48 = 1#1), ∀ a x, ((![v78] : Fin 1 → IVec S16 32) a x).toNat < S10240.size a := fun v18 v48 v78 v89 k1_hw4 k1_t5 k1_h1 => k1_hw4.2.2.2.2.2.2.2.2.2.2.2.2.1 k1_t5 k1_h1
theorem k1_idx36_inb : ∀ (v18 : BitVec 32) (v48 : BitVec 32) (v78 : IVec S16 32) (v89 : BitVec 32) (k1_hw4 : k1_chk4 v18 v48 v78 v89) (k1_t5 : Fin (k1_t5_loop v18 v89).trips), ∀ (k1_h1 : k1_cond1 v48 = 1#1), ∀ a x, ((![v78] : Fin 1 → IVec S16 32) a x).toNat < S10240.size a := fun v18 v48 v78 v89 k1_hw4 k1_t5 k1_h1 => k1_hw4.2.2.2.2.2.2.2.2.2.2.2.2.2.1 k1_t5 k1_h1
theorem k1_idx37_inb : ∀ (v18 : BitVec 32) (v48 : BitVec 32) (v78 : IVec S16 32) (v89 : BitVec 32) (k1_hw4 : k1_chk4 v18 v48 v78 v89) (k1_t5 : Fin (k1_t5_loop v18 v89).trips), ∀ (k1_h1 : k1_cond1 v48 = 1#1), ∀ a x, ((![v78] : Fin 1 → IVec S16 32) a x).toNat < S10240.size a := fun v18 v48 v78 v89 k1_hw4 k1_t5 k1_h1 => k1_hw4.2.2.2.2.2.2.2.2.2.2.2.2.2.2.1 k1_t5 k1_h1
theorem k1_idx38_inb : ∀ (v18 : BitVec 32) (v48 : BitVec 32) (v78 : IVec S16 32) (v89 : BitVec 32) (k1_hw4 : k1_chk4 v18 v48 v78 v89) (k1_t5 : Fin (k1_t5_loop v18 v89).trips), ∀ (k1_h1 : k1_cond1 v48 = 1#1), ∀ a x, ((![v78] : Fin 1 → IVec S16 32) a x).toNat < S10240.size a := fun v18 v48 v78 v89 k1_hw4 k1_t5 k1_h1 => k1_hw4.2.2.2.2.2.2.2.2.2.2.2.2.2.2.2.1 k1_t5 k1_h1
theorem k1_idx39_inb : ∀ (v18 : BitVec 32) (v48 : BitVec 32) (v78 : IVec S16 32) (v89 : BitVec 32) (k1_hw4 : k1_chk4 v18 v48 v78 v89) (k1_t5 : Fin (k1_t5_loop v18 v89).trips), ∀ (k1_h1 : k1_cond1 v48 = 1#1), ∀ a x, ((![v78] : Fin 1 → IVec S16 32) a x).toNat < S10240.size a := fun v18 v48 v78 v89 k1_hw4 k1_t5 k1_h1 => k1_hw4.2.2.2.2.2.2.2.2.2.2.2.2.2.2.2.2.1 k1_t5 k1_h1
theorem k1_idx40_inb : ∀ (v18 : BitVec 32) (v48 : BitVec 32) (v78 : IVec S16 32) (v89 : BitVec 32) (k1_hw4 : k1_chk4 v18 v48 v78 v89) (k1_t5 : Fin (k1_t5_loop v18 v89).trips), ∀ (k1_h1 : k1_cond1 v48 = 1#1), ∀ a x, ((![v78] : Fin 1 → IVec S16 32) a x).toNat < S10240.size a := fun v18 v48 v78 v89 k1_hw4 k1_t5 k1_h1 => k1_hw4.2.2.2.2.2.2.2.2.2.2.2.2.2.2.2.2.2 k1_t5 k1_h1
def k1_cond2 (k1_t1 : Fin k1_t1_loop.trips) : BitVec 1 :=
  let c0_i32_12 : BitVec 32 := 0#32
  let c1_i32_13 : BitVec 32 := 1#32
  let arg22 : BitVec 32 := Scf.iv c0_i32_12 c1_i32_13 k1_t1
  let c2_i32_19 : BitVec 32 := 2#32
  let v28 : BitVec 32 := Scalar.muli arg22 c2_i32_19
  let c2_i32_36 : BitVec 32 := 2#32
  let v56 : BitVec 32 := Scalar.addi v28 c2_i32_36
  let c40_i32 : BitVec 32 := 40#32
  let v57 : BitVec 1 := Scalar.cmpi .slt v56 c40_i32
  let v58 : BitVec 32 := Scalar.extui v57
  let c0_i32_37 : BitVec 32 := 0#32
  let v59 : BitVec 1 := Scalar.cmpi .ne v58 c0_i32_37
  v59

def k1_off5 (k1_t1 : Fin k1_t1_loop.trips) : Fin 1 → Nat :=
  let c0_i32_12 : BitVec 32 := 0#32
  let c1_i32_13 : BitVec 32 := 1#32
  let arg22 : BitVec 32 := Scf.iv c0_i32_12 c1_i32_13 k1_t1
  let c2_i32_19 : BitVec 32 := 2#32
  let v28 : BitVec 32 := Scalar.muli arg22 c2_i32_19
  let c2_i32_47 : BitVec 32 := 2#32
  let v73 : BitVec 32 := Scalar.addi v28 c2_i32_47
  let c8000_i32_48 : BitVec 32 := 8000#32
  let v74 : BitVec 32 := Scalar.muli v73 c8000_i32_48
  ![v74.toNat]
@[reducible] def k1_t6_loop : Scf.Loop 32 :=
  let c0_i32_39 : BitVec 32 := 0#32
  let c500_i32_40 : BitVec 32 := 500#32
  let v61 : BitVec 32 := Scalar.addi c0_i32_39 c500_i32_40
  let c1_i32_41 : BitVec 32 := 1#32
  ⟨c0_i32_39, v61, c1_i32_41⟩
def k1_off6 (k1_t6 : Fin k1_t6_loop.trips) : Fin 1 → Nat :=
  let c0_i32_39 : BitVec 32 := 0#32
  let c1_i32_41 : BitVec 32 := 1#32
  let arg23 : BitVec 32 := Scf.iv c0_i32_39 c1_i32_41 k1_t6
  let c16_i32 : BitVec 32 := 16#32
  let v73 : BitVec 32 := Scalar.muli arg23 c16_i32
  let v74 : Index := Scalar.indexCast v73
  ![v74.toNat]

def k1_chk5 (v75 : IVec S16 32) : Prop :=
  (∀ a x, ((![v75] : Fin 1 → IVec S16 32) a x).toNat < S10240.size a) ∧
  (∀ a x, ((![v75] : Fin 1 → IVec S16 32) a x).toNat < S10240.size a) ∧
  (∀ a x, ((![v75] : Fin 1 → IVec S16 32) a x).toNat < S10240.size a) ∧
  (∀ a x, ((![v75] : Fin 1 → IVec S16 32) a x).toNat < S10240.size a)
theorem k1_idx41_inb : ∀ (v75 : IVec S16 32) (k1_hw5 : k1_chk5 v75), ∀ a x, ((![v75] : Fin 1 → IVec S16 32) a x).toNat < S10240.size a := fun v75 k1_hw5 => k1_hw5.1
theorem k1_idx42_inb : ∀ (v75 : IVec S16 32) (k1_hw5 : k1_chk5 v75), ∀ a x, ((![v75] : Fin 1 → IVec S16 32) a x).toNat < S10240.size a := fun v75 k1_hw5 => k1_hw5.2.1
theorem k1_idx43_inb : ∀ (v75 : IVec S16 32) (k1_hw5 : k1_chk5 v75), ∀ a x, ((![v75] : Fin 1 → IVec S16 32) a x).toNat < S10240.size a := fun v75 k1_hw5 => k1_hw5.2.2.1
theorem k1_idx44_inb : ∀ (v75 : IVec S16 32) (k1_hw5 : k1_chk5 v75), ∀ a x, ((![v75] : Fin 1 → IVec S16 32) a x).toNat < S10240.size a := fun v75 k1_hw5 => k1_hw5.2.2.2

def k1_chk6 (v77 : IVec S16 32) : Prop :=
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a)
theorem k1_idx45_inb : ∀ (v77 : IVec S16 32) (k1_hw6 : k1_chk6 v77), ∀ a x, ((![v77] : Fin 1 → IVec S16 32) a x).toNat < S10240.size a := fun v77 k1_hw6 => k1_hw6.1
theorem k1_idx46_inb : ∀ (v77 : IVec S16 32) (k1_hw6 : k1_chk6 v77), ∀ a x, ((![v77] : Fin 1 → IVec S16 32) a x).toNat < S10240.size a := fun v77 k1_hw6 => k1_hw6.2.1
theorem k1_idx47_inb : ∀ (v77 : IVec S16 32) (k1_hw6 : k1_chk6 v77), ∀ a x, ((![v77] : Fin 1 → IVec S16 32) a x).toNat < S10240.size a := fun v77 k1_hw6 => k1_hw6.2.2.1
theorem k1_idx48_inb : ∀ (v77 : IVec S16 32) (k1_hw6 : k1_chk6 v77), ∀ a x, ((![v77] : Fin 1 → IVec S16 32) a x).toNat < S10240.size a := fun v77 k1_hw6 => k1_hw6.2.2.2.1
theorem k1_idx49_inb : ∀ (v77 : IVec S16 32) (k1_hw6 : k1_chk6 v77), ∀ a x, ((![v77] : Fin 1 → IVec S16 32) a x).toNat < S10240.size a := fun v77 k1_hw6 => k1_hw6.2.2.2.2.1
theorem k1_idx50_inb : ∀ (v77 : IVec S16 32) (k1_hw6 : k1_chk6 v77), ∀ a x, ((![v77] : Fin 1 → IVec S16 32) a x).toNat < S10240.size a := fun v77 k1_hw6 => k1_hw6.2.2.2.2.2.1
theorem k1_idx51_inb : ∀ (v77 : IVec S16 32) (k1_hw6 : k1_chk6 v77), ∀ a x, ((![v77] : Fin 1 → IVec S16 32) a x).toNat < S10240.size a := fun v77 k1_hw6 => k1_hw6.2.2.2.2.2.2.1
theorem k1_idx52_inb : ∀ (v77 : IVec S16 32) (k1_hw6 : k1_chk6 v77), ∀ a x, ((![v77] : Fin 1 → IVec S16 32) a x).toNat < S10240.size a := fun v77 k1_hw6 => k1_hw6.2.2.2.2.2.2.2.1
theorem k1_idx53_inb : ∀ (v77 : IVec S16 32) (k1_hw6 : k1_chk6 v77), ∀ a x, ((![v77] : Fin 1 → IVec S16 32) a x).toNat < S10240.size a := fun v77 k1_hw6 => k1_hw6.2.2.2.2.2.2.2.2.1
theorem k1_idx54_inb : ∀ (v77 : IVec S16 32) (k1_hw6 : k1_chk6 v77), ∀ a x, ((![v77] : Fin 1 → IVec S16 32) a x).toNat < S10240.size a := fun v77 k1_hw6 => k1_hw6.2.2.2.2.2.2.2.2.2.1
theorem k1_idx55_inb : ∀ (v77 : IVec S16 32) (k1_hw6 : k1_chk6 v77), ∀ a x, ((![v77] : Fin 1 → IVec S16 32) a x).toNat < S10240.size a := fun v77 k1_hw6 => k1_hw6.2.2.2.2.2.2.2.2.2.2.1
theorem k1_idx56_inb : ∀ (v77 : IVec S16 32) (k1_hw6 : k1_chk6 v77), ∀ a x, ((![v77] : Fin 1 → IVec S16 32) a x).toNat < S10240.size a := fun v77 k1_hw6 => k1_hw6.2.2.2.2.2.2.2.2.2.2.2.1
theorem k1_idx57_inb : ∀ (v77 : IVec S16 32) (k1_hw6 : k1_chk6 v77), ∀ a x, ((![v77] : Fin 1 → IVec S16 32) a x).toNat < S10240.size a := fun v77 k1_hw6 => k1_hw6.2.2.2.2.2.2.2.2.2.2.2.2.1
theorem k1_idx58_inb : ∀ (v77 : IVec S16 32) (k1_hw6 : k1_chk6 v77), ∀ a x, ((![v77] : Fin 1 → IVec S16 32) a x).toNat < S10240.size a := fun v77 k1_hw6 => k1_hw6.2.2.2.2.2.2.2.2.2.2.2.2.2.1
theorem k1_idx59_inb : ∀ (v77 : IVec S16 32) (k1_hw6 : k1_chk6 v77), ∀ a x, ((![v77] : Fin 1 → IVec S16 32) a x).toNat < S10240.size a := fun v77 k1_hw6 => k1_hw6.2.2.2.2.2.2.2.2.2.2.2.2.2.2.1
theorem k1_idx60_inb : ∀ (v77 : IVec S16 32) (k1_hw6 : k1_chk6 v77), ∀ a x, ((![v77] : Fin 1 → IVec S16 32) a x).toNat < S10240.size a := fun v77 k1_hw6 => k1_hw6.2.2.2.2.2.2.2.2.2.2.2.2.2.2.2
@[reducible] def k1_t7_loop : Scf.Loop 32 :=
  let c0_i32_48 : BitVec 32 := 0#32
  let c500_i32_49 : BitVec 32 := 500#32
  let v73 : BitVec 32 := Scalar.addi c0_i32_48 c500_i32_49
  let c1_i32_50 : BitVec 32 := 1#32
  ⟨c0_i32_48, v73, c1_i32_50⟩
def k1_off7 (k1_t7 : Fin k1_t7_loop.trips) : Fin 1 → Nat :=
  let c0_i32_48 : BitVec 32 := 0#32
  let c1_i32_50 : BitVec 32 := 1#32
  let arg23 : BitVec 32 := Scf.iv c0_i32_48 c1_i32_50 k1_t7
  let c16_i32 : BitVec 32 := 16#32
  let v74 : BitVec 32 := Scalar.muli arg23 c16_i32
  let v75 : Index := Scalar.indexCast v74
  ![v75.toNat]
def k1_cond3 (v69 : BitVec 32) : BitVec 1 :=
  let c0_i32_45 : BitVec 32 := 0#32
  let v70 : BitVec 1 := Scalar.cmpi .sgt v69 c0_i32_45
  let v71 : BitVec 32 := Scalar.extui v70
  let c0_i32_46 : BitVec 32 := 0#32
  let v72 : BitVec 1 := Scalar.cmpi .ne v71 c0_i32_46
  v72

def k1_chk7 (v69 : BitVec 32) (v76 : IVec S16 32) : Prop :=
  (∀ (k1_h3 : k1_cond3 v69 = 1#1), ∀ a x, ((![v76] : Fin 1 → IVec S16 32) a x).toNat < S10240.size a) ∧
  (∀ (k1_h3 : k1_cond3 v69 = 1#1), ∀ a x, ((![v76] : Fin 1 → IVec S16 32) a x).toNat < S10240.size a) ∧
  (∀ (k1_h3 : k1_cond3 v69 = 1#1), ∀ a x, ((![v76] : Fin 1 → IVec S16 32) a x).toNat < S10240.size a) ∧
  (∀ (k1_h3 : k1_cond3 v69 = 1#1), ∀ a x, ((![v76] : Fin 1 → IVec S16 32) a x).toNat < S10240.size a)
theorem k1_idx61_inb : ∀ (v69 : BitVec 32) (v76 : IVec S16 32) (k1_hw7 : k1_chk7 v69 v76), ∀ (k1_h3 : k1_cond3 v69 = 1#1), ∀ a x, ((![v76] : Fin 1 → IVec S16 32) a x).toNat < S10240.size a := fun v69 v76 k1_hw7 k1_h3 => k1_hw7.1 k1_h3
theorem k1_idx62_inb : ∀ (v69 : BitVec 32) (v76 : IVec S16 32) (k1_hw7 : k1_chk7 v69 v76), ∀ (k1_h3 : k1_cond3 v69 = 1#1), ∀ a x, ((![v76] : Fin 1 → IVec S16 32) a x).toNat < S10240.size a := fun v69 v76 k1_hw7 k1_h3 => k1_hw7.2.1 k1_h3
theorem k1_idx63_inb : ∀ (v69 : BitVec 32) (v76 : IVec S16 32) (k1_hw7 : k1_chk7 v69 v76), ∀ (k1_h3 : k1_cond3 v69 = 1#1), ∀ a x, ((![v76] : Fin 1 → IVec S16 32) a x).toNat < S10240.size a := fun v69 v76 k1_hw7 k1_h3 => k1_hw7.2.2.1 k1_h3
theorem k1_idx64_inb : ∀ (v69 : BitVec 32) (v76 : IVec S16 32) (k1_hw7 : k1_chk7 v69 v76), ∀ (k1_h3 : k1_cond3 v69 = 1#1), ∀ a x, ((![v76] : Fin 1 → IVec S16 32) a x).toNat < S10240.size a := fun v69 v76 k1_hw7 k1_h3 => k1_hw7.2.2.2 k1_h3
@[reducible] def k1_t8_loop (v18 : BitVec 32) (v89 : BitVec 32) : Scf.Loop 32 :=
  let c1_i32_57 : BitVec 32 := 1#32
  let v90 : BitVec 32 := Scalar.addi v89 c1_i32_57
  let v91 : BitVec 32 := Scalar.subi v90 v18
  let c1_i32_59 : BitVec 32 := 1#32
  let v93 : BitVec 32 := Scalar.divsi v91 c1_i32_59
  let v94 : BitVec 32 := Scalar.muli v93 c1_i32_59
  let v95 : BitVec 32 := Scalar.addi v18 v94
  let c1_i32_60 : BitVec 32 := 1#32
  ⟨v18, v95, c1_i32_60⟩

@[reducible] def k1_t9_loop (v18 : BitVec 32) (v89 : BitVec 32) : Scf.Loop 32 :=
  let c1_i32_57 : BitVec 32 := 1#32
  let v90 : BitVec 32 := Scalar.addi v89 c1_i32_57
  let v91 : BitVec 32 := Scalar.subi v90 v18
  let c1_i32_59 : BitVec 32 := 1#32
  let v93 : BitVec 32 := Scalar.divsi v91 c1_i32_59
  let v94 : BitVec 32 := Scalar.muli v93 c1_i32_59
  let v95 : BitVec 32 := Scalar.addi v18 v94
  let v92 : BitVec 32 := Scalar.addi v18 v91
  let c1_i32_61 : BitVec 32 := 1#32
  ⟨v95, v92, c1_i32_61⟩

def k1_chk8 (v18 : BitVec 32) (v69 : BitVec 32) (v78 : IVec S16 32) (v89 : BitVec 32) : Prop :=
  (∀ (k1_h3 : k1_cond3 v69 = 1#1), (k1_t8_loop v18 v89).OK) ∧
  (∀ k1_t8 : Fin (k1_t8_loop v18 v89).trips, ∀ (k1_h3 : k1_cond3 v69 = 1#1), ∀ a x, ((![v78] : Fin 1 → IVec S16 32) a x).toNat < S10240.size a) ∧
  (∀ k1_t8 : Fin (k1_t8_loop v18 v89).trips, ∀ (k1_h3 : k1_cond3 v69 = 1#1), ∀ a x, ((![v78] : Fin 1 → IVec S16 32) a x).toNat < S10240.size a) ∧
  (∀ k1_t8 : Fin (k1_t8_loop v18 v89).trips, ∀ (k1_h3 : k1_cond3 v69 = 1#1), ∀ a x, ((![v78] : Fin 1 → IVec S16 32) a x).toNat < S10240.size a) ∧
  (∀ k1_t8 : Fin (k1_t8_loop v18 v89).trips, ∀ (k1_h3 : k1_cond3 v69 = 1#1), ∀ a x, ((![v78] : Fin 1 → IVec S16 32) a x).toNat < S10240.size a) ∧
  (∀ k1_t8 : Fin (k1_t8_loop v18 v89).trips, ∀ (k1_h3 : k1_cond3 v69 = 1#1), ∀ a x, ((![v78] : Fin 1 → IVec S16 32) a x).toNat < S10240.size a) ∧
  (∀ k1_t8 : Fin (k1_t8_loop v18 v89).trips, ∀ (k1_h3 : k1_cond3 v69 = 1#1), ∀ a x, ((![v78] : Fin 1 → IVec S16 32) a x).toNat < S10240.size a) ∧
  (∀ k1_t8 : Fin (k1_t8_loop v18 v89).trips, ∀ (k1_h3 : k1_cond3 v69 = 1#1), ∀ a x, ((![v78] : Fin 1 → IVec S16 32) a x).toNat < S10240.size a) ∧
  (∀ k1_t8 : Fin (k1_t8_loop v18 v89).trips, ∀ (k1_h3 : k1_cond3 v69 = 1#1), ∀ a x, ((![v78] : Fin 1 → IVec S16 32) a x).toNat < S10240.size a) ∧
  (∀ (k1_h3 : k1_cond3 v69 = 1#1), (k1_t9_loop v18 v89).OK) ∧
  (∀ k1_t9 : Fin (k1_t9_loop v18 v89).trips, ∀ (k1_h3 : k1_cond3 v69 = 1#1), ∀ a x, ((![v78] : Fin 1 → IVec S16 32) a x).toNat < S10240.size a) ∧
  (∀ k1_t9 : Fin (k1_t9_loop v18 v89).trips, ∀ (k1_h3 : k1_cond3 v69 = 1#1), ∀ a x, ((![v78] : Fin 1 → IVec S16 32) a x).toNat < S10240.size a) ∧
  (∀ k1_t9 : Fin (k1_t9_loop v18 v89).trips, ∀ (k1_h3 : k1_cond3 v69 = 1#1), ∀ a x, ((![v78] : Fin 1 → IVec S16 32) a x).toNat < S10240.size a) ∧
  (∀ k1_t9 : Fin (k1_t9_loop v18 v89).trips, ∀ (k1_h3 : k1_cond3 v69 = 1#1), ∀ a x, ((![v78] : Fin 1 → IVec S16 32) a x).toNat < S10240.size a) ∧
  (∀ k1_t9 : Fin (k1_t9_loop v18 v89).trips, ∀ (k1_h3 : k1_cond3 v69 = 1#1), ∀ a x, ((![v78] : Fin 1 → IVec S16 32) a x).toNat < S10240.size a) ∧
  (∀ k1_t9 : Fin (k1_t9_loop v18 v89).trips, ∀ (k1_h3 : k1_cond3 v69 = 1#1), ∀ a x, ((![v78] : Fin 1 → IVec S16 32) a x).toNat < S10240.size a) ∧
  (∀ k1_t9 : Fin (k1_t9_loop v18 v89).trips, ∀ (k1_h3 : k1_cond3 v69 = 1#1), ∀ a x, ((![v78] : Fin 1 → IVec S16 32) a x).toNat < S10240.size a) ∧
  (∀ k1_t9 : Fin (k1_t9_loop v18 v89).trips, ∀ (k1_h3 : k1_cond3 v69 = 1#1), ∀ a x, ((![v78] : Fin 1 → IVec S16 32) a x).toNat < S10240.size a)
theorem k1_t8_ok : ∀ (v18 : BitVec 32) (v69 : BitVec 32) (v78 : IVec S16 32) (v89 : BitVec 32) (k1_hw8 : k1_chk8 v18 v69 v78 v89), ∀ (k1_h3 : k1_cond3 v69 = 1#1), (k1_t8_loop v18 v89).OK := fun v18 v69 v78 v89 k1_hw8 k1_h3 => k1_hw8.1 k1_h3
theorem k1_idx65_inb : ∀ (v18 : BitVec 32) (v69 : BitVec 32) (v78 : IVec S16 32) (v89 : BitVec 32) (k1_hw8 : k1_chk8 v18 v69 v78 v89) (k1_t8 : Fin (k1_t8_loop v18 v89).trips), ∀ (k1_h3 : k1_cond3 v69 = 1#1), ∀ a x, ((![v78] : Fin 1 → IVec S16 32) a x).toNat < S10240.size a := fun v18 v69 v78 v89 k1_hw8 k1_t8 k1_h3 => k1_hw8.2.1 k1_t8 k1_h3
theorem k1_idx66_inb : ∀ (v18 : BitVec 32) (v69 : BitVec 32) (v78 : IVec S16 32) (v89 : BitVec 32) (k1_hw8 : k1_chk8 v18 v69 v78 v89) (k1_t8 : Fin (k1_t8_loop v18 v89).trips), ∀ (k1_h3 : k1_cond3 v69 = 1#1), ∀ a x, ((![v78] : Fin 1 → IVec S16 32) a x).toNat < S10240.size a := fun v18 v69 v78 v89 k1_hw8 k1_t8 k1_h3 => k1_hw8.2.2.1 k1_t8 k1_h3
theorem k1_idx67_inb : ∀ (v18 : BitVec 32) (v69 : BitVec 32) (v78 : IVec S16 32) (v89 : BitVec 32) (k1_hw8 : k1_chk8 v18 v69 v78 v89) (k1_t8 : Fin (k1_t8_loop v18 v89).trips), ∀ (k1_h3 : k1_cond3 v69 = 1#1), ∀ a x, ((![v78] : Fin 1 → IVec S16 32) a x).toNat < S10240.size a := fun v18 v69 v78 v89 k1_hw8 k1_t8 k1_h3 => k1_hw8.2.2.2.1 k1_t8 k1_h3
theorem k1_idx68_inb : ∀ (v18 : BitVec 32) (v69 : BitVec 32) (v78 : IVec S16 32) (v89 : BitVec 32) (k1_hw8 : k1_chk8 v18 v69 v78 v89) (k1_t8 : Fin (k1_t8_loop v18 v89).trips), ∀ (k1_h3 : k1_cond3 v69 = 1#1), ∀ a x, ((![v78] : Fin 1 → IVec S16 32) a x).toNat < S10240.size a := fun v18 v69 v78 v89 k1_hw8 k1_t8 k1_h3 => k1_hw8.2.2.2.2.1 k1_t8 k1_h3
theorem k1_idx69_inb : ∀ (v18 : BitVec 32) (v69 : BitVec 32) (v78 : IVec S16 32) (v89 : BitVec 32) (k1_hw8 : k1_chk8 v18 v69 v78 v89) (k1_t8 : Fin (k1_t8_loop v18 v89).trips), ∀ (k1_h3 : k1_cond3 v69 = 1#1), ∀ a x, ((![v78] : Fin 1 → IVec S16 32) a x).toNat < S10240.size a := fun v18 v69 v78 v89 k1_hw8 k1_t8 k1_h3 => k1_hw8.2.2.2.2.2.1 k1_t8 k1_h3
theorem k1_idx70_inb : ∀ (v18 : BitVec 32) (v69 : BitVec 32) (v78 : IVec S16 32) (v89 : BitVec 32) (k1_hw8 : k1_chk8 v18 v69 v78 v89) (k1_t8 : Fin (k1_t8_loop v18 v89).trips), ∀ (k1_h3 : k1_cond3 v69 = 1#1), ∀ a x, ((![v78] : Fin 1 → IVec S16 32) a x).toNat < S10240.size a := fun v18 v69 v78 v89 k1_hw8 k1_t8 k1_h3 => k1_hw8.2.2.2.2.2.2.1 k1_t8 k1_h3
theorem k1_idx71_inb : ∀ (v18 : BitVec 32) (v69 : BitVec 32) (v78 : IVec S16 32) (v89 : BitVec 32) (k1_hw8 : k1_chk8 v18 v69 v78 v89) (k1_t8 : Fin (k1_t8_loop v18 v89).trips), ∀ (k1_h3 : k1_cond3 v69 = 1#1), ∀ a x, ((![v78] : Fin 1 → IVec S16 32) a x).toNat < S10240.size a := fun v18 v69 v78 v89 k1_hw8 k1_t8 k1_h3 => k1_hw8.2.2.2.2.2.2.2.1 k1_t8 k1_h3
theorem k1_idx72_inb : ∀ (v18 : BitVec 32) (v69 : BitVec 32) (v78 : IVec S16 32) (v89 : BitVec 32) (k1_hw8 : k1_chk8 v18 v69 v78 v89) (k1_t8 : Fin (k1_t8_loop v18 v89).trips), ∀ (k1_h3 : k1_cond3 v69 = 1#1), ∀ a x, ((![v78] : Fin 1 → IVec S16 32) a x).toNat < S10240.size a := fun v18 v69 v78 v89 k1_hw8 k1_t8 k1_h3 => k1_hw8.2.2.2.2.2.2.2.2.1 k1_t8 k1_h3
theorem k1_t9_ok : ∀ (v18 : BitVec 32) (v69 : BitVec 32) (v78 : IVec S16 32) (v89 : BitVec 32) (k1_hw8 : k1_chk8 v18 v69 v78 v89), ∀ (k1_h3 : k1_cond3 v69 = 1#1), (k1_t9_loop v18 v89).OK := fun v18 v69 v78 v89 k1_hw8 k1_h3 => k1_hw8.2.2.2.2.2.2.2.2.2.1 k1_h3
theorem k1_idx73_inb : ∀ (v18 : BitVec 32) (v69 : BitVec 32) (v78 : IVec S16 32) (v89 : BitVec 32) (k1_hw8 : k1_chk8 v18 v69 v78 v89) (k1_t9 : Fin (k1_t9_loop v18 v89).trips), ∀ (k1_h3 : k1_cond3 v69 = 1#1), ∀ a x, ((![v78] : Fin 1 → IVec S16 32) a x).toNat < S10240.size a := fun v18 v69 v78 v89 k1_hw8 k1_t9 k1_h3 => k1_hw8.2.2.2.2.2.2.2.2.2.2.1 k1_t9 k1_h3
theorem k1_idx74_inb : ∀ (v18 : BitVec 32) (v69 : BitVec 32) (v78 : IVec S16 32) (v89 : BitVec 32) (k1_hw8 : k1_chk8 v18 v69 v78 v89) (k1_t9 : Fin (k1_t9_loop v18 v89).trips), ∀ (k1_h3 : k1_cond3 v69 = 1#1), ∀ a x, ((![v78] : Fin 1 → IVec S16 32) a x).toNat < S10240.size a := fun v18 v69 v78 v89 k1_hw8 k1_t9 k1_h3 => k1_hw8.2.2.2.2.2.2.2.2.2.2.2.1 k1_t9 k1_h3
theorem k1_idx75_inb : ∀ (v18 : BitVec 32) (v69 : BitVec 32) (v78 : IVec S16 32) (v89 : BitVec 32) (k1_hw8 : k1_chk8 v18 v69 v78 v89) (k1_t9 : Fin (k1_t9_loop v18 v89).trips), ∀ (k1_h3 : k1_cond3 v69 = 1#1), ∀ a x, ((![v78] : Fin 1 → IVec S16 32) a x).toNat < S10240.size a := fun v18 v69 v78 v89 k1_hw8 k1_t9 k1_h3 => k1_hw8.2.2.2.2.2.2.2.2.2.2.2.2.1 k1_t9 k1_h3
theorem k1_idx76_inb : ∀ (v18 : BitVec 32) (v69 : BitVec 32) (v78 : IVec S16 32) (v89 : BitVec 32) (k1_hw8 : k1_chk8 v18 v69 v78 v89) (k1_t9 : Fin (k1_t9_loop v18 v89).trips), ∀ (k1_h3 : k1_cond3 v69 = 1#1), ∀ a x, ((![v78] : Fin 1 → IVec S16 32) a x).toNat < S10240.size a := fun v18 v69 v78 v89 k1_hw8 k1_t9 k1_h3 => k1_hw8.2.2.2.2.2.2.2.2.2.2.2.2.2.1 k1_t9 k1_h3
theorem k1_idx77_inb : ∀ (v18 : BitVec 32) (v69 : BitVec 32) (v78 : IVec S16 32) (v89 : BitVec 32) (k1_hw8 : k1_chk8 v18 v69 v78 v89) (k1_t9 : Fin (k1_t9_loop v18 v89).trips), ∀ (k1_h3 : k1_cond3 v69 = 1#1), ∀ a x, ((![v78] : Fin 1 → IVec S16 32) a x).toNat < S10240.size a := fun v18 v69 v78 v89 k1_hw8 k1_t9 k1_h3 => k1_hw8.2.2.2.2.2.2.2.2.2.2.2.2.2.2.1 k1_t9 k1_h3
theorem k1_idx78_inb : ∀ (v18 : BitVec 32) (v69 : BitVec 32) (v78 : IVec S16 32) (v89 : BitVec 32) (k1_hw8 : k1_chk8 v18 v69 v78 v89) (k1_t9 : Fin (k1_t9_loop v18 v89).trips), ∀ (k1_h3 : k1_cond3 v69 = 1#1), ∀ a x, ((![v78] : Fin 1 → IVec S16 32) a x).toNat < S10240.size a := fun v18 v69 v78 v89 k1_hw8 k1_t9 k1_h3 => k1_hw8.2.2.2.2.2.2.2.2.2.2.2.2.2.2.2.1 k1_t9 k1_h3
theorem k1_idx79_inb : ∀ (v18 : BitVec 32) (v69 : BitVec 32) (v78 : IVec S16 32) (v89 : BitVec 32) (k1_hw8 : k1_chk8 v18 v69 v78 v89) (k1_t9 : Fin (k1_t9_loop v18 v89).trips), ∀ (k1_h3 : k1_cond3 v69 = 1#1), ∀ a x, ((![v78] : Fin 1 → IVec S16 32) a x).toNat < S10240.size a := fun v18 v69 v78 v89 k1_hw8 k1_t9 k1_h3 => k1_hw8.2.2.2.2.2.2.2.2.2.2.2.2.2.2.2.2.1 k1_t9 k1_h3
theorem k1_idx80_inb : ∀ (v18 : BitVec 32) (v69 : BitVec 32) (v78 : IVec S16 32) (v89 : BitVec 32) (k1_hw8 : k1_chk8 v18 v69 v78 v89) (k1_t9 : Fin (k1_t9_loop v18 v89).trips), ∀ (k1_h3 : k1_cond3 v69 = 1#1), ∀ a x, ((![v78] : Fin 1 → IVec S16 32) a x).toNat < S10240.size a := fun v18 v69 v78 v89 k1_hw8 k1_t9 k1_h3 => k1_hw8.2.2.2.2.2.2.2.2.2.2.2.2.2.2.2.2.2 k1_t9 k1_h3
def k1_off8 (i : grid1.Coords) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v24 : BitVec 32 := Scalar.addi v2 c0_i32_15
  let c0_i32_19_r8 : BitVec 32 := 0#32
  ![v24.toNat, 0]
abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S128x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![2, 16], ![false, false]⟩

def k3_off1 (i : grid3.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c0_i32_19_r0 : BitVec 32 := 0#32
  ![v3.toNat, 0]
@[reducible] def k3_t1_loop : Scf.Loop 32 :=
  let c0_i32_12 : BitVec 32 := 0#32
  let c20_i32 : BitVec 32 := 20#32
  let v23 : BitVec 32 := Scalar.addi c0_i32_12 c20_i32
  let c1_i32_13 : BitVec 32 := 1#32
  ⟨c0_i32_12, v23, c1_i32_13⟩
def k3_off2 (k3_t1 : Fin k3_t1_loop.trips) : Fin 1 → Nat :=
  let c0_i32_12 : BitVec 32 := 0#32
  let c1_i32_13 : BitVec 32 := 1#32
  let arg22 : BitVec 32 := Scf.iv c0_i32_12 c1_i32_13 k3_t1
  let c2_i32_19 : BitVec 32 := 2#32
  let v28 : BitVec 32 := Scalar.muli arg22 c2_i32_19
  let c1_i32_24 : BitVec 32 := 1#32
  let v33 : BitVec 32 := Scalar.addi v28 c1_i32_24
  let c8000_i32 : BitVec 32 := 8000#32
  let v34 : BitVec 32 := Scalar.muli v33 c8000_i32
  ![v34.toNat]
@[reducible] def k3_t2_loop : Scf.Loop 32 :=
  let c0_i32_25 : BitVec 32 := 0#32
  let c500_i32 : BitVec 32 := 500#32
  let v40 : BitVec 32 := Scalar.addi c0_i32_25 c500_i32
  let c1_i32_26 : BitVec 32 := 1#32
  ⟨c0_i32_25, v40, c1_i32_26⟩
def k3_off3 (k3_t2 : Fin k3_t2_loop.trips) : Fin 1 → Nat :=
  let c0_i32_25 : BitVec 32 := 0#32
  let c1_i32_26 : BitVec 32 := 1#32
  let arg23 : BitVec 32 := Scf.iv c0_i32_25 c1_i32_26 k3_t2
  let c16_i32 : BitVec 32 := 16#32
  let v73 : BitVec 32 := Scalar.muli arg23 c16_i32
  let v74 : Index := Scalar.indexCast v73
  ![v74.toNat]

def k3_chk1 (v75 : IVec S16 32) : Prop :=
  (∀ a x, ((![v75] : Fin 1 → IVec S16 32) a x).toNat < S10240.size a) ∧
  (∀ a x, ((![v75] : Fin 1 → IVec S16 32) a x).toNat < S10240.size a) ∧
  (∀ a x, ((![v75] : Fin 1 → IVec S16 32) a x).toNat < S10240.size a) ∧
  (∀ a x, ((![v75] : Fin 1 → IVec S16 32) a x).toNat < S10240.size a)
theorem k3_idx1_inb : ∀ (v75 : IVec S16 32) (k3_hw1 : k3_chk1 v75), ∀ a x, ((![v75] : Fin 1 → IVec S16 32) a x).toNat < S10240.size a := fun v75 k3_hw1 => k3_hw1.1
theorem k3_idx2_inb : ∀ (v75 : IVec S16 32) (k3_hw1 : k3_chk1 v75), ∀ a x, ((![v75] : Fin 1 → IVec S16 32) a x).toNat < S10240.size a := fun v75 k3_hw1 => k3_hw1.2.1
theorem k3_idx3_inb : ∀ (v75 : IVec S16 32) (k3_hw1 : k3_chk1 v75), ∀ a x, ((![v75] : Fin 1 → IVec S16 32) a x).toNat < S10240.size a := fun v75 k3_hw1 => k3_hw1.2.2.1
theorem k3_idx4_inb : ∀ (v75 : IVec S16 32) (k3_hw1 : k3_chk1 v75), ∀ a x, ((![v75] : Fin 1 → IVec S16 32) a x).toNat < S10240.size a := fun v75 k3_hw1 => k3_hw1.2.2.2

def k3_chk2 (v77 : IVec S16 32) : Prop :=
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a)
theorem k3_idx5_inb : ∀ (v77 : IVec S16 32) (k3_hw2 : k3_chk2 v77), ∀ a x, ((![v77] : Fin 1 → IVec S16 32) a x).toNat < S10240.size a := fun v77 k3_hw2 => k3_hw2.1
theorem k3_idx6_inb : ∀ (v77 : IVec S16 32) (k3_hw2 : k3_chk2 v77), ∀ a x, ((![v77] : Fin 1 → IVec S16 32) a x).toNat < S10240.size a := fun v77 k3_hw2 => k3_hw2.2.1
theorem k3_idx7_inb : ∀ (v77 : IVec S16 32) (k3_hw2 : k3_chk2 v77), ∀ a x, ((![v77] : Fin 1 → IVec S16 32) a x).toNat < S10240.size a := fun v77 k3_hw2 => k3_hw2.2.2.1
theorem k3_idx8_inb : ∀ (v77 : IVec S16 32) (k3_hw2 : k3_chk2 v77), ∀ a x, ((![v77] : Fin 1 → IVec S16 32) a x).toNat < S10240.size a := fun v77 k3_hw2 => k3_hw2.2.2.2.1
theorem k3_idx9_inb : ∀ (v77 : IVec S16 32) (k3_hw2 : k3_chk2 v77), ∀ a x, ((![v77] : Fin 1 → IVec S16 32) a x).toNat < S10240.size a := fun v77 k3_hw2 => k3_hw2.2.2.2.2.1
theorem k3_idx10_inb : ∀ (v77 : IVec S16 32) (k3_hw2 : k3_chk2 v77), ∀ a x, ((![v77] : Fin 1 → IVec S16 32) a x).toNat < S10240.size a := fun v77 k3_hw2 => k3_hw2.2.2.2.2.2.1
theorem k3_idx11_inb : ∀ (v77 : IVec S16 32) (k3_hw2 : k3_chk2 v77), ∀ a x, ((![v77] : Fin 1 → IVec S16 32) a x).toNat < S10240.size a := fun v77 k3_hw2 => k3_hw2.2.2.2.2.2.2.1
theorem k3_idx12_inb : ∀ (v77 : IVec S16 32) (k3_hw2 : k3_chk2 v77), ∀ a x, ((![v77] : Fin 1 → IVec S16 32) a x).toNat < S10240.size a := fun v77 k3_hw2 => k3_hw2.2.2.2.2.2.2.2.1
theorem k3_idx13_inb : ∀ (v77 : IVec S16 32) (k3_hw2 : k3_chk2 v77), ∀ a x, ((![v77] : Fin 1 → IVec S16 32) a x).toNat < S10240.size a := fun v77 k3_hw2 => k3_hw2.2.2.2.2.2.2.2.2.1
theorem k3_idx14_inb : ∀ (v77 : IVec S16 32) (k3_hw2 : k3_chk2 v77), ∀ a x, ((![v77] : Fin 1 → IVec S16 32) a x).toNat < S10240.size a := fun v77 k3_hw2 => k3_hw2.2.2.2.2.2.2.2.2.2.1
theorem k3_idx15_inb : ∀ (v77 : IVec S16 32) (k3_hw2 : k3_chk2 v77), ∀ a x, ((![v77] : Fin 1 → IVec S16 32) a x).toNat < S10240.size a := fun v77 k3_hw2 => k3_hw2.2.2.2.2.2.2.2.2.2.2.1
theorem k3_idx16_inb : ∀ (v77 : IVec S16 32) (k3_hw2 : k3_chk2 v77), ∀ a x, ((![v77] : Fin 1 → IVec S16 32) a x).toNat < S10240.size a := fun v77 k3_hw2 => k3_hw2.2.2.2.2.2.2.2.2.2.2.2.1
theorem k3_idx17_inb : ∀ (v77 : IVec S16 32) (k3_hw2 : k3_chk2 v77), ∀ a x, ((![v77] : Fin 1 → IVec S16 32) a x).toNat < S10240.size a := fun v77 k3_hw2 => k3_hw2.2.2.2.2.2.2.2.2.2.2.2.2.1
theorem k3_idx18_inb : ∀ (v77 : IVec S16 32) (k3_hw2 : k3_chk2 v77), ∀ a x, ((![v77] : Fin 1 → IVec S16 32) a x).toNat < S10240.size a := fun v77 k3_hw2 => k3_hw2.2.2.2.2.2.2.2.2.2.2.2.2.2.1
theorem k3_idx19_inb : ∀ (v77 : IVec S16 32) (k3_hw2 : k3_chk2 v77), ∀ a x, ((![v77] : Fin 1 → IVec S16 32) a x).toNat < S10240.size a := fun v77 k3_hw2 => k3_hw2.2.2.2.2.2.2.2.2.2.2.2.2.2.2.1
theorem k3_idx20_inb : ∀ (v77 : IVec S16 32) (k3_hw2 : k3_chk2 v77), ∀ a x, ((![v77] : Fin 1 → IVec S16 32) a x).toNat < S10240.size a := fun v77 k3_hw2 => k3_hw2.2.2.2.2.2.2.2.2.2.2.2.2.2.2.2
@[reducible] def k3_t3_loop : Scf.Loop 32 :=
  let c0_i32_48 : BitVec 32 := 0#32
  let c500_i32_49 : BitVec 32 := 500#32
  let v73 : BitVec 32 := Scalar.addi c0_i32_48 c500_i32_49
  let c1_i32_50 : BitVec 32 := 1#32
  ⟨c0_i32_48, v73, c1_i32_50⟩
def k3_off4 (k3_t3 : Fin k3_t3_loop.trips) : Fin 1 → Nat :=
  let c0_i32_48 : BitVec 32 := 0#32
  let c1_i32_50 : BitVec 32 := 1#32
  let arg23 : BitVec 32 := Scf.iv c0_i32_48 c1_i32_50 k3_t3
  let c16_i32 : BitVec 32 := 16#32
  let v74 : BitVec 32 := Scalar.muli arg23 c16_i32
  let v75 : Index := Scalar.indexCast v74
  ![v75.toNat]
def k3_cond1 (v48 : BitVec 32) : BitVec 1 :=
  let c0_i32_30 : BitVec 32 := 0#32
  let v49 : BitVec 1 := Scalar.cmpi .sgt v48 c0_i32_30
  let v50 : BitVec 32 := Scalar.extui v49
  let c0_i32_31 : BitVec 32 := 0#32
  let v51 : BitVec 1 := Scalar.cmpi .ne v50 c0_i32_31
  v51

def k3_chk3 (v48 : BitVec 32) (v76 : IVec S16 32) : Prop :=
  (∀ (k3_h1 : k3_cond1 v48 = 1#1), ∀ a x, ((![v76] : Fin 1 → IVec S16 32) a x).toNat < S10240.size a) ∧
  (∀ (k3_h1 : k3_cond1 v48 = 1#1), ∀ a x, ((![v76] : Fin 1 → IVec S16 32) a x).toNat < S10240.size a) ∧
  (∀ (k3_h1 : k3_cond1 v48 = 1#1), ∀ a x, ((![v76] : Fin 1 → IVec S16 32) a x).toNat < S10240.size a) ∧
  (∀ (k3_h1 : k3_cond1 v48 = 1#1), ∀ a x, ((![v76] : Fin 1 → IVec S16 32) a x).toNat < S10240.size a)
theorem k3_idx21_inb : ∀ (v48 : BitVec 32) (v76 : IVec S16 32) (k3_hw3 : k3_chk3 v48 v76), ∀ (k3_h1 : k3_cond1 v48 = 1#1), ∀ a x, ((![v76] : Fin 1 → IVec S16 32) a x).toNat < S10240.size a := fun v48 v76 k3_hw3 k3_h1 => k3_hw3.1 k3_h1
theorem k3_idx22_inb : ∀ (v48 : BitVec 32) (v76 : IVec S16 32) (k3_hw3 : k3_chk3 v48 v76), ∀ (k3_h1 : k3_cond1 v48 = 1#1), ∀ a x, ((![v76] : Fin 1 → IVec S16 32) a x).toNat < S10240.size a := fun v48 v76 k3_hw3 k3_h1 => k3_hw3.2.1 k3_h1
theorem k3_idx23_inb : ∀ (v48 : BitVec 32) (v76 : IVec S16 32) (k3_hw3 : k3_chk3 v48 v76), ∀ (k3_h1 : k3_cond1 v48 = 1#1), ∀ a x, ((![v76] : Fin 1 → IVec S16 32) a x).toNat < S10240.size a := fun v48 v76 k3_hw3 k3_h1 => k3_hw3.2.2.1 k3_h1
theorem k3_idx24_inb : ∀ (v48 : BitVec 32) (v76 : IVec S16 32) (k3_hw3 : k3_chk3 v48 v76), ∀ (k3_h1 : k3_cond1 v48 = 1#1), ∀ a x, ((![v76] : Fin 1 → IVec S16 32) a x).toNat < S10240.size a := fun v48 v76 k3_hw3 k3_h1 => k3_hw3.2.2.2 k3_h1
@[reducible] def k3_t4_loop (v18 : BitVec 32) (v89 : BitVec 32) : Scf.Loop 32 :=
  let c1_i32_57 : BitVec 32 := 1#32
  let v90 : BitVec 32 := Scalar.addi v89 c1_i32_57
  let v91 : BitVec 32 := Scalar.subi v90 v18
  let c1_i32_59 : BitVec 32 := 1#32
  let v93 : BitVec 32 := Scalar.divsi v91 c1_i32_59
  let v94 : BitVec 32 := Scalar.muli v93 c1_i32_59
  let v95 : BitVec 32 := Scalar.addi v18 v94
  let c1_i32_60 : BitVec 32 := 1#32
  ⟨v18, v95, c1_i32_60⟩

@[reducible] def k3_t5_loop (v18 : BitVec 32) (v89 : BitVec 32) : Scf.Loop 32 :=
  let c1_i32_57 : BitVec 32 := 1#32
  let v90 : BitVec 32 := Scalar.addi v89 c1_i32_57
  let v91 : BitVec 32 := Scalar.subi v90 v18
  let c1_i32_59 : BitVec 32 := 1#32
  let v93 : BitVec 32 := Scalar.divsi v91 c1_i32_59
  let v94 : BitVec 32 := Scalar.muli v93 c1_i32_59
  let v95 : BitVec 32 := Scalar.addi v18 v94
  let v92 : BitVec 32 := Scalar.addi v18 v91
  let c1_i32_61 : BitVec 32 := 1#32
  ⟨v95, v92, c1_i32_61⟩

def k3_chk4 (v18 : BitVec 32) (v48 : BitVec 32) (v78 : IVec S16 32) (v89 : BitVec 32) : Prop :=
  (∀ (k3_h1 : k3_cond1 v48 = 1#1), (k3_t4_loop v18 v89).OK) ∧
  (∀ k3_t4 : Fin (k3_t4_loop v18 v89).trips, ∀ (k3_h1 : k3_cond1 v48 = 1#1), ∀ a x, ((![v78] : Fin 1 → IVec S16 32) a x).toNat < S10240.size a) ∧
  (∀ k3_t4 : Fin (k3_t4_loop v18 v89).trips, ∀ (k3_h1 : k3_cond1 v48 = 1#1), ∀ a x, ((![v78] : Fin 1 → IVec S16 32) a x).toNat < S10240.size a) ∧
  (∀ k3_t4 : Fin (k3_t4_loop v18 v89).trips, ∀ (k3_h1 : k3_cond1 v48 = 1#1), ∀ a x, ((![v78] : Fin 1 → IVec S16 32) a x).toNat < S10240.size a) ∧
  (∀ k3_t4 : Fin (k3_t4_loop v18 v89).trips, ∀ (k3_h1 : k3_cond1 v48 = 1#1), ∀ a x, ((![v78] : Fin 1 → IVec S16 32) a x).toNat < S10240.size a) ∧
  (∀ k3_t4 : Fin (k3_t4_loop v18 v89).trips, ∀ (k3_h1 : k3_cond1 v48 = 1#1), ∀ a x, ((![v78] : Fin 1 → IVec S16 32) a x).toNat < S10240.size a) ∧
  (∀ k3_t4 : Fin (k3_t4_loop v18 v89).trips, ∀ (k3_h1 : k3_cond1 v48 = 1#1), ∀ a x, ((![v78] : Fin 1 → IVec S16 32) a x).toNat < S10240.size a) ∧
  (∀ k3_t4 : Fin (k3_t4_loop v18 v89).trips, ∀ (k3_h1 : k3_cond1 v48 = 1#1), ∀ a x, ((![v78] : Fin 1 → IVec S16 32) a x).toNat < S10240.size a) ∧
  (∀ k3_t4 : Fin (k3_t4_loop v18 v89).trips, ∀ (k3_h1 : k3_cond1 v48 = 1#1), ∀ a x, ((![v78] : Fin 1 → IVec S16 32) a x).toNat < S10240.size a) ∧
  (∀ (k3_h1 : k3_cond1 v48 = 1#1), (k3_t5_loop v18 v89).OK) ∧
  (∀ k3_t5 : Fin (k3_t5_loop v18 v89).trips, ∀ (k3_h1 : k3_cond1 v48 = 1#1), ∀ a x, ((![v78] : Fin 1 → IVec S16 32) a x).toNat < S10240.size a) ∧
  (∀ k3_t5 : Fin (k3_t5_loop v18 v89).trips, ∀ (k3_h1 : k3_cond1 v48 = 1#1), ∀ a x, ((![v78] : Fin 1 → IVec S16 32) a x).toNat < S10240.size a) ∧
  (∀ k3_t5 : Fin (k3_t5_loop v18 v89).trips, ∀ (k3_h1 : k3_cond1 v48 = 1#1), ∀ a x, ((![v78] : Fin 1 → IVec S16 32) a x).toNat < S10240.size a) ∧
  (∀ k3_t5 : Fin (k3_t5_loop v18 v89).trips, ∀ (k3_h1 : k3_cond1 v48 = 1#1), ∀ a x, ((![v78] : Fin 1 → IVec S16 32) a x).toNat < S10240.size a) ∧
  (∀ k3_t5 : Fin (k3_t5_loop v18 v89).trips, ∀ (k3_h1 : k3_cond1 v48 = 1#1), ∀ a x, ((![v78] : Fin 1 → IVec S16 32) a x).toNat < S10240.size a) ∧
  (∀ k3_t5 : Fin (k3_t5_loop v18 v89).trips, ∀ (k3_h1 : k3_cond1 v48 = 1#1), ∀ a x, ((![v78] : Fin 1 → IVec S16 32) a x).toNat < S10240.size a) ∧
  (∀ k3_t5 : Fin (k3_t5_loop v18 v89).trips, ∀ (k3_h1 : k3_cond1 v48 = 1#1), ∀ a x, ((![v78] : Fin 1 → IVec S16 32) a x).toNat < S10240.size a) ∧
  (∀ k3_t5 : Fin (k3_t5_loop v18 v89).trips, ∀ (k3_h1 : k3_cond1 v48 = 1#1), ∀ a x, ((![v78] : Fin 1 → IVec S16 32) a x).toNat < S10240.size a)
theorem k3_t4_ok : ∀ (v18 : BitVec 32) (v48 : BitVec 32) (v78 : IVec S16 32) (v89 : BitVec 32) (k3_hw4 : k3_chk4 v18 v48 v78 v89), ∀ (k3_h1 : k3_cond1 v48 = 1#1), (k3_t4_loop v18 v89).OK := fun v18 v48 v78 v89 k3_hw4 k3_h1 => k3_hw4.1 k3_h1
theorem k3_idx25_inb : ∀ (v18 : BitVec 32) (v48 : BitVec 32) (v78 : IVec S16 32) (v89 : BitVec 32) (k3_hw4 : k3_chk4 v18 v48 v78 v89) (k3_t4 : Fin (k3_t4_loop v18 v89).trips), ∀ (k3_h1 : k3_cond1 v48 = 1#1), ∀ a x, ((![v78] : Fin 1 → IVec S16 32) a x).toNat < S10240.size a := fun v18 v48 v78 v89 k3_hw4 k3_t4 k3_h1 => k3_hw4.2.1 k3_t4 k3_h1
theorem k3_idx26_inb : ∀ (v18 : BitVec 32) (v48 : BitVec 32) (v78 : IVec S16 32) (v89 : BitVec 32) (k3_hw4 : k3_chk4 v18 v48 v78 v89) (k3_t4 : Fin (k3_t4_loop v18 v89).trips), ∀ (k3_h1 : k3_cond1 v48 = 1#1), ∀ a x, ((![v78] : Fin 1 → IVec S16 32) a x).toNat < S10240.size a := fun v18 v48 v78 v89 k3_hw4 k3_t4 k3_h1 => k3_hw4.2.2.1 k3_t4 k3_h1
theorem k3_idx27_inb : ∀ (v18 : BitVec 32) (v48 : BitVec 32) (v78 : IVec S16 32) (v89 : BitVec 32) (k3_hw4 : k3_chk4 v18 v48 v78 v89) (k3_t4 : Fin (k3_t4_loop v18 v89).trips), ∀ (k3_h1 : k3_cond1 v48 = 1#1), ∀ a x, ((![v78] : Fin 1 → IVec S16 32) a x).toNat < S10240.size a := fun v18 v48 v78 v89 k3_hw4 k3_t4 k3_h1 => k3_hw4.2.2.2.1 k3_t4 k3_h1
theorem k3_idx28_inb : ∀ (v18 : BitVec 32) (v48 : BitVec 32) (v78 : IVec S16 32) (v89 : BitVec 32) (k3_hw4 : k3_chk4 v18 v48 v78 v89) (k3_t4 : Fin (k3_t4_loop v18 v89).trips), ∀ (k3_h1 : k3_cond1 v48 = 1#1), ∀ a x, ((![v78] : Fin 1 → IVec S16 32) a x).toNat < S10240.size a := fun v18 v48 v78 v89 k3_hw4 k3_t4 k3_h1 => k3_hw4.2.2.2.2.1 k3_t4 k3_h1
theorem k3_idx29_inb : ∀ (v18 : BitVec 32) (v48 : BitVec 32) (v78 : IVec S16 32) (v89 : BitVec 32) (k3_hw4 : k3_chk4 v18 v48 v78 v89) (k3_t4 : Fin (k3_t4_loop v18 v89).trips), ∀ (k3_h1 : k3_cond1 v48 = 1#1), ∀ a x, ((![v78] : Fin 1 → IVec S16 32) a x).toNat < S10240.size a := fun v18 v48 v78 v89 k3_hw4 k3_t4 k3_h1 => k3_hw4.2.2.2.2.2.1 k3_t4 k3_h1
theorem k3_idx30_inb : ∀ (v18 : BitVec 32) (v48 : BitVec 32) (v78 : IVec S16 32) (v89 : BitVec 32) (k3_hw4 : k3_chk4 v18 v48 v78 v89) (k3_t4 : Fin (k3_t4_loop v18 v89).trips), ∀ (k3_h1 : k3_cond1 v48 = 1#1), ∀ a x, ((![v78] : Fin 1 → IVec S16 32) a x).toNat < S10240.size a := fun v18 v48 v78 v89 k3_hw4 k3_t4 k3_h1 => k3_hw4.2.2.2.2.2.2.1 k3_t4 k3_h1
theorem k3_idx31_inb : ∀ (v18 : BitVec 32) (v48 : BitVec 32) (v78 : IVec S16 32) (v89 : BitVec 32) (k3_hw4 : k3_chk4 v18 v48 v78 v89) (k3_t4 : Fin (k3_t4_loop v18 v89).trips), ∀ (k3_h1 : k3_cond1 v48 = 1#1), ∀ a x, ((![v78] : Fin 1 → IVec S16 32) a x).toNat < S10240.size a := fun v18 v48 v78 v89 k3_hw4 k3_t4 k3_h1 => k3_hw4.2.2.2.2.2.2.2.1 k3_t4 k3_h1
theorem k3_idx32_inb : ∀ (v18 : BitVec 32) (v48 : BitVec 32) (v78 : IVec S16 32) (v89 : BitVec 32) (k3_hw4 : k3_chk4 v18 v48 v78 v89) (k3_t4 : Fin (k3_t4_loop v18 v89).trips), ∀ (k3_h1 : k3_cond1 v48 = 1#1), ∀ a x, ((![v78] : Fin 1 → IVec S16 32) a x).toNat < S10240.size a := fun v18 v48 v78 v89 k3_hw4 k3_t4 k3_h1 => k3_hw4.2.2.2.2.2.2.2.2.1 k3_t4 k3_h1
theorem k3_t5_ok : ∀ (v18 : BitVec 32) (v48 : BitVec 32) (v78 : IVec S16 32) (v89 : BitVec 32) (k3_hw4 : k3_chk4 v18 v48 v78 v89), ∀ (k3_h1 : k3_cond1 v48 = 1#1), (k3_t5_loop v18 v89).OK := fun v18 v48 v78 v89 k3_hw4 k3_h1 => k3_hw4.2.2.2.2.2.2.2.2.2.1 k3_h1
theorem k3_idx33_inb : ∀ (v18 : BitVec 32) (v48 : BitVec 32) (v78 : IVec S16 32) (v89 : BitVec 32) (k3_hw4 : k3_chk4 v18 v48 v78 v89) (k3_t5 : Fin (k3_t5_loop v18 v89).trips), ∀ (k3_h1 : k3_cond1 v48 = 1#1), ∀ a x, ((![v78] : Fin 1 → IVec S16 32) a x).toNat < S10240.size a := fun v18 v48 v78 v89 k3_hw4 k3_t5 k3_h1 => k3_hw4.2.2.2.2.2.2.2.2.2.2.1 k3_t5 k3_h1
theorem k3_idx34_inb : ∀ (v18 : BitVec 32) (v48 : BitVec 32) (v78 : IVec S16 32) (v89 : BitVec 32) (k3_hw4 : k3_chk4 v18 v48 v78 v89) (k3_t5 : Fin (k3_t5_loop v18 v89).trips), ∀ (k3_h1 : k3_cond1 v48 = 1#1), ∀ a x, ((![v78] : Fin 1 → IVec S16 32) a x).toNat < S10240.size a := fun v18 v48 v78 v89 k3_hw4 k3_t5 k3_h1 => k3_hw4.2.2.2.2.2.2.2.2.2.2.2.1 k3_t5 k3_h1
theorem k3_idx35_inb : ∀ (v18 : BitVec 32) (v48 : BitVec 32) (v78 : IVec S16 32) (v89 : BitVec 32) (k3_hw4 : k3_chk4 v18 v48 v78 v89) (k3_t5 : Fin (k3_t5_loop v18 v89).trips), ∀ (k3_h1 : k3_cond1 v48 = 1#1), ∀ a x, ((![v78] : Fin 1 → IVec S16 32) a x).toNat < S10240.size a := fun v18 v48 v78 v89 k3_hw4 k3_t5 k3_h1 => k3_hw4.2.2.2.2.2.2.2.2.2.2.2.2.1 k3_t5 k3_h1
theorem k3_idx36_inb : ∀ (v18 : BitVec 32) (v48 : BitVec 32) (v78 : IVec S16 32) (v89 : BitVec 32) (k3_hw4 : k3_chk4 v18 v48 v78 v89) (k3_t5 : Fin (k3_t5_loop v18 v89).trips), ∀ (k3_h1 : k3_cond1 v48 = 1#1), ∀ a x, ((![v78] : Fin 1 → IVec S16 32) a x).toNat < S10240.size a := fun v18 v48 v78 v89 k3_hw4 k3_t5 k3_h1 => k3_hw4.2.2.2.2.2.2.2.2.2.2.2.2.2.1 k3_t5 k3_h1
theorem k3_idx37_inb : ∀ (v18 : BitVec 32) (v48 : BitVec 32) (v78 : IVec S16 32) (v89 : BitVec 32) (k3_hw4 : k3_chk4 v18 v48 v78 v89) (k3_t5 : Fin (k3_t5_loop v18 v89).trips), ∀ (k3_h1 : k3_cond1 v48 = 1#1), ∀ a x, ((![v78] : Fin 1 → IVec S16 32) a x).toNat < S10240.size a := fun v18 v48 v78 v89 k3_hw4 k3_t5 k3_h1 => k3_hw4.2.2.2.2.2.2.2.2.2.2.2.2.2.2.1 k3_t5 k3_h1
theorem k3_idx38_inb : ∀ (v18 : BitVec 32) (v48 : BitVec 32) (v78 : IVec S16 32) (v89 : BitVec 32) (k3_hw4 : k3_chk4 v18 v48 v78 v89) (k3_t5 : Fin (k3_t5_loop v18 v89).trips), ∀ (k3_h1 : k3_cond1 v48 = 1#1), ∀ a x, ((![v78] : Fin 1 → IVec S16 32) a x).toNat < S10240.size a := fun v18 v48 v78 v89 k3_hw4 k3_t5 k3_h1 => k3_hw4.2.2.2.2.2.2.2.2.2.2.2.2.2.2.2.1 k3_t5 k3_h1
theorem k3_idx39_inb : ∀ (v18 : BitVec 32) (v48 : BitVec 32) (v78 : IVec S16 32) (v89 : BitVec 32) (k3_hw4 : k3_chk4 v18 v48 v78 v89) (k3_t5 : Fin (k3_t5_loop v18 v89).trips), ∀ (k3_h1 : k3_cond1 v48 = 1#1), ∀ a x, ((![v78] : Fin 1 → IVec S16 32) a x).toNat < S10240.size a := fun v18 v48 v78 v89 k3_hw4 k3_t5 k3_h1 => k3_hw4.2.2.2.2.2.2.2.2.2.2.2.2.2.2.2.2.1 k3_t5 k3_h1
theorem k3_idx40_inb : ∀ (v18 : BitVec 32) (v48 : BitVec 32) (v78 : IVec S16 32) (v89 : BitVec 32) (k3_hw4 : k3_chk4 v18 v48 v78 v89) (k3_t5 : Fin (k3_t5_loop v18 v89).trips), ∀ (k3_h1 : k3_cond1 v48 = 1#1), ∀ a x, ((![v78] : Fin 1 → IVec S16 32) a x).toNat < S10240.size a := fun v18 v48 v78 v89 k3_hw4 k3_t5 k3_h1 => k3_hw4.2.2.2.2.2.2.2.2.2.2.2.2.2.2.2.2.2 k3_t5 k3_h1
def k3_cond2 (k3_t1 : Fin k3_t1_loop.trips) : BitVec 1 :=
  let c0_i32_12 : BitVec 32 := 0#32
  let c1_i32_13 : BitVec 32 := 1#32
  let arg22 : BitVec 32 := Scf.iv c0_i32_12 c1_i32_13 k3_t1
  let c2_i32_19 : BitVec 32 := 2#32
  let v28 : BitVec 32 := Scalar.muli arg22 c2_i32_19
  let c2_i32_36 : BitVec 32 := 2#32
  let v56 : BitVec 32 := Scalar.addi v28 c2_i32_36
  let c40_i32 : BitVec 32 := 40#32
  let v57 : BitVec 1 := Scalar.cmpi .slt v56 c40_i32
  let v58 : BitVec 32 := Scalar.extui v57
  let c0_i32_37 : BitVec 32 := 0#32
  let v59 : BitVec 1 := Scalar.cmpi .ne v58 c0_i32_37
  v59

def k3_off5 (k3_t1 : Fin k3_t1_loop.trips) : Fin 1 → Nat :=
  let c0_i32_12 : BitVec 32 := 0#32
  let c1_i32_13 : BitVec 32 := 1#32
  let arg22 : BitVec 32 := Scf.iv c0_i32_12 c1_i32_13 k3_t1
  let c2_i32_19 : BitVec 32 := 2#32
  let v28 : BitVec 32 := Scalar.muli arg22 c2_i32_19
  let c2_i32_47 : BitVec 32 := 2#32
  let v73 : BitVec 32 := Scalar.addi v28 c2_i32_47
  let c8000_i32_48 : BitVec 32 := 8000#32
  let v74 : BitVec 32 := Scalar.muli v73 c8000_i32_48
  ![v74.toNat]
@[reducible] def k3_t6_loop : Scf.Loop 32 :=
  let c0_i32_39 : BitVec 32 := 0#32
  let c500_i32_40 : BitVec 32 := 500#32
  let v61 : BitVec 32 := Scalar.addi c0_i32_39 c500_i32_40
  let c1_i32_41 : BitVec 32 := 1#32
  ⟨c0_i32_39, v61, c1_i32_41⟩
def k3_off6 (k3_t6 : Fin k3_t6_loop.trips) : Fin 1 → Nat :=
  let c0_i32_39 : BitVec 32 := 0#32
  let c1_i32_41 : BitVec 32 := 1#32
  let arg23 : BitVec 32 := Scf.iv c0_i32_39 c1_i32_41 k3_t6
  let c16_i32 : BitVec 32 := 16#32
  let v73 : BitVec 32 := Scalar.muli arg23 c16_i32
  let v74 : Index := Scalar.indexCast v73
  ![v74.toNat]

def k3_chk5 (v75 : IVec S16 32) : Prop :=
  (∀ a x, ((![v75] : Fin 1 → IVec S16 32) a x).toNat < S10240.size a) ∧
  (∀ a x, ((![v75] : Fin 1 → IVec S16 32) a x).toNat < S10240.size a) ∧
  (∀ a x, ((![v75] : Fin 1 → IVec S16 32) a x).toNat < S10240.size a) ∧
  (∀ a x, ((![v75] : Fin 1 → IVec S16 32) a x).toNat < S10240.size a)
theorem k3_idx41_inb : ∀ (v75 : IVec S16 32) (k3_hw5 : k3_chk5 v75), ∀ a x, ((![v75] : Fin 1 → IVec S16 32) a x).toNat < S10240.size a := fun v75 k3_hw5 => k3_hw5.1
theorem k3_idx42_inb : ∀ (v75 : IVec S16 32) (k3_hw5 : k3_chk5 v75), ∀ a x, ((![v75] : Fin 1 → IVec S16 32) a x).toNat < S10240.size a := fun v75 k3_hw5 => k3_hw5.2.1
theorem k3_idx43_inb : ∀ (v75 : IVec S16 32) (k3_hw5 : k3_chk5 v75), ∀ a x, ((![v75] : Fin 1 → IVec S16 32) a x).toNat < S10240.size a := fun v75 k3_hw5 => k3_hw5.2.2.1
theorem k3_idx44_inb : ∀ (v75 : IVec S16 32) (k3_hw5 : k3_chk5 v75), ∀ a x, ((![v75] : Fin 1 → IVec S16 32) a x).toNat < S10240.size a := fun v75 k3_hw5 => k3_hw5.2.2.2

def k3_chk6 (v77 : IVec S16 32) : Prop :=
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a)
theorem k3_idx45_inb : ∀ (v77 : IVec S16 32) (k3_hw6 : k3_chk6 v77), ∀ a x, ((![v77] : Fin 1 → IVec S16 32) a x).toNat < S10240.size a := fun v77 k3_hw6 => k3_hw6.1
theorem k3_idx46_inb : ∀ (v77 : IVec S16 32) (k3_hw6 : k3_chk6 v77), ∀ a x, ((![v77] : Fin 1 → IVec S16 32) a x).toNat < S10240.size a := fun v77 k3_hw6 => k3_hw6.2.1
theorem k3_idx47_inb : ∀ (v77 : IVec S16 32) (k3_hw6 : k3_chk6 v77), ∀ a x, ((![v77] : Fin 1 → IVec S16 32) a x).toNat < S10240.size a := fun v77 k3_hw6 => k3_hw6.2.2.1
theorem k3_idx48_inb : ∀ (v77 : IVec S16 32) (k3_hw6 : k3_chk6 v77), ∀ a x, ((![v77] : Fin 1 → IVec S16 32) a x).toNat < S10240.size a := fun v77 k3_hw6 => k3_hw6.2.2.2.1
theorem k3_idx49_inb : ∀ (v77 : IVec S16 32) (k3_hw6 : k3_chk6 v77), ∀ a x, ((![v77] : Fin 1 → IVec S16 32) a x).toNat < S10240.size a := fun v77 k3_hw6 => k3_hw6.2.2.2.2.1
theorem k3_idx50_inb : ∀ (v77 : IVec S16 32) (k3_hw6 : k3_chk6 v77), ∀ a x, ((![v77] : Fin 1 → IVec S16 32) a x).toNat < S10240.size a := fun v77 k3_hw6 => k3_hw6.2.2.2.2.2.1
theorem k3_idx51_inb : ∀ (v77 : IVec S16 32) (k3_hw6 : k3_chk6 v77), ∀ a x, ((![v77] : Fin 1 → IVec S16 32) a x).toNat < S10240.size a := fun v77 k3_hw6 => k3_hw6.2.2.2.2.2.2.1
theorem k3_idx52_inb : ∀ (v77 : IVec S16 32) (k3_hw6 : k3_chk6 v77), ∀ a x, ((![v77] : Fin 1 → IVec S16 32) a x).toNat < S10240.size a := fun v77 k3_hw6 => k3_hw6.2.2.2.2.2.2.2.1
theorem k3_idx53_inb : ∀ (v77 : IVec S16 32) (k3_hw6 : k3_chk6 v77), ∀ a x, ((![v77] : Fin 1 → IVec S16 32) a x).toNat < S10240.size a := fun v77 k3_hw6 => k3_hw6.2.2.2.2.2.2.2.2.1
theorem k3_idx54_inb : ∀ (v77 : IVec S16 32) (k3_hw6 : k3_chk6 v77), ∀ a x, ((![v77] : Fin 1 → IVec S16 32) a x).toNat < S10240.size a := fun v77 k3_hw6 => k3_hw6.2.2.2.2.2.2.2.2.2.1
theorem k3_idx55_inb : ∀ (v77 : IVec S16 32) (k3_hw6 : k3_chk6 v77), ∀ a x, ((![v77] : Fin 1 → IVec S16 32) a x).toNat < S10240.size a := fun v77 k3_hw6 => k3_hw6.2.2.2.2.2.2.2.2.2.2.1
theorem k3_idx56_inb : ∀ (v77 : IVec S16 32) (k3_hw6 : k3_chk6 v77), ∀ a x, ((![v77] : Fin 1 → IVec S16 32) a x).toNat < S10240.size a := fun v77 k3_hw6 => k3_hw6.2.2.2.2.2.2.2.2.2.2.2.1
theorem k3_idx57_inb : ∀ (v77 : IVec S16 32) (k3_hw6 : k3_chk6 v77), ∀ a x, ((![v77] : Fin 1 → IVec S16 32) a x).toNat < S10240.size a := fun v77 k3_hw6 => k3_hw6.2.2.2.2.2.2.2.2.2.2.2.2.1
theorem k3_idx58_inb : ∀ (v77 : IVec S16 32) (k3_hw6 : k3_chk6 v77), ∀ a x, ((![v77] : Fin 1 → IVec S16 32) a x).toNat < S10240.size a := fun v77 k3_hw6 => k3_hw6.2.2.2.2.2.2.2.2.2.2.2.2.2.1
theorem k3_idx59_inb : ∀ (v77 : IVec S16 32) (k3_hw6 : k3_chk6 v77), ∀ a x, ((![v77] : Fin 1 → IVec S16 32) a x).toNat < S10240.size a := fun v77 k3_hw6 => k3_hw6.2.2.2.2.2.2.2.2.2.2.2.2.2.2.1
theorem k3_idx60_inb : ∀ (v77 : IVec S16 32) (k3_hw6 : k3_chk6 v77), ∀ a x, ((![v77] : Fin 1 → IVec S16 32) a x).toNat < S10240.size a := fun v77 k3_hw6 => k3_hw6.2.2.2.2.2.2.2.2.2.2.2.2.2.2.2
@[reducible] def k3_t7_loop : Scf.Loop 32 :=
  let c0_i32_48 : BitVec 32 := 0#32
  let c500_i32_49 : BitVec 32 := 500#32
  let v73 : BitVec 32 := Scalar.addi c0_i32_48 c500_i32_49
  let c1_i32_50 : BitVec 32 := 1#32
  ⟨c0_i32_48, v73, c1_i32_50⟩
def k3_off7 (k3_t7 : Fin k3_t7_loop.trips) : Fin 1 → Nat :=
  let c0_i32_48 : BitVec 32 := 0#32
  let c1_i32_50 : BitVec 32 := 1#32
  let arg23 : BitVec 32 := Scf.iv c0_i32_48 c1_i32_50 k3_t7
  let c16_i32 : BitVec 32 := 16#32
  let v74 : BitVec 32 := Scalar.muli arg23 c16_i32
  let v75 : Index := Scalar.indexCast v74
  ![v75.toNat]
def k3_cond3 (v69 : BitVec 32) : BitVec 1 :=
  let c0_i32_45 : BitVec 32 := 0#32
  let v70 : BitVec 1 := Scalar.cmpi .sgt v69 c0_i32_45
  let v71 : BitVec 32 := Scalar.extui v70
  let c0_i32_46 : BitVec 32 := 0#32
  let v72 : BitVec 1 := Scalar.cmpi .ne v71 c0_i32_46
  v72

def k3_chk7 (v69 : BitVec 32) (v76 : IVec S16 32) : Prop :=
  (∀ (k3_h3 : k3_cond3 v69 = 1#1), ∀ a x, ((![v76] : Fin 1 → IVec S16 32) a x).toNat < S10240.size a) ∧
  (∀ (k3_h3 : k3_cond3 v69 = 1#1), ∀ a x, ((![v76] : Fin 1 → IVec S16 32) a x).toNat < S10240.size a) ∧
  (∀ (k3_h3 : k3_cond3 v69 = 1#1), ∀ a x, ((![v76] : Fin 1 → IVec S16 32) a x).toNat < S10240.size a) ∧
  (∀ (k3_h3 : k3_cond3 v69 = 1#1), ∀ a x, ((![v76] : Fin 1 → IVec S16 32) a x).toNat < S10240.size a)
theorem k3_idx61_inb : ∀ (v69 : BitVec 32) (v76 : IVec S16 32) (k3_hw7 : k3_chk7 v69 v76), ∀ (k3_h3 : k3_cond3 v69 = 1#1), ∀ a x, ((![v76] : Fin 1 → IVec S16 32) a x).toNat < S10240.size a := fun v69 v76 k3_hw7 k3_h3 => k3_hw7.1 k3_h3
theorem k3_idx62_inb : ∀ (v69 : BitVec 32) (v76 : IVec S16 32) (k3_hw7 : k3_chk7 v69 v76), ∀ (k3_h3 : k3_cond3 v69 = 1#1), ∀ a x, ((![v76] : Fin 1 → IVec S16 32) a x).toNat < S10240.size a := fun v69 v76 k3_hw7 k3_h3 => k3_hw7.2.1 k3_h3
theorem k3_idx63_inb : ∀ (v69 : BitVec 32) (v76 : IVec S16 32) (k3_hw7 : k3_chk7 v69 v76), ∀ (k3_h3 : k3_cond3 v69 = 1#1), ∀ a x, ((![v76] : Fin 1 → IVec S16 32) a x).toNat < S10240.size a := fun v69 v76 k3_hw7 k3_h3 => k3_hw7.2.2.1 k3_h3
theorem k3_idx64_inb : ∀ (v69 : BitVec 32) (v76 : IVec S16 32) (k3_hw7 : k3_chk7 v69 v76), ∀ (k3_h3 : k3_cond3 v69 = 1#1), ∀ a x, ((![v76] : Fin 1 → IVec S16 32) a x).toNat < S10240.size a := fun v69 v76 k3_hw7 k3_h3 => k3_hw7.2.2.2 k3_h3
@[reducible] def k3_t8_loop (v18 : BitVec 32) (v89 : BitVec 32) : Scf.Loop 32 :=
  let c1_i32_57 : BitVec 32 := 1#32
  let v90 : BitVec 32 := Scalar.addi v89 c1_i32_57
  let v91 : BitVec 32 := Scalar.subi v90 v18
  let c1_i32_59 : BitVec 32 := 1#32
  let v93 : BitVec 32 := Scalar.divsi v91 c1_i32_59
  let v94 : BitVec 32 := Scalar.muli v93 c1_i32_59
  let v95 : BitVec 32 := Scalar.addi v18 v94
  let c1_i32_60 : BitVec 32 := 1#32
  ⟨v18, v95, c1_i32_60⟩

@[reducible] def k3_t9_loop (v18 : BitVec 32) (v89 : BitVec 32) : Scf.Loop 32 :=
  let c1_i32_57 : BitVec 32 := 1#32
  let v90 : BitVec 32 := Scalar.addi v89 c1_i32_57
  let v91 : BitVec 32 := Scalar.subi v90 v18
  let c1_i32_59 : BitVec 32 := 1#32
  let v93 : BitVec 32 := Scalar.divsi v91 c1_i32_59
  let v94 : BitVec 32 := Scalar.muli v93 c1_i32_59
  let v95 : BitVec 32 := Scalar.addi v18 v94
  let v92 : BitVec 32 := Scalar.addi v18 v91
  let c1_i32_61 : BitVec 32 := 1#32
  ⟨v95, v92, c1_i32_61⟩

def k3_chk8 (v18 : BitVec 32) (v69 : BitVec 32) (v78 : IVec S16 32) (v89 : BitVec 32) : Prop :=
  (∀ (k3_h3 : k3_cond3 v69 = 1#1), (k3_t8_loop v18 v89).OK) ∧
  (∀ k3_t8 : Fin (k3_t8_loop v18 v89).trips, ∀ (k3_h3 : k3_cond3 v69 = 1#1), ∀ a x, ((![v78] : Fin 1 → IVec S16 32) a x).toNat < S10240.size a) ∧
  (∀ k3_t8 : Fin (k3_t8_loop v18 v89).trips, ∀ (k3_h3 : k3_cond3 v69 = 1#1), ∀ a x, ((![v78] : Fin 1 → IVec S16 32) a x).toNat < S10240.size a) ∧
  (∀ k3_t8 : Fin (k3_t8_loop v18 v89).trips, ∀ (k3_h3 : k3_cond3 v69 = 1#1), ∀ a x, ((![v78] : Fin 1 → IVec S16 32) a x).toNat < S10240.size a) ∧
  (∀ k3_t8 : Fin (k3_t8_loop v18 v89).trips, ∀ (k3_h3 : k3_cond3 v69 = 1#1), ∀ a x, ((![v78] : Fin 1 → IVec S16 32) a x).toNat < S10240.size a) ∧
  (∀ k3_t8 : Fin (k3_t8_loop v18 v89).trips, ∀ (k3_h3 : k3_cond3 v69 = 1#1), ∀ a x, ((![v78] : Fin 1 → IVec S16 32) a x).toNat < S10240.size a) ∧
  (∀ k3_t8 : Fin (k3_t8_loop v18 v89).trips, ∀ (k3_h3 : k3_cond3 v69 = 1#1), ∀ a x, ((![v78] : Fin 1 → IVec S16 32) a x).toNat < S10240.size a) ∧
  (∀ k3_t8 : Fin (k3_t8_loop v18 v89).trips, ∀ (k3_h3 : k3_cond3 v69 = 1#1), ∀ a x, ((![v78] : Fin 1 → IVec S16 32) a x).toNat < S10240.size a) ∧
  (∀ k3_t8 : Fin (k3_t8_loop v18 v89).trips, ∀ (k3_h3 : k3_cond3 v69 = 1#1), ∀ a x, ((![v78] : Fin 1 → IVec S16 32) a x).toNat < S10240.size a) ∧
  (∀ (k3_h3 : k3_cond3 v69 = 1#1), (k3_t9_loop v18 v89).OK) ∧
  (∀ k3_t9 : Fin (k3_t9_loop v18 v89).trips, ∀ (k3_h3 : k3_cond3 v69 = 1#1), ∀ a x, ((![v78] : Fin 1 → IVec S16 32) a x).toNat < S10240.size a) ∧
  (∀ k3_t9 : Fin (k3_t9_loop v18 v89).trips, ∀ (k3_h3 : k3_cond3 v69 = 1#1), ∀ a x, ((![v78] : Fin 1 → IVec S16 32) a x).toNat < S10240.size a) ∧
  (∀ k3_t9 : Fin (k3_t9_loop v18 v89).trips, ∀ (k3_h3 : k3_cond3 v69 = 1#1), ∀ a x, ((![v78] : Fin 1 → IVec S16 32) a x).toNat < S10240.size a) ∧
  (∀ k3_t9 : Fin (k3_t9_loop v18 v89).trips, ∀ (k3_h3 : k3_cond3 v69 = 1#1), ∀ a x, ((![v78] : Fin 1 → IVec S16 32) a x).toNat < S10240.size a) ∧
  (∀ k3_t9 : Fin (k3_t9_loop v18 v89).trips, ∀ (k3_h3 : k3_cond3 v69 = 1#1), ∀ a x, ((![v78] : Fin 1 → IVec S16 32) a x).toNat < S10240.size a) ∧
  (∀ k3_t9 : Fin (k3_t9_loop v18 v89).trips, ∀ (k3_h3 : k3_cond3 v69 = 1#1), ∀ a x, ((![v78] : Fin 1 → IVec S16 32) a x).toNat < S10240.size a) ∧
  (∀ k3_t9 : Fin (k3_t9_loop v18 v89).trips, ∀ (k3_h3 : k3_cond3 v69 = 1#1), ∀ a x, ((![v78] : Fin 1 → IVec S16 32) a x).toNat < S10240.size a) ∧
  (∀ k3_t9 : Fin (k3_t9_loop v18 v89).trips, ∀ (k3_h3 : k3_cond3 v69 = 1#1), ∀ a x, ((![v78] : Fin 1 → IVec S16 32) a x).toNat < S10240.size a)
theorem k3_t8_ok : ∀ (v18 : BitVec 32) (v69 : BitVec 32) (v78 : IVec S16 32) (v89 : BitVec 32) (k3_hw8 : k3_chk8 v18 v69 v78 v89), ∀ (k3_h3 : k3_cond3 v69 = 1#1), (k3_t8_loop v18 v89).OK := fun v18 v69 v78 v89 k3_hw8 k3_h3 => k3_hw8.1 k3_h3
theorem k3_idx65_inb : ∀ (v18 : BitVec 32) (v69 : BitVec 32) (v78 : IVec S16 32) (v89 : BitVec 32) (k3_hw8 : k3_chk8 v18 v69 v78 v89) (k3_t8 : Fin (k3_t8_loop v18 v89).trips), ∀ (k3_h3 : k3_cond3 v69 = 1#1), ∀ a x, ((![v78] : Fin 1 → IVec S16 32) a x).toNat < S10240.size a := fun v18 v69 v78 v89 k3_hw8 k3_t8 k3_h3 => k3_hw8.2.1 k3_t8 k3_h3
theorem k3_idx66_inb : ∀ (v18 : BitVec 32) (v69 : BitVec 32) (v78 : IVec S16 32) (v89 : BitVec 32) (k3_hw8 : k3_chk8 v18 v69 v78 v89) (k3_t8 : Fin (k3_t8_loop v18 v89).trips), ∀ (k3_h3 : k3_cond3 v69 = 1#1), ∀ a x, ((![v78] : Fin 1 → IVec S16 32) a x).toNat < S10240.size a := fun v18 v69 v78 v89 k3_hw8 k3_t8 k3_h3 => k3_hw8.2.2.1 k3_t8 k3_h3
theorem k3_idx67_inb : ∀ (v18 : BitVec 32) (v69 : BitVec 32) (v78 : IVec S16 32) (v89 : BitVec 32) (k3_hw8 : k3_chk8 v18 v69 v78 v89) (k3_t8 : Fin (k3_t8_loop v18 v89).trips), ∀ (k3_h3 : k3_cond3 v69 = 1#1), ∀ a x, ((![v78] : Fin 1 → IVec S16 32) a x).toNat < S10240.size a := fun v18 v69 v78 v89 k3_hw8 k3_t8 k3_h3 => k3_hw8.2.2.2.1 k3_t8 k3_h3
theorem k3_idx68_inb : ∀ (v18 : BitVec 32) (v69 : BitVec 32) (v78 : IVec S16 32) (v89 : BitVec 32) (k3_hw8 : k3_chk8 v18 v69 v78 v89) (k3_t8 : Fin (k3_t8_loop v18 v89).trips), ∀ (k3_h3 : k3_cond3 v69 = 1#1), ∀ a x, ((![v78] : Fin 1 → IVec S16 32) a x).toNat < S10240.size a := fun v18 v69 v78 v89 k3_hw8 k3_t8 k3_h3 => k3_hw8.2.2.2.2.1 k3_t8 k3_h3
theorem k3_idx69_inb : ∀ (v18 : BitVec 32) (v69 : BitVec 32) (v78 : IVec S16 32) (v89 : BitVec 32) (k3_hw8 : k3_chk8 v18 v69 v78 v89) (k3_t8 : Fin (k3_t8_loop v18 v89).trips), ∀ (k3_h3 : k3_cond3 v69 = 1#1), ∀ a x, ((![v78] : Fin 1 → IVec S16 32) a x).toNat < S10240.size a := fun v18 v69 v78 v89 k3_hw8 k3_t8 k3_h3 => k3_hw8.2.2.2.2.2.1 k3_t8 k3_h3
theorem k3_idx70_inb : ∀ (v18 : BitVec 32) (v69 : BitVec 32) (v78 : IVec S16 32) (v89 : BitVec 32) (k3_hw8 : k3_chk8 v18 v69 v78 v89) (k3_t8 : Fin (k3_t8_loop v18 v89).trips), ∀ (k3_h3 : k3_cond3 v69 = 1#1), ∀ a x, ((![v78] : Fin 1 → IVec S16 32) a x).toNat < S10240.size a := fun v18 v69 v78 v89 k3_hw8 k3_t8 k3_h3 => k3_hw8.2.2.2.2.2.2.1 k3_t8 k3_h3
theorem k3_idx71_inb : ∀ (v18 : BitVec 32) (v69 : BitVec 32) (v78 : IVec S16 32) (v89 : BitVec 32) (k3_hw8 : k3_chk8 v18 v69 v78 v89) (k3_t8 : Fin (k3_t8_loop v18 v89).trips), ∀ (k3_h3 : k3_cond3 v69 = 1#1), ∀ a x, ((![v78] : Fin 1 → IVec S16 32) a x).toNat < S10240.size a := fun v18 v69 v78 v89 k3_hw8 k3_t8 k3_h3 => k3_hw8.2.2.2.2.2.2.2.1 k3_t8 k3_h3
theorem k3_idx72_inb : ∀ (v18 : BitVec 32) (v69 : BitVec 32) (v78 : IVec S16 32) (v89 : BitVec 32) (k3_hw8 : k3_chk8 v18 v69 v78 v89) (k3_t8 : Fin (k3_t8_loop v18 v89).trips), ∀ (k3_h3 : k3_cond3 v69 = 1#1), ∀ a x, ((![v78] : Fin 1 → IVec S16 32) a x).toNat < S10240.size a := fun v18 v69 v78 v89 k3_hw8 k3_t8 k3_h3 => k3_hw8.2.2.2.2.2.2.2.2.1 k3_t8 k3_h3
theorem k3_t9_ok : ∀ (v18 : BitVec 32) (v69 : BitVec 32) (v78 : IVec S16 32) (v89 : BitVec 32) (k3_hw8 : k3_chk8 v18 v69 v78 v89), ∀ (k3_h3 : k3_cond3 v69 = 1#1), (k3_t9_loop v18 v89).OK := fun v18 v69 v78 v89 k3_hw8 k3_h3 => k3_hw8.2.2.2.2.2.2.2.2.2.1 k3_h3
theorem k3_idx73_inb : ∀ (v18 : BitVec 32) (v69 : BitVec 32) (v78 : IVec S16 32) (v89 : BitVec 32) (k3_hw8 : k3_chk8 v18 v69 v78 v89) (k3_t9 : Fin (k3_t9_loop v18 v89).trips), ∀ (k3_h3 : k3_cond3 v69 = 1#1), ∀ a x, ((![v78] : Fin 1 → IVec S16 32) a x).toNat < S10240.size a := fun v18 v69 v78 v89 k3_hw8 k3_t9 k3_h3 => k3_hw8.2.2.2.2.2.2.2.2.2.2.1 k3_t9 k3_h3
theorem k3_idx74_inb : ∀ (v18 : BitVec 32) (v69 : BitVec 32) (v78 : IVec S16 32) (v89 : BitVec 32) (k3_hw8 : k3_chk8 v18 v69 v78 v89) (k3_t9 : Fin (k3_t9_loop v18 v89).trips), ∀ (k3_h3 : k3_cond3 v69 = 1#1), ∀ a x, ((![v78] : Fin 1 → IVec S16 32) a x).toNat < S10240.size a := fun v18 v69 v78 v89 k3_hw8 k3_t9 k3_h3 => k3_hw8.2.2.2.2.2.2.2.2.2.2.2.1 k3_t9 k3_h3
theorem k3_idx75_inb : ∀ (v18 : BitVec 32) (v69 : BitVec 32) (v78 : IVec S16 32) (v89 : BitVec 32) (k3_hw8 : k3_chk8 v18 v69 v78 v89) (k3_t9 : Fin (k3_t9_loop v18 v89).trips), ∀ (k3_h3 : k3_cond3 v69 = 1#1), ∀ a x, ((![v78] : Fin 1 → IVec S16 32) a x).toNat < S10240.size a := fun v18 v69 v78 v89 k3_hw8 k3_t9 k3_h3 => k3_hw8.2.2.2.2.2.2.2.2.2.2.2.2.1 k3_t9 k3_h3
theorem k3_idx76_inb : ∀ (v18 : BitVec 32) (v69 : BitVec 32) (v78 : IVec S16 32) (v89 : BitVec 32) (k3_hw8 : k3_chk8 v18 v69 v78 v89) (k3_t9 : Fin (k3_t9_loop v18 v89).trips), ∀ (k3_h3 : k3_cond3 v69 = 1#1), ∀ a x, ((![v78] : Fin 1 → IVec S16 32) a x).toNat < S10240.size a := fun v18 v69 v78 v89 k3_hw8 k3_t9 k3_h3 => k3_hw8.2.2.2.2.2.2.2.2.2.2.2.2.2.1 k3_t9 k3_h3
theorem k3_idx77_inb : ∀ (v18 : BitVec 32) (v69 : BitVec 32) (v78 : IVec S16 32) (v89 : BitVec 32) (k3_hw8 : k3_chk8 v18 v69 v78 v89) (k3_t9 : Fin (k3_t9_loop v18 v89).trips), ∀ (k3_h3 : k3_cond3 v69 = 1#1), ∀ a x, ((![v78] : Fin 1 → IVec S16 32) a x).toNat < S10240.size a := fun v18 v69 v78 v89 k3_hw8 k3_t9 k3_h3 => k3_hw8.2.2.2.2.2.2.2.2.2.2.2.2.2.2.1 k3_t9 k3_h3
theorem k3_idx78_inb : ∀ (v18 : BitVec 32) (v69 : BitVec 32) (v78 : IVec S16 32) (v89 : BitVec 32) (k3_hw8 : k3_chk8 v18 v69 v78 v89) (k3_t9 : Fin (k3_t9_loop v18 v89).trips), ∀ (k3_h3 : k3_cond3 v69 = 1#1), ∀ a x, ((![v78] : Fin 1 → IVec S16 32) a x).toNat < S10240.size a := fun v18 v69 v78 v89 k3_hw8 k3_t9 k3_h3 => k3_hw8.2.2.2.2.2.2.2.2.2.2.2.2.2.2.2.1 k3_t9 k3_h3
theorem k3_idx79_inb : ∀ (v18 : BitVec 32) (v69 : BitVec 32) (v78 : IVec S16 32) (v89 : BitVec 32) (k3_hw8 : k3_chk8 v18 v69 v78 v89) (k3_t9 : Fin (k3_t9_loop v18 v89).trips), ∀ (k3_h3 : k3_cond3 v69 = 1#1), ∀ a x, ((![v78] : Fin 1 → IVec S16 32) a x).toNat < S10240.size a := fun v18 v69 v78 v89 k3_hw8 k3_t9 k3_h3 => k3_hw8.2.2.2.2.2.2.2.2.2.2.2.2.2.2.2.2.1 k3_t9 k3_h3
theorem k3_idx80_inb : ∀ (v18 : BitVec 32) (v69 : BitVec 32) (v78 : IVec S16 32) (v89 : BitVec 32) (k3_hw8 : k3_chk8 v18 v69 v78 v89) (k3_t9 : Fin (k3_t9_loop v18 v89).trips), ∀ (k3_h3 : k3_cond3 v69 = 1#1), ∀ a x, ((![v78] : Fin 1 → IVec S16 32) a x).toNat < S10240.size a := fun v18 v69 v78 v89 k3_hw8 k3_t9 k3_h3 => k3_hw8.2.2.2.2.2.2.2.2.2.2.2.2.2.2.2.2.2 k3_t9 k3_h3
def k3_off8 (i : grid3.Coords) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v24 : BitVec 32 := Scalar.addi v2 c0_i32_15
  let c0_i32_19_r8 : BitVec 32 := 0#32
  ![v24.toNat, 0]
abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S128x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S128x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S128x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S128x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨2, ![2, 16], ![false, false]⟩

def k5_off1 (i : grid5.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c0_i32_19_r0 : BitVec 32 := 0#32
  ![v3.toNat, 0]
@[reducible] def k5_t1_loop : Scf.Loop 32 :=
  let c0_i32_12 : BitVec 32 := 0#32
  let c20_i32 : BitVec 32 := 20#32
  let v23 : BitVec 32 := Scalar.addi c0_i32_12 c20_i32
  let c1_i32_13 : BitVec 32 := 1#32
  ⟨c0_i32_12, v23, c1_i32_13⟩
def k5_off2 (k5_t1 : Fin k5_t1_loop.trips) : Fin 1 → Nat :=
  let c0_i32_12 : BitVec 32 := 0#32
  let c1_i32_13 : BitVec 32 := 1#32
  let arg22 : BitVec 32 := Scf.iv c0_i32_12 c1_i32_13 k5_t1
  let c2_i32_19 : BitVec 32 := 2#32
  let v28 : BitVec 32 := Scalar.muli arg22 c2_i32_19
  let c1_i32_24 : BitVec 32 := 1#32
  let v33 : BitVec 32 := Scalar.addi v28 c1_i32_24
  let c8000_i32 : BitVec 32 := 8000#32
  let v34 : BitVec 32 := Scalar.muli v33 c8000_i32
  ![v34.toNat]
@[reducible] def k5_t2_loop : Scf.Loop 32 :=
  let c0_i32_25 : BitVec 32 := 0#32
  let c500_i32 : BitVec 32 := 500#32
  let v40 : BitVec 32 := Scalar.addi c0_i32_25 c500_i32
  let c1_i32_26 : BitVec 32 := 1#32
  ⟨c0_i32_25, v40, c1_i32_26⟩
def k5_off3 (k5_t2 : Fin k5_t2_loop.trips) : Fin 1 → Nat :=
  let c0_i32_25 : BitVec 32 := 0#32
  let c1_i32_26 : BitVec 32 := 1#32
  let arg23 : BitVec 32 := Scf.iv c0_i32_25 c1_i32_26 k5_t2
  let c16_i32 : BitVec 32 := 16#32
  let v73 : BitVec 32 := Scalar.muli arg23 c16_i32
  let v74 : Index := Scalar.indexCast v73
  ![v74.toNat]

def k5_chk1 (v75 : IVec S16 32) : Prop :=
  (∀ a x, ((![v75] : Fin 1 → IVec S16 32) a x).toNat < S10240.size a) ∧
  (∀ a x, ((![v75] : Fin 1 → IVec S16 32) a x).toNat < S10240.size a) ∧
  (∀ a x, ((![v75] : Fin 1 → IVec S16 32) a x).toNat < S10240.size a) ∧
  (∀ a x, ((![v75] : Fin 1 → IVec S16 32) a x).toNat < S10240.size a)
theorem k5_idx1_inb : ∀ (v75 : IVec S16 32) (k5_hw1 : k5_chk1 v75), ∀ a x, ((![v75] : Fin 1 → IVec S16 32) a x).toNat < S10240.size a := fun v75 k5_hw1 => k5_hw1.1
theorem k5_idx2_inb : ∀ (v75 : IVec S16 32) (k5_hw1 : k5_chk1 v75), ∀ a x, ((![v75] : Fin 1 → IVec S16 32) a x).toNat < S10240.size a := fun v75 k5_hw1 => k5_hw1.2.1
theorem k5_idx3_inb : ∀ (v75 : IVec S16 32) (k5_hw1 : k5_chk1 v75), ∀ a x, ((![v75] : Fin 1 → IVec S16 32) a x).toNat < S10240.size a := fun v75 k5_hw1 => k5_hw1.2.2.1
theorem k5_idx4_inb : ∀ (v75 : IVec S16 32) (k5_hw1 : k5_chk1 v75), ∀ a x, ((![v75] : Fin 1 → IVec S16 32) a x).toNat < S10240.size a := fun v75 k5_hw1 => k5_hw1.2.2.2

def k5_chk2 (v77 : IVec S16 32) : Prop :=
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a)
theorem k5_idx5_inb : ∀ (v77 : IVec S16 32) (k5_hw2 : k5_chk2 v77), ∀ a x, ((![v77] : Fin 1 → IVec S16 32) a x).toNat < S10240.size a := fun v77 k5_hw2 => k5_hw2.1
theorem k5_idx6_inb : ∀ (v77 : IVec S16 32) (k5_hw2 : k5_chk2 v77), ∀ a x, ((![v77] : Fin 1 → IVec S16 32) a x).toNat < S10240.size a := fun v77 k5_hw2 => k5_hw2.2.1
theorem k5_idx7_inb : ∀ (v77 : IVec S16 32) (k5_hw2 : k5_chk2 v77), ∀ a x, ((![v77] : Fin 1 → IVec S16 32) a x).toNat < S10240.size a := fun v77 k5_hw2 => k5_hw2.2.2.1
theorem k5_idx8_inb : ∀ (v77 : IVec S16 32) (k5_hw2 : k5_chk2 v77), ∀ a x, ((![v77] : Fin 1 → IVec S16 32) a x).toNat < S10240.size a := fun v77 k5_hw2 => k5_hw2.2.2.2.1
theorem k5_idx9_inb : ∀ (v77 : IVec S16 32) (k5_hw2 : k5_chk2 v77), ∀ a x, ((![v77] : Fin 1 → IVec S16 32) a x).toNat < S10240.size a := fun v77 k5_hw2 => k5_hw2.2.2.2.2.1
theorem k5_idx10_inb : ∀ (v77 : IVec S16 32) (k5_hw2 : k5_chk2 v77), ∀ a x, ((![v77] : Fin 1 → IVec S16 32) a x).toNat < S10240.size a := fun v77 k5_hw2 => k5_hw2.2.2.2.2.2.1
theorem k5_idx11_inb : ∀ (v77 : IVec S16 32) (k5_hw2 : k5_chk2 v77), ∀ a x, ((![v77] : Fin 1 → IVec S16 32) a x).toNat < S10240.size a := fun v77 k5_hw2 => k5_hw2.2.2.2.2.2.2.1
theorem k5_idx12_inb : ∀ (v77 : IVec S16 32) (k5_hw2 : k5_chk2 v77), ∀ a x, ((![v77] : Fin 1 → IVec S16 32) a x).toNat < S10240.size a := fun v77 k5_hw2 => k5_hw2.2.2.2.2.2.2.2.1
theorem k5_idx13_inb : ∀ (v77 : IVec S16 32) (k5_hw2 : k5_chk2 v77), ∀ a x, ((![v77] : Fin 1 → IVec S16 32) a x).toNat < S10240.size a := fun v77 k5_hw2 => k5_hw2.2.2.2.2.2.2.2.2.1
theorem k5_idx14_inb : ∀ (v77 : IVec S16 32) (k5_hw2 : k5_chk2 v77), ∀ a x, ((![v77] : Fin 1 → IVec S16 32) a x).toNat < S10240.size a := fun v77 k5_hw2 => k5_hw2.2.2.2.2.2.2.2.2.2.1
theorem k5_idx15_inb : ∀ (v77 : IVec S16 32) (k5_hw2 : k5_chk2 v77), ∀ a x, ((![v77] : Fin 1 → IVec S16 32) a x).toNat < S10240.size a := fun v77 k5_hw2 => k5_hw2.2.2.2.2.2.2.2.2.2.2.1
theorem k5_idx16_inb : ∀ (v77 : IVec S16 32) (k5_hw2 : k5_chk2 v77), ∀ a x, ((![v77] : Fin 1 → IVec S16 32) a x).toNat < S10240.size a := fun v77 k5_hw2 => k5_hw2.2.2.2.2.2.2.2.2.2.2.2.1
theorem k5_idx17_inb : ∀ (v77 : IVec S16 32) (k5_hw2 : k5_chk2 v77), ∀ a x, ((![v77] : Fin 1 → IVec S16 32) a x).toNat < S10240.size a := fun v77 k5_hw2 => k5_hw2.2.2.2.2.2.2.2.2.2.2.2.2.1
theorem k5_idx18_inb : ∀ (v77 : IVec S16 32) (k5_hw2 : k5_chk2 v77), ∀ a x, ((![v77] : Fin 1 → IVec S16 32) a x).toNat < S10240.size a := fun v77 k5_hw2 => k5_hw2.2.2.2.2.2.2.2.2.2.2.2.2.2.1
theorem k5_idx19_inb : ∀ (v77 : IVec S16 32) (k5_hw2 : k5_chk2 v77), ∀ a x, ((![v77] : Fin 1 → IVec S16 32) a x).toNat < S10240.size a := fun v77 k5_hw2 => k5_hw2.2.2.2.2.2.2.2.2.2.2.2.2.2.2.1
theorem k5_idx20_inb : ∀ (v77 : IVec S16 32) (k5_hw2 : k5_chk2 v77), ∀ a x, ((![v77] : Fin 1 → IVec S16 32) a x).toNat < S10240.size a := fun v77 k5_hw2 => k5_hw2.2.2.2.2.2.2.2.2.2.2.2.2.2.2.2
@[reducible] def k5_t3_loop : Scf.Loop 32 :=
  let c0_i32_48 : BitVec 32 := 0#32
  let c500_i32_49 : BitVec 32 := 500#32
  let v73 : BitVec 32 := Scalar.addi c0_i32_48 c500_i32_49
  let c1_i32_50 : BitVec 32 := 1#32
  ⟨c0_i32_48, v73, c1_i32_50⟩
def k5_off4 (k5_t3 : Fin k5_t3_loop.trips) : Fin 1 → Nat :=
  let c0_i32_48 : BitVec 32 := 0#32
  let c1_i32_50 : BitVec 32 := 1#32
  let arg23 : BitVec 32 := Scf.iv c0_i32_48 c1_i32_50 k5_t3
  let c16_i32 : BitVec 32 := 16#32
  let v74 : BitVec 32 := Scalar.muli arg23 c16_i32
  let v75 : Index := Scalar.indexCast v74
  ![v75.toNat]
def k5_cond1 (v48 : BitVec 32) : BitVec 1 :=
  let c0_i32_30 : BitVec 32 := 0#32
  let v49 : BitVec 1 := Scalar.cmpi .sgt v48 c0_i32_30
  let v50 : BitVec 32 := Scalar.extui v49
  let c0_i32_31 : BitVec 32 := 0#32
  let v51 : BitVec 1 := Scalar.cmpi .ne v50 c0_i32_31
  v51

def k5_chk3 (v48 : BitVec 32) (v76 : IVec S16 32) : Prop :=
  (∀ (k5_h1 : k5_cond1 v48 = 1#1), ∀ a x, ((![v76] : Fin 1 → IVec S16 32) a x).toNat < S10240.size a) ∧
  (∀ (k5_h1 : k5_cond1 v48 = 1#1), ∀ a x, ((![v76] : Fin 1 → IVec S16 32) a x).toNat < S10240.size a) ∧
  (∀ (k5_h1 : k5_cond1 v48 = 1#1), ∀ a x, ((![v76] : Fin 1 → IVec S16 32) a x).toNat < S10240.size a) ∧
  (∀ (k5_h1 : k5_cond1 v48 = 1#1), ∀ a x, ((![v76] : Fin 1 → IVec S16 32) a x).toNat < S10240.size a)
theorem k5_idx21_inb : ∀ (v48 : BitVec 32) (v76 : IVec S16 32) (k5_hw3 : k5_chk3 v48 v76), ∀ (k5_h1 : k5_cond1 v48 = 1#1), ∀ a x, ((![v76] : Fin 1 → IVec S16 32) a x).toNat < S10240.size a := fun v48 v76 k5_hw3 k5_h1 => k5_hw3.1 k5_h1
theorem k5_idx22_inb : ∀ (v48 : BitVec 32) (v76 : IVec S16 32) (k5_hw3 : k5_chk3 v48 v76), ∀ (k5_h1 : k5_cond1 v48 = 1#1), ∀ a x, ((![v76] : Fin 1 → IVec S16 32) a x).toNat < S10240.size a := fun v48 v76 k5_hw3 k5_h1 => k5_hw3.2.1 k5_h1
theorem k5_idx23_inb : ∀ (v48 : BitVec 32) (v76 : IVec S16 32) (k5_hw3 : k5_chk3 v48 v76), ∀ (k5_h1 : k5_cond1 v48 = 1#1), ∀ a x, ((![v76] : Fin 1 → IVec S16 32) a x).toNat < S10240.size a := fun v48 v76 k5_hw3 k5_h1 => k5_hw3.2.2.1 k5_h1
theorem k5_idx24_inb : ∀ (v48 : BitVec 32) (v76 : IVec S16 32) (k5_hw3 : k5_chk3 v48 v76), ∀ (k5_h1 : k5_cond1 v48 = 1#1), ∀ a x, ((![v76] : Fin 1 → IVec S16 32) a x).toNat < S10240.size a := fun v48 v76 k5_hw3 k5_h1 => k5_hw3.2.2.2 k5_h1
@[reducible] def k5_t4_loop (v18 : BitVec 32) (v89 : BitVec 32) : Scf.Loop 32 :=
  let c1_i32_57 : BitVec 32 := 1#32
  let v90 : BitVec 32 := Scalar.addi v89 c1_i32_57
  let v91 : BitVec 32 := Scalar.subi v90 v18
  let c1_i32_59 : BitVec 32 := 1#32
  let v93 : BitVec 32 := Scalar.divsi v91 c1_i32_59
  let v94 : BitVec 32 := Scalar.muli v93 c1_i32_59
  let v95 : BitVec 32 := Scalar.addi v18 v94
  let c1_i32_60 : BitVec 32 := 1#32
  ⟨v18, v95, c1_i32_60⟩

@[reducible] def k5_t5_loop (v18 : BitVec 32) (v89 : BitVec 32) : Scf.Loop 32 :=
  let c1_i32_57 : BitVec 32 := 1#32
  let v90 : BitVec 32 := Scalar.addi v89 c1_i32_57
  let v91 : BitVec 32 := Scalar.subi v90 v18
  let c1_i32_59 : BitVec 32 := 1#32
  let v93 : BitVec 32 := Scalar.divsi v91 c1_i32_59
  let v94 : BitVec 32 := Scalar.muli v93 c1_i32_59
  let v95 : BitVec 32 := Scalar.addi v18 v94
  let v92 : BitVec 32 := Scalar.addi v18 v91
  let c1_i32_61 : BitVec 32 := 1#32
  ⟨v95, v92, c1_i32_61⟩

def k5_chk4 (v18 : BitVec 32) (v48 : BitVec 32) (v78 : IVec S16 32) (v89 : BitVec 32) : Prop :=
  (∀ (k5_h1 : k5_cond1 v48 = 1#1), (k5_t4_loop v18 v89).OK) ∧
  (∀ k5_t4 : Fin (k5_t4_loop v18 v89).trips, ∀ (k5_h1 : k5_cond1 v48 = 1#1), ∀ a x, ((![v78] : Fin 1 → IVec S16 32) a x).toNat < S10240.size a) ∧
  (∀ k5_t4 : Fin (k5_t4_loop v18 v89).trips, ∀ (k5_h1 : k5_cond1 v48 = 1#1), ∀ a x, ((![v78] : Fin 1 → IVec S16 32) a x).toNat < S10240.size a) ∧
  (∀ k5_t4 : Fin (k5_t4_loop v18 v89).trips, ∀ (k5_h1 : k5_cond1 v48 = 1#1), ∀ a x, ((![v78] : Fin 1 → IVec S16 32) a x).toNat < S10240.size a) ∧
  (∀ k5_t4 : Fin (k5_t4_loop v18 v89).trips, ∀ (k5_h1 : k5_cond1 v48 = 1#1), ∀ a x, ((![v78] : Fin 1 → IVec S16 32) a x).toNat < S10240.size a) ∧
  (∀ k5_t4 : Fin (k5_t4_loop v18 v89).trips, ∀ (k5_h1 : k5_cond1 v48 = 1#1), ∀ a x, ((![v78] : Fin 1 → IVec S16 32) a x).toNat < S10240.size a) ∧
  (∀ k5_t4 : Fin (k5_t4_loop v18 v89).trips, ∀ (k5_h1 : k5_cond1 v48 = 1#1), ∀ a x, ((![v78] : Fin 1 → IVec S16 32) a x).toNat < S10240.size a) ∧
  (∀ k5_t4 : Fin (k5_t4_loop v18 v89).trips, ∀ (k5_h1 : k5_cond1 v48 = 1#1), ∀ a x, ((![v78] : Fin 1 → IVec S16 32) a x).toNat < S10240.size a) ∧
  (∀ k5_t4 : Fin (k5_t4_loop v18 v89).trips, ∀ (k5_h1 : k5_cond1 v48 = 1#1), ∀ a x, ((![v78] : Fin 1 → IVec S16 32) a x).toNat < S10240.size a) ∧
  (∀ (k5_h1 : k5_cond1 v48 = 1#1), (k5_t5_loop v18 v89).OK) ∧
  (∀ k5_t5 : Fin (k5_t5_loop v18 v89).trips, ∀ (k5_h1 : k5_cond1 v48 = 1#1), ∀ a x, ((![v78] : Fin 1 → IVec S16 32) a x).toNat < S10240.size a) ∧
  (∀ k5_t5 : Fin (k5_t5_loop v18 v89).trips, ∀ (k5_h1 : k5_cond1 v48 = 1#1), ∀ a x, ((![v78] : Fin 1 → IVec S16 32) a x).toNat < S10240.size a) ∧
  (∀ k5_t5 : Fin (k5_t5_loop v18 v89).trips, ∀ (k5_h1 : k5_cond1 v48 = 1#1), ∀ a x, ((![v78] : Fin 1 → IVec S16 32) a x).toNat < S10240.size a) ∧
  (∀ k5_t5 : Fin (k5_t5_loop v18 v89).trips, ∀ (k5_h1 : k5_cond1 v48 = 1#1), ∀ a x, ((![v78] : Fin 1 → IVec S16 32) a x).toNat < S10240.size a) ∧
  (∀ k5_t5 : Fin (k5_t5_loop v18 v89).trips, ∀ (k5_h1 : k5_cond1 v48 = 1#1), ∀ a x, ((![v78] : Fin 1 → IVec S16 32) a x).toNat < S10240.size a) ∧
  (∀ k5_t5 : Fin (k5_t5_loop v18 v89).trips, ∀ (k5_h1 : k5_cond1 v48 = 1#1), ∀ a x, ((![v78] : Fin 1 → IVec S16 32) a x).toNat < S10240.size a) ∧
  (∀ k5_t5 : Fin (k5_t5_loop v18 v89).trips, ∀ (k5_h1 : k5_cond1 v48 = 1#1), ∀ a x, ((![v78] : Fin 1 → IVec S16 32) a x).toNat < S10240.size a) ∧
  (∀ k5_t5 : Fin (k5_t5_loop v18 v89).trips, ∀ (k5_h1 : k5_cond1 v48 = 1#1), ∀ a x, ((![v78] : Fin 1 → IVec S16 32) a x).toNat < S10240.size a)
theorem k5_t4_ok : ∀ (v18 : BitVec 32) (v48 : BitVec 32) (v78 : IVec S16 32) (v89 : BitVec 32) (k5_hw4 : k5_chk4 v18 v48 v78 v89), ∀ (k5_h1 : k5_cond1 v48 = 1#1), (k5_t4_loop v18 v89).OK := fun v18 v48 v78 v89 k5_hw4 k5_h1 => k5_hw4.1 k5_h1
theorem k5_idx25_inb : ∀ (v18 : BitVec 32) (v48 : BitVec 32) (v78 : IVec S16 32) (v89 : BitVec 32) (k5_hw4 : k5_chk4 v18 v48 v78 v89) (k5_t4 : Fin (k5_t4_loop v18 v89).trips), ∀ (k5_h1 : k5_cond1 v48 = 1#1), ∀ a x, ((![v78] : Fin 1 → IVec S16 32) a x).toNat < S10240.size a := fun v18 v48 v78 v89 k5_hw4 k5_t4 k5_h1 => k5_hw4.2.1 k5_t4 k5_h1
theorem k5_idx26_inb : ∀ (v18 : BitVec 32) (v48 : BitVec 32) (v78 : IVec S16 32) (v89 : BitVec 32) (k5_hw4 : k5_chk4 v18 v48 v78 v89) (k5_t4 : Fin (k5_t4_loop v18 v89).trips), ∀ (k5_h1 : k5_cond1 v48 = 1#1), ∀ a x, ((![v78] : Fin 1 → IVec S16 32) a x).toNat < S10240.size a := fun v18 v48 v78 v89 k5_hw4 k5_t4 k5_h1 => k5_hw4.2.2.1 k5_t4 k5_h1
theorem k5_idx27_inb : ∀ (v18 : BitVec 32) (v48 : BitVec 32) (v78 : IVec S16 32) (v89 : BitVec 32) (k5_hw4 : k5_chk4 v18 v48 v78 v89) (k5_t4 : Fin (k5_t4_loop v18 v89).trips), ∀ (k5_h1 : k5_cond1 v48 = 1#1), ∀ a x, ((![v78] : Fin 1 → IVec S16 32) a x).toNat < S10240.size a := fun v18 v48 v78 v89 k5_hw4 k5_t4 k5_h1 => k5_hw4.2.2.2.1 k5_t4 k5_h1
theorem k5_idx28_inb : ∀ (v18 : BitVec 32) (v48 : BitVec 32) (v78 : IVec S16 32) (v89 : BitVec 32) (k5_hw4 : k5_chk4 v18 v48 v78 v89) (k5_t4 : Fin (k5_t4_loop v18 v89).trips), ∀ (k5_h1 : k5_cond1 v48 = 1#1), ∀ a x, ((![v78] : Fin 1 → IVec S16 32) a x).toNat < S10240.size a := fun v18 v48 v78 v89 k5_hw4 k5_t4 k5_h1 => k5_hw4.2.2.2.2.1 k5_t4 k5_h1
theorem k5_idx29_inb : ∀ (v18 : BitVec 32) (v48 : BitVec 32) (v78 : IVec S16 32) (v89 : BitVec 32) (k5_hw4 : k5_chk4 v18 v48 v78 v89) (k5_t4 : Fin (k5_t4_loop v18 v89).trips), ∀ (k5_h1 : k5_cond1 v48 = 1#1), ∀ a x, ((![v78] : Fin 1 → IVec S16 32) a x).toNat < S10240.size a := fun v18 v48 v78 v89 k5_hw4 k5_t4 k5_h1 => k5_hw4.2.2.2.2.2.1 k5_t4 k5_h1
theorem k5_idx30_inb : ∀ (v18 : BitVec 32) (v48 : BitVec 32) (v78 : IVec S16 32) (v89 : BitVec 32) (k5_hw4 : k5_chk4 v18 v48 v78 v89) (k5_t4 : Fin (k5_t4_loop v18 v89).trips), ∀ (k5_h1 : k5_cond1 v48 = 1#1), ∀ a x, ((![v78] : Fin 1 → IVec S16 32) a x).toNat < S10240.size a := fun v18 v48 v78 v89 k5_hw4 k5_t4 k5_h1 => k5_hw4.2.2.2.2.2.2.1 k5_t4 k5_h1
theorem k5_idx31_inb : ∀ (v18 : BitVec 32) (v48 : BitVec 32) (v78 : IVec S16 32) (v89 : BitVec 32) (k5_hw4 : k5_chk4 v18 v48 v78 v89) (k5_t4 : Fin (k5_t4_loop v18 v89).trips), ∀ (k5_h1 : k5_cond1 v48 = 1#1), ∀ a x, ((![v78] : Fin 1 → IVec S16 32) a x).toNat < S10240.size a := fun v18 v48 v78 v89 k5_hw4 k5_t4 k5_h1 => k5_hw4.2.2.2.2.2.2.2.1 k5_t4 k5_h1
theorem k5_idx32_inb : ∀ (v18 : BitVec 32) (v48 : BitVec 32) (v78 : IVec S16 32) (v89 : BitVec 32) (k5_hw4 : k5_chk4 v18 v48 v78 v89) (k5_t4 : Fin (k5_t4_loop v18 v89).trips), ∀ (k5_h1 : k5_cond1 v48 = 1#1), ∀ a x, ((![v78] : Fin 1 → IVec S16 32) a x).toNat < S10240.size a := fun v18 v48 v78 v89 k5_hw4 k5_t4 k5_h1 => k5_hw4.2.2.2.2.2.2.2.2.1 k5_t4 k5_h1
theorem k5_t5_ok : ∀ (v18 : BitVec 32) (v48 : BitVec 32) (v78 : IVec S16 32) (v89 : BitVec 32) (k5_hw4 : k5_chk4 v18 v48 v78 v89), ∀ (k5_h1 : k5_cond1 v48 = 1#1), (k5_t5_loop v18 v89).OK := fun v18 v48 v78 v89 k5_hw4 k5_h1 => k5_hw4.2.2.2.2.2.2.2.2.2.1 k5_h1
theorem k5_idx33_inb : ∀ (v18 : BitVec 32) (v48 : BitVec 32) (v78 : IVec S16 32) (v89 : BitVec 32) (k5_hw4 : k5_chk4 v18 v48 v78 v89) (k5_t5 : Fin (k5_t5_loop v18 v89).trips), ∀ (k5_h1 : k5_cond1 v48 = 1#1), ∀ a x, ((![v78] : Fin 1 → IVec S16 32) a x).toNat < S10240.size a := fun v18 v48 v78 v89 k5_hw4 k5_t5 k5_h1 => k5_hw4.2.2.2.2.2.2.2.2.2.2.1 k5_t5 k5_h1
theorem k5_idx34_inb : ∀ (v18 : BitVec 32) (v48 : BitVec 32) (v78 : IVec S16 32) (v89 : BitVec 32) (k5_hw4 : k5_chk4 v18 v48 v78 v89) (k5_t5 : Fin (k5_t5_loop v18 v89).trips), ∀ (k5_h1 : k5_cond1 v48 = 1#1), ∀ a x, ((![v78] : Fin 1 → IVec S16 32) a x).toNat < S10240.size a := fun v18 v48 v78 v89 k5_hw4 k5_t5 k5_h1 => k5_hw4.2.2.2.2.2.2.2.2.2.2.2.1 k5_t5 k5_h1
theorem k5_idx35_inb : ∀ (v18 : BitVec 32) (v48 : BitVec 32) (v78 : IVec S16 32) (v89 : BitVec 32) (k5_hw4 : k5_chk4 v18 v48 v78 v89) (k5_t5 : Fin (k5_t5_loop v18 v89).trips), ∀ (k5_h1 : k5_cond1 v48 = 1#1), ∀ a x, ((![v78] : Fin 1 → IVec S16 32) a x).toNat < S10240.size a := fun v18 v48 v78 v89 k5_hw4 k5_t5 k5_h1 => k5_hw4.2.2.2.2.2.2.2.2.2.2.2.2.1 k5_t5 k5_h1
theorem k5_idx36_inb : ∀ (v18 : BitVec 32) (v48 : BitVec 32) (v78 : IVec S16 32) (v89 : BitVec 32) (k5_hw4 : k5_chk4 v18 v48 v78 v89) (k5_t5 : Fin (k5_t5_loop v18 v89).trips), ∀ (k5_h1 : k5_cond1 v48 = 1#1), ∀ a x, ((![v78] : Fin 1 → IVec S16 32) a x).toNat < S10240.size a := fun v18 v48 v78 v89 k5_hw4 k5_t5 k5_h1 => k5_hw4.2.2.2.2.2.2.2.2.2.2.2.2.2.1 k5_t5 k5_h1
theorem k5_idx37_inb : ∀ (v18 : BitVec 32) (v48 : BitVec 32) (v78 : IVec S16 32) (v89 : BitVec 32) (k5_hw4 : k5_chk4 v18 v48 v78 v89) (k5_t5 : Fin (k5_t5_loop v18 v89).trips), ∀ (k5_h1 : k5_cond1 v48 = 1#1), ∀ a x, ((![v78] : Fin 1 → IVec S16 32) a x).toNat < S10240.size a := fun v18 v48 v78 v89 k5_hw4 k5_t5 k5_h1 => k5_hw4.2.2.2.2.2.2.2.2.2.2.2.2.2.2.1 k5_t5 k5_h1
theorem k5_idx38_inb : ∀ (v18 : BitVec 32) (v48 : BitVec 32) (v78 : IVec S16 32) (v89 : BitVec 32) (k5_hw4 : k5_chk4 v18 v48 v78 v89) (k5_t5 : Fin (k5_t5_loop v18 v89).trips), ∀ (k5_h1 : k5_cond1 v48 = 1#1), ∀ a x, ((![v78] : Fin 1 → IVec S16 32) a x).toNat < S10240.size a := fun v18 v48 v78 v89 k5_hw4 k5_t5 k5_h1 => k5_hw4.2.2.2.2.2.2.2.2.2.2.2.2.2.2.2.1 k5_t5 k5_h1
theorem k5_idx39_inb : ∀ (v18 : BitVec 32) (v48 : BitVec 32) (v78 : IVec S16 32) (v89 : BitVec 32) (k5_hw4 : k5_chk4 v18 v48 v78 v89) (k5_t5 : Fin (k5_t5_loop v18 v89).trips), ∀ (k5_h1 : k5_cond1 v48 = 1#1), ∀ a x, ((![v78] : Fin 1 → IVec S16 32) a x).toNat < S10240.size a := fun v18 v48 v78 v89 k5_hw4 k5_t5 k5_h1 => k5_hw4.2.2.2.2.2.2.2.2.2.2.2.2.2.2.2.2.1 k5_t5 k5_h1
theorem k5_idx40_inb : ∀ (v18 : BitVec 32) (v48 : BitVec 32) (v78 : IVec S16 32) (v89 : BitVec 32) (k5_hw4 : k5_chk4 v18 v48 v78 v89) (k5_t5 : Fin (k5_t5_loop v18 v89).trips), ∀ (k5_h1 : k5_cond1 v48 = 1#1), ∀ a x, ((![v78] : Fin 1 → IVec S16 32) a x).toNat < S10240.size a := fun v18 v48 v78 v89 k5_hw4 k5_t5 k5_h1 => k5_hw4.2.2.2.2.2.2.2.2.2.2.2.2.2.2.2.2.2 k5_t5 k5_h1
def k5_cond2 (k5_t1 : Fin k5_t1_loop.trips) : BitVec 1 :=
  let c0_i32_12 : BitVec 32 := 0#32
  let c1_i32_13 : BitVec 32 := 1#32
  let arg22 : BitVec 32 := Scf.iv c0_i32_12 c1_i32_13 k5_t1
  let c2_i32_19 : BitVec 32 := 2#32
  let v28 : BitVec 32 := Scalar.muli arg22 c2_i32_19
  let c2_i32_36 : BitVec 32 := 2#32
  let v56 : BitVec 32 := Scalar.addi v28 c2_i32_36
  let c40_i32 : BitVec 32 := 40#32
  let v57 : BitVec 1 := Scalar.cmpi .slt v56 c40_i32
  let v58 : BitVec 32 := Scalar.extui v57
  let c0_i32_37 : BitVec 32 := 0#32
  let v59 : BitVec 1 := Scalar.cmpi .ne v58 c0_i32_37
  v59

def k5_off5 (k5_t1 : Fin k5_t1_loop.trips) : Fin 1 → Nat :=
  let c0_i32_12 : BitVec 32 := 0#32
  let c1_i32_13 : BitVec 32 := 1#32
  let arg22 : BitVec 32 := Scf.iv c0_i32_12 c1_i32_13 k5_t1
  let c2_i32_19 : BitVec 32 := 2#32
  let v28 : BitVec 32 := Scalar.muli arg22 c2_i32_19
  let c2_i32_47 : BitVec 32 := 2#32
  let v73 : BitVec 32 := Scalar.addi v28 c2_i32_47
  let c8000_i32_48 : BitVec 32 := 8000#32
  let v74 : BitVec 32 := Scalar.muli v73 c8000_i32_48
  ![v74.toNat]
@[reducible] def k5_t6_loop : Scf.Loop 32 :=
  let c0_i32_39 : BitVec 32 := 0#32
  let c500_i32_40 : BitVec 32 := 500#32
  let v61 : BitVec 32 := Scalar.addi c0_i32_39 c500_i32_40
  let c1_i32_41 : BitVec 32 := 1#32
  ⟨c0_i32_39, v61, c1_i32_41⟩
def k5_off6 (k5_t6 : Fin k5_t6_loop.trips) : Fin 1 → Nat :=
  let c0_i32_39 : BitVec 32 := 0#32
  let c1_i32_41 : BitVec 32 := 1#32
  let arg23 : BitVec 32 := Scf.iv c0_i32_39 c1_i32_41 k5_t6
  let c16_i32 : BitVec 32 := 16#32
  let v73 : BitVec 32 := Scalar.muli arg23 c16_i32
  let v74 : Index := Scalar.indexCast v73
  ![v74.toNat]

def k5_chk5 (v75 : IVec S16 32) : Prop :=
  (∀ a x, ((![v75] : Fin 1 → IVec S16 32) a x).toNat < S10240.size a) ∧
  (∀ a x, ((![v75] : Fin 1 → IVec S16 32) a x).toNat < S10240.size a) ∧
  (∀ a x, ((![v75] : Fin 1 → IVec S16 32) a x).toNat < S10240.size a) ∧
  (∀ a x, ((![v75] : Fin 1 → IVec S16 32) a x).toNat < S10240.size a)
theorem k5_idx41_inb : ∀ (v75 : IVec S16 32) (k5_hw5 : k5_chk5 v75), ∀ a x, ((![v75] : Fin 1 → IVec S16 32) a x).toNat < S10240.size a := fun v75 k5_hw5 => k5_hw5.1
theorem k5_idx42_inb : ∀ (v75 : IVec S16 32) (k5_hw5 : k5_chk5 v75), ∀ a x, ((![v75] : Fin 1 → IVec S16 32) a x).toNat < S10240.size a := fun v75 k5_hw5 => k5_hw5.2.1
theorem k5_idx43_inb : ∀ (v75 : IVec S16 32) (k5_hw5 : k5_chk5 v75), ∀ a x, ((![v75] : Fin 1 → IVec S16 32) a x).toNat < S10240.size a := fun v75 k5_hw5 => k5_hw5.2.2.1
theorem k5_idx44_inb : ∀ (v75 : IVec S16 32) (k5_hw5 : k5_chk5 v75), ∀ a x, ((![v75] : Fin 1 → IVec S16 32) a x).toNat < S10240.size a := fun v75 k5_hw5 => k5_hw5.2.2.2

def k5_chk6 (v77 : IVec S16 32) : Prop :=
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a) ∧
  (∀ a x, ((![v77] : Fin 1 → IVec S16 32) a x).toNat < S10240.size a)
theorem k5_idx45_inb : ∀ (v77 : IVec S16 32) (k5_hw6 : k5_chk6 v77), ∀ a x, ((![v77] : Fin 1 → IVec S16 32) a x).toNat < S10240.size a := fun v77 k5_hw6 => k5_hw6.1
theorem k5_idx46_inb : ∀ (v77 : IVec S16 32) (k5_hw6 : k5_chk6 v77), ∀ a x, ((![v77] : Fin 1 → IVec S16 32) a x).toNat < S10240.size a := fun v77 k5_hw6 => k5_hw6.2.1
theorem k5_idx47_inb : ∀ (v77 : IVec S16 32) (k5_hw6 : k5_chk6 v77), ∀ a x, ((![v77] : Fin 1 → IVec S16 32) a x).toNat < S10240.size a := fun v77 k5_hw6 => k5_hw6.2.2.1
theorem k5_idx48_inb : ∀ (v77 : IVec S16 32) (k5_hw6 : k5_chk6 v77), ∀ a x, ((![v77] : Fin 1 → IVec S16 32) a x).toNat < S10240.size a := fun v77 k5_hw6 => k5_hw6.2.2.2.1
theorem k5_idx49_inb : ∀ (v77 : IVec S16 32) (k5_hw6 : k5_chk6 v77), ∀ a x, ((![v77] : Fin 1 → IVec S16 32) a x).toNat < S10240.size a := fun v77 k5_hw6 => k5_hw6.2.2.2.2.1
theorem k5_idx50_inb : ∀ (v77 : IVec S16 32) (k5_hw6 : k5_chk6 v77), ∀ a x, ((![v77] : Fin 1 → IVec S16 32) a x).toNat < S10240.size a := fun v77 k5_hw6 => k5_hw6.2.2.2.2.2.1
theorem k5_idx51_inb : ∀ (v77 : IVec S16 32) (k5_hw6 : k5_chk6 v77), ∀ a x, ((![v77] : Fin 1 → IVec S16 32) a x).toNat < S10240.size a := fun v77 k5_hw6 => k5_hw6.2.2.2.2.2.2.1
theorem k5_idx52_inb : ∀ (v77 : IVec S16 32) (k5_hw6 : k5_chk6 v77), ∀ a x, ((![v77] : Fin 1 → IVec S16 32) a x).toNat < S10240.size a := fun v77 k5_hw6 => k5_hw6.2.2.2.2.2.2.2.1
theorem k5_idx53_inb : ∀ (v77 : IVec S16 32) (k5_hw6 : k5_chk6 v77), ∀ a x, ((![v77] : Fin 1 → IVec S16 32) a x).toNat < S10240.size a := fun v77 k5_hw6 => k5_hw6.2.2.2.2.2.2.2.2.1
theorem k5_idx54_inb : ∀ (v77 : IVec S16 32) (k5_hw6 : k5_chk6 v77), ∀ a x, ((![v77] : Fin 1 → IVec S16 32) a x).toNat < S10240.size a := fun v77 k5_hw6 => k5_hw6.2.2.2.2.2.2.2.2.2.1
theorem k5_idx55_inb : ∀ (v77 : IVec S16 32) (k5_hw6 : k5_chk6 v77), ∀ a x, ((![v77] : Fin 1 → IVec S16 32) a x).toNat < S10240.size a := fun v77 k5_hw6 => k5_hw6.2.2.2.2.2.2.2.2.2.2.1
theorem k5_idx56_inb : ∀ (v77 : IVec S16 32) (k5_hw6 : k5_chk6 v77), ∀ a x, ((![v77] : Fin 1 → IVec S16 32) a x).toNat < S10240.size a := fun v77 k5_hw6 => k5_hw6.2.2.2.2.2.2.2.2.2.2.2.1
theorem k5_idx57_inb : ∀ (v77 : IVec S16 32) (k5_hw6 : k5_chk6 v77), ∀ a x, ((![v77] : Fin 1 → IVec S16 32) a x).toNat < S10240.size a := fun v77 k5_hw6 => k5_hw6.2.2.2.2.2.2.2.2.2.2.2.2.1
theorem k5_idx58_inb : ∀ (v77 : IVec S16 32) (k5_hw6 : k5_chk6 v77), ∀ a x, ((![v77] : Fin 1 → IVec S16 32) a x).toNat < S10240.size a := fun v77 k5_hw6 => k5_hw6.2.2.2.2.2.2.2.2.2.2.2.2.2.1
theorem k5_idx59_inb : ∀ (v77 : IVec S16 32) (k5_hw6 : k5_chk6 v77), ∀ a x, ((![v77] : Fin 1 → IVec S16 32) a x).toNat < S10240.size a := fun v77 k5_hw6 => k5_hw6.2.2.2.2.2.2.2.2.2.2.2.2.2.2.1
theorem k5_idx60_inb : ∀ (v77 : IVec S16 32) (k5_hw6 : k5_chk6 v77), ∀ a x, ((![v77] : Fin 1 → IVec S16 32) a x).toNat < S10240.size a := fun v77 k5_hw6 => k5_hw6.2.2.2.2.2.2.2.2.2.2.2.2.2.2.2
@[reducible] def k5_t7_loop : Scf.Loop 32 :=
  let c0_i32_48 : BitVec 32 := 0#32
  let c500_i32_49 : BitVec 32 := 500#32
  let v73 : BitVec 32 := Scalar.addi c0_i32_48 c500_i32_49
  let c1_i32_50 : BitVec 32 := 1#32
  ⟨c0_i32_48, v73, c1_i32_50⟩
def k5_off7 (k5_t7 : Fin k5_t7_loop.trips) : Fin 1 → Nat :=
  let c0_i32_48 : BitVec 32 := 0#32
  let c1_i32_50 : BitVec 32 := 1#32
  let arg23 : BitVec 32 := Scf.iv c0_i32_48 c1_i32_50 k5_t7
  let c16_i32 : BitVec 32 := 16#32
  let v74 : BitVec 32 := Scalar.muli arg23 c16_i32
  let v75 : Index := Scalar.indexCast v74
  ![v75.toNat]
def k5_cond3 (v69 : BitVec 32) : BitVec 1 :=
  let c0_i32_45 : BitVec 32 := 0#32
  let v70 : BitVec 1 := Scalar.cmpi .sgt v69 c0_i32_45
  let v71 : BitVec 32 := Scalar.extui v70
  let c0_i32_46 : BitVec 32 := 0#32
  let v72 : BitVec 1 := Scalar.cmpi .ne v71 c0_i32_46
  v72

def k5_chk7 (v69 : BitVec 32) (v76 : IVec S16 32) : Prop :=
  (∀ (k5_h3 : k5_cond3 v69 = 1#1), ∀ a x, ((![v76] : Fin 1 → IVec S16 32) a x).toNat < S10240.size a) ∧
  (∀ (k5_h3 : k5_cond3 v69 = 1#1), ∀ a x, ((![v76] : Fin 1 → IVec S16 32) a x).toNat < S10240.size a) ∧
  (∀ (k5_h3 : k5_cond3 v69 = 1#1), ∀ a x, ((![v76] : Fin 1 → IVec S16 32) a x).toNat < S10240.size a) ∧
  (∀ (k5_h3 : k5_cond3 v69 = 1#1), ∀ a x, ((![v76] : Fin 1 → IVec S16 32) a x).toNat < S10240.size a)
theorem k5_idx61_inb : ∀ (v69 : BitVec 32) (v76 : IVec S16 32) (k5_hw7 : k5_chk7 v69 v76), ∀ (k5_h3 : k5_cond3 v69 = 1#1), ∀ a x, ((![v76] : Fin 1 → IVec S16 32) a x).toNat < S10240.size a := fun v69 v76 k5_hw7 k5_h3 => k5_hw7.1 k5_h3
theorem k5_idx62_inb : ∀ (v69 : BitVec 32) (v76 : IVec S16 32) (k5_hw7 : k5_chk7 v69 v76), ∀ (k5_h3 : k5_cond3 v69 = 1#1), ∀ a x, ((![v76] : Fin 1 → IVec S16 32) a x).toNat < S10240.size a := fun v69 v76 k5_hw7 k5_h3 => k5_hw7.2.1 k5_h3
theorem k5_idx63_inb : ∀ (v69 : BitVec 32) (v76 : IVec S16 32) (k5_hw7 : k5_chk7 v69 v76), ∀ (k5_h3 : k5_cond3 v69 = 1#1), ∀ a x, ((![v76] : Fin 1 → IVec S16 32) a x).toNat < S10240.size a := fun v69 v76 k5_hw7 k5_h3 => k5_hw7.2.2.1 k5_h3
theorem k5_idx64_inb : ∀ (v69 : BitVec 32) (v76 : IVec S16 32) (k5_hw7 : k5_chk7 v69 v76), ∀ (k5_h3 : k5_cond3 v69 = 1#1), ∀ a x, ((![v76] : Fin 1 → IVec S16 32) a x).toNat < S10240.size a := fun v69 v76 k5_hw7 k5_h3 => k5_hw7.2.2.2 k5_h3
@[reducible] def k5_t8_loop (v18 : BitVec 32) (v89 : BitVec 32) : Scf.Loop 32 :=
  let c1_i32_57 : BitVec 32 := 1#32
  let v90 : BitVec 32 := Scalar.addi v89 c1_i32_57
  let v91 : BitVec 32 := Scalar.subi v90 v18
  let c1_i32_59 : BitVec 32 := 1#32
  let v93 : BitVec 32 := Scalar.divsi v91 c1_i32_59
  let v94 : BitVec 32 := Scalar.muli v93 c1_i32_59
  let v95 : BitVec 32 := Scalar.addi v18 v94
  let c1_i32_60 : BitVec 32 := 1#32
  ⟨v18, v95, c1_i32_60⟩

@[reducible] def k5_t9_loop (v18 : BitVec 32) (v89 : BitVec 32) : Scf.Loop 32 :=
  let c1_i32_57 : BitVec 32 := 1#32
  let v90 : BitVec 32 := Scalar.addi v89 c1_i32_57
  let v91 : BitVec 32 := Scalar.subi v90 v18
  let c1_i32_59 : BitVec 32 := 1#32
  let v93 : BitVec 32 := Scalar.divsi v91 c1_i32_59
  let v94 : BitVec 32 := Scalar.muli v93 c1_i32_59
  let v95 : BitVec 32 := Scalar.addi v18 v94
  let v92 : BitVec 32 := Scalar.addi v18 v91
  let c1_i32_61 : BitVec 32 := 1#32
  ⟨v95, v92, c1_i32_61⟩

def k5_chk8 (v18 : BitVec 32) (v69 : BitVec 32) (v78 : IVec S16 32) (v89 : BitVec 32) : Prop :=
  (∀ (k5_h3 : k5_cond3 v69 = 1#1), (k5_t8_loop v18 v89).OK) ∧
  (∀ k5_t8 : Fin (k5_t8_loop v18 v89).trips, ∀ (k5_h3 : k5_cond3 v69 = 1#1), ∀ a x, ((![v78] : Fin 1 → IVec S16 32) a x).toNat < S10240.size a) ∧
  (∀ k5_t8 : Fin (k5_t8_loop v18 v89).trips, ∀ (k5_h3 : k5_cond3 v69 = 1#1), ∀ a x, ((![v78] : Fin 1 → IVec S16 32) a x).toNat < S10240.size a) ∧
  (∀ k5_t8 : Fin (k5_t8_loop v18 v89).trips, ∀ (k5_h3 : k5_cond3 v69 = 1#1), ∀ a x, ((![v78] : Fin 1 → IVec S16 32) a x).toNat < S10240.size a) ∧
  (∀ k5_t8 : Fin (k5_t8_loop v18 v89).trips, ∀ (k5_h3 : k5_cond3 v69 = 1#1), ∀ a x, ((![v78] : Fin 1 → IVec S16 32) a x).toNat < S10240.size a) ∧
  (∀ k5_t8 : Fin (k5_t8_loop v18 v89).trips, ∀ (k5_h3 : k5_cond3 v69 = 1#1), ∀ a x, ((![v78] : Fin 1 → IVec S16 32) a x).toNat < S10240.size a) ∧
  (∀ k5_t8 : Fin (k5_t8_loop v18 v89).trips, ∀ (k5_h3 : k5_cond3 v69 = 1#1), ∀ a x, ((![v78] : Fin 1 → IVec S16 32) a x).toNat < S10240.size a) ∧
  (∀ k5_t8 : Fin (k5_t8_loop v18 v89).trips, ∀ (k5_h3 : k5_cond3 v69 = 1#1), ∀ a x, ((![v78] : Fin 1 → IVec S16 32) a x).toNat < S10240.size a) ∧
  (∀ k5_t8 : Fin (k5_t8_loop v18 v89).trips, ∀ (k5_h3 : k5_cond3 v69 = 1#1), ∀ a x, ((![v78] : Fin 1 → IVec S16 32) a x).toNat < S10240.size a) ∧
  (∀ (k5_h3 : k5_cond3 v69 = 1#1), (k5_t9_loop v18 v89).OK) ∧
  (∀ k5_t9 : Fin (k5_t9_loop v18 v89).trips, ∀ (k5_h3 : k5_cond3 v69 = 1#1), ∀ a x, ((![v78] : Fin 1 → IVec S16 32) a x).toNat < S10240.size a) ∧
  (∀ k5_t9 : Fin (k5_t9_loop v18 v89).trips, ∀ (k5_h3 : k5_cond3 v69 = 1#1), ∀ a x, ((![v78] : Fin 1 → IVec S16 32) a x).toNat < S10240.size a) ∧
  (∀ k5_t9 : Fin (k5_t9_loop v18 v89).trips, ∀ (k5_h3 : k5_cond3 v69 = 1#1), ∀ a x, ((![v78] : Fin 1 → IVec S16 32) a x).toNat < S10240.size a) ∧
  (∀ k5_t9 : Fin (k5_t9_loop v18 v89).trips, ∀ (k5_h3 : k5_cond3 v69 = 1#1), ∀ a x, ((![v78] : Fin 1 → IVec S16 32) a x).toNat < S10240.size a) ∧
  (∀ k5_t9 : Fin (k5_t9_loop v18 v89).trips, ∀ (k5_h3 : k5_cond3 v69 = 1#1), ∀ a x, ((![v78] : Fin 1 → IVec S16 32) a x).toNat < S10240.size a) ∧
  (∀ k5_t9 : Fin (k5_t9_loop v18 v89).trips, ∀ (k5_h3 : k5_cond3 v69 = 1#1), ∀ a x, ((![v78] : Fin 1 → IVec S16 32) a x).toNat < S10240.size a) ∧
  (∀ k5_t9 : Fin (k5_t9_loop v18 v89).trips, ∀ (k5_h3 : k5_cond3 v69 = 1#1), ∀ a x, ((![v78] : Fin 1 → IVec S16 32) a x).toNat < S10240.size a) ∧
  (∀ k5_t9 : Fin (k5_t9_loop v18 v89).trips, ∀ (k5_h3 : k5_cond3 v69 = 1#1), ∀ a x, ((![v78] : Fin 1 → IVec S16 32) a x).toNat < S10240.size a)
theorem k5_t8_ok : ∀ (v18 : BitVec 32) (v69 : BitVec 32) (v78 : IVec S16 32) (v89 : BitVec 32) (k5_hw8 : k5_chk8 v18 v69 v78 v89), ∀ (k5_h3 : k5_cond3 v69 = 1#1), (k5_t8_loop v18 v89).OK := fun v18 v69 v78 v89 k5_hw8 k5_h3 => k5_hw8.1 k5_h3
theorem k5_idx65_inb : ∀ (v18 : BitVec 32) (v69 : BitVec 32) (v78 : IVec S16 32) (v89 : BitVec 32) (k5_hw8 : k5_chk8 v18 v69 v78 v89) (k5_t8 : Fin (k5_t8_loop v18 v89).trips), ∀ (k5_h3 : k5_cond3 v69 = 1#1), ∀ a x, ((![v78] : Fin 1 → IVec S16 32) a x).toNat < S10240.size a := fun v18 v69 v78 v89 k5_hw8 k5_t8 k5_h3 => k5_hw8.2.1 k5_t8 k5_h3
theorem k5_idx66_inb : ∀ (v18 : BitVec 32) (v69 : BitVec 32) (v78 : IVec S16 32) (v89 : BitVec 32) (k5_hw8 : k5_chk8 v18 v69 v78 v89) (k5_t8 : Fin (k5_t8_loop v18 v89).trips), ∀ (k5_h3 : k5_cond3 v69 = 1#1), ∀ a x, ((![v78] : Fin 1 → IVec S16 32) a x).toNat < S10240.size a := fun v18 v69 v78 v89 k5_hw8 k5_t8 k5_h3 => k5_hw8.2.2.1 k5_t8 k5_h3
theorem k5_idx67_inb : ∀ (v18 : BitVec 32) (v69 : BitVec 32) (v78 : IVec S16 32) (v89 : BitVec 32) (k5_hw8 : k5_chk8 v18 v69 v78 v89) (k5_t8 : Fin (k5_t8_loop v18 v89).trips), ∀ (k5_h3 : k5_cond3 v69 = 1#1), ∀ a x, ((![v78] : Fin 1 → IVec S16 32) a x).toNat < S10240.size a := fun v18 v69 v78 v89 k5_hw8 k5_t8 k5_h3 => k5_hw8.2.2.2.1 k5_t8 k5_h3
theorem k5_idx68_inb : ∀ (v18 : BitVec 32) (v69 : BitVec 32) (v78 : IVec S16 32) (v89 : BitVec 32) (k5_hw8 : k5_chk8 v18 v69 v78 v89) (k5_t8 : Fin (k5_t8_loop v18 v89).trips), ∀ (k5_h3 : k5_cond3 v69 = 1#1), ∀ a x, ((![v78] : Fin 1 → IVec S16 32) a x).toNat < S10240.size a := fun v18 v69 v78 v89 k5_hw8 k5_t8 k5_h3 => k5_hw8.2.2.2.2.1 k5_t8 k5_h3
theorem k5_idx69_inb : ∀ (v18 : BitVec 32) (v69 : BitVec 32) (v78 : IVec S16 32) (v89 : BitVec 32) (k5_hw8 : k5_chk8 v18 v69 v78 v89) (k5_t8 : Fin (k5_t8_loop v18 v89).trips), ∀ (k5_h3 : k5_cond3 v69 = 1#1), ∀ a x, ((![v78] : Fin 1 → IVec S16 32) a x).toNat < S10240.size a := fun v18 v69 v78 v89 k5_hw8 k5_t8 k5_h3 => k5_hw8.2.2.2.2.2.1 k5_t8 k5_h3
theorem k5_idx70_inb : ∀ (v18 : BitVec 32) (v69 : BitVec 32) (v78 : IVec S16 32) (v89 : BitVec 32) (k5_hw8 : k5_chk8 v18 v69 v78 v89) (k5_t8 : Fin (k5_t8_loop v18 v89).trips), ∀ (k5_h3 : k5_cond3 v69 = 1#1), ∀ a x, ((![v78] : Fin 1 → IVec S16 32) a x).toNat < S10240.size a := fun v18 v69 v78 v89 k5_hw8 k5_t8 k5_h3 => k5_hw8.2.2.2.2.2.2.1 k5_t8 k5_h3
theorem k5_idx71_inb : ∀ (v18 : BitVec 32) (v69 : BitVec 32) (v78 : IVec S16 32) (v89 : BitVec 32) (k5_hw8 : k5_chk8 v18 v69 v78 v89) (k5_t8 : Fin (k5_t8_loop v18 v89).trips), ∀ (k5_h3 : k5_cond3 v69 = 1#1), ∀ a x, ((![v78] : Fin 1 → IVec S16 32) a x).toNat < S10240.size a := fun v18 v69 v78 v89 k5_hw8 k5_t8 k5_h3 => k5_hw8.2.2.2.2.2.2.2.1 k5_t8 k5_h3
theorem k5_idx72_inb : ∀ (v18 : BitVec 32) (v69 : BitVec 32) (v78 : IVec S16 32) (v89 : BitVec 32) (k5_hw8 : k5_chk8 v18 v69 v78 v89) (k5_t8 : Fin (k5_t8_loop v18 v89).trips), ∀ (k5_h3 : k5_cond3 v69 = 1#1), ∀ a x, ((![v78] : Fin 1 → IVec S16 32) a x).toNat < S10240.size a := fun v18 v69 v78 v89 k5_hw8 k5_t8 k5_h3 => k5_hw8.2.2.2.2.2.2.2.2.1 k5_t8 k5_h3
theorem k5_t9_ok : ∀ (v18 : BitVec 32) (v69 : BitVec 32) (v78 : IVec S16 32) (v89 : BitVec 32) (k5_hw8 : k5_chk8 v18 v69 v78 v89), ∀ (k5_h3 : k5_cond3 v69 = 1#1), (k5_t9_loop v18 v89).OK := fun v18 v69 v78 v89 k5_hw8 k5_h3 => k5_hw8.2.2.2.2.2.2.2.2.2.1 k5_h3
theorem k5_idx73_inb : ∀ (v18 : BitVec 32) (v69 : BitVec 32) (v78 : IVec S16 32) (v89 : BitVec 32) (k5_hw8 : k5_chk8 v18 v69 v78 v89) (k5_t9 : Fin (k5_t9_loop v18 v89).trips), ∀ (k5_h3 : k5_cond3 v69 = 1#1), ∀ a x, ((![v78] : Fin 1 → IVec S16 32) a x).toNat < S10240.size a := fun v18 v69 v78 v89 k5_hw8 k5_t9 k5_h3 => k5_hw8.2.2.2.2.2.2.2.2.2.2.1 k5_t9 k5_h3
theorem k5_idx74_inb : ∀ (v18 : BitVec 32) (v69 : BitVec 32) (v78 : IVec S16 32) (v89 : BitVec 32) (k5_hw8 : k5_chk8 v18 v69 v78 v89) (k5_t9 : Fin (k5_t9_loop v18 v89).trips), ∀ (k5_h3 : k5_cond3 v69 = 1#1), ∀ a x, ((![v78] : Fin 1 → IVec S16 32) a x).toNat < S10240.size a := fun v18 v69 v78 v89 k5_hw8 k5_t9 k5_h3 => k5_hw8.2.2.2.2.2.2.2.2.2.2.2.1 k5_t9 k5_h3
theorem k5_idx75_inb : ∀ (v18 : BitVec 32) (v69 : BitVec 32) (v78 : IVec S16 32) (v89 : BitVec 32) (k5_hw8 : k5_chk8 v18 v69 v78 v89) (k5_t9 : Fin (k5_t9_loop v18 v89).trips), ∀ (k5_h3 : k5_cond3 v69 = 1#1), ∀ a x, ((![v78] : Fin 1 → IVec S16 32) a x).toNat < S10240.size a := fun v18 v69 v78 v89 k5_hw8 k5_t9 k5_h3 => k5_hw8.2.2.2.2.2.2.2.2.2.2.2.2.1 k5_t9 k5_h3
theorem k5_idx76_inb : ∀ (v18 : BitVec 32) (v69 : BitVec 32) (v78 : IVec S16 32) (v89 : BitVec 32) (k5_hw8 : k5_chk8 v18 v69 v78 v89) (k5_t9 : Fin (k5_t9_loop v18 v89).trips), ∀ (k5_h3 : k5_cond3 v69 = 1#1), ∀ a x, ((![v78] : Fin 1 → IVec S16 32) a x).toNat < S10240.size a := fun v18 v69 v78 v89 k5_hw8 k5_t9 k5_h3 => k5_hw8.2.2.2.2.2.2.2.2.2.2.2.2.2.1 k5_t9 k5_h3
theorem k5_idx77_inb : ∀ (v18 : BitVec 32) (v69 : BitVec 32) (v78 : IVec S16 32) (v89 : BitVec 32) (k5_hw8 : k5_chk8 v18 v69 v78 v89) (k5_t9 : Fin (k5_t9_loop v18 v89).trips), ∀ (k5_h3 : k5_cond3 v69 = 1#1), ∀ a x, ((![v78] : Fin 1 → IVec S16 32) a x).toNat < S10240.size a := fun v18 v69 v78 v89 k5_hw8 k5_t9 k5_h3 => k5_hw8.2.2.2.2.2.2.2.2.2.2.2.2.2.2.1 k5_t9 k5_h3
theorem k5_idx78_inb : ∀ (v18 : BitVec 32) (v69 : BitVec 32) (v78 : IVec S16 32) (v89 : BitVec 32) (k5_hw8 : k5_chk8 v18 v69 v78 v89) (k5_t9 : Fin (k5_t9_loop v18 v89).trips), ∀ (k5_h3 : k5_cond3 v69 = 1#1), ∀ a x, ((![v78] : Fin 1 → IVec S16 32) a x).toNat < S10240.size a := fun v18 v69 v78 v89 k5_hw8 k5_t9 k5_h3 => k5_hw8.2.2.2.2.2.2.2.2.2.2.2.2.2.2.2.1 k5_t9 k5_h3
theorem k5_idx79_inb : ∀ (v18 : BitVec 32) (v69 : BitVec 32) (v78 : IVec S16 32) (v89 : BitVec 32) (k5_hw8 : k5_chk8 v18 v69 v78 v89) (k5_t9 : Fin (k5_t9_loop v18 v89).trips), ∀ (k5_h3 : k5_cond3 v69 = 1#1), ∀ a x, ((![v78] : Fin 1 → IVec S16 32) a x).toNat < S10240.size a := fun v18 v69 v78 v89 k5_hw8 k5_t9 k5_h3 => k5_hw8.2.2.2.2.2.2.2.2.2.2.2.2.2.2.2.2.1 k5_t9 k5_h3
theorem k5_idx80_inb : ∀ (v18 : BitVec 32) (v69 : BitVec 32) (v78 : IVec S16 32) (v89 : BitVec 32) (k5_hw8 : k5_chk8 v18 v69 v78 v89) (k5_t9 : Fin (k5_t9_loop v18 v89).trips), ∀ (k5_h3 : k5_cond3 v69 = 1#1), ∀ a x, ((![v78] : Fin 1 → IVec S16 32) a x).toNat < S10240.size a := fun v18 v69 v78 v89 k5_hw8 k5_t9 k5_h3 => k5_hw8.2.2.2.2.2.2.2.2.2.2.2.2.2.2.2.2.2 k5_t9 k5_h3
def k5_off8 (i : grid5.Coords) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v24 : BitVec 32 := Scalar.addi v2 c0_i32_15
  let c0_i32_19_r8 : BitVec 32 := 0#32
  ![v24.toNat, 0]
abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 2 → Memref sig .tc .vmem S128x2048 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S128x2048 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S128x2048 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S1x128 : Shape := ⟨2, ![1, 128]⟩
abbrev S_ : Shape := ⟨0, ![]⟩
abbrev S10000x3 : Shape := ⟨2, ![10000, 3]⟩
abbrev S1x3 : Shape := ⟨2, ![1, 3]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S330000x1 : Shape := ⟨2, ![330000, 1]⟩
abbrev S330000x3 : Shape := ⟨2, ![330000, 3]⟩
abbrev S330000x128 : Shape := ⟨2, ![330000, 128]⟩
abbrev S330000x131 : Shape := ⟨2, ![330000, 131]⟩
abbrev S1x10000 : Shape := ⟨2, ![1, 10000]⟩
abbrev S330000x10000 : Shape := ⟨2, ![330000, 10000]⟩
abbrev S330000x10000x1 : Shape := ⟨3, ![330000, 10000, 1]⟩
abbrev S330000x1x128 : Shape := ⟨3, ![330000, 1, 128]⟩
abbrev S330000x10000x128 : Shape := ⟨3, ![330000, 10000, 128]⟩

abbrev nBuf : Space → Nat
  | .hbm => 123
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x3, .f32⟩
  | .hbm, ⟨9, _⟩ => ⟨S3, .f32⟩
  | .hbm, ⟨10, _⟩ => ⟨S131x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x3, .f32⟩
  | .hbm, ⟨35, _⟩ => ⟨S1x3, .f32⟩
  | .hbm, ⟨36, _⟩ => ⟨S10000x3, .f32⟩
  | .hbm, ⟨37, _⟩ => ⟨S10000x3, .f32⟩
  | .hbm, ⟨38, _⟩ => ⟨S10000, .i32⟩
  | .hbm, ⟨39, _⟩ => ⟨S1x320000, .i32⟩
  | .hbm, ⟨40, _⟩ => ⟨S320000, .i32⟩
  | .hbm, ⟨41, _⟩ => ⟨S330000, .i32⟩
  | .hbm, ⟨42, _⟩ => ⟨S1x320000, .i32⟩
  | .hbm, ⟨43, _⟩ => ⟨S320000, .i32⟩
  | .hbm, ⟨44, _⟩ => ⟨S330000, .i32⟩
  | .hbm, ⟨45, _⟩ => ⟨S_, .i32⟩
  | .hbm, ⟨46, _⟩ => ⟨S330000, .i32⟩
  | .hbm, ⟨47, _⟩ => ⟨S330000, .i1⟩
  | .hbm, ⟨48, _⟩ => ⟨S_, .i32⟩
  | .hbm, ⟨49, _⟩ => ⟨S330000, .i32⟩
  | .hbm, ⟨50, _⟩ => ⟨S330000, .i32⟩
  | .hbm, ⟨51, _⟩ => ⟨S330000, .i32⟩
  | .hbm, ⟨52, _⟩ => ⟨S330000x1, .i32⟩
  | .hbm, ⟨53, _⟩ => ⟨S330000x3, .f32⟩
  | .hbm, ⟨54, _⟩ => ⟨S_, .i32⟩
  | .hbm, ⟨55, _⟩ => ⟨S330000, .i32⟩
  | .hbm, ⟨56, _⟩ => ⟨S330000, .i1⟩
  | .hbm, ⟨57, _⟩ => ⟨S_, .i32⟩
  | .hbm, ⟨58, _⟩ => ⟨S330000, .i32⟩
  | .hbm, ⟨59, _⟩ => ⟨S330000, .i32⟩
  | .hbm, ⟨60, _⟩ => ⟨S330000, .i32⟩
  | .hbm, ⟨61, _⟩ => ⟨S330000x1, .i32⟩
  | .hbm, ⟨62, _⟩ => ⟨S330000x3, .f32⟩
  | .hbm, ⟨63, _⟩ => ⟨S330000x3, .f32⟩
  | .hbm, ⟨64, _⟩ => ⟨S_, .i32⟩
  | .hbm, ⟨65, _⟩ => ⟨S_, .i32⟩
  | .hbm, ⟨66, _⟩ => ⟨S330000, .i32⟩
  | .hbm, ⟨67, _⟩ => ⟨S330000x3, .f32⟩
  | .hbm, ⟨68, _⟩ => ⟨S131x128, .f32⟩
  | .hbm, ⟨69, _⟩ => ⟨S128, .f32⟩
  | .hbm, ⟨70, _⟩ => ⟨S330000, .i32⟩
  | .hbm, ⟨71, _⟩ => ⟨S128x128, .f32⟩
  | .hbm, ⟨72, _⟩ => ⟨S128, .f32⟩
  | .hbm, ⟨73, _⟩ => ⟨S_, .i32⟩
  | .hbm, ⟨74, _⟩ => ⟨S_, .i32⟩
  | .hbm, ⟨75, _⟩ => ⟨S10000x128, .f32⟩
  | .hbm, ⟨76, _⟩ => ⟨S_, .i32⟩
  | .hbm, ⟨77, _⟩ => ⟨S_, .i1⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S330000, .i32⟩
  | .hbm, ⟨82, _⟩ => ⟨S330000, .i1⟩
  | .hbm, ⟨83, _⟩ => ⟨S_, .i32⟩
  | .hbm, ⟨84, _⟩ => ⟨S330000, .i32⟩
  | .hbm, ⟨85, _⟩ => ⟨S330000, .i32⟩
  | .hbm, ⟨86, _⟩ => ⟨S330000, .i32⟩
  | .hbm, ⟨87, _⟩ => ⟨S330000x1, .i32⟩
  | .hbm, ⟨88, _⟩ => ⟨S330000x128, .f32⟩
  | .hbm, ⟨89, _⟩ => ⟨S330000x131, .f32⟩
  | .hbm, ⟨90, _⟩ => ⟨S330000x128, .f32⟩
  | .hbm, ⟨91, _⟩ => ⟨S1x128, .f32⟩
  | .hbm, ⟨92, _⟩ => ⟨S330000x128, .f32⟩
  | .hbm, ⟨93, _⟩ => ⟨S330000x128, .f32⟩
  | .hbm, ⟨94, _⟩ => ⟨S330000x1, .i32⟩
  | .hbm, ⟨95, _⟩ => ⟨S10000, .i32⟩
  | .hbm, ⟨96, _⟩ => ⟨S1x10000, .i32⟩
  | .hbm, ⟨97, _⟩ => ⟨S330000x10000, .i32⟩
  | .hbm, ⟨98, _⟩ => ⟨S330000x10000, .i32⟩
  | .hbm, ⟨99, _⟩ => ⟨S330000x10000, .i1⟩
  | .hbm, ⟨100, _⟩ => ⟨S330000x10000x1, .i1⟩
  | .hbm, ⟨101, _⟩ => ⟨S330000x1x128, .f32⟩
  | .hbm, ⟨102, _⟩ => ⟨S_, .f32⟩
  | .hbm, ⟨103, _⟩ => ⟨S_, .f32⟩
  | .hbm, ⟨104, _⟩ => ⟨S330000x10000x128, .i1⟩
  | .hbm, ⟨105, _⟩ => ⟨S330000x10000x128, .f32⟩
  | .hbm, ⟨106, _⟩ => ⟨S330000x10000x128, .f32⟩
  | .hbm, ⟨107, _⟩ => ⟨S330000x10000x128, .f32⟩
  | .hbm, ⟨108, _⟩ => ⟨S_, .f32⟩
  | .hbm, ⟨109, _⟩ => ⟨S10000x128, .f32⟩
  | .hbm, ⟨110, _⟩ => ⟨S10000x128, .f32⟩
  | .hbm, ⟨111, _⟩ => ⟨S1x128, .f32⟩
  | .hbm, ⟨112, _⟩ => ⟨S10000x128, .f32⟩
  | .hbm, ⟨113, _⟩ => ⟨S10000x128, .f32⟩
  | .hbm, ⟨114, _⟩ => ⟨S_, .f32⟩
  | .hbm, ⟨115, _⟩ => ⟨S10000x128, .f32⟩
  | .hbm, ⟨116, _⟩ => ⟨S10000x128, .f32⟩
  | .hbm, ⟨117, _⟩ => ⟨S_, .i32⟩
  | .hbm, ⟨118, _⟩ => ⟨S_, .i32⟩
  | .hbm, ⟨119, _⟩ => ⟨S10000x128, .f32⟩
  | .hbm, ⟨120, _⟩ => ⟨S1x128, .f32⟩
  | .hbm, ⟨121, _⟩ => ⟨S10000x128, .f32⟩
  | .hbm, ⟨122, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c : Ref sig .tc := ⟨.hbm, 45, rfl⟩
abbrev main_v27 : Ref sig .tc := ⟨.hbm, 46, rfl⟩
abbrev main_v28 : Ref sig .tc := ⟨.hbm, 47, rfl⟩
abbrev main_c_1 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_2 : Ref sig .tc := ⟨.hbm, 54, rfl⟩
abbrev main_v34 : Ref sig .tc := ⟨.hbm, 55, rfl⟩
abbrev main_v35 : Ref sig .tc := ⟨.hbm, 56, rfl⟩
abbrev main_c_3 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_4 : Ref sig .tc := ⟨.hbm, 64, rfl⟩
abbrev main_c_5 : Ref sig .tc := ⟨.hbm, 65, rfl⟩
abbrev main_v42_0 : Ref sig .tc := ⟨.hbm, 66, rfl⟩
abbrev main_v42_1 : Ref sig .tc := ⟨.hbm, 67, rfl⟩
abbrev main_v42_2 : Ref sig .tc := ⟨.hbm, 68, rfl⟩
abbrev main_v42_3 : Ref sig .tc := ⟨.hbm, 69, rfl⟩
abbrev main_v42_4 : Ref sig .tc := ⟨.hbm, 70, rfl⟩
abbrev main_v42_5 : Ref sig .tc := ⟨.hbm, 71, rfl⟩
abbrev main_v42_6 : Ref sig .tc := ⟨.hbm, 72, rfl⟩
abbrev main_v42_7 : Ref sig .tc := ⟨.hbm, 73, rfl⟩
abbrev main_v42_8 : Ref sig .tc := ⟨.hbm, 74, rfl⟩
abbrev main_v42_9 : Ref sig .tc := ⟨.hbm, 75, rfl⟩
abbrev main_while0c_c_15 : Ref sig .tc := ⟨.hbm, 76, rfl⟩
abbrev main_while0c_v47 : Ref sig .tc := ⟨.hbm, 77, rfl⟩
abbrev main_while0b_c_15 : Ref sig .tc := ⟨.hbm, 78, rfl⟩
abbrev main_while0b_v47 : Ref sig .tc := ⟨.hbm, 79, rfl⟩
abbrev main_while0b_c_16 : Ref sig .tc := ⟨.hbm, 80, rfl⟩
abbrev main_while0b_v48 : Ref sig .tc := ⟨.hbm, 81, rfl⟩
abbrev main_while0b_v49 : Ref sig .tc := ⟨.hbm, 82, rfl⟩
abbrev main_while0b_c_17 : Ref sig .tc := ⟨.hbm, 83, rfl⟩
abbrev main_while0b_v50 : Ref sig .tc := ⟨.hbm, 84, rfl⟩
abbrev main_while0b_v51 : Ref sig .tc := ⟨.hbm, 85, rfl⟩
abbrev main_while0b_v52 : Ref sig .tc := ⟨.hbm, 86, rfl⟩
abbrev main_while0b_v53 : Ref sig .tc := ⟨.hbm, 87, rfl⟩
abbrev main_while0b_v54 : Ref sig .tc := ⟨.hbm, 88, rfl⟩
abbrev main_while0b_v55 : Ref sig .tc := ⟨.hbm, 89, rfl⟩
abbrev main_while0b_v56 : Ref sig .tc := ⟨.hbm, 90, rfl⟩
abbrev main_while0b_v57 : Ref sig .tc := ⟨.hbm, 91, rfl⟩
abbrev main_while0b_v58 : Ref sig .tc := ⟨.hbm, 92, rfl⟩
abbrev main_while0b_v59 : Ref sig .tc := ⟨.hbm, 93, rfl⟩
abbrev main_while0b_v60 : Ref sig .tc := ⟨.hbm, 94, rfl⟩
abbrev main_while0b_v61 : Ref sig .tc := ⟨.hbm, 95, rfl⟩
abbrev main_while0b_v62 : Ref sig .tc := ⟨.hbm, 96, rfl⟩
abbrev main_while0b_v63 : Ref sig .tc := ⟨.hbm, 97, rfl⟩
abbrev main_while0b_v64 : Ref sig .tc := ⟨.hbm, 98, rfl⟩
abbrev main_while0b_v65 : Ref sig .tc := ⟨.hbm, 99, rfl⟩
abbrev main_while0b_v66 : Ref sig .tc := ⟨.hbm, 100, rfl⟩
abbrev main_while0b_v67 : Ref sig .tc := ⟨.hbm, 101, rfl⟩
abbrev main_while0b_cst_18 : Ref sig .tc := ⟨.hbm, 102, rfl⟩
abbrev main_while0b_call0_v0 : Ref sig .tc := ⟨.hbm, 103, rfl⟩
abbrev main_while0b_call0_v1 : Ref sig .tc := ⟨.hbm, 104, rfl⟩
abbrev main_while0b_call0_v2 : Ref sig .tc := ⟨.hbm, 105, rfl⟩
abbrev main_while0b_call0_v3 : Ref sig .tc := ⟨.hbm, 106, rfl⟩
abbrev main_while0b_v68 : Ref sig .tc := ⟨.hbm, 107, rfl⟩
abbrev main_while0b_cst_19 : Ref sig .tc := ⟨.hbm, 108, rfl⟩
abbrev main_while0b_v69 : Ref sig .tc := ⟨.hbm, 109, rfl⟩
abbrev main_while0b_v70 : Ref sig .tc := ⟨.hbm, 110, rfl⟩
abbrev main_while0b_v71 : Ref sig .tc := ⟨.hbm, 111, rfl⟩
abbrev main_while0b_v72 : Ref sig .tc := ⟨.hbm, 112, rfl⟩
abbrev main_while0b_v73 : Ref sig .tc := ⟨.hbm, 113, rfl⟩
abbrev main_while0b_cst_20 : Ref sig .tc := ⟨.hbm, 114, rfl⟩
abbrev main_while0b_v74 : Ref sig .tc := ⟨.hbm, 115, rfl⟩
abbrev main_while0b_v75 : Ref sig .tc := ⟨.hbm, 116, rfl⟩
abbrev main_while0b_c_21 : Ref sig .tc := ⟨.hbm, 117, rfl⟩
abbrev main_while0b_v76 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩

abbrev nD : Nat := 1
abbrev τ : Topo := Topo.v7x

variable {F : FTy → Type} [FloatOps F]

abbrev main_while0_count : Scf.Loop 32 := ⟨0#32, 3#32, 1#32⟩
-- ==== Proof.Lanes.lean ====
/-
  The vector operations of one group of sixteen edges, as functions: what a masked scatter of running maxima writes, which
  lanes the masks of `scan_count` select, and what the scans for the first count and the largest count return.
-/
module

public import proofs.«01_k».proof.Proof.Gen.KernelIdeal
public import proofs.«01_k».proof.Proof.Gen.KernelIdeal.Skeleton

@[expose] public section

noncomputable section

namespace Cert.Proof

open Idealize.ShloMosaic
open Cert.KernelIdeal (S16 S10240 S8000 S320000)

variable {F : FTy → Type} [FloatOps F]

/-- One accumulator or feature row of the kernel. -/
abbrev Row (F : FTy → Type) : Type := S10240.Idx → Elt F .f32

/-- Element `n` of a row of 10240 (out of range: wrapped). -/
def at10240 (n : ℕ) : S10240.Idx := fun a => ⟨n % 10240, by
  obtain rfl : a = 0 := Subsingleton.elim _ _
  exact Nat.mod_lt n (show 0 < 10240 by decide)⟩

/-- A row with the maximum of itself and `x` at element `n`. -/
def upd (A : Row F) (n : ℕ) (x : Elt F .f32) : Row F := fun j => if (j 0).val = n then FloatOps.maximumf (φ := .f32) (A j) x else A j

/-- One edge's update: the feature of the edge's source maxed into the accumulator at the edge's target. -/
def rmw (src dst : ℕ → BitVec 32) (G A : Row F) (e : ℕ) : Row F := upd A (dst e).toNat (G (at10240 (src e).toNat))

/-- The updates of the edges of `L`, in order, from the features themselves (each node's self loop). -/
def run (src dst : ℕ → BitVec 32) (G : Row F) (L : List ℕ) : Row F := L.foldl (rmw src dst G) G

/-- The updates of two lists after each other. -/
theorem run_append (src dst : ℕ → BitVec 32) (G : Row F) (L M : List ℕ) :
    run src dst G (L ++ M) = M.foldl (rmw src dst G) (run src dst G L) := List.foldl_append

/-- Lane `k` of a vector of sixteen. -/
abbrev lane (k : Fin 16) : S16.Idx := Shape.ofLane (d := ![16]) k

/-- Every index of a vector of sixteen is a lane. -/
theorem exists_lane (x : S16.Idx) : ∃ k : Fin 16, x = lane k := by
  refine ⟨x 0, funext fun a => ?_⟩
  obtain rfl : a = 0 := Subsingleton.elim _ _
  rfl

/-- Lanes differ at different numbers. -/
theorem lane_inj {k k' : Fin 16} (h : lane k = lane k') : k = k' := congrFun h 0

/-- The lanes a mask selects, in order. -/
def lanesOf (mask : IVec S16 1) : List (Fin 16) := (List.finRange 16).filter fun k => mask (lane k) = 1

/-- The lanes of a mask are those whose bit is set. -/
theorem mem_lanesOf (mask : IVec S16 1) (k : Fin 16) : k ∈ lanesOf mask ↔ mask (lane k) = 1 := by
  simp [lanesOf]

/-- The running form of `storeIdx_max`: over a list of distinct lanes whose targets the rows written so far leave alone. -/
theorem store_fold (A : Row F) (d : IVec S16 32) (v : FVec F S16 .f32) (mask : IVec S16 1)
    (h : ∀ a x, ((![d] : Fin 1 → IVec S16 32) a x).toNat < S10240.size a)
    (hinj : ∀ k k' : Fin 16, mask (lane k) = 1 → mask (lane k') = 1 → d (lane k) = d (lane k') → k = k') :
    ∀ (l : List (Fin 16)) (B : Row F), l.Nodup →
      (∀ k ∈ l, mask (lane k) = 1 → B (idxAt (s := S10240) ![d] h (lane k)) = A (idxAt (s := S10240) ![d] h (lane k))) →
      l.foldl (fun (g : Row F) (k : Fin 16) =>
          if mask (lane k) = 1 then
            (fun j => if (∀ a, (j a).val = (idxAt (s := S10240) ![d] h (lane k) a).val) then (maximumf (loadIdx (s := S10240) (e := .f32) A ![d] h) v) (lane k) else g j)
          else g) B
        = (l.filter fun k => mask (lane k) = 1).foldl (fun g k => upd g (d (lane k)).toNat (v (lane k))) B := by
  intro l
  induction l with
  | nil => intro B _ _; rfl
  | cons k l ih =>
    intro B hnd hB
    rw [List.nodup_cons] at hnd
    by_cases hk : mask (lane k) = 1
    · rw [List.foldl_cons, List.filter_cons_of_pos (by simpa using hk), List.foldl_cons]
      have e : (if mask (lane k) = 1 then
            (fun j => if (∀ a, (j a).val = (idxAt (s := S10240) ![d] h (lane k) a).val) then (maximumf (loadIdx (s := S10240) (e := .f32) A ![d] h) v) (lane k) else B j)
          else B) = upd B (d (lane k)).toNat (v (lane k)) := by
        rw [if_pos hk]
        funext j
        unfold upd
        by_cases hj : (j 0).val = (d (lane k)).toNat
        · have hj' : ∀ a, (j a).val = (idxAt (s := S10240) ![d] h (lane k) a).val := by
            intro a; obtain rfl : a = 0 := Subsingleton.elim _ _; exact hj
          rw [if_pos hj', if_pos hj]
          have : j = idxAt (s := S10240) ![d] h (lane k) := funext fun a => Fin.ext (hj' a)
          show FloatOps.maximumf (A (idxAt ![d] h (lane k))) (v (lane k)) = _
          rw [← hB k List.mem_cons_self hk, ← this]
        · have hj' : ¬ ∀ a, (j a).val = (idxAt (s := S10240) ![d] h (lane k) a).val := fun h' => hj (h' 0)
          rw [if_neg hj', if_neg hj]
      rw [e]
      refine ih _ hnd.2 fun k' hk' hm' => ?_
      rw [← hB k' (List.mem_cons_of_mem _ hk') hm']
      unfold upd
      rw [if_neg]
      intro e'
      refine hnd.1 ?_
      have : k' = k := hinj k' k hm' hk (BitVec.eq_of_toNat_eq e')
      exact this ▸ hk'
    · rw [List.foldl_cons, if_neg hk, List.filter_cons_of_neg (by simpa using hk)]
      exact ih _ hnd.2 fun k' hk' => hB k' (List.mem_cons_of_mem _ hk')

/-- A masked scatter of the maxima of the gathered elements and `v`, at distinct targets, is one update a selected lane. -/
theorem storeIdx_max (A : Row F) (d : IVec S16 32) (v : FVec F S16 .f32) (mask : IVec S16 1)
    (h : ∀ a x, ((![d] : Fin 1 → IVec S16 32) a x).toNat < S10240.size a)
    (hinj : ∀ k k' : Fin 16, mask (lane k) = 1 → mask (lane k') = 1 → d (lane k) = d (lane k') → k = k') :
    storeIdx (s := S10240) (e := .f32) (d := ![16]) A ![d] (maximumf (loadIdx (s := S10240) (e := .f32) A ![d] h) v) mask false h
      = (lanesOf mask).foldl (fun g k => upd g (d (lane k)).toNat (v (lane k))) A := by
  refine Eq.trans ?_ (store_fold A d v mask h hinj (List.finRange 16) A (List.nodup_finRange _) fun _ _ _ => rfl)
  unfold storeIdx
  simp only [Bool.false_eq_true, if_false]
  rfl

/-- The same as edges: where lane `k` holds the words of edge `b + k`, the scatter is those edges' updates. -/
theorem storeIdx_edges (src dst : ℕ → BitVec 32) (b : ℕ) (G A : Row F) (s d : IVec S16 32) (mask : IVec S16 1)
    (hs : ∀ k : Fin 16, s (lane k) = src (b + k.val)) (hd : ∀ k : Fin 16, d (lane k) = dst (b + k.val))
    (h1 : ∀ a x, ((![s] : Fin 1 → IVec S16 32) a x).toNat < S10240.size a)
    (h : ∀ a x, ((![d] : Fin 1 → IVec S16 32) a x).toNat < S10240.size a)
    (hinj : ∀ k k' : Fin 16, mask (lane k) = 1 → mask (lane k') = 1 → d (lane k) = d (lane k') → k = k') :
    storeIdx (s := S10240) (e := .f32) (d := ![16]) A ![d]
        (maximumf (loadIdx (s := S10240) (e := .f32) A ![d] h) (loadIdx (s := S10240) (e := .f32) G ![s] h1)) mask false h
      = ((lanesOf mask).map fun k => b + k.val).foldl (rmw src dst G) A := by
  rw [storeIdx_max A d _ mask h hinj, List.foldl_map]
  congr 1
  funext g k
  unfold rmw
  rw [hd k]
  congr 1
  show G (idxAt ![s] h1 (lane k)) = _
  congr 1
  funext a
  obtain rfl : a = 0 := Subsingleton.elim _ _
  apply Fin.ext
  unfold at10240 idxAt
  dsimp only
  show (s (lane k)).toNat = (src (b + k.val)).toNat % 10240
  rw [hs k, Nat.mod_eq_of_lt]
  have := h1 0 (lane k)
  have e : (s (lane k)).toNat < 10240 := this
  rwa [hs k] at e

/-! ## The masks of `scan_count` -/

/-- Lane `k` is the `k`th place. -/
theorem rowMajor_lane (k : Fin 16) : (S16.rowMajor (lane k)).val = k.val := by
  revert k; decide

/-- All lanes on. -/
abbrev ones : IVec S16 1 := broadcast S16 1#1

/-- The mask of last occurrences: no later lane has the value. -/
theorem last_iff (v : IVec S16 32) (k : Fin 16) :
    (scanCount ones v).1 (lane k) = 1 ↔ ∀ k' : Fin 16, k < k' → v (lane k') ≠ v (lane k) := by
  unfold scanCount
  dsimp only
  constructor
  · intro h k' hk
    by_contra hv
    rw [if_neg] at h
    · exact absurd h (by decide)
    · rintro ⟨-, h2⟩
      refine h2 (lane k') ?_ ⟨rfl, hv⟩
      rw [rowMajor_lane, rowMajor_lane]; exact hk
  · intro h
    rw [if_pos]
    refine ⟨rfl, fun j hj => ?_⟩
    obtain ⟨k', rfl⟩ := exists_lane j
    rw [rowMajor_lane, rowMajor_lane] at hj
    exact fun h2 => h k' hj h2.2

/-- How many lanes up to `k` have lane `k`'s value. -/
def cnt (v : IVec S16 32) (k : Fin 16) : ℕ := (Finset.univ.filter fun k' : Fin 16 => k' ≤ k ∧ v (lane k') = v (lane k)).card

/-- A count is at most sixteen. -/
theorem cnt_le (v : IVec S16 32) (k : Fin 16) : cnt v k ≤ 16 := by
  unfold cnt
  exact (Finset.card_le_univ _).trans (by simp)

/-- A lane counts itself. -/
theorem cnt_pos (v : IVec S16 32) (k : Fin 16) : 1 ≤ cnt v k := by
  unfold cnt
  exact Finset.card_pos.mpr ⟨k, by simp⟩

/-- Of two lanes with one value the later has the larger count. -/
theorem cnt_lt (v : IVec S16 32) {k k' : Fin 16} (h : k < k') (hv : v (lane k) = v (lane k')) : cnt v k < cnt v k' := by
  unfold cnt
  refine Finset.card_lt_card (Finset.ssubset_iff_of_subset ?_ |>.mpr ⟨k', ?_, ?_⟩)
  · intro i hi
    simp only [Finset.mem_filter, Finset.mem_univ, true_and] at hi ⊢
    exact ⟨hi.1.trans h.le, hi.2.trans hv⟩
  · simp
  · simp only [Finset.mem_filter, Finset.mem_univ, true_and, not_and]
    intro h'; exact absurd h' (not_le.mpr h)

/-- Two lanes with one value and one count are one lane. -/
theorem cnt_inj (v : IVec S16 32) {k k' : Fin 16} (hv : v (lane k) = v (lane k')) (hc : cnt v k = cnt v k') : k = k' := by
  rcases lt_trichotomy k k' with h | h | h
  · exact absurd hc (cnt_lt v h hv).ne
  · exact h
  · exact absurd hc.symm (cnt_lt v h hv.symm).ne

/-- The counts of `scan_count`. -/
theorem counts_eq (v : IVec S16 32) (k : Fin 16) : (scanCount ones v).2 (lane k) = BitVec.ofNat 32 (cnt v k) := by
  unfold scanCount
  dsimp only
  rw [if_pos (show ones (lane k) = 1 from rfl)]
  congr 1
  unfold cnt
  refine (Finset.card_bij (fun k' _ => lane k') ?_ ?_ ?_).symm
  · intro k' hk'
    simp only [Finset.mem_filter, Finset.mem_univ, true_and] at hk' ⊢
    rw [rowMajor_lane, rowMajor_lane]
    exact ⟨hk'.1, rfl, hk'.2⟩
  · intro k _ k' _ e
    exact lane_inj e
  · intro j hj
    obtain ⟨k', rfl⟩ := exists_lane j
    simp only [Finset.mem_filter, Finset.mem_univ, true_and] at hj
    rw [rowMajor_lane, rowMajor_lane] at hj
    exact ⟨k', by simp only [Finset.mem_filter, Finset.mem_univ, true_and]; exact ⟨hj.1, hj.2.2⟩, rfl⟩

/-- `scan_count`'s counts are these. -/
theorem counts_toNat (v : IVec S16 32) (k : Fin 16) : ((scanCount ones v).2 (lane k)).toNat = cnt v k := by
  rw [counts_eq, BitVec.toNat_ofNat]
  exact Nat.mod_eq_of_lt (lt_of_le_of_lt (cnt_le v k) (by decide))

end Cert.Proof

end
-- ==== Proof.Group.lean ====
/-
  Which edges a group's masks reach, as facts about lists of edge numbers: after the fast pass an edge is done or its lane
  is marked, after the rounds of the slow pass every edge of the group is done; the loop bounds the rounds read off the
  counts; the word that says whether a lane is marked.
-/
module

public import proofs.«01_k».proof.Proof.Lanes

@[expose] public section

noncomputable section

namespace Cert.Proof

open Idealize.ShloMosaic
open Cert.KernelIdeal Cert.KernelIdeal.Gen

variable {F : FTy → Type} [FloatOps F]

/-! ## One bit -/

/-- A bit is zero or one. -/
theorem bit_cases (x : BitVec 1) : x = 0#1 ∨ x = 1#1 := by revert x; decide

/-! ## The largest and the smallest of sixteen words, as the kernel scans for them -/

/-- The word with the sign bit flipped, the kernel's way to compare signed words as unsigned ones. -/
abbrev flipW : BitVec 32 := 2147483648#32

/-- Flipping the sign bit twice changes nothing. -/
theorem flip_flip (x : BitVec 32) : (x ^^^ flipW) ^^^ flipW = x := by
  rw [BitVec.xor_assoc, BitVec.xor_self, BitVec.xor_zero]

/-- Flipping the sign bit of a small word adds it. -/
theorem flip_toNat {x : BitVec 32} (h : x.toNat < 2 ^ 31) : (x ^^^ flipW).toNat = x.toNat + 2 ^ 31 := by
  rw [BitVec.toNat_xor]
  show x.toNat ^^^ 2 ^ 31 = _
  have e := Nat.two_pow_add_eq_or_of_lt h 1
  rw [Nat.mul_one] at e
  rw [Nat.add_comm, e]
  refine Nat.eq_of_testBit_eq fun i => ?_
  rw [Nat.testBit_xor, Nat.testBit_or, Nat.testBit_two_pow]
  by_cases hi : 31 = i
  · subst hi; rw [Nat.testBit_lt_two_pow h]; rfl
  · rw [decide_eq_false hi]; cases x.toNat.testBit i <;> rfl

/-- A fold of `maxui` is one of its words, and no word exceeds it. -/
theorem fold_maxui (l : List (BitVec 32)) : ∀ x : BitVec 32,
    (l.foldl IntOp.maxui x = x ∨ l.foldl IntOp.maxui x ∈ l) ∧ x.toNat ≤ (l.foldl IntOp.maxui x).toNat
      ∧ ∀ y ∈ l, y.toNat ≤ (l.foldl IntOp.maxui x).toNat := by
  induction l with
  | nil => intro x; exact ⟨.inl rfl, le_refl _, by simp⟩
  | cons a l ih =>
    intro x
    obtain ⟨h1, h2, h3⟩ := ih (IntOp.maxui x a)
    have hx : x.toNat ≤ (IntOp.maxui x a).toNat ∧ a.toNat ≤ (IntOp.maxui x a).toNat ∧ (IntOp.maxui x a = x ∨ IntOp.maxui x a = a) := by
      unfold IntOp.maxui
      by_cases h : a.ult x = true
      · rw [if_pos h]; rw [BitVec.ult, decide_eq_true_eq] at h; exact ⟨le_refl _, h.le, .inl rfl⟩
      · rw [if_neg h]; rw [BitVec.ult, decide_eq_true_eq] at h; exact ⟨by omega, le_refl _, .inr rfl⟩
    rw [List.foldl_cons]
    refine ⟨?_, hx.1.trans h2, ?_⟩
    · rcases h1 with h1 | h1
      · rcases hx.2.2 with e | e
        · exact .inl (h1.trans e)
        · exact .inr (by rw [h1, e]; exact List.mem_cons_self)
      · exact .inr (List.mem_cons_of_mem _ h1)
    · intro y hy
      rcases List.mem_cons.mp hy with rfl | hy
      · exact hx.2.1.trans h2
      · exact h3 y hy

/-- The same for `minui`: no word is below it. -/
theorem fold_minui (l : List (BitVec 32)) : ∀ x : BitVec 32,
    (l.foldl IntOp.minui x = x ∨ l.foldl IntOp.minui x ∈ l) ∧ (l.foldl IntOp.minui x).toNat ≤ x.toNat
      ∧ ∀ y ∈ l, (l.foldl IntOp.minui x).toNat ≤ y.toNat := by
  induction l with
  | nil => intro x; exact ⟨.inl rfl, le_refl _, by simp⟩
  | cons a l ih =>
    intro x
    obtain ⟨h1, h2, h3⟩ := ih (IntOp.minui x a)
    have hx : (IntOp.minui x a).toNat ≤ x.toNat ∧ (IntOp.minui x a).toNat ≤ a.toNat ∧ (IntOp.minui x a = x ∨ IntOp.minui x a = a) := by
      unfold IntOp.minui
      by_cases h : x.ult a = true
      · rw [if_pos h]; rw [BitVec.ult, decide_eq_true_eq] at h; exact ⟨le_refl _, h.le, .inl rfl⟩
      · rw [if_neg h]; rw [BitVec.ult, decide_eq_true_eq] at h; exact ⟨by omega, le_refl _, .inr rfl⟩
    rw [List.foldl_cons]
    refine ⟨?_, h2.trans hx.1, ?_⟩
    · rcases h1 with h1 | h1
      · rcases hx.2.2 with e | e
        · exact .inl (h1.trans e)
        · exact .inr (by rw [h1, e]; exact List.mem_cons_self)
      · exact .inr (List.mem_cons_of_mem _ h1)
    · intro y hy
      rcases List.mem_cons.mp hy with rfl | hy
      · exact h2.trans hx.2.1
      · exact h3 y hy

/-- The lanes after the first, which a scan to the last lane folds over. -/
abbrev laterLanes : List (Fin 16) := (List.finRange 16).filter fun k => decide (0 < k.val ∧ k.val ≤ 15)

/-- Every lane but the first is a later one. -/
theorem mem_later (k : Fin 16) (h : k ≠ 0) : k ∈ laterLanes := by
  have : 0 < k.val := Nat.pos_of_ne_zero fun e => h (Fin.ext e)
  simp only [laterLanes, List.mem_filter, List.mem_finRange, true_and, decide_eq_true_eq]
  omega

/-- The largest of sixteen words as the kernel computes it: flipped, scanned for the running unsigned maximum, the last
    lane flipped back. -/
def topMax (w : IVec S16 32) : BitVec 32 :=
  extractAt ![15] (xori (scan .max (xori w (broadcast S16 flipW))) (broadcast S16 flipW)) inpos_S16_p15
/-- The smallest likewise. -/
def topMin (w : IVec S16 32) : BitVec 32 :=
  extractAt ![15] (xori (scan .min (xori w (broadcast S16 flipW))) (broadcast S16 flipW)) inpos_S16_p15

/-- The largest as a fold over the lanes. -/
theorem topMax_eq (w : IVec S16 32) :
    topMax w = ((laterLanes.map fun k => w (lane k) ^^^ flipW).foldl IntOp.maxui (w (lane 0) ^^^ flipW)) ^^^ flipW := by
  rw [List.foldl_map]; rfl
/-- The smallest as a fold over the lanes. -/
theorem topMin_eq (w : IVec S16 32) :
    topMin w = ((laterLanes.map fun k => w (lane k) ^^^ flipW).foldl IntOp.minui (w (lane 0) ^^^ flipW)) ^^^ flipW := by
  rw [List.foldl_map]; rfl

/-- Of small words it is one of them and no less than any. -/
theorem topMax_spec (w : IVec S16 32) (hw : ∀ k : Fin 16, (w (lane k)).toNat < 2 ^ 31) :
    (∃ k, topMax w = w (lane k)) ∧ ∀ k, (w (lane k)).toNat ≤ (topMax w).toNat := by
  obtain ⟨h1, h2, h3⟩ := fold_maxui (laterLanes.map fun k => w (lane k) ^^^ flipW) (w (lane 0) ^^^ flipW)
  rw [topMax_eq]
  generalize (laterLanes.map fun k => w (lane k) ^^^ flipW).foldl IntOp.maxui (w (lane 0) ^^^ flipW) = r at h1 h2 h3
  obtain ⟨k, hk⟩ : ∃ k, r = w (lane k) ^^^ flipW := by
    rcases h1 with h1 | h1
    · exact ⟨0, h1⟩
    · obtain ⟨k, -, e⟩ := List.mem_map.mp h1; exact ⟨k, e.symm⟩
  refine ⟨⟨k, by rw [hk, flip_flip]⟩, fun k' => ?_⟩
  rw [hk, flip_flip]
  have h : (w (lane k') ^^^ flipW).toNat ≤ r.toNat := by
    by_cases e : k' = 0
    · rw [e]; exact h2
    · exact h3 _ (List.mem_map.mpr ⟨k', mem_later k' e, rfl⟩)
  rw [hk, flip_toNat (hw _), flip_toNat (hw _)] at h
  omega

/-- Of small words it is one of them and no more than any. -/
theorem topMin_spec (w : IVec S16 32) (hw : ∀ k : Fin 16, (w (lane k)).toNat < 2 ^ 31) :
    (∃ k, topMin w = w (lane k)) ∧ ∀ k, (topMin w).toNat ≤ (w (lane k)).toNat := by
  obtain ⟨h1, h2, h3⟩ := fold_minui (laterLanes.map fun k => w (lane k) ^^^ flipW) (w (lane 0) ^^^ flipW)
  rw [topMin_eq]
  generalize (laterLanes.map fun k => w (lane k) ^^^ flipW).foldl IntOp.minui (w (lane 0) ^^^ flipW) = r at h1 h2 h3
  obtain ⟨k, hk⟩ : ∃ k, r = w (lane k) ^^^ flipW := by
    rcases h1 with h1 | h1
    · exact ⟨0, h1⟩
    · obtain ⟨k, -, e⟩ := List.mem_map.mp h1; exact ⟨k, e.symm⟩
  refine ⟨⟨k, by rw [hk, flip_flip]⟩, fun k' => ?_⟩
  rw [hk, flip_flip]
  have h : r.toNat ≤ (w (lane k') ^^^ flipW).toNat := by
    by_cases e : k' = 0
    · rw [e]; exact h2
    · exact h3 _ (List.mem_map.mpr ⟨k', mem_later k' e, rfl⟩)
  rw [hk, flip_toNat (hw _), flip_toNat (hw _)] at h
  omega

/-! ## The kernel's words -/

/-- The counts are small words. -/
theorem counts_lt (v : IVec S16 32) (k : Fin 16) : ((scanCount ones v).2 (lane k)).toNat < 2 ^ 31 := by
  rw [counts_toNat]; exact lt_of_le_of_lt (cnt_le v k) (by decide)

/-- The count of a first occurrence. -/
theorem base_eq : extractAt ![15] k1_pay30 inpos_S16_p15 = 1#32 := by
  have h := topMin_spec (scanCount ones (broadcast S16 0#32)).2 (counts_lt _)
  have e : extractAt ![15] k1_pay30 inpos_S16_p15 = topMin (scanCount ones (broadcast S16 0#32)).2 := rfl
  rw [e]
  obtain ⟨⟨k, hk⟩, h2⟩ := h
  have h0 := h2 0
  rw [counts_toNat] at h0
  have hc0 : cnt (broadcast S16 0#32) 0 = 1 := by
    unfold cnt
    rw [Finset.card_eq_one]
    refine ⟨0, ?_⟩
    ext k'
    simp only [Finset.mem_filter, Finset.mem_univ, true_and, Finset.mem_singleton]
    constructor
    · rintro ⟨h, -⟩; exact Fin.le_zero_iff.mp h
    · rintro rfl; exact ⟨le_refl _, rfl⟩
  have h1 : 1 ≤ (topMin (scanCount ones (broadcast S16 0#32)).2).toNat := by
    rw [hk, counts_toNat]; exact cnt_pos _ _
  apply BitVec.eq_of_toNat_eq
  show _ = 1
  omega

/-- The largest count of a group, the last round. -/
theorem maxCount (v : IVec S16 32) : 1 ≤ (topMax (scanCount ones v).2).toNat ∧ (topMax (scanCount ones v).2).toNat ≤ 16
    ∧ ∀ k, cnt v k ≤ (topMax (scanCount ones v).2).toNat := by
  obtain ⟨⟨k, hk⟩, h2⟩ := topMax_spec (scanCount ones v).2 (counts_lt v)
  refine ⟨?_, ?_, fun k' => ?_⟩
  · rw [hk, counts_toNat]; exact cnt_pos _ _
  · rw [hk, counts_toNat]; exact cnt_le _ _
  · rw [← counts_toNat]; exact h2 k'

/-- The rounds' loop runs once for each count from one to the largest. -/
theorem rounds_of (M : BitVec 32) (h1 : 1 ≤ M.toNat) (h2 : M.toNat ≤ 16) :
    (k1_t4_loop 1#32 M).OK ∧ (k1_t4_loop 1#32 M).trips = M.toNat ∧ (k1_t5_loop 1#32 M).OK ∧ (k1_t5_loop 1#32 M).trips = 0 := by
  obtain ⟨n, hn⟩ : ∃ n : Fin 17, M = BitVec.ofNat 32 n.val := ⟨⟨M.toNat, by omega⟩, by simp⟩
  have key : ∀ n : Fin 17, 1 ≤ n.val → (k1_t4_loop 1#32 (BitVec.ofNat 32 n.val)).OK
      ∧ (k1_t4_loop 1#32 (BitVec.ofNat 32 n.val)).trips = (BitVec.ofNat 32 n.val).toNat
      ∧ (k1_t5_loop 1#32 (BitVec.ofNat 32 n.val)).OK ∧ (k1_t5_loop 1#32 (BitVec.ofNat 32 n.val)).trips = 0 := by
    unfold Scf.Loop.OK; decide
  rw [hn]
  refine key n ?_
  rw [hn, BitVec.toNat_ofNat, Nat.mod_eq_of_lt (by have := n.isLt; omega)] at h1
  exact h1

/-- Where the marked lanes' word says none is marked, none is. -/
theorem none_marked (rem : IVec S16 1) (h : ¬ k1_cond1 (extractAt ![15] (k1_pay16 rem) inpos_S16_p15) = 1#1) (k : Fin 16) :
    ¬ rem (lane k) = 1 := by
  intro hk
  have hw : ∀ k : Fin 16, (extui 32 rem natLt_1_32 (lane k)).toNat < 2 ^ 31 := fun k => by
    show ((rem (lane k)).setWidth 32).toNat < _
    rw [BitVec.toNat_setWidth]
    have : (rem (lane k)).toNat < 2 := (rem (lane k)).isLt
    omega
  obtain ⟨⟨j, hj⟩, h2⟩ := topMax_spec (extui 32 rem natLt_1_32) hw
  have e : extractAt ![15] (k1_pay16 rem) inpos_S16_p15 = topMax (extui 32 rem natLt_1_32) := rfl
  rw [e] at h
  have h1 := h2 k
  have e1 : extui 32 rem natLt_1_32 (lane k) = 1#32 := by
    show (rem (lane k)).setWidth 32 = _
    rw [hk]; rfl
  rw [e1] at h1
  rw [hj] at h h1
  refine h ?_
  have e2 : extui 32 rem natLt_1_32 (lane j) = (rem (lane j)).setWidth 32 := rfl
  rw [e2] at h1 ⊢
  rcases bit_cases (rem (lane j)) with e3 | e3
  · rw [e3] at h1; exact absurd h1 (by decide)
  · rw [e3]; decide

/-! ## Coverage -/

/-- The edges done: `L` names edges only, and every edge below `n`. -/
def Cov (n : ℕ) (L : List ℕ) : Prop := (∀ e ∈ L, e < 320000) ∧ ∀ e < n, e ∈ L

/-- The fast pass after `g` groups from edge `b`: each edge passed is done or its lane is marked. -/
def FCov (b g : ℕ) (rem : IVec S16 1) (L : List ℕ) : Prop :=
  Cov b L ∧ ∀ g' < g, ∀ k : Fin 16, b + 16 * g' + k.val ∈ L ∨ rem (lane k) = 1

/-- The slow pass inside one group from edge `b`, after the rounds below `r`. -/
def RCov (b r : ℕ) (d : IVec S16 32) (L : List ℕ) : Prop :=
  Cov b L ∧ ∀ k : Fin 16, cnt d k < r → b + k.val ∈ L

/-- More updates keep a covering list covering. -/
theorem Cov.append {n : ℕ} {L M : List ℕ} (h : Cov n L) (hM : ∀ e ∈ M, e < 320000) : Cov n (L ++ M) :=
  ⟨fun e he => (List.mem_append.mp he).elim (h.1 e) (hM e), fun e he => List.mem_append_left _ (h.2 e he)⟩

/-- The edges of a group inside the edge list are edges. -/
theorem group_lt {b : ℕ} (hb : b + 16 ≤ 320000) (mask : IVec S16 1) : ∀ e ∈ (lanesOf mask).map (fun k => b + k.val), e < 320000 := by
  intro e he
  obtain ⟨k, -, rfl⟩ := List.mem_map.mp he
  have := k.isLt; omega

/-- Before the first group of a chunk. -/
theorem fcov_zero {b : ℕ} {L : List ℕ} (rem : IVec S16 1) (h : Cov b L) : FCov b 0 rem L := ⟨h, fun _ h => absurd h (Nat.not_lt_zero _)⟩

/-- One fast group: the last occurrences, the first occurrences that are not last, the rest marked. -/
theorem fcov_step {b g : ℕ} {rem : IVec S16 1} {L : List ℕ} (h : FCov b g rem L) (hb : b + 16 * g + 16 ≤ 320000) (d : IVec S16 32) :
    FCov b (g + 1) (k1_pay15 (F := F) 1#32 rem d)
      ((L ++ (lanesOf (k1_pay3 (F := F) d)).map fun k => b + 16 * g + k.val) ++ (lanesOf (k1_pay10 (F := F) 1#32 d)).map fun k => b + 16 * g + k.val) := by
  refine ⟨(h.1.append (group_lt hb _)).append (group_lt hb _), fun g' hg' k => ?_⟩
  have hrem : k1_pay15 (F := F) 1#32 rem d (lane k)
      = rem (lane k) ||| ((k1_pay3 (F := F) d (lane k) ^^^ 1#1) &&& (k1_pay4 (F := F) 1#32 d (lane k) ^^^ 1#1)) := rfl
  rcases Nat.lt_succ_iff_lt_or_eq.mp hg' with hlt | rfl
  · rcases h.2 g' hlt k with h1 | h1
    · exact .inl (List.mem_append_left _ (List.mem_append_left _ h1))
    · right; rw [hrem, h1]
      generalize ((k1_pay3 (F := F) d (lane k) ^^^ 1#1) &&& (k1_pay4 (F := F) 1#32 d (lane k) ^^^ 1#1)) = x
      revert x; decide
  · have h10 : k1_pay10 (F := F) 1#32 d (lane k) = k1_pay4 (F := F) 1#32 d (lane k) &&& (k1_pay3 (F := F) d (lane k) ^^^ 1#1) := rfl
    rcases bit_cases (k1_pay3 (F := F) d (lane k)) with e3 | e3
    · rcases bit_cases (k1_pay4 (F := F) 1#32 d (lane k)) with e4 | e4
      · right; rw [hrem, e3, e4]
        generalize rem (lane k) = x
        revert x; decide
      · left
        refine List.mem_append_right _ (List.mem_map.mpr ⟨k, (mem_lanesOf _ _).mpr ?_, rfl⟩)
        rw [h10, e3, e4]; decide
    · left
      exact List.mem_append_left _ (List.mem_append_right _ (List.mem_map.mpr ⟨k, (mem_lanesOf _ _).mpr e3, rfl⟩))

/-- No lane marked: the chunk is done. -/
theorem fcov_done {b : ℕ} {rem : IVec S16 1} {L : List ℕ} (h : FCov b 500 rem L) (hrem : ∀ k, ¬ rem (lane k) = 1) : Cov (b + 8000) L := by
  refine ⟨h.1.1, fun e he => ?_⟩
  by_cases hb : e < b
  · exact h.1.2 e hb
  · obtain ⟨x, hx⟩ : ∃ x, x = e - b := ⟨_, rfl⟩
    have := (h.2 (x / 16) (by omega) ⟨x % 16, Nat.mod_lt _ (by decide)⟩).resolve_right (hrem _)
    have e' : b + 16 * (x / 16) + x % 16 = e := by omega
    rw [← e']; exact this

/-- Before the first round of a group: no count is below one. -/
theorem rcov_zero {b : ℕ} {L : List ℕ} (d : IVec S16 32) (h : Cov b L) : RCov b 1 d L :=
  ⟨h, fun k hk => absurd hk (by have := cnt_pos d k; omega)⟩

/-- The mask of round `r`. -/
theorem round_iff (d : IVec S16 32) (r : BitVec 32) (k : Fin 16) :
    cmpi .eq (scanCount ones d).2 (broadcast S16 r) (lane k) = 1#1 ↔ cnt d k = r.toNat := by
  show BitVec.ofBool ((scanCount ones d).2 (lane k) == r) = 1#1 ↔ _
  rw [← counts_toNat]
  constructor
  · intro h
    have : ((scanCount ones d).2 (lane k) == r) = true := by
      revert h; cases ((scanCount ones d).2 (lane k) == r) <;> decide
    rw [eq_of_beq this]
  · intro h
    rw [BitVec.eq_of_toNat_eq h, beq_self_eq_true]; rfl

/-- One round: the lanes of count `r` done. -/
theorem rcov_step {b r : ℕ} {d : IVec S16 32} {L : List ℕ} (h : RCov b r d L) (hb : b + 16 ≤ 320000) (mask : IVec S16 1)
    (hm : ∀ k, cnt d k = r → mask (lane k) = 1) :
    RCov b (r + 1) d (L ++ (lanesOf mask).map fun k => b + k.val) := by
  refine ⟨h.1.append (group_lt hb _), fun k hk => ?_⟩
  rcases Nat.lt_succ_iff_lt_or_eq.mp hk with hlt | e
  · exact List.mem_append_left _ (h.2 k hlt)
  · exact List.mem_append_right _ (List.mem_map.mpr ⟨k, (mem_lanesOf _ _).mpr (hm k e), rfl⟩)

/-- After the last round the group is done. -/
theorem rcov_done {b M : ℕ} {d : IVec S16 32} {L : List ℕ} (h : RCov b (1 + M) d L) (hM : ∀ k, cnt d k ≤ M) : Cov (b + 16) L := by
  refine ⟨h.1.1, fun e he => ?_⟩
  by_cases hb : e < b
  · exact h.1.2 e hb
  · have := h.2 ⟨e - b, by omega⟩ (by have := hM ⟨e - b, by omega⟩; omega)
    have e' : b + (e - b) = e := by omega
    rw [← e']; exact this

/-- The lanes of last occurrences have distinct values. -/
theorem last_inj (d : IVec S16 32) (k k' : Fin 16) (h : k1_pay3 (F := F) d (lane k) = 1) (h' : k1_pay3 (F := F) d (lane k') = 1)
    (e : d (lane k) = d (lane k')) : k = k' := by
  have h1 := (last_iff d k).mp h
  have h2 := (last_iff d k').mp h'
  rcases lt_trichotomy k k' with hl | hl | hl
  · exact absurd e.symm (h1 k' hl)
  · exact hl
  · exact absurd e (h2 k hl)

/-- The lanes of first occurrences have distinct values. -/
theorem first_inj (d : IVec S16 32) (k k' : Fin 16) (h : k1_pay10 (F := F) 1#32 d (lane k) = 1) (h' : k1_pay10 (F := F) 1#32 d (lane k') = 1)
    (e : d (lane k) = d (lane k')) : k = k' := by
  have key : ∀ k, k1_pay10 (F := F) 1#32 d (lane k) = 1 → cnt d k = 1 := by
    intro k h
    have h10 : k1_pay10 (F := F) 1#32 d (lane k) = k1_pay4 (F := F) 1#32 d (lane k) &&& (k1_pay3 (F := F) d (lane k) ^^^ 1#1) := rfl
    rw [h10] at h
    rcases bit_cases (k1_pay4 (F := F) 1#32 d (lane k)) with e4 | e4
    · rw [e4, BitVec.zero_and] at h; exact absurd h (by decide)
    · exact (round_iff d 1#32 k).mp e4
  exact cnt_inj d e ((key k h).trans (key k' h').symm)

/-- The lanes of one round have distinct values. -/
theorem round_inj (d : IVec S16 32) (r : BitVec 32) (k k' : Fin 16) (h : cmpi .eq (scanCount ones d).2 (broadcast S16 r) (lane k) = 1)
    (h' : cmpi .eq (scanCount ones d).2 (broadcast S16 r) (lane k') = 1) (e : d (lane k) = d (lane k')) : k = k' :=
  cnt_inj d e (((round_iff d r k).mp h).trans ((round_iff d r k').mp h').symm)

end Cert.Proof

end
-- ==== Proof.Setup.lean ====
/-
  The program as the launch theorem sees it, and the vector operations' rules over a scratch array held by its contents.
-/
module

public import proofs.«01_k».proof.Defs
public import proofs.«01_k».proof.Proof.Group
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The program's labels, the threads' configuration and the definitions over them. -/
abbrev ΛP : Labels := Pipeline.Sig Λ₀ (Fin 4) fun p => (pcfgs (F := F) p).Adm
/-- The threads' configuration. -/
abbrev K : SparseCore.Cfg τ sig (ΛP (F := F)) 3 := sc (F := F)
/-- The definitions of the labels. -/
abbrev D [FloatOps F] : Defs nD τ sig (Elt F) (ΛP (F := F)) := Pipeline.defs pcfgs defs₀
/-- The kernel's loops have no variants of their own. -/
abbrev 𝒱₀ : Variants := Variants.none
/-- With those of the pipelines. -/
abbrev 𝒱 : Variants := 𝒱₀.lift
/-- The variant of a loop. -/
abbrev v₀ : 𝒱.V := Sum.inl none

/-- The handshakes' rounds, the pipelines', and the copies' counters. -/
abbrev UH : Type := URounds (GSem nD τ sig) ℕ
/-- The pipelines' rounds. -/
abbrev UP : Type := URounds (GSem nD τ sig) Unit
/-- All of the ghost state. -/
abbrev UU : Type := UH × (UP × Counters)

local notation "𝕄" => MT nD τ sig (HIx 3) (Elt F) ℕ UU ℕ

/-- The tile's SparseCore and subcore, and its thread on device `d`. -/
abbrev cV (L : grid1.Coords) : Fin τ.nSC := (L 0).castLE hcore1
/-- Its subcore. -/
abbrev jV (L : grid1.Coords) : Fin τ.nSub := (L 1).castLE hsub1
/-- Its thread. -/
abbrev tile (d : Dev nD) (L : grid1.Coords) : Thread nD τ := V d (cV L) (jV L)

variable [FloatOps F]

/-- The run of a piece of the tile's program from held resources. -/
abbrev wpT (d : Dev nD) (L : grid1.Coords) {α : Type} (p : Prog (TpuEff nD τ sig (Elt F) Λ₀ (tile d L).2) α) (Q : α → sProp 𝕄) : sProp 𝕄 :=
  wp frame (wpE (defs₀ (F := F)) 𝒱₀ (tile d L) none) Set.univ p Q

/-! ## A scratch array held by its contents -/

/-- The scratch array `base` held outright, its elements `A`. -/
def Holds (d : Dev nD) (L : grid1.Coords) {s : Shape} {e : EltTy} (base : Memref sig .scVector .vmem s e) (A : s.Idx → Elt F e) : sProp 𝕄 :=
  iprop(∃ f, ⌜base.view.read (Elt F) f = A⌝ ∗ (base.view.loc (tile d L) ↦[base.view.set]{fullShare} f))

section Rules

variable (d : Dev nD) (L : grid1.Coords) {s : Shape} {e : EltTy}

omit [FloatOps F] in
/-- The whole rectangle of an array addresses what the array does. -/
theorem access_whole_set (base : Memref sig .scVector .vmem s e) : (base.access (.whole s)).set = base.view.set :=
  by
  show (base.view.slice (.whole s)).set = _
  ext i
  simp only [View.set, View.setOn, Finset.mem_map, Finset.mem_univ, true_and]
  constructor
  · rintro ⟨x, rfl⟩; exact ⟨x, congrArg base.view.emb (Rect.emb_whole_apply s x).symm⟩
  · rintro ⟨x, rfl⟩; exact ⟨x, congrArg base.view.emb (Rect.emb_whole_apply s x)⟩

omit [FloatOps F] in
/-- Reading it reads the array. -/
theorem access_whole_read (base : Memref sig .scVector .vmem s e) (f : base.view.ty.Contents (Elt F)) :
    (base.access (.whole s)).read (Elt F) f = base.view.read (Elt F) f := by
  funext x
  show _root_.cast _ (f (base.view.emb ((Rect.whole s).emb x))) = _root_.cast _ (f (base.view.emb x))
  rw [Rect.emb_whole_apply]

/-- The gather from an array held by its contents. -/
theorem gather_rule {base : Memref sig .scVector .vmem s e} {A : s.Idx → Elt F e} {t : Shape} {idxs : Fin s.rank → IVec t 32}
    {h : ∀ a x, (idxs a x).toNat < s.size a} {hl : base.view.Loads} {α : Type}
    {k : Vec F t e → Prog (TpuEff nD τ sig (Elt F) Λ₀ (tile d L).2) α} {Q : α → sProp 𝕄} :
    Holds d L base A ⊢ iprop((Holds d L base A -∗ wpT d L (k (loadIdx A idxs h)) Q)
      -∗ wpT d L (SparseCore.vectorLoadIdx base idxs h hl >>= k) Q) := by
  unfold Holds
  iintro ⟨%f, %hf, H⟩ Hk
  subst hf
  iapply (SparseCore.wp_vectorLoadIdx 𝒱₀ (tile d L) none Set.univ (base := base) (S := base.view.set) (q := fullShare) (f := f)
    (by rw [access_whole_set])) $$ H
  iintro H
  rw [access_whole_read]
  iapply Hk
  iexists f
  isplitr; · ipureintro; rfl
  iexact H

/-- The masked scatter into an array held by its contents. -/
theorem scatter_rule {n : Fin 1 → ℕ} {base : Memref sig .scVector .vmem s e} {A : s.Idx → Elt F e} {idxs : Fin s.rank → IVec ⟨1, n⟩ 32}
    {v : Vec F ⟨1, n⟩ e} {mask : IVec ⟨1, n⟩ 1} {h : ∀ a x, (idxs a x).toNat < s.size a} {hs : (base.access (.whole s)).Stores Finset.univ} {α : Type}
    {k : PUnit → Prog (TpuEff nD τ sig (Elt F) Λ₀ (tile d L).2) α} {Q : α → sProp 𝕄} :
    Holds d L base A ⊢ iprop((Holds d L base (storeIdx A idxs v mask false h) -∗ wpT d L (k ⟨⟩) Q)
      -∗ wpT d L (SparseCore.vectorStoreIdx base idxs v mask false h hs >>= k) Q) := by
  unfold Holds
  iintro ⟨%f, %hf, H⟩ Hk
  subst hf
  have hset := access_whole_set base
  iapply (SparseCore.wp_vectorStoreIdx 𝒱₀ (tile d L) none Set.univ (base := base) (f := f)) $$ [H]
  · rw [hset]; iexact H
  iintro H
  iapply Hk
  iexists _
  isplitr
  rotate_left
  · rw [hset]; iexact H
  · ipureintro
    rw [← access_whole_read, View.read_write_univ, access_whole_read]

/-- A load of a rectangle from an array held by its contents. -/
theorem load_rule {base : Memref sig .scVector .vmem s e} {A : s.Idx → Elt F e} {r : LoadRect s} {hl : base.view.LoadsAt r} {α : Type}
    {k : (r.shape.Idx → Elt F e) → Prog (TpuEff nD τ sig (Elt F) Λ₀ (tile d L).2) α} {Q : α → sProp 𝕄} :
    Holds d L base A ⊢ iprop((Holds d L base A -∗ wpT d L (k fun x => A (r.idx x)) Q)
      -∗ wpT d L (Prog.lift (.load base r hl) >>= k) Q) := by
  unfold Holds
  iintro ⟨%f, %hf, H⟩ Hk
  subst hf
  iapply (wp_load 𝒱₀ (tile d L) none Set.univ (m := base) (S := base.view.set) (q := fullShare) (f := f)
    (View.setOn_subset_set _ _)) $$ H
  iintro H
  iapply Hk
  iexists f
  isplitr; · ipureintro; rfl
  iexact H

/-- A check that holds. -/
theorem assume_rule {P : Prop} {dec : Decidable P} {α : Type} {k : PLift P → Prog (TpuEff nD τ sig (Elt F) Λ₀ (tile d L).2) α} {Q : α → sProp 𝕄} (h : P) :
    wpT d L (k ⟨h⟩) Q ⊢ wpT d L (Prog.lift (.assume P dec) >>= k) Q :=
  Entails.of_eq (wp_assume_of 𝒱₀ (tile d L) none Set.univ h).symm

/-- A piece that only returns. -/
theorem ret_rule {α : Type} {a : α} {Q : α → sProp 𝕄} :
    Q a ⊢ wpT d L (Pure.pure a : Prog (TpuEff nD τ sig (Elt F) Λ₀ (tile d L).2) α) Q := by
  unfold wpT
  rw [Prog.pure_eq_ret, wp_ret]
  iintro H
  imodintro
  iexact H

/-- A counted loop by an invariant of its trips. -/
theorem loop_rule {σ : Type} {w : ℕ} {l : Scf.Loop w} {hok : l.OK} {init : σ}
    {body : Fin l.trips → σ → Prog (TpuEff nD τ sig (Elt F) Λ₀ (tile d L).2) σ} (I : ℕ → σ → sProp 𝕄)
    (hbody : ∀ (k : Fin l.trips) (acc : σ), I k.val acc ⊢ wpT d L (body k acc) (I (k.val + 1)))
    {α : Type} {kk : σ → Prog (TpuEff nD τ sig (Elt F) Λ₀ (tile d L).2) α} {Q : α → sProp 𝕄} :
    I 0 init ⊢ iprop((∀ acc, I l.trips acc -∗ wpT d L (kk acc) Q) -∗ wpT d L (Scf.Loop.for l hok init body >>= kk) Q) :=
  Scf.wp_for_bind _ _ _ l.lb l.ub l.st hok init body I hbody

end Rules

end Cert.Proof

end
-- ==== Proof.Dense.lean ====
/-
  A dense call on the TensorCore, as a step of the program: its pipeline's windows out of the arrays held, the body at every
  block, the results back among the arrays.
-/
module

public import proofs.«01_k».proof.Proof.Setup
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.RegionArrays
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat BodyObligationLoose RegionSeg arrRef arrRefs ucRefs pin)

variable {F : FTy → Type} [FloatOps F]

local notation "𝕄" => MT nD τ sig (HIx 3) (Elt F) ℕ UU ℕ

/-- The pipelines have no tables. -/
abbrev adm (p : Fin 4) : (pcfgs (F := F) p).Adm := (cfgs p).toPCfg_adm

/-- The handshakes' and the pipelines' parts of the ghost state. -/
abbrev EH : Emb UH (MT nD τ sig (HIx 3) (Elt F) ℕ UU ℕ) := embL
/-- The pipelines' rounds' place in the ghost state. -/
abbrev EP : Emb UP (MT nD τ sig (HIx 3) (Elt F) ℕ UU ℕ) := (Emb.inl : Emb UP (UP × Counters)).trans embR

/-- They are user ghost state. -/
instance EP_lands : (EP (F := F)).LandsIn (upEmb : UEmb _ 𝕄) := by unfold EP; infer_instance

/-- Proof data for every pipeline. -/
abbrev PD (F : FTy → Type) : Type := (p : Fin 4) → (c : Dev nD) → Dat τ (Elt F) (HIx 3) ℕ UU ℕ (cfgs p) c

/-- The pairs a TensorCore may have waited on before call `n`. -/
def Past (c : Dev nD) (n : ℕ) : Set (SemLoc sig × HIx 3) := {q | (K (F := F)).lev (T c, q.1) q.2 ≤ 8 * n}

/-- What a pipeline's proof data must say for its call to run before SparseCore call `n`, from arrays at `V` to arrays at `V'`. -/
structure CallOK (pd : PD F) (p : Fin 4) (n : ℕ) (V V' : Valuation τ sig (Elt F)) : Prop where
  body : ∀ c, BodyObligationLoose (pd p c) (defs₀ (F := F)) 𝒱₀ none Set.univ
  owed : ∀ c t, (pd p c).owed t = (K (F := F)).Otc c n
  recd : ∀ c t, (pd p c).recorded t = Past (F := F) c n
  share : ∀ c w, (pd p c).share w = fullShare
  inv : ∀ c t, (pd p c).Φ t = Pipeline.scopedRest (cfgs p).spec c
  entry : ∀ c w, (pd p c).arrAt w 0 = V (Proc.devRef .tc (arrRef (cfgs p).spec w))
  leave : ∀ c w, (pd p c).arrAt w (cfgs p).N = V' (Proc.devRef .tc (arrRef (cfgs p).spec w))
  kit : Pipeline.LaunchFacts (nD := nD) (τ := τ) cfgs p

/-- The call as a region of the TensorCore's program. -/
def seg (pd : PD F) (p : Fin 4) (n : ℕ) (V V' : Valuation τ sig (Elt F)) (h : CallOK pd p n V V') (R : Dev nD → sProp 𝕄) :
    RegionSeg (pcfgs (F := F)) adm pd none (defs₀ (F := F)) 𝒱₀ (K (F := F)).L (K (F := F)).lev p where
  win := h.kit.win.to₀
  block_pos := h.kit.block_pos
  stage_whole := h.kit.stage_whole
  K := PEmpty
  osem k := k.elim
  ho := Pipeline.OwnSemFacts.none _
  hbody := h.body
  hwaits c := Pipeline.cellsWaits_of_cut (pin (pcfgs (F := F)) adm) pd none p c 0 ((K (F := F)).Otc c n) (h.owed c)
    (fun _ _ => Finset.mem_univ _) (fun _ _ => le_refl _) (fun _ _ hg => ⟨Finset.mem_univ _, lt_of_lt_of_le (Nat.succ_pos _) ((K (F := F)).lev_of_Otc_pos hg)⟩)
  pre c := iprop(held (c.tc : Thread nD τ) (arrRefs (pcfgs (F := F) p).spec) V ∗ R c
    ∗ ∃ W, ⌜(K (F := F)).WBelow (T c) W (8 * n)⌝ ∗ owes (c.tc : Thread nD τ) ((K (F := F)).Otc c n) W)
  post c := iprop(held (c.tc : Thread nD τ) (arrRefs (pcfgs (F := F) p).spec) V' ∗ R c
    ∗ ∃ W, ⌜(K (F := F)).WBelow (T c) W (8 * n)⌝ ∗ owes (c.tc : Thread nD τ) ((K (F := F)).Otc c n) W)
  X _ := iprop(emp)
  Y _ := iprop(emp)
  Z := R
  hentry c := by
    rw [← Pipeline.arrays_held (pcfgs (F := F)) adm pd p h.kit.toP c (h.share c) ((pd p c).arrAt · 0) V (h.entry c),
      Pipeline.ownSems0_none, Pipeline.prefHeld_of_none _ rfl]
    iintro ⟨⟨Ha, HR, %W, %hW, HO⟩, -, -⟩
    imodintro
    isplitl [Ha]; · iexact Ha
    isplitr; · iempintro
    isplitl [HO]
    · unfold Dat.owesAt Pipeline.owesWithin Dat.bound
      rw [h.owed c 0, h.recd c]
      iexists W; isplitr; · ipureintro; exact fun q hq => Or.inl (hW q hq)
      iexact HO
    isplitr; · iempintro
    iexact HR
  hin c := by
    rw [h.inv c]
    iintro ⟨-, -, H⟩
    iexact H
  hout c := by
    rw [h.inv c, Pipeline.ownSems0_none]
    iintro H
    isplitr; · iempintro
    isplitr; · iempintro
    iexact H
  hexit c := by
    rw [← Pipeline.arrays_held (pcfgs (F := F)) adm pd p h.kit.toP c (h.share c) ((pd p c).arrAt · (cfgs p).N) V' (h.leave c)]
    iintro ⟨Ha, HO, -, HR⟩
    imodintro
    isplitl [Ha]; · iexact Ha
    isplitl [HR]; · iexact HR
    unfold Dat.owesAt Pipeline.owesWithin Dat.bound
    rw [h.owed c (Fin.last _), h.recd c]
    icases HO with ⟨%W, %hW, HO⟩
    iexists W; isplitr
    · ipureintro
      intro q hq
      rcases hW hq with hq | ⟨w, s, rfl⟩
      · exact hq
      · exact Nat.zero_le _
    iexact HO

/-- The ghost state a pipeline's call starts from. -/
abbrev callGhost (p : Fin 4) (d : Dev nD) : sProp 𝕄 :=
  iprop(Pipeline.cellsGhost (pin (pcfgs (F := F)) adm) EP p d ∗ Pipeline.toksInit (pin (pcfgs (F := F)) adm) EP p d)

/-- The arrays, what rides along, and the debt: what the region starts from. -/
theorem seg_pre (pd : PD F) (p : Fin 4) (n : ℕ) (V V' : Valuation τ sig (Elt F)) (h : CallOK pd p n V V') (R : Dev nD → sProp 𝕄) (c : Dev nD) :
    (seg pd p n V V' h R).pre c = iprop(held (c.tc : Thread nD τ) (arrRefs (pcfgs (F := F) p).spec) V ∗ R c
      ∗ ∃ W, ⌜(K (F := F)).WBelow (T c) W (8 * n)⌝ ∗ owes (c.tc : Thread nD τ) ((K (F := F)).Otc c n) W) := rfl

/-- And what it ends with. -/
theorem seg_post (pd : PD F) (p : Fin 4) (n : ℕ) (V V' : Valuation τ sig (Elt F)) (h : CallOK pd p n V V') (R : Dev nD → sProp 𝕄) (c : Dev nD) :
    (seg pd p n V V' h R).post c = iprop(held (c.tc : Thread nD τ) (arrRefs (pcfgs (F := F) p).spec) V' ∗ R c
      ∗ ∃ W, ⌜(K (F := F)).WBelow (T c) W (8 * n)⌝ ∗ owes (c.tc : Thread nD τ) ((K (F := F)).Otc c n) W) := rfl

/-- A dense call of the program before SparseCore call `n`: the arrays held go from `V` to `V'`. -/
theorem dense_step [∀ e, Nonempty (Elt F e)] {P : (K (F := F)).Pay (nD := nD) (Val := Elt F) (Name := ℕ) (U := UU)} [P.IsStorable] (κ : GSem nD τ sig → ℕ)
    (pd : PD F) (p : Fin 4) (n : ℕ) (V V' : Valuation τ sig (Elt F)) (h : CallOK pd p n V V')
    (hrest : ∀ b, b ∉ arrRefs (τ := τ) (cfgs p).spec → V' b = V b) (d : Dev nD)
    {k : PUnit → Prog (TpuEff nD τ sig (Elt F) (SparseCore.Sig (ΛP (F := F)) 3) .tc) PUnit} {Q : PUnit → sProp 𝕄} :
    iprop((K (F := F)).ctx EH P κ ∗ (K (F := F)).tcSt EH d n ∗ boundary (T d) ∗ held (T d) (ucRefs τ sig) V ∗ callGhost p d)
      ⊢ iprop((iprop((K (F := F)).tcSt EH d n ∗ boundary (T d) ∗ held (T d) (ucRefs τ sig) V')
            -∗ wp frame (wpE ((K (F := F)).defs (D (F := F))) 𝒱 (T d) none) Set.univ (k ⟨⟩) Q)
        -∗ wp frame (wpE ((K (F := F)).defs (D (F := F))) 𝒱 (T d) none) Set.univ
          (Prog.lift (.customCall (SparseCore.inner (Pipeline.entry p)) ()) >>= k) Q) := by
  have hsub : arrRefs (τ := τ) (cfgs p).spec ⊆ ucRefs τ sig := Pipeline.arrRefs_sub_ucRefs _ h.kit.win.arr_unscoped
  rw [StableHlo.held_sub_split (T d) hsub V, StableHlo.held_sub_split (T d) hsub V',
    show (held (T d) (ucRefs τ sig \ arrRefs (τ := τ) (cfgs p).spec) V' : sProp 𝕄) = held (T d) (ucRefs τ sig \ arrRefs (τ := τ) (cfgs p).spec) V from
      bigSep_congr fun b hb => by rw [hrest b (Finset.mem_sdiff.mp hb).2]]
  unfold SparseCore.Cfg.tcSt
  iintro ⟨#Hctx, ⟨HO, Hst⟩, Hb, ⟨Ha, Hr⟩, Hg, Ht⟩ Hk
  ihave #Hlev := ((K (F := F)).ctx_levAts (EH := EH) (P := P) κ) $$ Hctx
  rw [wp_bind]
  iapply ((K (F := F)).wp_liftProg (D (F := F)) 𝒱 (T d) Set.univ none (Prog.lift (.customCall (Pipeline.entry p) ())) _)
  iapply (RegionSeg.wp (pcfgs (F := F)) adm pd none (Gen.cellOf_inj) EP (defs₀ (F := F)) 𝒱₀ (K (F := F)).L (K (F := F)).lev
    (seg pd p n V V' h fun c => iprop(held (T c) (ucRefs τ sig \ arrRefs (τ := τ) (cfgs p).spec) V)) d none (fun _ hu => nomatch hu) _ _)
  rw [seg_pre, seg_post]
  isplitl [Hk Hst]
  · iintro ⟨Hb, Ha, Hr, HO⟩
    rw [wp_ret]; imodintro
    iapply Hk
    isplitl [HO Hst]; · isplitl [HO] <;> iassumption
    isplitl [Hb]; · iexact Hb
    isplitl [Ha] <;> iassumption
  isplitl [Hb]; · iexact Hb
  isplitl [HO Ha Hr]
  · isplitl [Ha]; · iexact Ha
    isplitl [Hr]; · iexact Hr
    iexact HO
  isplitr; · iexact Hlev
  isplitl [Hg] <;> iassumption

end Cert.Proof

end
-- ==== Proof.Blocks.lean ====
/-
  The dense calls' bodies: from the staging buffers at their blocks, each output's buffer at the block the body computes.
-/
module

public import proofs.«01_k».proof.Proof.Dense
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

/-- A buffer held is owned at what it reads. -/
theorem own_of_pts (c : Dev nD) {s : Shape} (a : Memref sig .tc .vmem s .f32) (f : Buf (Elt F) (a.view.loc (c.tc : Thread nD τ))) :
    (a.view.loc (c.tc : Thread nD τ) ↦[a.view.set]{fullShare} f : sProp 𝕄)
      ⊢ iprop(∃ g, ⌜a.view.read (Elt F) g = a.view.read (Elt F) f⌝ ∗ (a.view.loc (c.tc : Thread nD τ) ↦[a.view.set]{fullShare} g)) := by
  iintro H
  iexists f; isplitr; · ipureintro; rfl
  iexact H

/-- A load of a whole buffer reads all of it. -/
theorem readAt_all {s : Shape} {κ : Kind} {sp : Space} (v : View sig κ sp s .f32) (off : Fin s.rank → ℕ) (inb : ∀ a, off a + s.size a ≤ s.size a)
    (h : ∀ a, off a = 0) (f : v.ty.Contents (Elt F)) : View.readAt (Elt F) v (Rect.unit off s.size inb).toLoadRect f = v.read (Elt F) f :=
  View.ld_unit_zero (funext h) inb (v.read (Elt F) f)

/-- The same at a matrix. -/
theorem readAt_mat {n m : ℕ} {κ : Kind} {sp : Space} (v : View sig κ sp ⟨2, ![n, m]⟩ .f32) (inb : ∀ a, (![0, 0] : Fin 2 → ℕ) a + (![n, m] : Fin 2 → ℕ) a ≤ (![n, m] : Fin 2 → ℕ) a)
    (f : v.ty.Contents (Elt F)) : View.readAt (Elt F) v (Rect.unit (s := ⟨2, ![n, m]⟩) ![0, 0] ![n, m] inb).toLoadRect f = v.read (Elt F) f :=
  readAt_all v _ inb (fun a => by fin_cases a <;> rfl) f

/-- A buffer stored whole is owned at what was stored. -/
theorem own_of_stored (c : Dev nD) {s : Shape} (a : Memref sig .tc .vmem s .f32) (f : Buf (Elt F) (a.view.loc (c.tc : Thread nD τ)))
    (off : Fin s.rank → ℕ) (inb : ∀ b, off b + s.size b ≤ s.size b) (h : ∀ b, off b = 0) (w x : Vec F s .f32) (hx : w = x) :
    (a.view.loc (c.tc : Thread nD τ) ↦[a.view.set]{fullShare} (a.view.writes (Elt F) f [⟨Rect.unit off s.size inb, w⟩]) : sProp 𝕄)
      ⊢ iprop(∃ g, ⌜a.view.read (Elt F) g = x⌝ ∗ (a.view.loc (c.tc : Thread nD τ) ↦[a.view.set]{fullShare} g)) := by
  iintro H
  iexists _; isplitr
  swap; · iexact H
  ipureintro
  rw [← hx]
  have h0 : off = fun _ => 0 := funext h
  refine (View.read_writes_eq_canon _ _ _ fun y => ⟨_, List.mem_singleton_self _, ?_⟩).trans (View.canon_unit_zero h0 inb w)
  subst h0
  change y ∈ (Rect.whole s).set
  rw [Rect.set_whole]
  exact Finset.mem_univ _

set_option maxHeartbeats 1000000 in
/-- A layer's body: the output's block is computed from the five blocks it reads. -/
theorem sound_layer (c : Dev nD) (i : grid2.Coords)
    (arg1 : Memref sig .tc .vmem S128x2048 .f32) (harg1 : arg1.IsWhole)
    (arg2 : Memref sig .tc .vmem S128x2048 .f32) (harg2 : arg2.IsWhole)
    (arg3 : Memref sig .tc .vmem S128x2048 .f32) (harg3 : arg3.IsWhole)
    (arg4 : Memref sig .tc .vmem S128x128 .f32) (harg4 : arg4.IsWhole)
    (arg5 : Memref sig .tc .vmem S128x128 .f32) (harg5 : arg5.IsWhole)
    (arg6 : Memref sig .tc .vmem S128x2048 .f32) (harg6 : arg6.IsWhole)
    (x0 : Vec F S128x2048 .f32) (x1 : Vec F S128x2048 .f32) (x2 : Vec F S128x2048 .f32) (x3 : Vec F S128x128 .f32)
    (x4 : Vec F S128x128 .f32)
    (Q : PUnit → sProp 𝕄) :
    iprop((owns (c.tc : Thread nD τ) arg1 fullShare x0
        ∗ owns (c.tc : Thread nD τ) arg2 fullShare x1
        ∗ owns (c.tc : Thread nD τ) arg3 fullShare x2
        ∗ owns (c.tc : Thread nD τ) arg4 fullShare x3
        ∗ owns (c.tc : Thread nD τ) arg5 fullShare x4
        ∗ (∃ d, owns (c.tc : Thread nD τ) arg6 fullShare d))
        ∗ (iprop(owns (c.tc : Thread nD τ) arg1 fullShare x0
          ∗ owns (c.tc : Thread nD τ) arg2 fullShare x1
          ∗ owns (c.tc : Thread nD τ) arg3 fullShare x2
          ∗ owns (c.tc : Thread nD τ) arg4 fullShare x3
          ∗ owns (c.tc : Thread nD τ) arg5 fullShare x4
          ∗ owns (c.tc : Thread nD τ) arg6 fullShare (k2_pay1 x3 x0 x2 x4 x1)) -∗ Q ⟨⟩))
      ⊢ wp frame (wpE (defs₀ (F := F)) 𝒱₀ c.tc none) Set.univ (cc2__layer_body i arg1 harg1 arg2 harg2 arg3 harg3 arg4 harg4 arg5 harg5 arg6 harg6) Q := by
  simp only [cc2__layer_body_eq_skeleton]; unfold cc2__layer_body_skel
  unfold owns
  iintro ⟨⟨⟨%f0, %hf0, H0⟩, ⟨%f1, %hf1, H1⟩, ⟨%f2, %hf2, H2⟩, ⟨%f3, %hf3, H3⟩, ⟨%f4, %hf4, H4⟩, ⟨%d5, %f5, -, H5⟩⟩, Hk⟩
  subst hf0 hf1 hf2 hf3 hf4
  sl_exec
  sl_step
  iapply Hk
  isplitl [H0]; · iapply (own_of_pts (F := F) c arg1 f0) $$ H0
  isplitl [H1]; · iapply (own_of_pts (F := F) c arg2 f1) $$ H1
  isplitl [H2]; · iapply (own_of_pts (F := F) c arg3 f2) $$ H2
  isplitl [H3]; · iapply (own_of_pts (F := F) c arg4 f3) $$ H3
  isplitl [H4]; · iapply (own_of_pts (F := F) c arg5 f4) $$ H4
  iapply (own_of_stored (F := F) c arg6 _ _ _ (by decide) _ _ (by simp only [readAt_mat])) $$ H5

set_option maxHeartbeats 1000000 in
/-- The last body: the output's block is computed from the five blocks it reads. -/
theorem sound_final (c : Dev nD) (i : grid6.Coords)
    (arg1 : Memref sig .tc .vmem S128x2048 .f32) (harg1 : arg1.IsWhole)
    (arg2 : Memref sig .tc .vmem S128x2048 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S128x1 .f32) (harg5 : arg5.IsWhole)
    (arg6 : Memref sig .tc .vmem S128x2048 .f32) (harg6 : arg6.IsWhole)
    (x0 : Vec F S128x2048 .f32) (x1 : Vec F S128x2048 .f32) (x2 : Vec F S128x128 .f32) (x3 : Vec F S128x128 .f32)
    (x4 : Vec F S128x1 .f32)
    (Q : PUnit → sProp 𝕄) :
    iprop((owns (c.tc : Thread nD τ) arg1 fullShare x0
        ∗ owns (c.tc : Thread nD τ) arg2 fullShare x1
        ∗ owns (c.tc : Thread nD τ) arg3 fullShare x2
        ∗ owns (c.tc : Thread nD τ) arg4 fullShare x3
        ∗ owns (c.tc : Thread nD τ) arg5 fullShare x4
        ∗ (∃ d, owns (c.tc : Thread nD τ) arg6 fullShare d))
        ∗ (iprop(owns (c.tc : Thread nD τ) arg1 fullShare x0
          ∗ owns (c.tc : Thread nD τ) arg2 fullShare x1
          ∗ owns (c.tc : Thread nD τ) arg3 fullShare x2
          ∗ owns (c.tc : Thread nD τ) arg4 fullShare x3
          ∗ owns (c.tc : Thread nD τ) arg5 fullShare x4
          ∗ owns (c.tc : Thread nD τ) arg6 fullShare (k6_pay1 x2 x0 x1 x3 x4)) -∗ Q ⟨⟩))
      ⊢ wp frame (wpE (defs₀ (F := F)) 𝒱₀ c.tc none) Set.univ (cc6__final_body i arg1 harg1 arg2 harg2 arg3 harg3 arg4 harg4 arg5 harg5 arg6 harg6) Q := by
  simp only [cc6__final_body_eq_skeleton]; unfold cc6__final_body_skel
  unfold owns
  iintro ⟨⟨⟨%f0, %hf0, H0⟩, ⟨%f1, %hf1, H1⟩, ⟨%f2, %hf2, H2⟩, ⟨%f3, %hf3, H3⟩, ⟨%f4, %hf4, H4⟩, ⟨%d5, %f5, -, H5⟩⟩, Hk⟩
  subst hf0 hf1 hf2 hf3 hf4
  sl_exec
  sl_step
  iapply Hk
  isplitl [H0]; · iapply (own_of_pts (F := F) c arg1 f0) $$ H0
  isplitl [H1]; · iapply (own_of_pts (F := F) c arg2 f1) $$ H1
  isplitl [H2]; · iapply (own_of_pts (F := F) c arg3 f2) $$ H2
  isplitl [H3]; · iapply (own_of_pts (F := F) c arg4 f3) $$ H3
  isplitl [H4]; · iapply (own_of_pts (F := F) c arg5 f4) $$ H4
  iapply (own_of_stored (F := F) c arg6 _ _ _ (by decide) _ _ (by simp only [readAt_mat])) $$ H5

set_option maxHeartbeats 4000000 in
/-- The first body: the three outputs' blocks are computed from the fourteen blocks it reads. -/
theorem sound_prologue (c : Dev nD) (i : grid0.Coords)
    (arg1 : Memref sig .tc .vmem S128x2048 .f32) (harg1 : arg1.IsWhole)
    (arg2 : Memref sig .tc .vmem S128x128 .f32) (harg2 : arg2.IsWhole)
    (arg3 : Memref sig .tc .vmem S128x1 .f32) (harg3 : arg3.IsWhole)
    (arg4 : Memref sig .tc .vmem S128x128 .f32) (harg4 : arg4.IsWhole)
    (arg5 : Memref sig .tc .vmem S128x1 .f32) (harg5 : arg5.IsWhole)
    (arg6 : Memref sig .tc .vmem S128x128 .f32) (harg6 : arg6.IsWhole)
    (arg7 : Memref sig .tc .vmem S128x1 .f32) (harg7 : arg7.IsWhole)
    (arg8 : Memref sig .tc .vmem S3x128 .f32) (harg8 : arg8.IsWhole)
    (arg9 : Memref sig .tc .vmem S3x1 .f32) (harg9 : arg9.IsWhole)
    (arg10 : Memref sig .tc .vmem S128x3 .f32) (harg10 : arg10.IsWhole)
    (arg11 : Memref sig .tc .vmem S128x1 .f32) (harg11 : arg11.IsWhole)
    (arg12 : Memref sig .tc .vmem S128x128 .f32) (harg12 : arg12.IsWhole)
    (arg13 : Memref sig .tc .vmem S128x1 .f32) (harg13 : arg13.IsWhole)
    (arg14 : Memref sig .tc .vmem S128x128 .f32) (harg14 : arg14.IsWhole)
    (arg15 : Memref sig .tc .vmem S128x2048 .f32) (harg15 : arg15.IsWhole)
    (arg16 : Memref sig .tc .vmem S128x2048 .f32) (harg16 : arg16.IsWhole)
    (arg17 : Memref sig .tc .vmem S128x2048 .f32) (harg17 : arg17.IsWhole)
    (x0 : Vec F S128x2048 .f32) (x1 : Vec F S128x128 .f32) (x2 : Vec F S128x1 .f32) (x3 : Vec F S128x128 .f32)
    (x4 : Vec F S128x1 .f32) (x5 : Vec F S128x128 .f32) (x6 : Vec F S128x1 .f32) (x7 : Vec F S3x128 .f32)
    (x8 : Vec F S3x1 .f32) (x9 : Vec F S128x3 .f32) (x10 : Vec F S128x1 .f32) (x11 : Vec F S128x128 .f32)
    (x12 : Vec F S128x1 .f32) (x13 : Vec F S128x128 .f32)
    (Q : PUnit → sProp 𝕄) :
    iprop((owns (c.tc : Thread nD τ) arg1 fullShare x0
        ∗ owns (c.tc : Thread nD τ) arg2 fullShare x1
        ∗ owns (c.tc : Thread nD τ) arg3 fullShare x2
        ∗ owns (c.tc : Thread nD τ) arg4 fullShare x3
        ∗ owns (c.tc : Thread nD τ) arg5 fullShare x4
        ∗ owns (c.tc : Thread nD τ) arg6 fullShare x5
        ∗ owns (c.tc : Thread nD τ) arg7 fullShare x6
        ∗ owns (c.tc : Thread nD τ) arg8 fullShare x7
        ∗ owns (c.tc : Thread nD τ) arg9 fullShare x8
        ∗ owns (c.tc : Thread nD τ) arg10 fullShare x9
        ∗ owns (c.tc : Thread nD τ) arg11 fullShare x10
        ∗ owns (c.tc : Thread nD τ) arg12 fullShare x11
        ∗ owns (c.tc : Thread nD τ) arg13 fullShare x12
        ∗ owns (c.tc : Thread nD τ) arg14 fullShare x13
        ∗ (∃ d, owns (c.tc : Thread nD τ) arg15 fullShare d)
        ∗ (∃ d, owns (c.tc : Thread nD τ) arg16 fullShare d)
        ∗ (∃ d, owns (c.tc : Thread nD τ) arg17 fullShare d))
        ∗ (iprop(owns (c.tc : Thread nD τ) arg1 fullShare x0
          ∗ owns (c.tc : Thread nD τ) arg2 fullShare x1
          ∗ owns (c.tc : Thread nD τ) arg3 fullShare x2
          ∗ owns (c.tc : Thread nD τ) arg4 fullShare x3
          ∗ owns (c.tc : Thread nD τ) arg5 fullShare x4
          ∗ owns (c.tc : Thread nD τ) arg6 fullShare x5
          ∗ owns (c.tc : Thread nD τ) arg7 fullShare x6
          ∗ owns (c.tc : Thread nD τ) arg8 fullShare x7
          ∗ owns (c.tc : Thread nD τ) arg9 fullShare x8
          ∗ owns (c.tc : Thread nD τ) arg10 fullShare x9
          ∗ owns (c.tc : Thread nD τ) arg11 fullShare x10
          ∗ owns (c.tc : Thread nD τ) arg12 fullShare x11
          ∗ owns (c.tc : Thread nD τ) arg13 fullShare x12
          ∗ owns (c.tc : Thread nD τ) arg14 fullShare x13
          ∗ owns (c.tc : Thread nD τ) arg15 fullShare (k0_pay4 (k0_pay5 x0 x1 x2 x3 x4) (k0_pay6 x0 x1 x2 x3 x4 x5 x6 x7 x8) x9 x10 x13)
          ∗ owns (c.tc : Thread nD τ) arg16 fullShare (k0_pay2 (k0_pay6 x0 x1 x2 x3 x4 x5 x6 x7 x8) x9 x10)
          ∗ owns (c.tc : Thread nD τ) arg17 fullShare (k0_pay3 (k0_pay6 x0 x1 x2 x3 x4 x5 x6 x7 x8) x9 x12 x11)) -∗ Q ⟨⟩))
      ⊢ wp frame (wpE (defs₀ (F := F)) 𝒱₀ c.tc none) Set.univ (cc0__prologue_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  simp only [cc0__prologue_body_eq_skeleton]; unfold cc0__prologue_body_skel; simp only [k0_part1_eq_skeleton]
  unfold k0_part1_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩⟩, Hk⟩
  subst hf0 hf1 hf2 hf3 hf4 hf5 hf6 hf7 hf8 hf9 hf10 hf11 hf12 hf13
  sl_exec
  sl_step
  iapply Hk
  isplitl [H0]; · iapply (own_of_pts (F := F) c arg1 f0) $$ H0
  isplitl [H1]; · iapply (own_of_pts (F := F) c arg2 f1) $$ H1
  isplitl [H2]; · iapply (own_of_pts (F := F) c arg3 f2) $$ H2
  isplitl [H3]; · iapply (own_of_pts (F := F) c arg4 f3) $$ H3
  isplitl [H4]; · iapply (own_of_pts (F := F) c arg5 f4) $$ H4
  isplitl [H5]; · iapply (own_of_pts (F := F) c arg6 f5) $$ H5
  isplitl [H6]; · iapply (own_of_pts (F := F) c arg7 f6) $$ H6
  isplitl [H7]; · iapply (own_of_pts (F := F) c arg8 f7) $$ H7
  isplitl [H8]; · iapply (own_of_pts (F := F) c arg9 f8) $$ H8
  isplitl [H9]; · iapply (own_of_pts (F := F) c arg10 f9) $$ H9
  isplitl [H10]; · iapply (own_of_pts (F := F) c arg11 f10) $$ H10
  isplitl [H11]; · iapply (own_of_pts (F := F) c arg12 f11) $$ H11
  isplitl [H12]; · iapply (own_of_pts (F := F) c arg13 f12) $$ H12
  isplitl [H13]; · iapply (own_of_pts (F := F) c arg14 f13) $$ H13
  isplitl [H14]
  · iapply (own_of_stored (F := F) c arg15 _ _ _ (by decide) _ _ (by simp only [readAt_mat])) $$ H14
  isplitl [H15]
  · iapply (own_of_stored (F := F) c arg16 _ _ _ (by decide) _ _ (by simp only [readAt_mat])) $$ H15
  iapply (own_of_stored (F := F) c arg17 _ _ _ (by decide) _ _ (by simp only [readAt_mat])) $$ H16

end Cert.Proof

end
-- ==== Proof.Calls.lean ====
/-
  The dense calls' proof data: from the arrays a call finds, what every staging buffer holds after every block, and the arrays
  the call leaves.
-/
module

public import proofs.«01_k».proof.Proof.Blocks

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose arrRef arrRefs)

variable {F : FTy → Type} [FloatOps F]

local notation "𝕄" => MT nD τ sig (HIx 3) (Elt F) ℕ UU ℕ

/-- Window `w`'s block at point `t` of the arrays `A`. -/
def blkOf (cfg : Pipeline.Cfg sig Λ₀) (A : Valuation τ sig (Elt F)) (w : Fin cfg.W) (t : Fin cfg.N) :
    ((cfg.win w).xblock (cfg.grid.coords t)).Idx → Elt F (cfg.win w).elt :=
  ((cfg.win w).blk t).view.read (Elt F) (A (Proc.devRef .tc (arrRef cfg.spec w)))

/-- What a call's staging buffers hold after each block. -/
abbrev After (F : FTy → Type) (cfg : Pipeline.Cfg sig Λ₀) : Type :=
  (w : Fin cfg.W) → (t : Fin cfg.N) → (cfg.win w).block.Idx → Elt F (cfg.win w).elt

/-- A call's proof data before SparseCore call `n`, from arrays at `A`. -/
def dat (cfg : Pipeline.Cfg sig Λ₀) (A : Valuation τ sig (Elt F)) (after : After F cfg) (n : ℕ) (c : Dev nD) :
    Dat τ (Elt F) (HIx 3) ℕ UU ℕ cfg c where
  A w := A (Proc.devRef .tc (arrRef cfg.spec w))
  after := after
  Φ _ := Pipeline.scopedRest cfg.spec c
  q _ := fullShare
  owed _ := (K (F := F)).Otc c n
  recorded _ := Past (F := F) c n

/-- The first call: inputs at their blocks, outputs at what the body computes from them. -/
def after0 (A : Valuation τ sig (Elt F)) : After F cfg0 := fun w t => match w with
  | ⟨0, _⟩ => blkOf cfg0 A 0 t
  | ⟨1, _⟩ => blkOf cfg0 A 1 t
  | ⟨2, _⟩ => blkOf cfg0 A 2 t
  | ⟨3, _⟩ => blkOf cfg0 A 3 t
  | ⟨4, _⟩ => blkOf cfg0 A 4 t
  | ⟨5, _⟩ => blkOf cfg0 A 5 t
  | ⟨6, _⟩ => blkOf cfg0 A 6 t
  | ⟨7, _⟩ => blkOf cfg0 A 7 t
  | ⟨8, _⟩ => blkOf cfg0 A 8 t
  | ⟨9, _⟩ => blkOf cfg0 A 9 t
  | ⟨10, _⟩ => blkOf cfg0 A 10 t
  | ⟨11, _⟩ => blkOf cfg0 A 11 t
  | ⟨12, _⟩ => blkOf cfg0 A 12 t
  | ⟨13, _⟩ => blkOf cfg0 A 13 t
  | ⟨14, _⟩ => k0_pay4 (k0_pay5 (blkOf cfg0 A 0 t) (blkOf cfg0 A 1 t) (blkOf cfg0 A 2 t) (blkOf cfg0 A 3 t) (blkOf cfg0 A 4 t))
      (k0_pay6 (blkOf cfg0 A 0 t) (blkOf cfg0 A 1 t) (blkOf cfg0 A 2 t) (blkOf cfg0 A 3 t) (blkOf cfg0 A 4 t) (blkOf cfg0 A 5 t) (blkOf cfg0 A 6 t) (blkOf cfg0 A 7 t) (blkOf cfg0 A 8 t))
      (blkOf cfg0 A 9 t) (blkOf cfg0 A 10 t) (blkOf cfg0 A 13 t)
  | ⟨15, _⟩ => k0_pay2
      (k0_pay6 (blkOf cfg0 A 0 t) (blkOf cfg0 A 1 t) (blkOf cfg0 A 2 t) (blkOf cfg0 A 3 t) (blkOf cfg0 A 4 t) (blkOf cfg0 A 5 t) (blkOf cfg0 A 6 t) (blkOf cfg0 A 7 t) (blkOf cfg0 A 8 t))
      (blkOf cfg0 A 9 t) (blkOf cfg0 A 10 t)
  | ⟨16, _⟩ => k0_pay3
      (k0_pay6 (blkOf cfg0 A 0 t) (blkOf cfg0 A 1 t) (blkOf cfg0 A 2 t) (blkOf cfg0 A 3 t) (blkOf cfg0 A 4 t) (blkOf cfg0 A 5 t) (blkOf cfg0 A 6 t) (blkOf cfg0 A 7 t) (blkOf cfg0 A 8 t))
      (blkOf cfg0 A 9 t) (blkOf cfg0 A 12 t) (blkOf cfg0 A 11 t)
  | ⟨_ + 17, h⟩ => absurd h (Nat.not_lt.2 (Nat.le_add_left _ _))

/-- The second layer's call. -/
def after2 (A : Valuation τ sig (Elt F)) : After F cfg2 := fun w t => match w with
  | ⟨0, _⟩ => blkOf cfg2 A 0 t
  | ⟨1, _⟩ => blkOf cfg2 A 1 t
  | ⟨2, _⟩ => blkOf cfg2 A 2 t
  | ⟨3, _⟩ => blkOf cfg2 A 3 t
  | ⟨4, _⟩ => blkOf cfg2 A 4 t
  | ⟨5, _⟩ => k2_pay1 (blkOf cfg2 A 3 t) (blkOf cfg2 A 0 t) (blkOf cfg2 A 2 t) (blkOf cfg2 A 4 t) (blkOf cfg2 A 1 t)

/-- The third layer's call. -/
def after4 (A : Valuation τ sig (Elt F)) : After F cfg4 := fun w t => match w with
  | ⟨0, _⟩ => blkOf cfg4 A 0 t
  | ⟨1, _⟩ => blkOf cfg4 A 1 t
  | ⟨2, _⟩ => blkOf cfg4 A 2 t
  | ⟨3, _⟩ => blkOf cfg4 A 3 t
  | ⟨4, _⟩ => blkOf cfg4 A 4 t
  | ⟨5, _⟩ => k2_pay1 (blkOf cfg4 A 3 t) (blkOf cfg4 A 0 t) (blkOf cfg4 A 2 t) (blkOf cfg4 A 4 t) (blkOf cfg4 A 1 t)

/-- The last call. -/
def after6 (A : Valuation τ sig (Elt F)) : After F cfg6 := fun w t => match w with
  | ⟨0, _⟩ => blkOf cfg6 A 0 t
  | ⟨1, _⟩ => blkOf cfg6 A 1 t
  | ⟨2, _⟩ => blkOf cfg6 A 2 t
  | ⟨3, _⟩ => blkOf cfg6 A 3 t
  | ⟨4, _⟩ => blkOf cfg6 A 4 t
  | ⟨5, _⟩ => k6_pay1 (blkOf cfg6 A 2 t) (blkOf cfg6 A 0 t) (blkOf cfg6 A 1 t) (blkOf cfg6 A 3 t) (blkOf cfg6 A 4 t)

/-- Every pipeline's data. -/
def pd (A : Valuation τ sig (Elt F)) (n : ℕ) : PD F := fun p c => match p with
  | ⟨0, _⟩ => dat cfg0 A (after0 A) n c
  | ⟨1, _⟩ => dat cfg2 A (after2 A) n c
  | ⟨2, _⟩ => dat cfg4 A (after4 A) n c
  | ⟨3, _⟩ => dat cfg6 A (after6 A) n c

/-- An input window whose buffer is left at its block finds it there. -/
theorem before_kept {cfg : Pipeline.Cfg sig Λ₀} {c : Dev nD} (dt : Dat τ (Elt F) (HIx 3) ℕ UU ℕ cfg c) (w : Fin cfg.W)
    (hw : (cfg.win w).isOut = false) (hlive : ∀ i, cfg.idle w i = false)
    (hclip : ∀ t t' : Fin cfg.N, (cfg.win w).index t = (cfg.win w).index t' →
      (cfg.win w).clip (cfg.grid.coords t) = (cfg.win w).clip (cfg.grid.coords t'))
    (hkeep : ∀ t, (cfg.win w).cut (cfg.grid.coords t) (dt.after w t) = dt.blockOf w t)
    (hfill : ∀ t d, dt.fetched w t d = dt.after w t) (t : Fin cfg.N) (d : (cfg.win w).block.Idx → Elt F (cfg.win w).elt) :
    dt.before w t d = dt.after w t :=
  (dt.before_in_eq_fetched w hw hlive hclip hkeep t d).trans (hfill t d)

/-- A window's buffer as the body is called on it: an output's at anything, an input's at its block. -/
def found {cfg : Pipeline.Cfg sig Λ₀} {c : Dev nD} (dt : Dat τ (Elt F) (HIx 3) ℕ UU ℕ cfg c) (t : Fin cfg.N) (w : Fin cfg.W) : sProp 𝕄 :=
  match (cfg.win w).isOut with
  | true => iprop(∃ d, owns (c.tc : Thread nD τ) ((cfg.win w).stage (cfg.slots t w)) fullShare d)
  | false => owns (c.tc : Thread nD τ) ((cfg.win w).stage (cfg.slots t w)) fullShare (dt.after w t)

/-- The body's obligation at every block, from its triple on the windows' buffers. -/
theorem body_of {cfg : Pipeline.Cfg sig Λ₀} {c : Dev nD} (dt : Dat τ (Elt F) (HIx 3) ℕ UU ℕ cfg c)
    (hidle : ∀ w i, cfg.idle w i = false) (hΦ : ∀ t : Fin cfg.N, dt.Φ t.succ = dt.Φ t.castSucc)
    (hO : ∀ t : Fin cfg.N, dt.owesAt none t.succ = dt.owesAt none t.castSucc)
    (hin : ∀ w, (cfg.win w).isOut = false → ∀ t d, dt.before w t d = dt.after w t)
    (h : ∀ (t : Fin cfg.N) (Q : PUnit → sProp 𝕄),
      iprop((bigSep Finset.univ fun w : Fin cfg.W => found dt t w)
          ∗ (iprop(bigSep Finset.univ fun w : Fin cfg.W => owns (c.tc : Thread nD τ) ((cfg.win w).stage (cfg.slots t w)) fullShare (dt.after w t)) -∗ Q ⟨⟩))
        ⊢ wp frame (wpE (defs₀ (F := F)) 𝒱₀ c.tc none) Set.univ (defs₀ .tc cfg.body (cfg.bodyArgs t (cfg.slots t))) Q) :
    BodyObligationLoose dt (defs₀ (F := F)) 𝒱₀ none Set.univ := by
  refine BodyObligation.loose dt fun t => ?_
  have e : (bigSep Finset.univ fun w : Fin cfg.W => iprop(∃ d, owns (c.tc : Thread nD τ) ((cfg.win w).stage (cfg.slots t w)) fullShare (dt.before w t d)))
      ⊢ (bigSep Finset.univ fun w : Fin cfg.W => found dt t w : sProp 𝕄) := by
    refine bigSep_mono fun w _ => ?_
    unfold found
    cases ho : (cfg.win w).isOut with
    | true => exact exists_elim fun d => exists_intro (Φ := fun d => owns (c.tc : Thread nD τ) ((cfg.win w).stage (cfg.slots t w)) fullShare d) (dt.before w t d)
    | false =>
      change iprop(∃ d, owns (c.tc : Thread nD τ) ((cfg.win w).stage (cfg.slots t w)) fullShare (dt.before w t d)) ⊢ owns (c.tc : Thread nD τ) ((cfg.win w).stage (cfg.slots t w)) fullShare (dt.after w t)
      iintro ⟨%d, H⟩
      rw [hin w ho t d]
      iexact H
  rw [hΦ t, hO t]
  simp only [hidle]
  refine (sep_mono .rfl (sep_mono .rfl e)).trans ?_
  iintro ⟨HΦ, HO, H⟩
  iapply (h t _)
  isplitl [H]; · iexact H
  iintro H
  isplitl [HΦ]; · iexact HΦ
  isplitl [HO]; · iexact HO
  iexact H

set_option maxHeartbeats 8000000 in
/-- The first call's body, at every block. -/
theorem body0 (A : Valuation τ sig (Elt F)) (n : ℕ) (c : Dev nD) : BodyObligationLoose (dat cfg0 A (after0 A) n c) (defs₀ (F := F)) 𝒱₀ none Set.univ := by
  refine body_of _ (fun _ _ => rfl) (fun _ => rfl) (fun _ => rfl) (fun w hw => ?_) fun t Q => ?_
  · fin_cases w <;> first | exact absurd hw (by decide) | exact before_kept _ _ rfl (fun _ => rfl) (fun _ _ _ => rfl) (fun _ => rfl) (fun _ _ => rfl)
  · rw [bigSep_W0, bigSep_W0]
    change _ ⊢ wp frame (wpE (defs₀ (F := F)) 𝒱₀ c.tc none) Set.univ (bodyAt0 t) Q
    refine Idealize.SL.BI.Entails.trans ?_ (sound_prologue c (grid0.coords t) _ _ _ _ _ _ _ _ _ _ _ _ _ _ _ _ _ _ _ _ _ _ _ _ _ _ _ _ _ _ _ _ _ _ (blkOf cfg0 A 0 t) (blkOf cfg0 A 1 t) (blkOf cfg0 A 2 t) (blkOf cfg0 A 3 t) (blkOf cfg0 A 4 t) (blkOf cfg0 A 5 t) (blkOf cfg0 A 6 t) (blkOf cfg0 A 7 t) (blkOf cfg0 A 8 t) (blkOf cfg0 A 9 t) (blkOf cfg0 A 10 t) (blkOf cfg0 A 11 t) (blkOf cfg0 A 12 t) (blkOf cfg0 A 13 t) Q)
    exact Idealize.SL.BI.Entails.refl _

set_option maxHeartbeats 8000000 in
/-- The second call's body, at every block. -/
theorem body2 (A : Valuation τ sig (Elt F)) (n : ℕ) (c : Dev nD) : BodyObligationLoose (dat cfg2 A (after2 A) n c) (defs₀ (F := F)) 𝒱₀ none Set.univ := by
  refine body_of _ (fun _ _ => rfl) (fun _ => rfl) (fun _ => rfl) (fun w hw => ?_) fun t Q => ?_
  · fin_cases w <;> first | exact absurd hw (by decide) | exact before_kept _ _ rfl (fun _ => rfl) (fun _ _ _ => rfl) (fun _ => rfl) (fun _ _ => rfl)
  · rw [bigSep_W2, bigSep_W2]
    change _ ⊢ wp frame (wpE (defs₀ (F := F)) 𝒱₀ c.tc none) Set.univ (bodyAt2 t) Q
    refine Idealize.SL.BI.Entails.trans ?_ (sound_layer c (grid2.coords t) _ _ _ _ _ _ _ _ _ _ _ _ (blkOf cfg2 A 0 t) (blkOf cfg2 A 1 t) (blkOf cfg2 A 2 t) (blkOf cfg2 A 3 t) (blkOf cfg2 A 4 t) Q)
    exact Idealize.SL.BI.Entails.refl _

/-- The third call's body is the second's. -/
theorem layer_same : @cc4__layer_body F _ = @cc2__layer_body F _ := rfl

set_option maxHeartbeats 8000000 in
/-- The third call's body, at every block. -/
theorem body4 (A : Valuation τ sig (Elt F)) (n : ℕ) (c : Dev nD) : BodyObligationLoose (dat cfg4 A (after4 A) n c) (defs₀ (F := F)) 𝒱₀ none Set.univ := by
  refine body_of _ (fun _ _ => rfl) (fun _ => rfl) (fun _ => rfl) (fun w hw => ?_) fun t Q => ?_
  · fin_cases w <;> first | exact absurd hw (by decide) | exact before_kept _ _ rfl (fun _ => rfl) (fun _ _ _ => rfl) (fun _ => rfl) (fun _ _ => rfl)
  · rw [bigSep_W4, bigSep_W4]
    change _ ⊢ wp frame (wpE (defs₀ (F := F)) 𝒱₀ c.tc none) Set.univ (bodyAt4 t) Q
    unfold bodyAt4
    rw [layer_same]
    refine Idealize.SL.BI.Entails.trans ?_ (sound_layer c (grid4.coords t) _ _ _ _ _ _ _ _ _ _ _ _ (blkOf cfg4 A 0 t) (blkOf cfg4 A 1 t) (blkOf cfg4 A 2 t) (blkOf cfg4 A 3 t) (blkOf cfg4 A 4 t) Q)
    exact Idealize.SL.BI.Entails.refl _

set_option maxHeartbeats 8000000 in
/-- The last call's body, at every block. -/
theorem body6 (A : Valuation τ sig (Elt F)) (n : ℕ) (c : Dev nD) : BodyObligationLoose (dat cfg6 A (after6 A) n c) (defs₀ (F := F)) 𝒱₀ none Set.univ := by
  refine body_of _ (fun _ _ => rfl) (fun _ => rfl) (fun _ => rfl) (fun w hw => ?_) fun t Q => ?_
  · fin_cases w <;> first | exact absurd hw (by decide) | exact before_kept _ _ rfl (fun _ => rfl) (fun _ _ _ => rfl) (fun _ => rfl) (fun _ _ => rfl)
  · rw [bigSep_W6, bigSep_W6]
    change _ ⊢ wp frame (wpE (defs₀ (F := F)) 𝒱₀ c.tc none) Set.univ (bodyAt6 t) Q
    refine Idealize.SL.BI.Entails.trans ?_ (sound_final c (grid6.coords t) _ _ _ _ _ _ _ _ _ _ _ _ (blkOf cfg6 A 0 t) (blkOf cfg6 A 1 t) (blkOf cfg6 A 2 t) (blkOf cfg6 A 3 t) (blkOf cfg6 A 4 t) Q)
    exact Idealize.SL.BI.Entails.refl _

/-! ## The arrays a call leaves -/

/-- An array, by its TensorCore name. -/
abbrev at' (r : Ref sig .tc) : DevRef τ sig := Proc.devRef .tc r

/-- The contents after the first call. -/
def leave0 (A : Valuation τ sig (Elt F)) : Valuation τ sig (Elt F) :=
  Function.update (Function.update (Function.update A (at' main_v21_0) ((dat cfg0 A (after0 A) 0 0).arrAt 14 cfg0.N)) (at' main_v21_1) ((dat cfg0 A (after0 A) 0 0).arrAt 15 cfg0.N))
    (at' main_v21_2) ((dat cfg0 A (after0 A) 0 0).arrAt 16 cfg0.N)

/-- The contents after the second layer's call. -/
def leave2 (A : Valuation τ sig (Elt F)) : Valuation τ sig (Elt F) := Function.update A (at' main_v26) ((dat cfg2 A (after2 A) 0 0).arrAt 5 cfg2.N)

/-- The contents after the third layer's call. -/
def leave4 (A : Valuation τ sig (Elt F)) : Valuation τ sig (Elt F) := Function.update A (at' main_v28) ((dat cfg4 A (after4 A) 0 0).arrAt 5 cfg4.N)

/-- The contents after the last call. -/
def leave6 (A : Valuation τ sig (Elt F)) : Valuation τ sig (Elt F) := Function.update A (at' main_v32) ((dat cfg6 A (after6 A) 0 0).arrAt 5 cfg6.N)

/-- A device is the only one. -/
theorem dev_eq (c : Dev nD) : c = 0 := Subsingleton.elim (α := Fin 1) _ _

/-- An array a call's window names is among those it names. -/
theorem mem_arrRefs {gr W : Nat} (win : Fin W → Pipeline.WinSpec sig gr) (w : Fin W) : (at' (arrRef win w)) ∈ arrRefs (τ := τ) win :=
  Finset.mem_map.mpr ⟨_, Finset.mem_image.mpr ⟨w, Finset.mem_univ _, rfl⟩, rfl⟩

set_option maxHeartbeats 8000000 in
/-- The first call, run. -/
theorem call0 (A : Valuation τ sig (Elt F)) (n : ℕ) : CallOK (pd A n) 0 n A (leave0 A) where
  body c := body0 A n c
  owed _ _ := rfl
  recd _ _ := rfl
  share c w := (pd A n 0 c).share_full (fun _ => rfl) w
  inv _ _ := rfl
  entry _ _ := rfl
  leave c w := by
    obtain rfl := dev_eq c
    change (dat cfg0 A (after0 A) n 0).arrAt w cfg0.N = _
    unfold leave0
    fin_cases w <;> first
      | exact ((dat cfg0 A (after0 A) n 0).arrAt_in _ rfl _).trans (by
          rw [Function.update_of_ne (StableHlo.devRef_ne_of_ne (by decide)), Function.update_of_ne (StableHlo.devRef_ne_of_ne (by decide)), Function.update_of_ne (StableHlo.devRef_ne_of_ne (by decide))]; rfl)
      | exact (Function.update_self (f := A) ..).symm
      | skip
  kit := launch0

/-- A call that writes one array leaves the others as they were. -/
theorem left_one {cfg : Pipeline.Cfg sig Λ₀} {c : Dev nD} (dt : Dat τ (Elt F) (HIx 3) ℕ UU ℕ cfg c) (A : Valuation τ sig (Elt F))
    (hA : ∀ w, dt.A w = A (at' (arrRef cfg.spec w))) (o : Fin cfg.W) (ho : ∀ w, w ≠ o → (cfg.win w).isOut = false) (B : (at' (arrRef cfg.spec o)).ty.Contents (Elt F))
    (hB : B = dt.arrAt o cfg.N) (hinj : Function.Injective (arrRef cfg.spec)) (w : Fin cfg.W) :
    dt.arrAt w cfg.N = Function.update A (at' (arrRef cfg.spec o)) B (at' (arrRef cfg.spec w)) := by
  by_cases h : w = o
  · subst h; rw [Function.update_self, hB]
  · rw [dt.arrAt_in w (ho w h), Function.update_of_ne (StableHlo.devRef_ne_of_ne fun e => h (hinj e)), hA]

set_option maxHeartbeats 8000000 in
/-- The second layer's call, run. -/
theorem call2 (A : Valuation τ sig (Elt F)) (n : ℕ) : CallOK (pd A n) 1 n A (leave2 A) where
  body c := body2 A n c
  owed _ _ := rfl
  recd _ _ := rfl
  share c w := (pd A n 1 c).share_full (fun _ => rfl) w
  inv _ _ := rfl
  entry _ _ := rfl
  leave c w := by
    obtain rfl := dev_eq c
    exact left_one (dat cfg2 A (after2 A) n 0) A (fun w => rfl) 5 (by decide) _ rfl winFacts2.arr_inj w
  kit := launch2

set_option maxHeartbeats 8000000 in
/-- The third layer's call, run. -/
theorem call4 (A : Valuation τ sig (Elt F)) (n : ℕ) : CallOK (pd A n) 2 n A (leave4 A) where
  body c := body4 A n c
  owed _ _ := rfl
  recd _ _ := rfl
  share c w := (pd A n 2 c).share_full (fun _ => rfl) w
  inv _ _ := rfl
  entry _ _ := rfl
  leave c w := by
    obtain rfl := dev_eq c
    exact left_one (dat cfg4 A (after4 A) n 0) A (fun w => rfl) 5 (by decide) _ rfl winFacts4.arr_inj w
  kit := launch4

set_option maxHeartbeats 8000000 in
/-- The last call, run. -/
theorem call6 (A : Valuation τ sig (Elt F)) (n : ℕ) : CallOK (pd A n) 3 n A (leave6 A) where
  body c := body6 A n c
  owed _ _ := rfl
  recd _ _ := rfl
  share c w := (pd A n 3 c).share_full (fun _ => rfl) w
  inv _ _ := rfl
  entry _ _ := rfl
  leave c w := by
    obtain rfl := dev_eq c
    exact left_one (dat cfg6 A (after6 A) n 0) A (fun w => rfl) 5 (by decide) _ rfl winFacts6.arr_inj w
  kit := launch6

/-- The first call leaves alone every array but its three results. -/
theorem leave0_of_ne (A : Valuation τ sig (Elt F)) {b : DevRef τ sig} (h0 : b ≠ at' main_v21_0) (h1 : b ≠ at' main_v21_1) (h2 : b ≠ at' main_v21_2) : leave0 A b = A b := by
  unfold leave0
  rw [Function.update_of_ne h2, Function.update_of_ne h1, Function.update_of_ne h0]

/-- Which are arrays its windows name. -/
theorem leave0_rest (A : Valuation τ sig (Elt F)) (b : DevRef τ sig) (h : b ∉ arrRefs cfg0.spec) : leave0 A b = A b :=
  leave0_of_ne A (fun e => h (e ▸ mem_arrRefs cfg0.spec 14)) (fun e => h (e ▸ mem_arrRefs cfg0.spec 15)) (fun e => h (e ▸ mem_arrRefs cfg0.spec 16))

/-- The other calls leave alone every array but their result. -/
theorem leave2_rest (A : Valuation τ sig (Elt F)) (b : DevRef τ sig) (h : b ∉ arrRefs cfg2.spec) : leave2 A b = A b :=
  Function.update_of_ne (show b ≠ at' main_v26 from fun e => h (e ▸ mem_arrRefs cfg2.spec 5)) _ _

/-- As `leave2_rest`. -/
theorem leave4_rest (A : Valuation τ sig (Elt F)) (b : DevRef τ sig) (h : b ∉ arrRefs cfg4.spec) : leave4 A b = A b :=
  Function.update_of_ne (show b ≠ at' main_v28 from fun e => h (e ▸ mem_arrRefs cfg4.spec 5)) _ _

/-- As `leave2_rest`. -/
theorem leave6_rest (A : Valuation τ sig (Elt F)) (b : DevRef τ sig) (h : b ∉ arrRefs cfg6.spec) : leave6 A b = A b :=
  Function.update_of_ne (show b ≠ at' main_v32 from fun e => h (e ▸ mem_arrRefs cfg6.spec 5)) _ _

end Cert.Proof

end
-- ==== Proof.Bodies.lean ====
/-
  The bodies of the tile's loops: one group of the fast pass, one round and one group of the slow pass. Each keeps the four
  accumulator rows at the updates of one list of edges, and says how the list grows.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

/-! ## Edge words -/

/-- The edge words of one list of 320000: each a node number. -/
def Nodes (w : ℕ → BitVec 32) : Prop := ∀ n, (w n).toNat < 10240

/-- The 8000 words from edge `b`. -/
def chunk (w : ℕ → BitVec 32) (b : ℕ) : S8000.Idx → Elt F .i32 := fun x => w (b + (x 0).val)

/-- The sixteen words of group `g` of a chunk, as the bodies load them. -/
theorem chunk_lane (w : ℕ → BitVec 32) (b g : ℕ) (off : Fin 1 → ℕ) (hoff : off = ![16 * g]) (inb : ∀ a, off a + S16.size a ≤ S8000.size a) (k : Fin 16) :
    chunk (F := F) w b ((Rect.unit (s := S8000) off S16.size inb).toLoadRect.idx (lane k)) = w (b + 16 * g + k.val) := by
  subst hoff
  unfold chunk
  congr 1
  rw [LoadRect.idx_apply]
  show b + (16 * g + 1 * k.val) = _
  omega

/-- Indices read off node words are inside a row. -/
theorem inb_of {s : IVec S16 32} {w : ℕ → BitVec 32} {b : ℕ} (hw : Nodes w) (hs : ∀ k : Fin 16, s (lane k) = w (b + k.val)) :
    ∀ a x, ((![s] : Fin 1 → IVec S16 32) a x).toNat < S10240.size a := by
  intro a x
  obtain rfl : a = 0 := Subsingleton.elim _ _
  obtain ⟨k, rfl⟩ := exists_lane x
  show (s (lane k)).toNat < 10240
  rw [hs]; exact hw _

/-! ## The masked scatter of maxima -/

/-- A scatter of maxima of gathered features into a row at the updates of `M` leaves it at the updates of `M` and of the
    edges whose lanes the mask selects, where those lanes' targets are distinct. -/
theorem scatter_run {d : Dev nD} {L : grid1.Coords} {base : Memref sig .scVector .vmem S10240 .f32} {src dst : ℕ → BitVec 32} {G : Row F} {M : List ℕ}
    {b : ℕ} {si di : IVec S16 32} {v : Vec F S16 .f32} {mask : IVec S16 1}
    {h : ∀ a x, ((![di] : Fin 1 → IVec S16 32) a x).toNat < S10240.size a} {hs : (base.access (.whole S10240)).Stores Finset.univ} {α : Type}
    {k : PUnit → Prog (TpuEff nD τ sig (Elt F) Λ₀ (tile d L).2) α} {Q : α → sProp 𝕄}
    (hsi : ∀ k : Fin 16, si (lane k) = src (b + k.val)) (hdi : ∀ k : Fin 16, di (lane k) = dst (b + k.val))
    (h1 : ∀ a x, ((![si] : Fin 1 → IVec S16 32) a x).toNat < S10240.size a)
    (hinj : ∀ k k' : Fin 16, mask (lane k) = 1 → mask (lane k') = 1 → di (lane k) = di (lane k') → k = k')
    (hv : v = maximumf (loadIdx (s := S10240) (e := .f32) (run src dst G M) ![di] h) (loadIdx (s := S10240) (e := .f32) G ![si] h1)) :
    Holds d L base (run src dst G M)
      ⊢ iprop((Holds d L base (run src dst G (M ++ (lanesOf mask).map fun k => b + k.val)) -∗ wpT d L (k ⟨⟩) Q)
        -∗ wpT d L (SparseCore.vectorStoreIdx base ![di] v mask false h hs >>= k) Q) := by
  subst hv
  rw [run_append, ← storeIdx_edges src dst b G (run src dst G M) si di mask hsi hdi h1 h hinj]
  exact scatter_rule d L

/-! ## The rows of one tile -/

/-- What a tile's scratch holds inside the loops: the four feature rows, the four accumulator rows at the updates of `M`,
    one chunk of source words and of target words. -/
def Tile (d : Dev nD) (L : grid1.Coords) (g0 g1 g2 g3 a0 a1 a2 a3 : Memref sig .scVector .vmem S10240 .f32)
    (ms md : Memref sig .scVector .vmem S8000 .i32) (src dst : ℕ → BitVec 32) (b : ℕ) (G : Fin 4 → Row F) (M : List ℕ) : sProp 𝕄 :=
  iprop(Holds d L g0 (G 0) ∗ Holds d L g1 (G 1) ∗ Holds d L g2 (G 2) ∗ Holds d L g3 (G 3)
    ∗ Holds d L a0 (run src dst (G 0) M) ∗ Holds d L a1 (run src dst (G 1) M) ∗ Holds d L a2 (run src dst (G 2) M) ∗ Holds d L a3 (run src dst (G 3) M)
    ∗ Holds d L ms (chunk (F := F) src b) ∗ Holds d L md (chunk (F := F) dst b))

section Bodies

variable (d : Dev nD) (i : grid1.Coords)
variable (arg2 : Memref sig .scVector .hbm S128x10240 .f32) (harg2 : arg2.IsWhole) (arg3 : Memref sig .scVector .hbm S320000 .i32) (harg3 : arg3.IsWhole)
  (arg4 : Memref sig .scVector .hbm S320000 .i32) (harg4 : arg4.IsWhole) (arg5 : Memref sig .scVector .hbm S128x10240 .f32) (harg5 : arg5.IsWhole)
  (arg6 : Memref sig .scVector .vmem S10240 .f32) (harg6 : arg6.IsWhole) (arg7 : Memref sig .scVector .vmem S10240 .f32) (harg7 : arg7.IsWhole)
  (arg8 : Memref sig .scVector .vmem S10240 .f32) (harg8 : arg8.IsWhole) (arg9 : Memref sig .scVector .vmem S10240 .f32) (harg9 : arg9.IsWhole)
  (arg10 : Memref sig .scVector .vmem S10240 .f32) (harg10 : arg10.IsWhole) (arg11 : Memref sig .scVector .vmem S10240 .f32) (harg11 : arg11.IsWhole)
  (arg12 : Memref sig .scVector .vmem S10240 .f32) (harg12 : arg12.IsWhole) (arg13 : Memref sig .scVector .vmem S10240 .f32) (harg13 : arg13.IsWhole)
  (arg14 : Memref sig .scVector .vmem S8000 .i32) (harg14 : arg14.IsWhole) (arg15 : Memref sig .scVector .vmem S8000 .i32) (harg15 : arg15.IsWhole)
  (arg16 : Memref sig .scVector .vmem S8000 .i32) (harg16 : arg16.IsWhole) (arg17 : Memref sig .scVector .vmem S8000 .i32) (harg17 : arg17.IsWhole)
  (arg18 : DmaSems sig S_) (arg19 : DmaSems sig S_) (arg20 : DmaSems sig S_) (arg21 : DmaSems sig S_) (v28_r0 : DmaSems sig S_)
  (v28_r1 : DmaSems sig S_) (v28_r2 : DmaSems sig S_) (v28_r3 : DmaSems sig S_) (v28_r4 : DmaSems sig S_) (v28_r5 : DmaSems sig S_)
  (v28_r6 : DmaSems sig S_) (v28_r7 : DmaSems sig S_) (v28_r8 : DmaSems sig S_) (v28_r9 : DmaSems sig S_) (v28_r10 : DmaSems sig S_)
  (v28_r11 : DmaSems sig S_)

variable (src dst : ℕ → BitVec 32) (b : ℕ) (G : Fin 4 → Row F)

/-- One group of the fast pass. -/
theorem fast_body (hsrc : Nodes src) (hdst : Nodes dst) (hb : b + 8000 ≤ 320000) (c0 c1 : BitVec 32) (t1 : Fin k1_t1_loop.trips)
    (t : Fin k1_t2_loop.trips) (rem : IVec S16 1) :
    iprop(∃ M, ⌜FCov b t.val rem M⌝ ∗ Tile d i arg6 arg7 arg8 arg9 arg10 arg11 arg12 arg13 arg14 arg16 src dst b G M)
      ⊢ wpT d i (k1_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 1#32 c0 c1 t1 t rem)
          (fun rem' => iprop(∃ M, ⌜FCov b (t.val + 1) rem' M⌝ ∗ Tile d i arg6 arg7 arg8 arg9 arg10 arg11 arg12 arg13 arg14 arg16 src dst b G M)) := by
  have ht : t.val < 500 := t.isLt
  have hsi : ∀ k : Fin 16, chunk (F := F) src b ((Rect.unit (s := S8000) (k1_off3 t) S16.size (k1_off3_inb t)).toLoadRect.idx (lane k)) = src (b + 16 * t.val + k.val) :=
    fun k => chunk_lane src b t.val _ (k1_off3_eq t) _ k
  have hdi : ∀ k : Fin 16, chunk (F := F) dst b ((Rect.unit (s := S8000) (k1_off3 t) S16.size (k1_off3_inb t)).toLoadRect.idx (lane k)) = dst (b + 16 * t.val + k.val) :=
    fun k => chunk_lane dst b t.val _ (k1_off3_eq t) _ k
  unfold k1_t2_body Tile
  iintro ⟨%M, %hM, Hg0, Hg1, Hg2, Hg3, Ha0, Ha1, Ha2, Ha3, Hs, Hd⟩
  iapply (load_rule d i) $$ Hs; iintro Hs
  generalize hsv : (fun x => chunk (F := F) src b ((Rect.unit (s := S8000) (k1_off3 t) S16.size (k1_off3_inb t)).toLoadRect.idx x)) = si
  replace hsi : ∀ k : Fin 16, si (lane k) = src (b + 16 * t.val + k.val) := fun k => by rw [← hsv]; exact hsi k
  have his := inb_of hsrc hsi
  iapply (assume_rule d i ⟨his, his, his, his⟩)
  iapply (load_rule d i) $$ Hd; iintro Hd
  generalize hdv : (fun x => chunk (F := F) dst b ((Rect.unit (s := S8000) (k1_off3 t) S16.size (k1_off3_inb t)).toLoadRect.idx x)) = di
  replace hdi : ∀ k : Fin 16, di (lane k) = dst (b + 16 * t.val + k.val) := fun k => by rw [← hdv]; exact hdi k
  have hid := inb_of hdst hdi
  iapply (assume_rule d i ⟨hid, hid, hid, hid, hid, hid, hid, hid, hid, hid, hid, hid, hid, hid, hid, hid⟩)
  iapply (gather_rule d i) $$ Hg0; iintro Hg0
  iapply (gather_rule d i) $$ Hg1; iintro Hg1
  iapply (gather_rule d i) $$ Hg2; iintro Hg2
  iapply (gather_rule d i) $$ Hg3; iintro Hg3
  iapply (gather_rule d i) $$ Ha0; iintro Ha0
  iapply (gather_rule d i) $$ Ha1; iintro Ha1
  iapply (gather_rule d i) $$ Ha2; iintro Ha2
  iapply (gather_rule d i) $$ Ha3; iintro Ha3
  iapply (scatter_run hsi hdi his (last_inj (F := F) di) ?h0) $$ Ha0
  case h0 => rfl
  iintro Ha0
  iapply (scatter_run hsi hdi his (last_inj (F := F) di) ?h1) $$ Ha1
  case h1 => rfl
  iintro Ha1
  iapply (scatter_run hsi hdi his (last_inj (F := F) di) ?h2) $$ Ha2
  case h2 => rfl
  iintro Ha2
  iapply (scatter_run hsi hdi his (last_inj (F := F) di) ?h3) $$ Ha3
  case h3 => rfl
  iintro Ha3
  iapply (gather_rule d i) $$ Ha0; iintro Ha0
  iapply (gather_rule d i) $$ Ha1; iintro Ha1
  iapply (gather_rule d i) $$ Ha2; iintro Ha2
  iapply (gather_rule d i) $$ Ha3; iintro Ha3
  iapply (scatter_run hsi hdi his (first_inj (F := F) di) ?h0) $$ Ha0
  case h0 => rfl
  iintro Ha0
  iapply (scatter_run hsi hdi his (first_inj (F := F) di) ?h1) $$ Ha1
  case h1 => rfl
  iintro Ha1
  iapply (scatter_run hsi hdi his (first_inj (F := F) di) ?h2) $$ Ha2
  case h2 => rfl
  iintro Ha2
  iapply (scatter_run hsi hdi his (first_inj (F := F) di) ?h3) $$ Ha3
  case h3 => rfl
  iintro Ha3
  iapply (ret_rule d i)
  iexists _
  isplitr
  · ipureintro; exact fcov_step (F := F) hM (by omega) di
  iframe

/-- The four accumulator rows at the updates of `M`. -/
def Accs (a0 a1 a2 a3 : Memref sig .scVector .vmem S10240 .f32) (M : List ℕ) : sProp 𝕄 :=
  iprop(Holds d i a0 (run src dst (G 0) M) ∗ Holds d i a1 (run src dst (G 1) M) ∗ Holds d i a2 (run src dst (G 2) M) ∗ Holds d i a3 (run src dst (G 3) M))

/-- One round of the slow pass: the lanes whose count is the round's number. -/
theorem round_body (hb : b + 16 ≤ 320000) (c0 c1 : BitVec 32) (t1 : Fin k1_t1_loop.trips) (v48 : BitVec 32) (hc : k1_cond1 v48 = 1#1)
    (si di : IVec S16 32) (hsi : ∀ k : Fin 16, si (lane k) = src (b + k.val)) (hdi : ∀ k : Fin 16, di (lane k) = dst (b + k.val))
    (his : ∀ a x, ((![si] : Fin 1 → IVec S16 32) a x).toNat < S10240.size a)
    (mx : BitVec 32) (hmx : (k1_t4_loop 1#32 mx).trips ≤ 16) (hw : k1_chk4 1#32 v48 di mx) (t : Fin (k1_t4_loop 1#32 mx).trips) (u : Unit) :
    iprop(∃ M, ⌜RCov b (1 + t.val) di M⌝ ∗ Accs d i src dst G arg10 arg11 arg12 arg13 M)
      ⊢ wpT d i (k1_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 1#32 c0 c1 t1 v48 hc di
            (loadIdx (s := S10240) (e := .f32) (G 0) ![si] his) (loadIdx (s := S10240) (e := .f32) (G 1) ![si] his)
            (loadIdx (s := S10240) (e := .f32) (G 2) ![si] his) (loadIdx (s := S10240) (e := .f32) (G 3) ![si] his) mx hw t u)
          (fun _ => iprop(∃ M, ⌜RCov b (1 + t.val + 1) di M⌝ ∗ Accs d i src dst G arg10 arg11 arg12 arg13 M)) := by
  have hm : k1_pay20 (F := F) 1#32 di mx t = cmpi .eq (scanCount ones di).2 (broadcast S16 (Scf.iv 1#32 1#32 t.val)) := rfl
  have hr : (Scf.iv 1#32 1#32 t.val : BitVec 32).toNat = 1 + t.val := by
    have ht : t.val < 16 := lt_of_lt_of_le t.isLt hmx
    generalize t.val = n at ht
    have key : ∀ n : Fin 16, (Scf.iv 1#32 1#32 n.val : BitVec 32).toNat = 1 + n.val := by decide
    exact key ⟨n, ht⟩
  unfold k1_t4_body Accs
  rw [hm]
  iintro ⟨%M, %hM, Ha0, Ha1, Ha2, Ha3⟩
  iapply (gather_rule d i) $$ Ha0; iintro Ha0
  iapply (gather_rule d i) $$ Ha1; iintro Ha1
  iapply (gather_rule d i) $$ Ha2; iintro Ha2
  iapply (gather_rule d i) $$ Ha3; iintro Ha3
  iapply (scatter_run hsi hdi his (round_inj di _) ?h0) $$ Ha0
  case h0 => rfl
  iintro Ha0
  iapply (scatter_run hsi hdi his (round_inj di _) ?h1) $$ Ha1
  case h1 => rfl
  iintro Ha1
  iapply (scatter_run hsi hdi his (round_inj di _) ?h2) $$ Ha2
  case h2 => rfl
  iintro Ha2
  iapply (scatter_run hsi hdi his (round_inj di _) ?h3) $$ Ha3
  case h3 => rfl
  iintro Ha3
  iapply (ret_rule d i)
  iexists _
  isplitr
  · ipureintro
    exact rcov_step hM hb _ fun k hk => (round_iff di _ k).mpr (hk.trans hr.symm)
  iframe

/-- What a group of the slow pass does with its words loaded and its features gathered: the check of the rounds' bounds,
    the rounds, the (empty) remainder of their loop. -/
theorem slow_rounds (hb : b + 16 ≤ 320000) (c0 c1 : BitVec 32) (t1 : Fin k1_t1_loop.trips) (v48 : BitVec 32) (hc : k1_cond1 v48 = 1#1)
    (si di : IVec S16 32) (hsi : ∀ k : Fin 16, si (lane k) = src (b + k.val)) (hdi : ∀ k : Fin 16, di (lane k) = dst (b + k.val))
    (his : ∀ a x, ((![si] : Fin 1 → IVec S16 32) a x).toNat < S10240.size a) (hid : ∀ a x, ((![di] : Fin 1 → IVec S16 32) a x).toNat < S10240.size a)
    (mx : BitVec 32) (hx1 : 1 ≤ mx.toNat) (hx2 : mx.toNat ≤ 16) (hx3 : ∀ k, cnt di k ≤ mx.toNat) (M : List ℕ) (hM : Cov b M) (Q : Unit → sProp 𝕄) :
    Accs d i src dst G arg10 arg11 arg12 arg13 M
      ⊢ iprop((∀ u, (∃ M, ⌜Cov (b + 16) M⌝ ∗ Accs d i src dst G arg10 arg11 arg12 arg13 M) -∗ Q u) -∗ wpT d i (do
          have hw : k1_chk4 1#32 v48 di mx := (← Prog.lift (TpuEff.assume (k1_chk4 1#32 v48 di mx) (k1_chk4.dec 1#32 v48 di mx))).down
          Scf.Loop.for (k1_t4_loop 1#32 mx) (k1_t4_ok 1#32 v48 di mx hw hc) ⟨⟩ (k1_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 1#32 c0 c1 t1 v48 hc di
            (loadIdx (s := S10240) (e := .f32) (G 0) ![si] his) (loadIdx (s := S10240) (e := .f32) (G 1) ![si] his)
            (loadIdx (s := S10240) (e := .f32) (G 2) ![si] his) (loadIdx (s := S10240) (e := .f32) (G 3) ![si] his) mx hw)
          Scf.Loop.for (k1_t5_loop 1#32 mx) (k1_t5_ok 1#32 v48 di mx hw hc) ⟨⟩ (k1_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 1#32 c0 c1 t1 v48 hc di
            (loadIdx (s := S10240) (e := .f32) (G 0) ![si] his) (loadIdx (s := S10240) (e := .f32) (G 1) ![si] his)
            (loadIdx (s := S10240) (e := .f32) (G 2) ![si] his) (loadIdx (s := S10240) (e := .f32) (G 3) ![si] his) mx hw)
          Pure.pure ⟨⟩ : Prog (TpuEff nD τ sig (Elt F) Λ₀ (tile d i).2) Unit) Q) := by
  obtain ⟨ho4, htr4, ho5, htr5⟩ := rounds_of mx hx1 hx2
  iintro HA HQ
  iapply (assume_rule d i ⟨fun _ => ho4, fun _ _ => hid, fun _ _ => hid, fun _ _ => hid, fun _ _ => hid, fun _ _ => hid, fun _ _ => hid,
    fun _ _ => hid, fun _ _ => hid, fun _ => ho5, fun _ _ => hid, fun _ _ => hid, fun _ _ => hid, fun _ _ => hid, fun _ _ => hid, fun _ _ => hid,
    fun _ _ => hid, fun _ _ => hid⟩)
  iapply (loop_rule d i (fun r _ => iprop(∃ M, ⌜RCov b (1 + r) di M⌝ ∗ Accs d i src dst G arg10 arg11 arg12 arg13 M)) ?rounds) $$ [HA]
  case rounds =>
    intro r u
    exact round_body d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 src dst b G hb c0 c1 t1 v48 hc si di hsi hdi his mx (by omega) _ r u
  · iexists M
    isplitr
    · ipureintro; exact rcov_zero di hM
    iexact HA
  iintro %u1 HI
  icases HI with ⟨%M', %hM', HA⟩
  rw [htr4] at hM'
  iapply (loop_rule d i (fun _ _ => iprop(Accs d i src dst G arg10 arg11 arg12 arg13 M')) ?none) $$ [HA]
  case none =>
    intro r u
    exact absurd r.isLt (by have := htr5; omega)
  · iexact HA
  iintro %u2 HA
  iapply (ret_rule d i)
  iapply HQ
  iexists M'
  isplitr
  · ipureintro; exact rcov_done hM' hx3
  iexact HA

/-- One group of the slow pass: a round for each count, then every edge of the group is done. -/
theorem slow_body (hsrc : Nodes src) (hdst : Nodes dst) (hb : b + 8000 ≤ 320000) (c0 c1 : BitVec 32) (t1 : Fin k1_t1_loop.trips)
    (v48 : BitVec 32) (hc : k1_cond1 v48 = 1#1) (t : Fin k1_t3_loop.trips) (u : Unit) :
    iprop(∃ M, ⌜Cov (b + 16 * t.val) M⌝ ∗ Tile d i arg6 arg7 arg8 arg9 arg10 arg11 arg12 arg13 arg14 arg16 src dst b G M)
      ⊢ wpT d i (k1_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 1#32 c0 c1 t1 v48 hc t u)
          (fun _ => iprop(∃ M, ⌜Cov (b + 16 * (t.val + 1)) M⌝ ∗ Tile d i arg6 arg7 arg8 arg9 arg10 arg11 arg12 arg13 arg14 arg16 src dst b G M)) := by
  have ht : t.val < 500 := t.isLt
  have hsi : ∀ k : Fin 16, chunk (F := F) src b ((Rect.unit (s := S8000) (k1_off4 t) S16.size (k1_off4_inb t)).toLoadRect.idx (lane k)) = src (b + 16 * t.val + k.val) :=
    fun k => chunk_lane src b t.val _ (k1_off4_eq t) _ k
  have hdi : ∀ k : Fin 16, chunk (F := F) dst b ((Rect.unit (s := S8000) (k1_off4 t) S16.size (k1_off4_inb t)).toLoadRect.idx (lane k)) = dst (b + 16 * t.val + k.val) :=
    fun k => chunk_lane dst b t.val _ (k1_off4_eq t) _ k
  unfold k1_t3_body Tile
  iintro ⟨%M, %hM, Hg0, Hg1, Hg2, Hg3, Ha0, Ha1, Ha2, Ha3, Hs, Hd⟩
  iapply (load_rule d i) $$ Hs; iintro Hs
  generalize hsv : (fun x => chunk (F := F) src b ((Rect.unit (s := S8000) (k1_off4 t) S16.size (k1_off4_inb t)).toLoadRect.idx x)) = si
  replace hsi : ∀ k : Fin 16, si (lane k) = src (b + 16 * t.val + k.val) := fun k => by rw [← hsv]; exact hsi k
  have his := inb_of hsrc hsi
  iapply (assume_rule d i ⟨fun _ => his, fun _ => his, fun _ => his, fun _ => his⟩)
  iapply (load_rule d i) $$ Hd; iintro Hd
  generalize hdv : (fun x => chunk (F := F) dst b ((Rect.unit (s := S8000) (k1_off4 t) S16.size (k1_off4_inb t)).toLoadRect.idx x)) = di
  replace hdi : ∀ k : Fin 16, di (lane k) = dst (b + 16 * t.val + k.val) := fun k => by rw [← hdv]; exact hdi k
  have hid := inb_of hdst hdi
  iapply (gather_rule d i) $$ Hg0; iintro Hg0
  iapply (gather_rule d i) $$ Hg1; iintro Hg1
  iapply (gather_rule d i) $$ Hg2; iintro Hg2
  iapply (gather_rule d i) $$ Hg3; iintro Hg3
  obtain ⟨hx1, hx2, hx3⟩ := maxCount di
  iapply (slow_rounds d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 src dst (b + 16 * t.val) G (by omega) c0 c1 t1 v48 hc si di hsi hdi his hid
    (topMax (scanCount ones di).2) hx1 hx2 hx3 M hM _) $$ [Ha0 Ha1 Ha2 Ha3]
  · unfold Accs; iframe
  iintro %u1 ⟨%M', %hM', HA⟩
  unfold Accs
  icases HA with ⟨Ha0, Ha1, Ha2, Ha3⟩
  iexists M'
  isplitr
  · ipureintro
    rw [show b + 16 * (t.val + 1) = b + 16 * t.val + 16 by omega]
    exact hM'
  iframe

end Bodies

end Cert.Proof

end
-- ==== Proof.Pass.lean ====
/-
  The two passes over one chunk of 8000 edges, in each of the two chunk buffers: the fast pass, the word that says whether a
  lane was left, and the slow pass where one was; after them every edge of the chunk is done.
-/
module

public import proofs.«01_k».proof.Proof.Bodies

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

section Passes

variable (d : Dev nD) (i : grid1.Coords)
variable (arg2 : Memref sig .scVector .hbm S128x10240 .f32) (harg2 : arg2.IsWhole) (arg3 : Memref sig .scVector .hbm S320000 .i32) (harg3 : arg3.IsWhole)
  (arg4 : Memref sig .scVector .hbm S320000 .i32) (harg4 : arg4.IsWhole) (arg5 : Memref sig .scVector .hbm S128x10240 .f32) (harg5 : arg5.IsWhole)
  (arg6 : Memref sig .scVector .vmem S10240 .f32) (harg6 : arg6.IsWhole) (arg7 : Memref sig .scVector .vmem S10240 .f32) (harg7 : arg7.IsWhole)
  (arg8 : Memref sig .scVector .vmem S10240 .f32) (harg8 : arg8.IsWhole) (arg9 : Memref sig .scVector .vmem S10240 .f32) (harg9 : arg9.IsWhole)
  (arg10 : Memref sig .scVector .vmem S10240 .f32) (harg10 : arg10.IsWhole) (arg11 : Memref sig .scVector .vmem S10240 .f32) (harg11 : arg11.IsWhole)
  (arg12 : Memref sig .scVector .vmem S10240 .f32) (harg12 : arg12.IsWhole) (arg13 : Memref sig .scVector .vmem S10240 .f32) (harg13 : arg13.IsWhole)
  (arg14 : Memref sig .scVector .vmem S8000 .i32) (harg14 : arg14.IsWhole) (arg15 : Memref sig .scVector .vmem S8000 .i32) (harg15 : arg15.IsWhole)
  (arg16 : Memref sig .scVector .vmem S8000 .i32) (harg16 : arg16.IsWhole) (arg17 : Memref sig .scVector .vmem S8000 .i32) (harg17 : arg17.IsWhole)
  (arg18 : DmaSems sig S_) (arg19 : DmaSems sig S_) (arg20 : DmaSems sig S_) (arg21 : DmaSems sig S_) (v28_r0 : DmaSems sig S_)
  (v28_r1 : DmaSems sig S_) (v28_r2 : DmaSems sig S_) (v28_r3 : DmaSems sig S_) (v28_r4 : DmaSems sig S_) (v28_r5 : DmaSems sig S_)
  (v28_r6 : DmaSems sig S_) (v28_r7 : DmaSems sig S_) (v28_r8 : DmaSems sig S_) (v28_r9 : DmaSems sig S_) (v28_r10 : DmaSems sig S_)
  (v28_r11 : DmaSems sig S_)

variable (src dst : ℕ → BitVec 32) (b : ℕ) (G : Fin 4 → Row F)

/-- The fast pass over the first buffer's chunk. -/
theorem fast_pass (hsrc : Nodes src) (hdst : Nodes dst) (hb : b + 8000 ≤ 320000) (c0 c1 : BitVec 32) (t1 : Fin k1_t1_loop.trips) {α : Type}
    {kk : IVec S16 1 → Prog (TpuEff nD τ sig (Elt F) Λ₀ (tile d i).2) α} {Q : α → sProp 𝕄} :
    iprop(∃ M, ⌜Cov b M⌝ ∗ Tile d i arg6 arg7 arg8 arg9 arg10 arg11 arg12 arg13 arg14 arg16 src dst b G M)
      ⊢ iprop((∀ rem, (∃ M, ⌜FCov b 500 rem M⌝ ∗ Tile d i arg6 arg7 arg8 arg9 arg10 arg11 arg12 arg13 arg14 arg16 src dst b G M) -∗ wpT d i (kk rem) Q)
        -∗ wpT d i (Scf.Loop.for k1_t2_loop k1_t2_ok k1_pay1 (k1_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 1#32 c0 c1 t1) >>= kk) Q) := by
  iintro ⟨%M, %hM, HT⟩ Hk
  iapply (loop_rule d i (fun g rem => iprop(∃ M, ⌜FCov b g rem M⌝ ∗ Tile d i arg6 arg7 arg8 arg9 arg10 arg11 arg12 arg13 arg14 arg16 src dst b G M)) ?body) $$ [HT]
  case body =>
    intro t rem
    exact fast_body d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 src dst b G hsrc hdst hb c0 c1 t1 t rem
  · iexists M
    isplitr
    · ipureintro; exact fcov_zero _ hM
    iexact HT
  iintro %rem HI
  iapply Hk
  iexact HI

/-- The slow pass over the first buffer's chunk, run where a lane is marked. -/
theorem slow_pass (hsrc : Nodes src) (hdst : Nodes dst) (hb : b + 8000 ≤ 320000) (c0 c1 : BitVec 32) (t1 : Fin k1_t1_loop.trips) (rem : IVec S16 1)
    (v48 : BitVec 32) (hv : ¬ k1_cond1 v48 = 1#1 → ∀ k : Fin 16, rem (lane k) ≠ 1)
    {α : Type} {kk : Prog (TpuEff nD τ sig (Elt F) Λ₀ (tile d i).2) α} {Q : α → sProp 𝕄} :
    iprop(∃ M, ⌜FCov b 500 rem M⌝ ∗ Tile d i arg6 arg7 arg8 arg9 arg10 arg11 arg12 arg13 arg14 arg16 src dst b G M)
      ⊢ iprop(((∃ M, ⌜Cov (b + 8000) M⌝ ∗ Tile d i arg6 arg7 arg8 arg9 arg10 arg11 arg12 arg13 arg14 arg16 src dst b G M) -∗ wpT d i kk Q)
        -∗ wpT d i (if hc : k1_cond1 v48 = 1#1 then
              (Scf.Loop.for k1_t3_loop k1_t3_ok ⟨⟩ (k1_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 1#32 c0 c1 t1 v48 hc) >>= fun _ => kk)
            else kk) Q) := by
  rcases Classical.em (k1_cond1 v48 = 1#1) with hc | hc
  · rw [dif_pos hc]
    iintro ⟨%M, %hM, HT⟩ Hk
    iapply (loop_rule d i (fun g _ => iprop(∃ M, ⌜Cov (b + 16 * g) M⌝ ∗ Tile d i arg6 arg7 arg8 arg9 arg10 arg11 arg12 arg13 arg14 arg16 src dst b G M)) ?body) $$ [HT]
    case body =>
      intro t u
      exact slow_body d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 src dst b G hsrc hdst hb c0 c1 t1 _ hc t u
    · iexists M
      isplitr
      · ipureintro; exact hM.1
      iexact HT
    iintro %u HI
    iapply Hk
    iexact HI
  · rw [dif_neg hc]
    iintro ⟨%M, %hM, HT⟩ Hk
    iapply Hk
    iexists M
    isplitr
    · ipureintro; exact fcov_done hM (hv hc)
    iexact HT

set_option maxRecDepth 65536 in
/-- The second buffer's fast body is the first's, the buffers exchanged. -/
theorem t6_eq (v2 c3 c0 c1 : BitVec 32) (t1 : Fin k1_t1_loop.trips) :
    k1_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 v2 c3 = k1_t2_body (F := F) i arg2 harg2 arg3 harg3 arg4 harg4 arg5 harg5 arg6 harg6 arg7 harg7 arg8 harg8 arg9 harg9 arg10 harg10 arg11 harg11 arg12 harg12 arg13 harg13 arg15 harg15 arg14 harg14 arg17 harg17 arg16 harg16 arg18 arg19 arg20 arg21 v28_r0 v28_r1 v28_r2 v28_r3 v28_r4 v28_r5 v28_r6 v28_r7 v28_r8 v28_r9 v28_r10 v28_r11 (extractAt ![15] k1_pay30 inpos_S16_p15) c0 c1 t1 := by exact rfl

set_option maxRecDepth 65536 in
/-- The second buffer's slow body is the first's, the buffers exchanged. -/
theorem t7_eq (v2 c3 c0 c1 v48 : BitVec 32) (hc : k1_cond1 v48 = 1#1) (t1 : Fin k1_t1_loop.trips) :
    k1_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 v2 c3 (extractAt ![15] k1_pay30 inpos_S16_p15) v48 hc = k1_t3_body (F := F) i arg2 harg2 arg3 harg3 arg4 harg4 arg5 harg5 arg6 harg6 arg7 harg7 arg8 harg8 arg9 harg9 arg10 harg10 arg11 harg11 arg12 harg12 arg13 harg13 arg15 harg15 arg14 harg14 arg17 harg17 arg16 harg16 arg18 arg19 arg20 arg21 v28_r0 v28_r1 v28_r2 v28_r3 v28_r4 v28_r5 v28_r6 v28_r7 v28_r8 v28_r9 v28_r10 v28_r11 (extractAt ![15] k1_pay30 inpos_S16_p15) c0 c1 t1 v48 hc := by exact rfl

/-- The fast pass over the second buffer's chunk. -/
theorem fast_pass' (hsrc : Nodes src) (hdst : Nodes dst) (hb : b + 8000 ≤ 320000) (v2 c3 : BitVec 32) (t1 : Fin k1_t1_loop.trips) {α : Type}
    {kk : IVec S16 1 → Prog (TpuEff nD τ sig (Elt F) Λ₀ (tile d i).2) α} {Q : α → sProp 𝕄} :
    iprop(∃ M, ⌜Cov b M⌝ ∗ Tile d i arg6 arg7 arg8 arg9 arg10 arg11 arg12 arg13 arg15 arg17 src dst b G M)
      ⊢ iprop((∀ rem, (∃ M, ⌜FCov b 500 rem M⌝ ∗ Tile d i arg6 arg7 arg8 arg9 arg10 arg11 arg12 arg13 arg15 arg17 src dst b G M) -∗ wpT d i (kk rem) Q)
        -∗ wpT d i (Scf.Loop.for k1_t6_loop k1_t6_ok k1_pay31 (k1_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 v2 c3) >>= kk) Q) := by
  rw [t6_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 v2 c3 0#32 1#32 t1, base_eq]
  exact fast_pass d i arg2 harg2 arg3 harg3 arg4 harg4 arg5 harg5 arg6 harg6 arg7 harg7 arg8 harg8 arg9 harg9 arg10 harg10 arg11 harg11 arg12 harg12 arg13 harg13 arg15 harg15 arg14 harg14 arg17 harg17 arg16 harg16 arg18 arg19 arg20 arg21 v28_r0 v28_r1 v28_r2 v28_r3 v28_r4 v28_r5 v28_r6 v28_r7 v28_r8 v28_r9 v28_r10 v28_r11 src dst b G hsrc hdst hb 0#32 1#32 t1

/-- The slow pass over the second buffer's chunk, run where a lane is marked. -/
theorem slow_pass' (hsrc : Nodes src) (hdst : Nodes dst) (hb : b + 8000 ≤ 320000) (v2 c3 : BitVec 32) (t1 : Fin k1_t1_loop.trips) (rem : IVec S16 1)
    (v18 : BitVec 32) (hv18 : v18 = extractAt ![15] k1_pay30 inpos_S16_p15)
    (v69 : BitVec 32) (hv : ¬ k1_cond1 v69 = 1#1 → ∀ k : Fin 16, rem (lane k) ≠ 1)
    {α : Type} {kk : Prog (TpuEff nD τ sig (Elt F) Λ₀ (tile d i).2) α} {Q : α → sProp 𝕄} :
    iprop(∃ M, ⌜FCov b 500 rem M⌝ ∗ Tile d i arg6 arg7 arg8 arg9 arg10 arg11 arg12 arg13 arg15 arg17 src dst b G M)
      ⊢ iprop(((∃ M, ⌜Cov (b + 8000) M⌝ ∗ Tile d i arg6 arg7 arg8 arg9 arg10 arg11 arg12 arg13 arg15 arg17 src dst b G M) -∗ wpT d i kk Q)
        -∗ wpT d i (if hc : k1_cond3 v69 = 1#1 then
              (Scf.Loop.for k1_t7_loop k1_t7_ok ⟨⟩ (k1_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 v2 c3 v18 v69 hc) >>= fun _ => kk)
            else kk) Q) := by
  subst hv18
  have key := slow_pass d i arg2 harg2 arg3 harg3 arg4 harg4 arg5 harg5 arg6 harg6 arg7 harg7 arg8 harg8 arg9 harg9 arg10 harg10 arg11 harg11 arg12 harg12 arg13 harg13 arg15 harg15 arg14 harg14 arg17 harg17 arg16 harg16 arg18 arg19 arg20 arg21 v28_r0 v28_r1 v28_r2 v28_r3 v28_r4 v28_r5 v28_r6 v28_r7 v28_r8 v28_r9 v28_r10 v28_r11 src dst b G hsrc hdst hb 0#32 1#32 t1 rem v69 hv (kk := kk) (Q := Q)
  rw [← base_eq] at key
  have e : ∀ hc : k1_cond1 v69 = 1#1, k1_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 v2 c3 (extractAt ![15] k1_pay30 inpos_S16_p15) v69 hc
      = k1_t3_body (F := F) i arg2 harg2 arg3 harg3 arg4 harg4 arg5 harg5 arg6 harg6 arg7 harg7 arg8 harg8 arg9 harg9 arg10 harg10 arg11 harg11 arg12 harg12 arg13 harg13 arg15 harg15 arg14 harg14 arg17 harg17 arg16 harg16 arg18 arg19 arg20 arg21 v28_r0 v28_r1 v28_r2 v28_r3 v28_r4 v28_r5 v28_r6 v28_r7 v28_r8 v28_r9 v28_r10 v28_r11 (extractAt ![15] k1_pay30 inpos_S16_p15) 0#32 1#32 t1 v69 hc := fun hc => t7_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 v2 c3 0#32 1#32 v69 hc t1
  simp only [← e] at key
  exact key

end Passes

end Cert.Proof

end
-- ==== Proof.Copies.lean ====
/-
  The tile's copies: what is owed by a copy in flight, its issue and its wait, over memrefs held by their contents.
-/
module

public import proofs.«01_k».proof.Proof.Pass

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

variable (d : Dev nD) (L : grid1.Coords)

/-- The elements that memref `base` addresses, at share `q`, the buffer's contents `f` there. -/
abbrev Pts {sp : Space} {s : Shape} {e : EltTy} (base : Memref sig .scVector sp s e) (q : PosShare TreeShare) (f : Buf (Elt F) (base.view.loc (tile d L))) : sProp 𝕄 :=
  base.view.loc (tile d L) ↦[base.view.set]{q} f

/-- The elements that memref `base` addresses held outright, reading `A`. -/
def Reads {sp : Space} {s : Shape} {e : EltTy} (base : Memref sig .scVector sp s e) (A : s.Idx → Elt F e) : sProp 𝕄 :=
  iprop(∃ f, ⌜base.view.read (Elt F) f = A⌝ ∗ Pts d L base fullShare f)

/-- A DMA counter of the tile at zero. -/
abbrev Zero (sem : DmaSem sig) : sProp 𝕄 := semVal (tile d L, SemLoc.dma sem) 0

/-- A copy of `N` units in flight on `sem`, whose wait gives `R`. -/
def Pend (sem : DmaSem sig) (N : ℕ) (R : sProp 𝕄) : sProp 𝕄 :=
  iprop(∃ Dv, Transfers.Flight (countersEmb (U := UU)) (tile d L) (.dma sem) none N Dv ∗ (Dv -∗ R))

/-- What the tile owes the launch, with the waits recorded so far beyond `W` all its own. -/
def Owes (O : CellTallies nD τ sig (HIx 3)) (W : Waits sig (HIx 3)) : sProp 𝕄 :=
  iprop(∃ W', ⌜∀ p ∈ W', p ∈ W ∨ p.2 = none⌝ ∗ owes (tile d L) O W')

/-- A copy in flight gives what its delivery yields. -/
theorem pend_mono {sem : DmaSem sig} {N : ℕ} {R : sProp 𝕄} (R' : sProp 𝕄) :
    Pend d L sem N R ⊢ iprop((R -∗ R') -∗ Pend d L sem N R') := by
  unfold Pend
  iintro ⟨%Dv, HF, HD⟩ Hw
  iexists Dv
  isplitl [HF]; · iexact HF
  iintro H
  iapply Hw
  iapply HD
  iexact H

/-- The issue of a copy: the source's elements at some share lent, the target's held outright. -/
theorem issue_rule {sp sp' : Space} {s : Shape} {e : EltTy} {src : Memref sig .scVector sp s e} {dst : Memref sig .scVector sp' s e} {sem : DmaSem sig}
    {hsrc : src.view.WordExact} {hdst : dst.view.WordExact} {hsem : (DmaTarget.here dst : DmaTarget nD τ sig (tile d L).2 sp' s e).Typed sp (.dma sem)}
    {α : Type} {k : PUnit → Prog (TpuEff nD τ sig (Elt F) Λ₀ (tile d L).2) α} {Q : α → sProp 𝕄} {q : PosShare TreeShare} {f : Buf (Elt F) (src.view.loc (tile d L))}
    (hn : 0 < s.numel) :
    iprop(Pts d L src q f ∗ (∃ B, Reads d L dst B) ∗ Zero d L sem)
      ⊢ iprop((Pend d L sem dst.view.dmaCredit iprop(Reads d L dst (src.view.read (Elt F) f) ∗ Pts d L src q f) -∗ wpT d L (k ⟨⟩) Q)
        -∗ wpT d L (Prog.lift (.enqueueDma src (.here dst) (.dma sem) hsrc hdst hsem) >>= k) Q) := by
  unfold Reads
  iintro ⟨Hs, ⟨%B, %g, -, Hd⟩, Hz⟩ Hk
  iapply (Transfers.wp_dmaLocal (countersEmb (U := UU)) 𝒱₀ (tile d L) none (none : HIx 3) dst.view.dmaCredit rfl
    (View.dmaCredit_pos _ hn) (Finset.Subset.refl _)) $$ [Hs Hd Hz]
  · isplitl [Hs]; · iexact Hs
    isplitl [Hd]; · iexact Hd
    iexact Hz
  iintro HF
  iapply Hk
  unfold Pend
  iexists _
  isplitl [HF]; · iexact HF
  iintro ⟨Hd, Hs⟩
  isplitl [Hd]
  · iexists _
    isplitr
    rotate_left
    · iexact Hd
    · ipureintro
      rw [View.read_write_univ]
  iexact Hs

/-- The wait for a copy in flight. -/
theorem wait_rule {sp sp' : Space} {s s' : Shape} {e e' : EltTy} {src : Memref sig .scVector sp s' e'} {dst : Memref sig .scVector sp' s e} {sem : DmaSem sig}
    {hsrc : src.view.WordExact} {hdst : dst.view.WordExact} {N : ℕ} (hN : dst.view.dmaCredit = N)
    {α : Type} {k : PUnit → Prog (TpuEff nD τ sig (Elt F) Λ₀ (tile d L).2) α} {Q : α → sProp 𝕄} {R : sProp 𝕄}
    {O : CellTallies nD τ sig (HIx 3)} {W : Waits sig (HIx 3)} :
    iprop(Transfers.MayWaits (tile d L) (none : HIx 3) O ∗ Pend d L sem N R ∗ Owes d L O W)
      ⊢ iprop((iprop(R ∗ Zero d L sem ∗ Owes d L O W) -∗ wpT d L (k ⟨⟩) Q)
        -∗ wpT d L (Prog.lift (.waitDma2 sem src dst hsrc hdst) >>= k) Q) := by
  unfold Pend Owes
  iintro ⟨Hmw, ⟨%Dv, HF, HD⟩, %W', %hW', HO⟩ Hk
  iapply (Transfers.wp_waitLocalO (countersEmb (U := UU)) 𝒱₀ (tile d L) none (none : HIx 3) hN) $$ [HF HO Hmw]
  · isplitl [HF]; · iexact HF
    isplitl [HO]; · iexact HO
    iapply (Transfers.MayWaits.elim (SemLoc.dma sem)); iexact Hmw
  iintro ⟨Hd, Hz, HO⟩
  iapply Hk
  isplitl [HD Hd]
  · iapply HD; iexact Hd
  isplitl [Hz]; · iexact Hz
  iexists _
  isplitr
  rotate_left
  · iexact HO
  · ipureintro
    intro p hp
    rcases Finset.mem_insert.mp hp with hp | hp
    · exact .inr (hp ▸ rfl)
    · exact hW' p hp

/-- A slice lent out of a memref's elements, to be put back. -/
theorem carve {sp : Space} {s : Shape} {e : EltTy} (base : Memref sig .scVector sp s e) (r : Rect s) (hr : ∀ a, r.stride a = 1) (q : PosShare TreeShare)
    (f : Buf (Elt F) (base.view.loc (tile d L))) :
    Pts d L base q f ⊢ iprop(Pts d L (base.slice r hr) q f ∗ (Pts d L (base.slice r hr) q f -∗ Pts d L base q f)) := by
  have h := pointsTo_split_subset (U := UU) (Ix := HIx 3) (Name := ℕ) (Lvl := ℕ) (Val := Elt F) (ℓ := base.view.loc (tile d L)) (q := q) (f := f) (View.set_slice_subset base.view r)
  iintro H
  ihave H' := h.1 $$ H
  icases H' with ⟨H1, H2⟩
  isplitl [H1]; · iexact H1
  iintro H1
  iapply h.2
  isplitl [H1]; · iexact H1
  iexact H2

/-- A row's contents held and a scratch array's contents held are one form. -/
theorem reads_eq {s : Shape} {e : EltTy} (base : Memref sig .scVector .vmem s e) (A : s.Idx → Elt F e) : Reads d L base A = Holds d L base A := rfl

/-- The 8000 words from edge `b`, read through their slice of the array of all. -/
theorem chunk_read (base : Memref sig .scVector .hbm S320000 .i32) (f : Buf (Elt F) (base.view.loc (tile d L))) (w : ℕ → BitVec 32)
    (hf : base.view.read (Elt F) f = fun x => w (x 0).val) (off : Fin 1 → ℕ) (b : ℕ) (hoff : off = ![b]) (inb : ∀ a, off a + S8000.size a ≤ S320000.size a)
    (hr : ∀ a, (Rect.unit (s := S320000) off S8000.size inb).stride a = 1) :
    (base.slice (Rect.unit (s := S320000) off S8000.size inb) hr).view.read (Elt F) f = chunk w b := by
  subst hoff
  funext x
  show base.view.read (Elt F) f ((Rect.unit (s := S320000) ![b] S8000.size inb).emb x) = _
  rw [hf]
  show w _ = w _
  congr 1
  show b + 1 * (x 0).val = _
  omega

end Cert.Proof

end
-- ==== Proof.TileRun.lean ====
/-
  The tile's run: the loop over pairs of chunks with the next chunk's copies in flight, between the fetch of the four rows
  and their write-out.
-/
module

public import proofs.«01_k».proof.Proof.Copies

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

section TileRun

variable (d : Dev nD) (i : grid1.Coords)
variable (arg2 : Memref sig .scVector .hbm S128x10240 .f32) (harg2 : arg2.IsWhole) (arg3 : Memref sig .scVector .hbm S320000 .i32) (harg3 : arg3.IsWhole)
  (arg4 : Memref sig .scVector .hbm S320000 .i32) (harg4 : arg4.IsWhole) (arg5 : Memref sig .scVector .hbm S128x10240 .f32) (harg5 : arg5.IsWhole)
  (arg6 : Memref sig .scVector .vmem S10240 .f32) (harg6 : arg6.IsWhole) (arg7 : Memref sig .scVector .vmem S10240 .f32) (harg7 : arg7.IsWhole)
  (arg8 : Memref sig .scVector .vmem S10240 .f32) (harg8 : arg8.IsWhole) (arg9 : Memref sig .scVector .vmem S10240 .f32) (harg9 : arg9.IsWhole)
  (arg10 : Memref sig .scVector .vmem S10240 .f32) (harg10 : arg10.IsWhole) (arg11 : Memref sig .scVector .vmem S10240 .f32) (harg11 : arg11.IsWhole)
  (arg12 : Memref sig .scVector .vmem S10240 .f32) (harg12 : arg12.IsWhole) (arg13 : Memref sig .scVector .vmem S10240 .f32) (harg13 : arg13.IsWhole)
  (arg14 : Memref sig .scVector .vmem S8000 .i32) (harg14 : arg14.IsWhole) (arg15 : Memref sig .scVector .vmem S8000 .i32) (harg15 : arg15.IsWhole)
  (arg16 : Memref sig .scVector .vmem S8000 .i32) (harg16 : arg16.IsWhole) (arg17 : Memref sig .scVector .vmem S8000 .i32) (harg17 : arg17.IsWhole)
  (arg18 : DmaSems sig S_) (arg19 : DmaSems sig S_) (arg20 : DmaSems sig S_) (arg21 : DmaSems sig S_) (v28_r0 : DmaSems sig S_)
  (v28_r1 : DmaSems sig S_) (v28_r2 : DmaSems sig S_) (v28_r3 : DmaSems sig S_) (v28_r4 : DmaSems sig S_) (v28_r5 : DmaSems sig S_)
  (v28_r6 : DmaSems sig S_) (v28_r7 : DmaSems sig S_) (v28_r8 : DmaSems sig S_) (v28_r9 : DmaSems sig S_) (v28_r10 : DmaSems sig S_)
  (v28_r11 : DmaSems sig S_)

variable (src dst : ℕ → BitVec 32) (G : Fin 4 → Row F)
variable (q : PosShare TreeShare) (fs : Buf (Elt F) (arg3.view.loc (tile d i))) (fd : Buf (Elt F) (arg4.view.loc (tile d i)))
variable (O : CellTallies nD τ sig (HIx 3)) (W : Waits sig (HIx 3))

/-- The feature rows, and the accumulator rows at the updates of a list that has every edge below `n`. -/
def Core (n : ℕ) : sProp 𝕄 :=
  iprop(∃ M, ⌜Cov n M⌝ ∗ Holds d i arg6 (G 0) ∗ Holds d i arg7 (G 1) ∗ Holds d i arg8 (G 2) ∗ Holds d i arg9 (G 3)
    ∗ Accs d i src dst G arg10 arg11 arg12 arg13 M)

/-- A scratch array of words at whatever it holds. -/
abbrev Free (base : Memref sig .scVector .vmem S8000 .i32) : sProp 𝕄 := iprop(∃ B, Reads d i base B)

/-- One chunk's copies in flight into the first buffers. -/
def Fetching (b : ℕ) : sProp 𝕄 :=
  iprop(Pend d i arg18.sem arg14.view.dmaCredit iprop(Reads d i arg14 (chunk src b) ∗ Pts d i arg3 q fs)
    ∗ Pend d i arg19.sem arg16.view.dmaCredit iprop(Reads d i arg16 (chunk dst b) ∗ Pts d i arg4 q fd))

/-- The first buffers at rest. -/
def Resting : sProp 𝕄 :=
  iprop(Free d i arg14 ∗ Free d i arg16 ∗ Zero d i arg18.sem ∗ Zero d i arg19.sem ∗ Pts d i arg3 q fs ∗ Pts d i arg4 q fd)

/-- Between the pairs of chunks: the edges of the first `k` pairs done, the next chunk's copies in flight while there is one. -/
def PairI (k : ℕ) : sProp 𝕄 :=
  iprop(Transfers.MayWaits (tile d i) (none : HIx 3) O
    ∗ Core d i arg6 arg7 arg8 arg9 arg10 arg11 arg12 arg13 src dst G (16000 * k) ∗ Free d i arg15 ∗ Free d i arg17 ∗ Zero d i arg20.sem ∗ Zero d i arg21.sem
    ∗ (if k < 20 then Fetching d i arg3 arg4 arg14 arg16 arg18 arg19 src dst q fs fd (16000 * k) else Resting d i arg3 arg4 arg14 arg16 arg18 arg19 q fs fd)
    ∗ Owes d i O W)

/-- The first half of a pair: the first buffers' chunk arrives, the second buffers' is fetched meanwhile and arrives. -/
theorem part1_run (hsrc : Nodes src) (hdst : Nodes dst) (hfs : arg3.view.read (Elt F) fs = fun x => src (x 0).val) (hfd : arg4.view.read (Elt F) fd = fun x => dst (x 0).val)
    (t1 : Fin k1_t1_loop.trips) (v18 : BitVec 32) (hv18 : v18 = 1#32) (Q : (Σ' (_ : BitVec 32), BitVec 1) → sProp 𝕄) :
    iprop(Transfers.MayWaits (tile d i) (none : HIx 3) O
        ∗ Core d i arg6 arg7 arg8 arg9 arg10 arg11 arg12 arg13 src dst G (16000 * t1.val) ∗ Free d i arg15 ∗ Free d i arg17 ∗ Zero d i arg20.sem ∗ Zero d i arg21.sem
        ∗ Fetching d i arg3 arg4 arg14 arg16 arg18 arg19 src dst q fs fd (16000 * t1.val) ∗ Owes d i O W)
      ⊢ iprop((∀ v, iprop(Core d i arg6 arg7 arg8 arg9 arg10 arg11 arg12 arg13 src dst G (16000 * t1.val + 8000)
            ∗ Reads d i arg15 (chunk (F := F) src (16000 * t1.val + 8000)) ∗ Reads d i arg17 (chunk (F := F) dst (16000 * t1.val + 8000))
            ∗ Zero d i arg20.sem ∗ Zero d i arg21.sem ∗ Resting d i arg3 arg4 arg14 arg16 arg18 arg19 q fs fd ∗ Owes d i O W) -∗ Q v)
        -∗ wpT d i (k1_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 v18 0#32 1#32 t1) Q) := by
  subst hv18
  have ht : t1.val < 20 := t1.isLt
  rw [k1_part1_eq_skeleton]; unfold k1_part1_skel
  iintro ⟨#Hmw, HC, H15, H17, Hz20, Hz21, HF, HO⟩ HQ
  unfold Fetching
  icases HF with ⟨HF18, HF19⟩
  iapply (wait_rule d i rfl) $$ [HF18 HO]
  · isplitr; · iexact Hmw
    isplitl [HF18]; · iexact HF18
    iexact HO
  iintro ⟨⟨H14, H3⟩, Hz18, HO⟩
  iapply (wait_rule d i rfl) $$ [HF19 HO]
  · isplitr; · iexact Hmw
    isplitl [HF19]; · iexact HF19
    iexact HO
  iintro ⟨⟨H16, H4⟩, Hz19, HO⟩
  ihave H3' := (carve d i arg3 (Rect.unit (s := S320000) (k1_off2 t1) S8000.size (k1_off2_inb t1)) (fun _ => rfl) q fs) $$ H3
  icases H3' with ⟨H3, H3w⟩
  iapply (issue_rule d i (show 0 < S8000.numel by decide)) $$ [H3 H15 Hz20]
  · isplitl [H3]; · iexact H3
    isplitl [H15]; · iexact H15
    iexact Hz20
  iintro HF20
  rw [chunk_read d i arg3 fs src hfs _ (16000 * t1.val + 8000) (k1_off2_eq t1)]
  ihave H4' := (carve d i arg4 (Rect.unit (s := S320000) (k1_off2 t1) S8000.size (k1_off2_inb t1)) (fun _ => rfl) q fd) $$ H4
  icases H4' with ⟨H4, H4w⟩
  iapply (issue_rule d i (show 0 < S8000.numel by decide)) $$ [H4 H17 Hz21]
  · isplitl [H4]; · iexact H4
    isplitl [H17]; · iexact H17
    iexact Hz21
  iintro HF21
  rw [chunk_read d i arg4 fd dst hfd _ (16000 * t1.val + 8000) (k1_off2_eq t1)]
  unfold Core Accs
  icases HC with ⟨%M, %hM, Hg0, Hg1, Hg2, Hg3, Ha0, Ha1, Ha2, Ha3⟩
  ihave H14 := (Entails.of_eq (reads_eq d i arg14 _)) $$ H14
  ihave H16 := (Entails.of_eq (reads_eq d i arg16 _)) $$ H16
  iapply (fast_pass d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 src dst (16000 * t1.val) G hsrc hdst (by omega) 0#32 1#32 t1) $$ [Hg0 Hg1 Hg2 Hg3 Ha0 Ha1 Ha2 Ha3 H14 H16]
  · unfold Tile
    iexists M
    isplitr; · ipureintro; exact hM
    iframe
  iintro %rem HT
  iapply (slow_pass d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 src dst (16000 * t1.val) G hsrc hdst (by omega) 0#32 1#32 t1 rem _ (none_marked rem)) $$ HT
  iintro HT
  unfold Tile
  icases HT with ⟨%M', %hM', Hg0, Hg1, Hg2, Hg3, Ha0, Ha1, Ha2, Ha3, H14, H16⟩
  iapply (wait_rule d i rfl) $$ [HF20 HO]
  · isplitr; · iexact Hmw
    isplitl [HF20]; · iexact HF20
    iexact HO
  iintro ⟨⟨H15, H3⟩, Hz20, HO⟩
  iapply (wait_rule d i rfl) $$ [HF21 HO]
  · isplitr; · iexact Hmw
    isplitl [HF21]; · iexact HF21
    iexact HO
  iintro ⟨⟨H17, H4⟩, Hz21, HO⟩
  ihave H3 := H3w $$ H3
  ihave H4 := H4w $$ H4
  iapply (ret_rule d i)
  iapply HQ
  isplitl [Hg0 Hg1 Hg2 Hg3 Ha0 Ha1 Ha2 Ha3]
  · iexists M'
    isplitr; · ipureintro; exact hM'
    iframe
  unfold Resting
  isplitl [H15]; · iexact H15
  isplitl [H17]; · iexact H17
  isplitl [Hz20]; · iexact Hz20
  isplitl [Hz21]; · iexact Hz21
  isplitr [HO]
  · isplitl [H14]; · iexists _; iapply (Entails.of_eq (reads_eq d i arg14 _).symm); iexact H14
    isplitl [H16]; · iexists _; iapply (Entails.of_eq (reads_eq d i arg16 _).symm); iexact H16
    isplitl [Hz18]; · iexact Hz18
    isplitl [Hz19]; · iexact Hz19
    isplitl [H3]; · iexact H3
    iexact H4
  iexact HO

omit [FloatOps F] in
/-- The next pair is fetched exactly where there is one. -/
theorem next_iff (t1 : Fin k1_t1_loop.trips) : k1_cond2 t1 = 1#1 ↔ t1.val + 1 < 20 := by
  have key : ∀ t1 : Fin k1_t1_loop.trips, k1_cond2 t1 = 1#1 ↔ t1.val + 1 < 20 := by decide +kernel
  exact key t1

/-- The second half of a pair after its fetch: the passes over the second buffers' chunk. -/
theorem half2_run (hsrc : Nodes src) (hdst : Nodes dst) (t1 : Fin k1_t1_loop.trips) (v2 c3 v18 : BitVec 32) (hv18 : v18 = extractAt ![15] k1_pay30 inpos_S16_p15) :
    iprop(Transfers.MayWaits (tile d i) (none : HIx 3) O
        ∗ Core d i arg6 arg7 arg8 arg9 arg10 arg11 arg12 arg13 src dst G (16000 * t1.val + 8000)
        ∗ Reads d i arg15 (chunk (F := F) src (16000 * t1.val + 8000)) ∗ Reads d i arg17 (chunk (F := F) dst (16000 * t1.val + 8000))
        ∗ Zero d i arg20.sem ∗ Zero d i arg21.sem
        ∗ (if t1.val + 1 < 20 then Fetching d i arg3 arg4 arg14 arg16 arg18 arg19 src dst q fs fd (16000 * (t1.val + 1)) else Resting d i arg3 arg4 arg14 arg16 arg18 arg19 q fs fd)
        ∗ Owes d i O W)
      ⊢ wpT d i (do
          let v62 : IVec S16 1 ← Scf.Loop.for k1_t6_loop k1_t6_ok k1_pay31 (k1_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 v2 c3)
          let v69 : BitVec 32 := extractAt ![15] (k1_pay46 v62) inpos_S16_p15
          if k1_h3 : k1_cond3 v69 = 1#1 then do
            Scf.Loop.for k1_t7_loop k1_t7_ok ⟨⟩ (k1_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 v2 c3 v18 v69 k1_h3)
            pure ⟨⟩
          else do
            pure ⟨⟩
          pure ⟨⟩ : Prog (TpuEff nD τ sig (Elt F) Λ₀ (tile d i).2) Unit)
        (fun _ => PairI d i arg3 arg4 arg6 arg7 arg8 arg9 arg10 arg11 arg12 arg13 arg14 arg15 arg16 arg17 arg18 arg19 arg20 arg21 src dst G q fs fd O W (t1.val + 1)) := by
  have ht : t1.val < 20 := t1.isLt
  iintro ⟨#Hmw, HC, H15, H17, Hz20, Hz21, HF, HO⟩
  unfold Core Accs
  icases HC with ⟨%M, %hM, Hg0, Hg1, Hg2, Hg3, Ha0, Ha1, Ha2, Ha3⟩
  ihave H15 := (Entails.of_eq (reads_eq d i arg15 _)) $$ H15
  ihave H17 := (Entails.of_eq (reads_eq d i arg17 _)) $$ H17
  iapply (fast_pass' d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 src dst (16000 * t1.val + 8000) G hsrc hdst (by omega) v2 c3 t1) $$ [Hg0 Hg1 Hg2 Hg3 Ha0 Ha1 Ha2 Ha3 H15 H17]
  · unfold Tile
    iexists M
    isplitr; · ipureintro; exact hM
    iframe
  iintro %rem HT
  iapply (slow_pass' d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 src dst (16000 * t1.val + 8000) G hsrc hdst (by omega) v2 c3 t1 rem v18 hv18 _ (none_marked rem)) $$ HT
  iintro HT
  unfold Tile
  icases HT with ⟨%M', %hM', Hg0, Hg1, Hg2, Hg3, Ha0, Ha1, Ha2, Ha3, H15, H17⟩
  iapply (ret_rule d i)
  unfold PairI Core Accs
  isplitr; · iexact Hmw
  isplitl [Hg0 Hg1 Hg2 Hg3 Ha0 Ha1 Ha2 Ha3]
  · iexists M'
    isplitr
    · ipureintro
      rw [show 16000 * (t1.val + 1) = 16000 * t1.val + 8000 + 8000 by omega]
      exact hM'
    iframe
  isplitl [H15]; · iexists _; iapply (Entails.of_eq (reads_eq d i arg15 _).symm); iexact H15
  isplitl [H17]; · iexists _; iapply (Entails.of_eq (reads_eq d i arg17 _).symm); iexact H17
  isplitl [Hz20]; · iexact Hz20
  isplitl [Hz21]; · iexact Hz21
  isplitl [HF]; · iexact HF
  iexact HO

/-- One pair of chunks. -/
theorem pair_run (hsrc : Nodes src) (hdst : Nodes dst) (hfs : arg3.view.read (Elt F) fs = fun x => src (x 0).val) (hfd : arg4.view.read (Elt F) fd = fun x => dst (x 0).val)
    (t1 : Fin k1_t1_loop.trips) (u : Unit) (v2 c3 v18 : BitVec 32) (hv18 : v18 = extractAt ![15] k1_pay30 inpos_S16_p15) :
    PairI d i arg3 arg4 arg6 arg7 arg8 arg9 arg10 arg11 arg12 arg13 arg14 arg15 arg16 arg17 arg18 arg19 arg20 arg21 src dst G q fs fd O W t1.val
      ⊢ wpT d i (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 v2 c3 v18 t1 u)
        (fun _ => PairI d i arg3 arg4 arg6 arg7 arg8 arg9 arg10 arg11 arg12 arg13 arg14 arg15 arg16 arg17 arg18 arg19 arg20 arg21 src dst G q fs fd O W (t1.val + 1)) := by
  have ht : t1.val < 20 := t1.isLt
  have half := half2_run d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 src dst G q fs fd O W hsrc hdst t1 v2 c3 v18 hv18
  unfold k1_t1_body
  unfold wpT
  rw [wp_bind]
  unfold PairI at ⊢
  rw [if_pos ht]
  iintro ⟨#Hmw, HC, H15, H17, Hz20, Hz21, HF, HO⟩
  iapply (part1_run d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 src dst G q fs fd O W hsrc hdst hfs hfd t1 v18 (hv18.trans base_eq)) $$ [HC H15 H17 Hz20 Hz21 HF HO]
  · isplitr; · iexact Hmw
    iframe
  iintro %v ⟨HC, H15, H17, Hz20, Hz21, HR, HO⟩
  rcases Classical.em (k1_cond2 t1 = 1#1) with hc | hc
  · have hlt := (next_iff t1).mp hc
    rw [dif_pos hc]
    rw [if_pos hlt] at half
    unfold Resting
    icases HR with ⟨H14, H16, Hz18, Hz19, H3, H4⟩
    ihave H3' := (carve d i arg3 (Rect.unit (s := S320000) (k1_off5 t1) S8000.size (k1_off5_inb t1 hc)) (fun _ => rfl) q fs) $$ H3
    icases H3' with ⟨H3, H3w⟩
    iapply (issue_rule d i (show 0 < S8000.numel by decide)) $$ [H3 H14 Hz18]
    · isplitl [H3]; · iexact H3
      isplitl [H14]; · iexact H14
      iexact Hz18
    iintro HF18
    rw [chunk_read d i arg3 fs src hfs _ (16000 * (t1.val + 1)) (k1_off5_eq t1)]
    ihave H4' := (carve d i arg4 (Rect.unit (s := S320000) (k1_off5 t1) S8000.size (k1_off5_inb t1 hc)) (fun _ => rfl) q fd) $$ H4
    icases H4' with ⟨H4, H4w⟩
    iapply (issue_rule d i (show 0 < S8000.numel by decide)) $$ [H4 H16 Hz19]
    · isplitl [H4]; · iexact H4
      isplitl [H16]; · iexact H16
      iexact Hz19
    iintro HF19
    rw [chunk_read d i arg4 fd dst hfd _ (16000 * (t1.val + 1)) (k1_off5_eq t1)]
    iapply half
    isplitr; · iexact Hmw
    isplitl [HC]; · iexact HC
    isplitl [H15]; · iexact H15
    isplitl [H17]; · iexact H17
    isplitl [Hz20]; · iexact Hz20
    isplitl [Hz21]; · iexact Hz21
    isplitr [HO]
    · unfold Fetching
      isplitl [HF18 H3w]
      · iapply (pend_mono d i _) $$ HF18
        iintro ⟨H14, H3⟩
        isplitl [H14]; · iexact H14
        iapply H3w; iexact H3
      · iapply (pend_mono d i _) $$ HF19
        iintro ⟨H16, H4⟩
        isplitl [H16]; · iexact H16
        iapply H4w; iexact H4
    iexact HO
  · have hlt : ¬ t1.val + 1 < 20 := fun h => hc ((next_iff t1).mpr h)
    rw [dif_neg hc]
    rw [if_neg hlt] at half
    iapply half
    isplitr; · iexact Hmw
    iframe

end TileRun

end Cert.Proof

end
-- ==== Proof.Tile.lean ====
/-
  The whole run of one tile: its four rows fetched into the feature and the accumulator rows, the loop over the chunks of
  edges, and the accumulators written out to the tile's four rows of the result.
-/
module

public import proofs.«01_k».proof.Proof.TileRun

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

/-! ## A row's copy, from issue to wait -/

section Rows

variable (d : Dev nD) (L : grid1.Coords)

/-- A copy waited for where it was issued: the target then reads what the source does. -/
theorem fetch_rule {sp sp' : Space} {s : Shape} {e : EltTy} {src : Memref sig .scVector sp s e} {dst : Memref sig .scVector sp' s e} {sem : DmaSem sig}
    {hsrc hsrc' : src.view.WordExact} {hdst hdst' : dst.view.WordExact} {hsem : (DmaTarget.here dst : DmaTarget nD τ sig (tile d L).2 sp' s e).Typed sp (.dma sem)}
    {α : Type} {k : PUnit → Prog (TpuEff nD τ sig (Elt F) Λ₀ (tile d L).2) α} {Q : α → sProp 𝕄} {q : PosShare TreeShare} {f : Buf (Elt F) (src.view.loc (tile d L))}
    {O : CellTallies nD τ sig (HIx 3)} {W : Waits sig (HIx 3)} (hn : 0 < s.numel) :
    iprop(Transfers.MayWaits (tile d L) (none : HIx 3) O ∗ Pts d L src q f ∗ (∃ B, Reads d L dst B) ∗ Zero d L sem ∗ Owes d L O W)
      ⊢ iprop((iprop(Reads d L dst (src.view.read (Elt F) f) ∗ Pts d L src q f ∗ Zero d L sem ∗ Owes d L O W) -∗ wpT d L (k ⟨⟩) Q)
        -∗ wpT d L (Prog.lift (.enqueueDma src (.here dst) (.dma sem) hsrc hdst hsem) >>= fun _ => Prog.lift (.waitDma2 sem src dst hsrc' hdst') >>= k) Q) := by
  iintro ⟨Hmw, Hs, Hd, Hz, HO⟩ Hk
  iapply (issue_rule d L hn) $$ [Hs Hd Hz]
  · isplitl [Hs]; · iexact Hs
    isplitl [Hd]; · iexact Hd
    iexact Hz
  iintro HF
  iapply (wait_rule d L rfl) $$ [Hmw HF HO]
  · isplitl [Hmw]; · iexact Hmw
    isplitl [HF]; · iexact HF
    iexact HO
  iintro ⟨⟨Hd, Hs⟩, Hz, HO⟩
  iapply Hk
  isplitl [Hd]; · iexact Hd
  isplitl [Hs]; · iexact Hs
  isplitl [Hz]; · iexact Hz
  iexact HO

/-- Row `r` of the tile's four, of the features. -/
abbrev rowIn (base : Memref sig .scVector .hbm S128x10240 .f32) (r : Fin 4) : Memref sig .scVector .hbm S10240 .f32 :=
  (base.slice (Rect.unit (s := S128x10240) (k1_off1 L (BitVec.ofNat 32 r.val)) S1x10240.size (k1_off1_inb L r)) (fun _ => rfl)).squeeze S10240 squeezes_S1x10240_S10240

/-- Row `r` of the tile's four, of the result. -/
abbrev rowOut (base : Memref sig .scVector .hbm S128x10240 .f32) (r : Fin 4) : Memref sig .scVector .hbm S10240 .f32 :=
  (base.slice (Rect.unit (s := S128x10240) (k1_off8 L (BitVec.ofNat 32 r.val)) S1x10240.size (k1_off8_inb L r)) (fun _ => rfl)).squeeze S10240 squeezes_S1x10240_S10240

/-- A row lent out of the array of all, to be put back. -/
theorem carve_row (base : Memref sig .scVector .hbm S128x10240 .f32) (r : Fin 4) (q : PosShare TreeShare) (f : Buf (Elt F) (base.view.loc (tile d L))) :
    Pts d L base q f ⊢ iprop(Pts d L (rowIn L base r) q f ∗ (Pts d L (rowIn L base r) q f -∗ Pts d L base q f)) := by
  have hs : (rowIn L base r).view.set ⊆ base.view.set := by
    rw [show (rowIn L base r).view.set = _ from View.set_reshape _ _]
    exact View.set_slice_subset base.view _
  have h := pointsTo_split_subset (U := UU) (Ix := HIx 3) (Name := ℕ) (Lvl := ℕ) (Val := Elt F) (ℓ := base.view.loc (tile d L)) (q := q) (f := f) hs
  iintro H
  ihave H' := h.1 $$ H
  icases H' with ⟨H1, H2⟩
  isplitl [H1]; · iexact H1
  iintro H1
  iapply h.2
  isplitl [H1]; · iexact H1
  iexact H2

/-- The fetch of a row of the features into a scratch row. -/
theorem fetch_row (base : Memref sig .scVector .hbm S128x10240 .f32) (r : Fin 4) {dst : Memref sig .scVector .vmem S10240 .f32} {sem : DmaSem sig}
    {hsrc hsrc' : (rowIn L base r).view.WordExact} {hdst hdst' : dst.view.WordExact} {hsem : (DmaTarget.here dst : DmaTarget nD τ sig (tile d L).2 .vmem S10240 .f32).Typed .hbm (.dma sem)}
    {α : Type} {k : PUnit → Prog (TpuEff nD τ sig (Elt F) Λ₀ (tile d L).2) α} {Q : α → sProp 𝕄} {q : PosShare TreeShare} {f : Buf (Elt F) (base.view.loc (tile d L))}
    {O : CellTallies nD τ sig (HIx 3)} {W : Waits sig (HIx 3)} :
    iprop(Transfers.MayWaits (tile d L) (none : HIx 3) O ∗ Pts d L base q f ∗ (∃ B, Reads d L dst B) ∗ Zero d L sem ∗ Owes d L O W)
      ⊢ iprop((iprop(Holds d L dst ((rowIn L base r).view.read (Elt F) f) ∗ Pts d L base q f ∗ Zero d L sem ∗ Owes d L O W) -∗ wpT d L (k ⟨⟩) Q)
        -∗ wpT d L (Prog.lift (.enqueueDma (rowIn L base r) (.here dst) (.dma sem) hsrc hdst hsem)
            >>= fun _ => Prog.lift (.waitDma2 sem (rowIn L base r) dst hsrc' hdst') >>= k) Q) := by
  iintro ⟨Hmw, Hs, Hd, Hz, HO⟩ Hk
  ihave Hs' := (carve_row d L base r q f) $$ Hs
  icases Hs' with ⟨Hs, Hw⟩
  iapply (fetch_rule d L (show 0 < S10240.numel by decide)) $$ [Hmw Hs Hd Hz HO]
  · isplitl [Hmw]; · iexact Hmw
    isplitl [Hs]; · iexact Hs
    isplitl [Hd]; · iexact Hd
    isplitl [Hz]; · iexact Hz
    iexact HO
  iintro ⟨Hd, Hs, Hz, HO⟩
  iapply Hk
  isplitl [Hd]; · iapply (Entails.of_eq (reads_eq d L dst _)); iexact Hd
  isplitl [Hs Hw]; · iapply Hw; iexact Hs
  isplitl [Hz]; · iexact Hz
  iexact HO

/-- The issue of a scratch row's copy. -/
theorem issue_held {s : Shape} {e : EltTy} {src : Memref sig .scVector .vmem s e} {dst : Memref sig .scVector .hbm s e} {sem : DmaSem sig} {A : s.Idx → Elt F e}
    {hsrc : src.view.WordExact} {hdst : dst.view.WordExact} {hsem : (DmaTarget.here dst : DmaTarget nD τ sig (tile d L).2 .hbm s e).Typed .vmem (.dma sem)}
    {α : Type} {k : PUnit → Prog (TpuEff nD τ sig (Elt F) Λ₀ (tile d L).2) α} {Q : α → sProp 𝕄} (hn : 0 < s.numel) :
    iprop(Holds d L src A ∗ (∃ B, Reads d L dst B) ∗ Zero d L sem)
      ⊢ iprop((Pend d L sem dst.view.dmaCredit iprop(Reads d L dst A ∗ Holds d L src A) -∗ wpT d L (k ⟨⟩) Q)
        -∗ wpT d L (Prog.lift (.enqueueDma src (.here dst) (.dma sem) hsrc hdst hsem) >>= k) Q) := by
  iintro ⟨Hs, Hd, Hz⟩ Hk
  unfold Holds
  icases Hs with ⟨%f, %hf, Hs⟩
  subst hf
  iapply (issue_rule d L hn) $$ [Hs Hd Hz]
  · isplitl [Hs]; · iexact Hs
    isplitl [Hd]; · iexact Hd
    iexact Hz
  iintro HF
  iapply Hk
  iapply (pend_mono d L _) $$ HF
  iintro ⟨Hd, Hs⟩
  isplitl [Hd]; · iexact Hd
  iexists f
  isplitr; · ipureintro; rfl
  iexact Hs

/-- The write of a scratch row, issued and waited for. -/
theorem write_row {s : Shape} {e : EltTy} {src : Memref sig .scVector .vmem s e} {dst : Memref sig .scVector .hbm s e} {sem : DmaSem sig} {A : s.Idx → Elt F e}
    {hsrc hsrc' : src.view.WordExact} {hdst hdst' : dst.view.WordExact} {hsem : (DmaTarget.here dst : DmaTarget nD τ sig (tile d L).2 .hbm s e).Typed .vmem (.dma sem)}
    {α : Type} {k : PUnit → Prog (TpuEff nD τ sig (Elt F) Λ₀ (tile d L).2) α} {Q : α → sProp 𝕄}
    {O : CellTallies nD τ sig (HIx 3)} {W : Waits sig (HIx 3)} (hn : 0 < s.numel) :
    iprop(Transfers.MayWaits (tile d L) (none : HIx 3) O ∗ Holds d L src A ∗ (∃ B, Reads d L dst B) ∗ Zero d L sem ∗ Owes d L O W)
      ⊢ iprop((iprop(Reads d L dst A ∗ Holds d L src A ∗ Zero d L sem ∗ Owes d L O W) -∗ wpT d L (k ⟨⟩) Q)
        -∗ wpT d L (Prog.lift (.enqueueDma src (.here dst) (.dma sem) hsrc hdst hsem) >>= fun _ => Prog.lift (.waitDma2 sem src dst hsrc' hdst') >>= k) Q) := by
  iintro ⟨Hmw, Hs, Hd, Hz, HO⟩ Hk
  iapply (issue_held d L hn) $$ [Hs Hd Hz]
  · isplitl [Hs]; · iexact Hs
    isplitl [Hd]; · iexact Hd
    iexact Hz
  iintro HF
  iapply (wait_rule d L rfl) $$ [Hmw HF HO]
  · isplitl [Hmw]; · iexact Hmw
    isplitl [HF]; · iexact HF
    iexact HO
  iintro ⟨⟨Hd, Hs⟩, Hz, HO⟩
  iapply Hk
  isplitl [Hd]; · iexact Hd
  isplitl [Hs]; · iexact Hs
  isplitl [Hz]; · iexact Hz
  iexact HO

/-- A scratch row at whatever it holds. -/
abbrev FreeRow (base : Memref sig .scVector .vmem S10240 .f32) : sProp 𝕄 := iprop(∃ B, Reads d L base B)

end Rows

section TileProgram

variable (d : Dev nD) (i : grid1.Coords)
variable (arg2 : Memref sig .scVector .hbm S128x10240 .f32) (harg2 : arg2.IsWhole) (arg3 : Memref sig .scVector .hbm S320000 .i32) (harg3 : arg3.IsWhole)
  (arg4 : Memref sig .scVector .hbm S320000 .i32) (harg4 : arg4.IsWhole) (arg5 : Memref sig .scVector .hbm S128x10240 .f32) (harg5 : arg5.IsWhole)
  (arg6 : Memref sig .scVector .vmem S10240 .f32) (harg6 : arg6.IsWhole) (arg7 : Memref sig .scVector .vmem S10240 .f32) (harg7 : arg7.IsWhole)
  (arg8 : Memref sig .scVector .vmem S10240 .f32) (harg8 : arg8.IsWhole) (arg9 : Memref sig .scVector .vmem S10240 .f32) (harg9 : arg9.IsWhole)
  (arg10 : Memref sig .scVector .vmem S10240 .f32) (harg10 : arg10.IsWhole) (arg11 : Memref sig .scVector .vmem S10240 .f32) (harg11 : arg11.IsWhole)
  (arg12 : Memref sig .scVector .vmem S10240 .f32) (harg12 : arg12.IsWhole) (arg13 : Memref sig .scVector .vmem S10240 .f32) (harg13 : arg13.IsWhole)
  (arg14 : Memref sig .scVector .vmem S8000 .i32) (harg14 : arg14.IsWhole) (arg15 : Memref sig .scVector .vmem S8000 .i32) (harg15 : arg15.IsWhole)
  (arg16 : Memref sig .scVector .vmem S8000 .i32) (harg16 : arg16.IsWhole) (arg17 : Memref sig .scVector .vmem S8000 .i32) (harg17 : arg17.IsWhole)
  (arg18 : DmaSems sig S_) (arg19 : DmaSems sig S_) (arg20 : DmaSems sig S_) (arg21 : DmaSems sig S_) (v28_r0 : DmaSems sig S_)
  (v28_r1 : DmaSems sig S_) (v28_r2 : DmaSems sig S_) (v28_r3 : DmaSems sig S_) (v28_r4 : DmaSems sig S_) (v28_r5 : DmaSems sig S_)
  (v28_r6 : DmaSems sig S_) (v28_r7 : DmaSems sig S_) (v28_r8 : DmaSems sig S_) (v28_r9 : DmaSems sig S_) (v28_r10 : DmaSems sig S_)
  (v28_r11 : DmaSems sig S_)

variable (src dst : ℕ → BitVec 32)
variable (q : PosShare TreeShare) (g : Buf (Elt F) (arg2.view.loc (tile d i))) (fs : Buf (Elt F) (arg3.view.loc (tile d i))) (fd : Buf (Elt F) (arg4.view.loc (tile d i)))
variable (O : CellTallies nD τ sig (HIx 3)) (W : Waits sig (HIx 3))

/-- The tile's row `r` of the features, read. -/
abbrev feat (r : Fin 4) : Row F := (rowIn i arg2 r).view.read (Elt F) g

/-- The first fetches: the first row, twice, and the second. -/
theorem part2_run (Q : BitVec 32 → sProp 𝕄) :
    iprop(Transfers.MayWaits (tile d i) (none : HIx 3) O ∗ Pts d i arg2 q g ∗ FreeRow d i arg6 ∗ FreeRow d i arg10 ∗ FreeRow d i arg7
        ∗ Zero d i v28_r0.sem ∗ Zero d i v28_r1.sem ∗ Zero d i v28_r2.sem ∗ Owes d i O W)
      ⊢ iprop((∀ v, iprop(Pts d i arg2 q g ∗ Holds d i arg6 (feat d i arg2 g 0) ∗ Holds d i arg10 (feat d i arg2 g 0) ∗ Holds d i arg7 (feat d i arg2 g 1)
            ∗ Zero d i v28_r0.sem ∗ Zero d i v28_r1.sem ∗ Zero d i v28_r2.sem ∗ Owes d i O W) -∗ Q v)
        -∗ wpT d i (k1_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11) Q) := by
  rw [k1_part2_eq_skeleton]; unfold k1_part2_skel
  iintro ⟨#Hmw, Hg, H6, H10, H7, Hz0, Hz1, Hz2, HO⟩ HQ
  iapply (fetch_row d i arg2 0) $$ [Hg H6 Hz0 HO]
  · isplitr; · iexact Hmw
    iframe
  iintro ⟨H6, Hg, Hz0, HO⟩
  iapply (fetch_row d i arg2 0) $$ [Hg H10 Hz1 HO]
  · isplitr; · iexact Hmw
    iframe
  iintro ⟨H10, Hg, Hz1, HO⟩
  iapply (fetch_row d i arg2 1) $$ [Hg H7 Hz2 HO]
  · isplitr; · iexact Hmw
    iframe
  iintro ⟨H7, Hg, Hz2, HO⟩
  iapply (ret_rule d i)
  iapply HQ
  iframe

/-- The next fetches: the second row again, the third twice, the fourth. -/
theorem part3_run (v2 : BitVec 32) (Q : BitVec 32 → sProp 𝕄) :
    iprop(Transfers.MayWaits (tile d i) (none : HIx 3) O ∗ Pts d i arg2 q g ∗ FreeRow d i arg11 ∗ FreeRow d i arg8 ∗ FreeRow d i arg12 ∗ FreeRow d i arg9
        ∗ Zero d i v28_r3.sem ∗ Zero d i v28_r4.sem ∗ Zero d i v28_r5.sem ∗ Zero d i v28_r6.sem ∗ Owes d i O W)
      ⊢ iprop((∀ v, iprop(Pts d i arg2 q g ∗ Holds d i arg11 (feat d i arg2 g 1) ∗ Holds d i arg8 (feat d i arg2 g 2) ∗ Holds d i arg12 (feat d i arg2 g 2)
            ∗ Holds d i arg9 (feat d i arg2 g 3)
            ∗ Zero d i v28_r3.sem ∗ Zero d i v28_r4.sem ∗ Zero d i v28_r5.sem ∗ Zero d i v28_r6.sem ∗ Owes d i O W) -∗ Q v)
        -∗ wpT d i (k1_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 v2) Q) := by
  rw [k1_part3_eq_skeleton]; unfold k1_part3_skel
  iintro ⟨#Hmw, Hg, H11, H8, H12, H9, Hz3, Hz4, Hz5, Hz6, HO⟩ HQ
  iapply (fetch_row d i arg2 1) $$ [Hg H11 Hz3 HO]
  · isplitr; · iexact Hmw
    iframe
  iintro ⟨H11, Hg, Hz3, HO⟩
  iapply (fetch_row d i arg2 2) $$ [Hg H8 Hz4 HO]
  · isplitr; · iexact Hmw
    iframe
  iintro ⟨H8, Hg, Hz4, HO⟩
  iapply (fetch_row d i arg2 2) $$ [Hg H12 Hz5 HO]
  · isplitr; · iexact Hmw
    iframe
  iintro ⟨H12, Hg, Hz5, HO⟩
  iapply (fetch_row d i arg2 3) $$ [Hg H9 Hz6 HO]
  · isplitr; · iexact Hmw
    iframe
  iintro ⟨H9, Hg, Hz6, HO⟩
  iapply (ret_rule d i)
  iapply HQ
  iframe

/-- The last fetch, the loop over all the chunks, and the issue of the first row's write. -/
theorem part4_run (hsrc : Nodes src) (hdst : Nodes dst) (hfs : arg3.view.read (Elt F) fs = fun x => src (x 0).val) (hfd : arg4.view.read (Elt F) fd = fun x => dst (x 0).val)
    (v2 c3 : BitVec 32) (Q : PUnit → sProp 𝕄) :
    iprop(Transfers.MayWaits (tile d i) (none : HIx 3) O ∗ Pts d i arg2 q g ∗ Pts d i arg3 q fs ∗ Pts d i arg4 q fd
        ∗ Holds d i arg6 (feat d i arg2 g 0) ∗ Holds d i arg7 (feat d i arg2 g 1) ∗ Holds d i arg8 (feat d i arg2 g 2) ∗ Holds d i arg9 (feat d i arg2 g 3)
        ∗ Holds d i arg10 (feat d i arg2 g 0) ∗ Holds d i arg11 (feat d i arg2 g 1) ∗ Holds d i arg12 (feat d i arg2 g 2) ∗ FreeRow d i arg13
        ∗ Free d i arg14 ∗ Free d i arg15 ∗ Free d i arg16 ∗ Free d i arg17
        ∗ Zero d i arg18.sem ∗ Zero d i arg19.sem ∗ Zero d i arg20.sem ∗ Zero d i arg21.sem ∗ Zero d i v28_r7.sem ∗ Zero d i v28_r8.sem
        ∗ (∃ B, Reads d i (rowOut i arg5 0) B) ∗ Owes d i O W)
      ⊢ iprop((iprop(∃ M, ⌜Cov 320000 M⌝ ∗ Pts d i arg2 q g ∗ Holds d i arg6 (feat d i arg2 g 0) ∗ Holds d i arg7 (feat d i arg2 g 1) ∗ Holds d i arg8 (feat d i arg2 g 2) ∗ Holds d i arg9 (feat d i arg2 g 3)
            ∗ Pend d i v28_r8.sem (rowOut i arg5 0).view.dmaCredit iprop(Reads d i (rowOut i arg5 0) (run src dst (feat d i arg2 g 0) M) ∗ Holds d i arg10 (run src dst (feat d i arg2 g 0) M))
            ∗ Holds d i arg11 (run src dst (feat d i arg2 g 1) M) ∗ Holds d i arg12 (run src dst (feat d i arg2 g 2) M) ∗ Holds d i arg13 (run src dst (feat d i arg2 g 3) M)
            ∗ Free d i arg15 ∗ Free d i arg17 ∗ Zero d i arg20.sem ∗ Zero d i arg21.sem ∗ Resting d i arg3 arg4 arg14 arg16 arg18 arg19 q fs fd
            ∗ Zero d i v28_r7.sem ∗ Owes d i O W) -∗ Q ⟨⟩)
        -∗ wpT d i (k1_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 v2 c3) Q) := by
  rw [k1_part4_eq_skeleton]; unfold k1_part4_skel
  iintro ⟨#Hmw, Hg, H3, H4, H6, H7, H8, H9, H10, H11, H12, H13, H14, H15, H16, H17, Hz18, Hz19, Hz20, Hz21, Hz7, Hz8, Ho, HO⟩ HQ
  iapply (fetch_row d i arg2 3) $$ [Hg H13 Hz7 HO]
  · isplitr; · iexact Hmw
    iframe
  iintro ⟨H13, Hg, Hz7, HO⟩
  ihave H3' := (carve d i arg3 (Rect.unit (s := S320000) ![0] S8000.size inb_S320000_S8000_0) (fun _ => rfl) q fs) $$ H3
  icases H3' with ⟨H3, H3w⟩
  iapply (issue_rule d i (show 0 < S8000.numel by decide)) $$ [H3 H14 Hz18]
  · isplitl [H3]; · iexact H3
    isplitl [H14]; · iexact H14
    iexact Hz18
  iintro HF18
  rw [chunk_read d i arg3 fs src hfs _ 0 rfl]
  ihave H4' := (carve d i arg4 (Rect.unit (s := S320000) ![0] S8000.size inb_S320000_S8000_0) (fun _ => rfl) q fd) $$ H4
  icases H4' with ⟨H4, H4w⟩
  iapply (issue_rule d i (show 0 < S8000.numel by decide)) $$ [H4 H16 Hz19]
  · isplitl [H4]; · iexact H4
    isplitl [H16]; · iexact H16
    iexact Hz19
  iintro HF19
  rw [chunk_read d i arg4 fd dst hfd _ 0 rfl]
  iapply (loop_rule d i (fun k (_ : PUnit) => PairI d i arg3 arg4 arg6 arg7 arg8 arg9 arg10 arg11 arg12 arg13 arg14 arg15 arg16 arg17 arg18 arg19 arg20 arg21 src dst (feat d i arg2 g) q fs fd O W k)
    (fun k u => pair_run d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 src dst (feat d i arg2 g) q fs fd O W hsrc hdst hfs hfd k u v2 c3 _ rfl)) $$ [H6 H7 H8 H9 H10 H11 H12 H13 HF18 HF19 H3w H4w H15 H17 Hz20 Hz21 HO]
  · unfold PairI Core Accs
    isplitr; · iexact Hmw
    isplitl [H6 H7 H8 H9 H10 H11 H12 H13]
    · iexists []
      isplitr; · ipureintro; exact ⟨fun _ h => absurd h List.not_mem_nil, fun _ h => absurd h (Nat.not_lt_zero _)⟩
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H15]; · iexact H15
    isplitl [H17]; · iexact H17
    isplitl [Hz20]; · iexact Hz20
    isplitl [Hz21]; · iexact Hz21
    rw [if_pos (show 0 < 20 by decide)]
    isplitr [HO]
    · unfold Fetching
      isplitl [HF18 H3w]
      · iapply (pend_mono d i _) $$ HF18
        iintro ⟨H14, H3⟩
        isplitl [H14]; · iexact H14
        iapply H3w; iexact H3
      · iapply (pend_mono d i _) $$ HF19
        iintro ⟨H16, H4⟩
        isplitl [H16]; · iexact H16
        iapply H4w; iexact H4
    iexact HO
  iintro %u HP
  unfold PairI Core Accs
  icases HP with ⟨-, ⟨%M, %hM, H6, H7, H8, H9, H10, H11, H12, H13⟩, H15, H17, Hz20, Hz21, HR, HO⟩
  ihave HR := (Entails.of_eq (if_neg (show ¬ k1_t1_loop.trips < 20 by decide +kernel))) $$ HR
  iapply (issue_held d i (show 0 < S10240.numel by decide)) $$ [H10 Ho Hz8]
  · isplitl [H10]; · iexact H10
    isplitl [Ho]; · iexact Ho
    iexact Hz8
  iintro HF
  iapply (ret_rule d i)
  iapply HQ
  iexists M
  isplitr; · ipureintro; exact hM
  iframe
  iexact HF

/-- What a tile reads: its share of the features and of the edges' words. -/
def Ins : sProp 𝕄 := iprop(Pts d i arg2 q g ∗ Pts d i arg3 q fs ∗ Pts d i arg4 q fd)

/-- The tile's scratch arrays at whatever they hold. -/
def Scratch : sProp 𝕄 :=
  iprop(FreeRow d i arg6 ∗ FreeRow d i arg7 ∗ FreeRow d i arg8 ∗ FreeRow d i arg9 ∗ FreeRow d i arg10 ∗ FreeRow d i arg11 ∗ FreeRow d i arg12 ∗ FreeRow d i arg13
    ∗ Free d i arg14 ∗ Free d i arg15 ∗ Free d i arg16 ∗ Free d i arg17)

/-- The tile's DMA counters at zero. -/
def Zeros : sProp 𝕄 :=
  iprop(Zero d i arg18.sem ∗ Zero d i arg19.sem ∗ Zero d i arg20.sem ∗ Zero d i arg21.sem
    ∗ Zero d i v28_r0.sem ∗ Zero d i v28_r1.sem ∗ Zero d i v28_r2.sem ∗ Zero d i v28_r3.sem ∗ Zero d i v28_r4.sem ∗ Zero d i v28_r5.sem
    ∗ Zero d i v28_r6.sem ∗ Zero d i v28_r7.sem ∗ Zero d i v28_r8.sem ∗ Zero d i v28_r9.sem ∗ Zero d i v28_r10.sem ∗ Zero d i v28_r11.sem)

/-- The tile's four rows of the result, row `r` reading `A r`. -/
def Outs (A : Fin 4 → Row F) : sProp 𝕄 :=
  iprop(Reads d i (rowOut i arg5 0) (A 0) ∗ Reads d i (rowOut i arg5 1) (A 1) ∗ Reads d i (rowOut i arg5 2) (A 2) ∗ Reads d i (rowOut i arg5 3) (A 3))

/-- A row held by its contents is a row held. -/
theorem held_free {base : Memref sig .scVector .vmem S10240 .f32} {A : Row F} : Holds d i base A ⊢ FreeRow d i base := by
  iintro H
  iexists A
  iapply (Entails.of_eq (reads_eq d i base A).symm)
  iexact H

/-- The tile's run: its four rows of the result at the updates of a list of edges that has every edge. -/
theorem tile_run (hsrc : Nodes src) (hdst : Nodes dst) (hfs : arg3.view.read (Elt F) fs = fun x => src (x 0).val) (hfd : arg4.view.read (Elt F) fd = fun x => dst (x 0).val) :
    iprop(Transfers.MayWaits (tile d i) (none : HIx 3) O ∗ Ins d i arg2 arg3 arg4 q g fs fd
        ∗ Scratch d i arg6 arg7 arg8 arg9 arg10 arg11 arg12 arg13 arg14 arg15 arg16 arg17
        ∗ Zeros d i arg18 arg19 arg20 arg21 v28_r0 v28_r1 v28_r2 v28_r3 v28_r4 v28_r5 v28_r6 v28_r7 v28_r8 v28_r9 v28_r10 v28_r11
        ∗ (∃ A, Outs d i arg5 A) ∗ Owes d i O W)
      ⊢ wpT d i (cc1__segmax (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11) (fun _ => iprop(Ins d i arg2 arg3 arg4 q g fs fd
        ∗ Scratch d i arg6 arg7 arg8 arg9 arg10 arg11 arg12 arg13 arg14 arg15 arg16 arg17
        ∗ Zeros d i arg18 arg19 arg20 arg21 v28_r0 v28_r1 v28_r2 v28_r3 v28_r4 v28_r5 v28_r6 v28_r7 v28_r8 v28_r9 v28_r10 v28_r11
        ∗ (∃ M, ⌜Cov 320000 M⌝ ∗ Outs d i arg5 (fun r => run src dst (feat d i arg2 g r) M)) ∗ Owes d i O W)) := by
  rw [cc1__segmax_eq_skeleton]; unfold cc1__segmax_skel
  unfold wpT Ins Scratch Zeros Outs
  iintro ⟨#Hmw, ⟨Hg, H3, H4⟩, ⟨H6, H7, H8, H9, H10, H11, H12, H13, H14, H15, H16, H17⟩,
    ⟨Hz18, Hz19, Hz20, Hz21, Hz0, Hz1, Hz2, Hz3, Hz4, Hz5, Hz6, Hz7, Hz8, Hz9, Hz10, Hz11⟩, ⟨%A, Ho0, Ho1, Ho2, Ho3⟩, HO⟩
  rw [wp_bind]
  iapply (part2_run d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 q g O W _) $$ [Hg H6 H10 H7 Hz0 Hz1 Hz2 HO]
  · isplitr; · iexact Hmw
    iframe
  iintro %v2 ⟨Hg, H6, H10, H7, Hz0, Hz1, Hz2, HO⟩
  rw [wp_bind]
  iapply (part3_run d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 q g O W v2 _) $$ [Hg H11 H8 H12 H9 Hz3 Hz4 Hz5 Hz6 HO]
  · isplitr; · iexact Hmw
    iframe
  iintro %c3 ⟨Hg, H11, H8, H12, H9, Hz3, Hz4, Hz5, Hz6, HO⟩
  rw [wp_bind]
  iapply (part4_run d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 src dst q g fs fd O W hsrc hdst hfs hfd v2 c3 _) $$ [Hg H3 H4 H6 H7 H8 H9 H10 H11 H12 H13 H14 H15 H16 H17 Hz18 Hz19 Hz20 Hz21 Hz7 Hz8 Ho0 HO]
  · isplitr; · iexact Hmw
    iframe
    iexists _; iexact Ho0
  iintro ⟨%M, %hM, Hg, H6, H7, H8, H9, HF, H11, H12, H13, H15, H17, Hz20, Hz21, HR, Hz7, HO⟩
  unfold Resting
  icases HR with ⟨H14, H16, Hz18, Hz19, H3, H4⟩
  iapply (wait_rule d i rfl) $$ [HF HO]
  · isplitr; · iexact Hmw
    isplitl [HF]; · iexact HF
    iexact HO
  iintro ⟨⟨Ho0, H10⟩, Hz8, HO⟩
  iapply (write_row d i (show 0 < S10240.numel by decide)) $$ [H11 Ho1 Hz9 HO]
  · isplitr; · iexact Hmw
    isplitl [H11]; · iexact H11
    isplitl [Ho1]; · iexists _; iexact Ho1
    isplitl [Hz9]; · iexact Hz9
    iexact HO
  iintro ⟨Ho1, H11, Hz9, HO⟩
  iapply (write_row d i (show 0 < S10240.numel by decide)) $$ [H12 Ho2 Hz10 HO]
  · isplitr; · iexact Hmw
    isplitl [H12]; · iexact H12
    isplitl [Ho2]; · iexists _; iexact Ho2
    isplitl [Hz10]; · iexact Hz10
    iexact HO
  iintro ⟨Ho2, H12, Hz10, HO⟩
  iapply (write_row d i (show 0 < S10240.numel by decide)) $$ [H13 Ho3 Hz11 HO]
  · isplitr; · iexact Hmw
    isplitl [H13]; · iexact H13
    isplitl [Ho3]; · iexists _; iexact Ho3
    isplitl [Hz11]; · iexact Hz11
    iexact HO
  iintro ⟨Ho3, H13, Hz11, HO⟩
  iapply (ret_rule d i)
  isplitl [Hg H3 H4]; · iframe
  isplitl [H6 H7 H8 H9 H10 H11 H12 H13 H14 H15 H16 H17]
  · isplitl [H6]; · iapply held_free; iexact H6
    isplitl [H7]; · iapply held_free; iexact H7
    isplitl [H8]; · iapply held_free; iexact H8
    isplitl [H9]; · iapply held_free; iexact H9
    isplitl [H10]; · iapply held_free; iexact H10
    isplitl [H11]; · iapply held_free; iexact H11
    isplitl [H12]; · iapply held_free; iexact H12
    isplitl [H13]; · iapply held_free; iexact H13
    iframe
  isplitr [Ho0 Ho1 Ho2 Ho3 HO]; · iframe
  isplitr [HO]
  · iexists M
    isplitr; · ipureintro; exact hM
    isplitl [Ho0]; · iexact Ho0
    isplitl [Ho1]; · iexact Ho1
    isplitl [Ho2]; · iexact Ho2
    iexact Ho3
  iexact HO

end TileProgram

end Cert.Proof

end
-- ==== Proof.Own.lean ====
/-
  The launch's resources as the tile's: its scratch arrays and DMA counters out of what it owns, the arrays it reads at its
  share, its rows of the result; and the tile's obligation to the launch.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

/-- The launch's facts about its own cells. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide +kernel,
    fun _ => rfl⟩

/-! ## The tile's own scratch and counters -/

/-- A family over a set, some listed members set apart. -/
theorem bigSep_listed {I J : Type} [DecidableEq I] {S : Finset I} (l : List J) (f : J → I) (hf : Function.Injective f) (hl : l.Nodup) (hS : ∀ j ∈ l, f j ∈ S)
    (Φ : I → sProp 𝕄) : bigSep S Φ = iprop(bigSepL (l.map f) Φ ∗ bigSep (S \ (l.map f).toFinset) Φ) := by
  rw [SparseCore.bigSep_sdiff_split' (t := (l.map f).toFinset) (by
    intro x hx
    obtain ⟨j, hj, rfl⟩ := List.mem_map.mp (List.mem_toFinset.mp hx)
    exact hS j hj), bigSep_eq_bigSepL _ (hl.map hf)]

section Own

variable (d : Dev nD) (L : grid1.Coords)
variable (arg6 arg7 arg8 arg9 arg10 arg11 arg12 arg13 : Memref sig .scVector .vmem S10240 .f32)
  (arg14 arg15 arg16 arg17 : Memref sig .scVector .vmem S8000 .i32)
  (arg18 arg19 arg20 arg21 v28_r0 v28_r1 v28_r2 v28_r3 v28_r4 v28_r5 v28_r6 v28_r7 v28_r8 v28_r9 v28_r10 v28_r11 : DmaSems sig S_)

/-- The tile's scratch arrays: four feature rows, four accumulator rows, four chunks of words. -/
abbrev scratchRefs : List (Ref sig .scVector) :=
  [arg6.view.ref, arg7.view.ref, arg8.view.ref, arg9.view.ref, arg10.view.ref, arg11.view.ref, arg12.view.ref, arg13.view.ref,
    arg14.view.ref, arg15.view.ref, arg16.view.ref, arg17.view.ref]

/-- The tile's DMA counters. -/
abbrev dmaSems : List (DmaSem sig) :=
  [arg18.sem, arg19.sem, arg20.sem, arg21.sem, v28_r0.sem, v28_r1.sem, v28_r2.sem, v28_r3.sem, v28_r4.sem, v28_r5.sem, v28_r6.sem, v28_r7.sem,
    v28_r8.sem, v28_r9.sem, v28_r10.sem, v28_r11.sem]

/-- The rest of what the tile owns: cells that are not its DMA counters. -/
def semRest : sProp 𝕄 :=
  bigSep (ownCells (tile d L) \ ((dmaSems arg18 arg19 arg20 arg21 v28_r0 v28_r1 v28_r2 v28_r3 v28_r4 v28_r5 v28_r6 v28_r7 v28_r8 v28_r9 v28_r10 v28_r11).map fun s => ((tile d L, SemLoc.dma s) : GSem nD τ sig)).toFinset) fun g => semVal g 0

/-- The rest of the buffers it owns. -/
def bufRest : sProp 𝕄 :=
  bigSep (ownRefs (τ := τ) (.scVector (cV L) (jV L)) \ ((scratchRefs arg6 arg7 arg8 arg9 arg10 arg11 arg12 arg13 arg14 arg15 arg16 arg17).map fun r => (Proc.scVector (cV L) (jV L)).devRef r).toFinset)
    fun b => iprop(∃ f, ((d, b) : Loc nD τ sig) ↦{fullShare} f)

/-- The tile's counters out of the cells it owns. -/
theorem ownSems_tile (hnd : (dmaSems arg18 arg19 arg20 arg21 v28_r0 v28_r1 v28_r2 v28_r3 v28_r4 v28_r5 v28_r6 v28_r7 v28_r8 v28_r9 v28_r10 v28_r11).Nodup) : (ownSems0 (tile d L) : sProp 𝕄)
    = iprop(Zeros d L arg18 arg19 arg20 arg21 v28_r0 v28_r1 v28_r2 v28_r3 v28_r4 v28_r5 v28_r6 v28_r7 v28_r8 v28_r9 v28_r10 v28_r11 ∗ semRest d L arg18 arg19 arg20 arg21 v28_r0 v28_r1 v28_r2 v28_r3 v28_r4 v28_r5 v28_r6 v28_r7 v28_r8 v28_r9 v28_r10 v28_r11) := by
  unfold SparseCore.Cfg.ownSems0
  rw [bigSep_listed (S := ownCells (tile d L)) (dmaSems arg18 arg19 arg20 arg21 v28_r0 v28_r1 v28_r2 v28_r3 v28_r4 v28_r5 v28_r6 v28_r7 v28_r8 v28_r9 v28_r10 v28_r11) (fun s => ((tile d L, SemLoc.dma s) : GSem nD τ sig)) (fun a b e => SemLoc.dma.inj (Prod.mk.inj e).2) hnd
    (by
      intro s _
      refine mem_ownCells.mpr ⟨rfl, ?_⟩
      have : ∀ s : DmaSem sig, (SemLoc.dma s : SemLoc sig).isScoped .scVector = true := by decide
      exact this s)]
  rfl

/-- A memref of a whole array, held at whatever it reads, gives the array at some contents. -/
theorem whole_of_free {sp : Space} {s : Shape} {e : EltTy} (base : Memref sig .scVector sp s e) (h : base.view.set = Finset.univ) :
    iprop(∃ B, Reads d L base B) ⊢ (iprop(∃ f, base.view.loc (tile d L) ↦{fullShare} f) : sProp 𝕄) := by
  unfold Reads Pts
  rw [h]
  iintro ⟨%B, %f, -, H⟩
  iexists f
  iexact H

/-- And the array held at some contents is the memref held at what it then reads. -/
theorem free_of_whole {sp : Space} {s : Shape} {e : EltTy} (base : Memref sig .scVector sp s e) (h : base.view.set = Finset.univ) :
    (iprop(∃ f, base.view.loc (tile d L) ↦{fullShare} f) : sProp 𝕄) ⊢ iprop(∃ B, Reads d L base B) := by
  unfold Reads Pts
  rw [h]
  iintro ⟨%f, H⟩
  iexists (base.view.read (Elt F) f), f
  isplitr; · ipureintro; rfl
  iexact H

/-- The two are one. -/
theorem free_whole {sp : Space} {s : Shape} {e : EltTy} (base : Memref sig .scVector sp s e) (h : base.view.set = Finset.univ) :
    (iprop(∃ B, Reads d L base B) : sProp 𝕄) = iprop(∃ f, base.view.loc (tile d L) ↦{fullShare} f) :=
  BI.equiv_iff.mp ⟨whole_of_free d L base h, free_of_whole d L base h⟩

/-- The tile's scratch arrays out of the buffers it owns. -/
theorem ownBufs_tile (h6 : arg6.IsWhole) (h7 : arg7.IsWhole) (h8 : arg8.IsWhole) (h9 : arg9.IsWhole) (h10 : arg10.IsWhole) (h11 : arg11.IsWhole) (h12 : arg12.IsWhole) (h13 : arg13.IsWhole) (h14 : arg14.IsWhole) (h15 : arg15.IsWhole) (h16 : arg16.IsWhole) (h17 : arg17.IsWhole) (hnd : (scratchRefs arg6 arg7 arg8 arg9 arg10 arg11 arg12 arg13 arg14 arg15 arg16 arg17).Nodup)
    (hown : ∀ r ∈ scratchRefs arg6 arg7 arg8 arg9 arg10 arg11 arg12 arg13 arg14 arg15 arg16 arg17, ((Proc.scVector (cV L) (jV L) : Proc τ).devRef r).owner = .proc (.scVector (cV L) (jV L))) :
    (ownBufs (tile d L) : sProp 𝕄) = iprop(Scratch d L arg6 arg7 arg8 arg9 arg10 arg11 arg12 arg13 arg14 arg15 arg16 arg17 ∗ bufRest d L arg6 arg7 arg8 arg9 arg10 arg11 arg12 arg13 arg14 arg15 arg16 arg17) := by
  unfold SparseCore.Cfg.ownBufs
  refine (bigSep_listed (S := ownRefs (τ := τ) (.scVector (cV L) (jV L))) (scratchRefs arg6 arg7 arg8 arg9 arg10 arg11 arg12 arg13 arg14 arg15 arg16 arg17) (fun r => (Proc.scVector (cV L) (jV L)).devRef r)
    (Proc.devRef_injective (sig := sig) (Proc.scVector (cV L) (jV L))) hnd
    (fun r hr => SparseCore.Cfg.mem_ownRefs_of_owner (p := Proc.scVector (cV L) (jV L)) (hown r hr)) _).trans ?_
  unfold Scratch
  rw [show (FreeRow d L arg6 : sProp 𝕄) = _ from free_whole d L arg6 h6.set_eq_univ,
    show (FreeRow d L arg7 : sProp 𝕄) = _ from free_whole d L arg7 h7.set_eq_univ,
    show (FreeRow d L arg8 : sProp 𝕄) = _ from free_whole d L arg8 h8.set_eq_univ,
    show (FreeRow d L arg9 : sProp 𝕄) = _ from free_whole d L arg9 h9.set_eq_univ,
    show (FreeRow d L arg10 : sProp 𝕄) = _ from free_whole d L arg10 h10.set_eq_univ,
    show (FreeRow d L arg11 : sProp 𝕄) = _ from free_whole d L arg11 h11.set_eq_univ,
    show (FreeRow d L arg12 : sProp 𝕄) = _ from free_whole d L arg12 h12.set_eq_univ,
    show (FreeRow d L arg13 : sProp 𝕄) = _ from free_whole d L arg13 h13.set_eq_univ,
    show (Free d L arg14 : sProp 𝕄) = _ from free_whole d L arg14 h14.set_eq_univ,
    show (Free d L arg15 : sProp 𝕄) = _ from free_whole d L arg15 h15.set_eq_univ,
    show (Free d L arg16 : sProp 𝕄) = _ from free_whole d L arg16 h16.set_eq_univ,
    show (Free d L arg17 : sProp 𝕄) = _ from free_whole d L arg17 h17.set_eq_univ]
  rfl

end Own

end Cert.Proof

end
-- ==== Proof.Body.lean ====
/-
  The launch's resources as the tile's: the arrays it reads at its share, its rows of the result; and the tile's program run
  from what the launch hands it to what it takes back.
-/
module

public import proofs.«01_k».proof.Proof.Own

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

section Payloads

variable (d : Dev nD) (i : grid1.Coords)
variable (arg2 : Memref sig .scVector .hbm S128x10240 .f32) (harg2 : arg2.IsWhole) (arg3 : Memref sig .scVector .hbm S320000 .i32) (harg3 : arg3.IsWhole)
  (arg4 : Memref sig .scVector .hbm S320000 .i32) (harg4 : arg4.IsWhole) (arg5 : Memref sig .scVector .hbm S128x10240 .f32) (harg5 : arg5.IsWhole)
  (arg6 : Memref sig .scVector .vmem S10240 .f32) (harg6 : arg6.IsWhole) (arg7 : Memref sig .scVector .vmem S10240 .f32) (harg7 : arg7.IsWhole)
  (arg8 : Memref sig .scVector .vmem S10240 .f32) (harg8 : arg8.IsWhole) (arg9 : Memref sig .scVector .vmem S10240 .f32) (harg9 : arg9.IsWhole)
  (arg10 : Memref sig .scVector .vmem S10240 .f32) (harg10 : arg10.IsWhole) (arg11 : Memref sig .scVector .vmem S10240 .f32) (harg11 : arg11.IsWhole)
  (arg12 : Memref sig .scVector .vmem S10240 .f32) (harg12 : arg12.IsWhole) (arg13 : Memref sig .scVector .vmem S10240 .f32) (harg13 : arg13.IsWhole)
  (arg14 : Memref sig .scVector .vmem S8000 .i32) (harg14 : arg14.IsWhole) (arg15 : Memref sig .scVector .vmem S8000 .i32) (harg15 : arg15.IsWhole)
  (arg16 : Memref sig .scVector .vmem S8000 .i32) (harg16 : arg16.IsWhole) (arg17 : Memref sig .scVector .vmem S8000 .i32) (harg17 : arg17.IsWhole)
  (arg18 : DmaSems sig S_) (arg19 : DmaSems sig S_) (arg20 : DmaSems sig S_) (arg21 : DmaSems sig S_) (v28_r0 : DmaSems sig S_)
  (v28_r1 : DmaSems sig S_) (v28_r2 : DmaSems sig S_) (v28_r3 : DmaSems sig S_) (v28_r4 : DmaSems sig S_) (v28_r5 : DmaSems sig S_)
  (v28_r6 : DmaSems sig S_) (v28_r7 : DmaSems sig S_) (v28_r8 : DmaSems sig S_) (v28_r9 : DmaSems sig S_) (v28_r10 : DmaSems sig S_)
  (v28_r11 : DmaSems sig S_)
variable (src dst : ℕ → BitVec 32)
variable (q : PosShare TreeShare) (g : Buf (Elt F) (arg2.view.loc (tile d i))) (fs : Buf (Elt F) (arg3.view.loc (tile d i))) (fd : Buf (Elt F) (arg4.view.loc (tile d i)))

/-- What the tile is handed: its share of what it reads, its rows of the result at whatever they hold. -/
def goT : sProp 𝕄 := iprop(Ins d i arg2 arg3 arg4 q g fs fd ∗ ∃ A, Outs d i arg5 A)

/-- What it hands back: its share, its rows at the running maxima over some list of the edges that covers them. -/
def tdT : sProp 𝕄 := iprop(Ins d i arg2 arg3 arg4 q g fs fd ∗ ∃ M, ⌜Cov 320000 M⌝ ∗ Outs d i arg5 (fun r => run src dst (feat d i arg2 g r) M))

/-- A memref held is a storable resource. -/
instance reads_storable {sp : Space} {s : Shape} {e : EltTy} (base : Memref sig .scVector sp s e) (A : s.Idx → Elt F e) : BI.Storable (upEmb : UEmb _ 𝕄) (Reads d i base A) := by
  unfold Reads Pts; infer_instance

/-- So are a tile's rows of the result, -/
instance outs_storable (A : Fin 4 → Row F) : BI.Storable (upEmb : UEmb _ 𝕄) (Outs d i arg5 A) := by
  unfold Outs; infer_instance

/-- what it reads, -/
instance ins_storable : BI.Storable (upEmb : UEmb _ 𝕄) (Ins d i arg2 arg3 arg4 q g fs fd) := by
  unfold Ins Pts; infer_instance

/-- what it is handed, -/
instance goT_storable : BI.Storable (upEmb : UEmb _ 𝕄) (goT d i arg2 arg3 arg4 arg5 q g fs fd) := by
  unfold goT; infer_instance

/-- and what it hands back. -/
instance tdT_storable : BI.Storable (upEmb : UEmb _ 𝕄) (tdT d i arg2 arg3 arg4 arg5 src dst q g fs fd) := by
  unfold tdT; infer_instance

/-- The tile's program, from what the launch hands it to what it takes back. -/
theorem tile_body (O : CellTallies nD τ sig (HIx 3)) (W : Waits sig (HIx 3)) (hO : ∀ g, O g none = 0) (hsrc : Nodes src) (hdst : Nodes dst)
    (hfs : arg3.view.read (Elt F) fs = fun x => src (x 0).val) (hfd : arg4.view.read (Elt F) fd = fun x => dst (x 0).val)
    (hnd : (scratchRefs arg6 arg7 arg8 arg9 arg10 arg11 arg12 arg13 arg14 arg15 arg16 arg17).Nodup)
    (hown : ∀ r ∈ scratchRefs arg6 arg7 arg8 arg9 arg10 arg11 arg12 arg13 arg14 arg15 arg16 arg17, ((Proc.scVector (cV i) (jV i) : Proc τ).devRef r).owner = .proc (.scVector (cV i) (jV i)))
    (hsem : (dmaSems arg18 arg19 arg20 arg21 v28_r0 v28_r1 v28_r2 v28_r3 v28_r4 v28_r5 v28_r6 v28_r7 v28_r8 v28_r9 v28_r10 v28_r11).Nodup) :
    iprop(levAts (K (F := F)).L (K (F := F)).lev ∗ emp ∗ goT d i arg2 arg3 arg4 arg5 q g fs fd ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc1__segmax (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11)
          fun _ => iprop(tdT d i arg2 arg3 arg4 arg5 src dst q g fs fd ∗ scopedBufs (V d (cV i) (jV i)) ∗ scopedSems0 (V d (cV i) (jV i)) ∗ ∃ W', ⌜∀ p ∈ W', p ∈ W ∨ p.2 = none⌝ ∗ owes (V d (cV i) (jV i)) O W') := by
  rw [(K (F := F)).scopedBufs_V facts d (cV i) (jV i), SparseCore.Cfg.scopedSems0_V (Val := Elt F) d (cV i) (jV i),
    ownBufs_tile d i arg6 arg7 arg8 arg9 arg10 arg11 arg12 arg13 arg14 arg15 arg16 arg17 harg6 harg7 harg8 harg9 harg10 harg11 harg12 harg13 harg14 harg15 harg16 harg17 hnd hown, ownSems_tile d i arg18 arg19 arg20 arg21 v28_r0 v28_r1 v28_r2 v28_r3 v28_r4 v28_r5 v28_r6 v28_r7 v28_r8 v28_r9 v28_r10 v28_r11 hsem]
  unfold goT tdT
  iintro ⟨#Hlv, -, ⟨HI, HA⟩, ⟨HS, Hbr⟩, ⟨HZ, Hsr⟩, HO⟩
  ihave Hmw := ((K (F := F)).mayWaits_none (thr := V d (cV i) (jV i)) hO) $$ Hlv
  iapply (wp_wand_r frame _ _)
  isplitr [Hbr Hsr]
  · iapply (tile_run d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 src dst q g fs fd O W hsrc hdst hfs hfd)
    isplitl [Hmw]; · iexact Hmw
    isplitl [HI]; · iexact HI
    isplitl [HS]; · iexact HS
    isplitl [HZ]; · iexact HZ
    isplitl [HA]; · iexact HA
    unfold Owes
    iexists W
    isplitr; · ipureintro; exact fun p hp => .inl hp
    iexact HO
  · iintro %_ ⟨HI, HS, HZ, HA, HO⟩
    unfold Owes
    isplitl [HI HA]
    · isplitl [HI]; · iexact HI
      iexact HA
    isplitl [HS Hbr]
    · isplitl [HS]; · iexact HS
      iexact Hbr
    isplitl [HZ Hsr]
    · isplitl [HZ]; · iexact HZ
      iexact Hsr
    iexact HO

end Payloads

end Cert.Proof

end
-- ==== Proof.Split.lean ====
/-
  The arrays split among the tiles: each is lent a share of what it reads, each holds its four rows of the result; and the
  rows put together again.
-/
module

public import proofs.«01_k».proof.Proof.Body

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

/-- The tile of SparseCore `c` and subcore `j`. -/
def coordsV (c : Fin (grid1.bound 0)) (j : Fin (grid1.bound 1)) : grid1.Coords :=
  fun | 0 => c | 1 => j | ⟨_ + 2, h⟩ => absurd h (Nat.not_lt.2 (Nat.le_add_left _ _))

/-! ## The shares lent -/

/-- The share of what it reads that the tile of SparseCore `c`, subcore `j` is lent. -/
def tok (c : Fin 2) (j : Fin 16) : PosShare TreeShare := Transfers.dealOf (Transfers.dealOf fullShare Finset.univ c) Finset.univ j

/-- An array held outright is its shares, one per tile. -/
theorem share_split {ℓ : Loc nD τ sig} {S : Finset (Idx ℓ)} {f : Buf (Elt F) ℓ} :
    (ℓ ↦[S]{fullShare} f : sProp 𝕄) = bigSep Finset.univ fun c : Fin 2 => bigSep Finset.univ fun j : Fin 16 => ℓ ↦[S]{tok c j} f := by
  rw [Transfers.pointsTo_deal (Finset.univ : Finset (Fin 2)) Finset.univ_nonempty fullShare]
  exact bigSep_congr fun c _ => Transfers.pointsTo_deal (Finset.univ : Finset (Fin 16)) Finset.univ_nonempty _

/-! ## A tile's arrays are the device's -/

/-- The tile whose names of the device's arrays are taken as the arrays'. -/
abbrev L₀ : grid1.Coords := coordsV ⟨0, by decide⟩ ⟨0, by decide⟩

/-- Every tile means the same array by `base`. -/
def Home {sp : Space} {s : Shape} {e : EltTy} (base : Memref sig .scVector sp s e) : Prop :=
  ∀ L : grid1.Coords, (Proc.scVector (cV L) (jV L) : Proc τ).holderOf base.view.ref.space base.view.ref.idx base.view.ref.names
    = (Proc.scVector (cV L₀) (jV L₀) : Proc τ).holderOf base.view.ref.space base.view.ref.idx base.view.ref.names

/-- Locations that differ in nothing but equal holders are held alike. -/
theorem pts_holder {d : Dev nD} {t : Table} {x : Fin (sig.nBuf t)} {u v : t.Holder τ sig x} (h : u = v) (S : Finset (Idx (⟨d, ⟨t, x, u⟩⟩ : Loc nD τ sig))) (q : PosShare TreeShare)
    (f : Buf (Elt F) (⟨d, ⟨t, x, u⟩⟩ : Loc nD τ sig)) :
    ((⟨d, ⟨t, x, u⟩⟩ : Loc nD τ sig) ↦[S]{q} f : sProp 𝕄) = ((⟨d, ⟨t, x, v⟩⟩ : Loc nD τ sig) ↦[S]{q} f) := by
  subst h; rfl

/-- What a tile holds of such an array is held of the device's. -/
theorem pts_home {sp : Space} {s : Shape} {e : EltTy} {base : Memref sig .scVector sp s e} (h : Home base) (d : Dev nD) (L : grid1.Coords)
    (S : Finset (Idx (base.view.loc (tile d L)))) (q : PosShare TreeShare) (f : Buf (Elt F) (base.view.loc (tile d L))) :
    (base.view.loc (tile d L) ↦[S]{q} f : sProp 𝕄) = (base.view.loc (tile d L₀) ↦[S]{q} f) :=
  pts_holder (h L) S q f

/-! ## The rows of the result -/

section Rows

variable (d : Dev nD) (arg5 : Memref sig .scVector .hbm S128x10240 .f32)

/-- The result's array. -/
abbrev oLoc : Loc nD τ sig := arg5.view.loc (tile d L₀)

/-- The elements of row `r` of a tile's four. -/
def rowSet (t : (Fin 2 × Fin 16) × Fin 4) : Finset (Idx (oLoc d arg5)) := (rowOut (coordsV t.1.1 t.1.2) arg5 t.2).view.set

/-- They are those of one row of the array. -/
theorem mem_rowSet (t : (Fin 2 × Fin 16) × Fin 4) (y : S128x10240.Idx) : arg5.view.emb y ∈ rowSet d arg5 t ↔ (y 0).val = 8 * t.1.2.val + 4 * t.1.1.val + t.2.val := by
  have hs : rowSet d arg5 t = (Rect.unit (s := S128x10240) (k1_off8 (coordsV t.1.1 t.1.2) (BitVec.ofNat 32 t.2.val)) S1x10240.size (k1_off8_inb (coordsV t.1.1 t.1.2) t.2)).set.map arg5.view.emb :=
    (View.set_reshape _ _).trans (View.set_slice _ _)
  rw [hs, Finset.mem_map', Rect.mem_set_unit, k1_off8_eq]
  have h1 : (y 1).val < 10240 := (y 1).isLt
  refine ⟨fun h => ?_, fun h a => ?_⟩
  · have h0 := h 0
    change 8 * t.1.2.val + 4 * t.1.1.val + t.2.val ≤ (y 0).val ∧ (y 0).val < 8 * t.1.2.val + 4 * t.1.1.val + t.2.val + 1 at h0
    omega
  · match a with
    | 0 =>
      change 8 * t.1.2.val + 4 * t.1.1.val + t.2.val ≤ (y 0).val ∧ (y 0).val < 8 * t.1.2.val + 4 * t.1.1.val + t.2.val + 1
      omega
    | 1 =>
      change 0 ≤ (y 1).val ∧ (y 1).val < 0 + 10240
      omega

variable (harg5 : arg5.IsWhole)

include harg5 in
/-- Every element of the array is one the memref names. -/
theorem emb_onto (x : Idx (oLoc d arg5)) : ∃ y, arg5.view.emb y = x := by
  have hx : x ∈ arg5.view.set := by rw [harg5.set_eq_univ]; exact Finset.mem_univ _
  obtain ⟨y, -, hy⟩ := Finset.mem_map.mp hx
  exact ⟨y, hy⟩

include harg5 in
/-- Two rows share nothing. -/
theorem rows_disjoint (t t' : (Fin 2 × Fin 16) × Fin 4) (h : t ≠ t') : Disjoint (rowSet d arg5 t) (rowSet d arg5 t') := by
  rw [Finset.disjoint_left]
  intro x hx hx'
  obtain ⟨y, rfl⟩ := emb_onto d arg5 harg5 x
  have h1 := (mem_rowSet d arg5 t y).mp hx
  have h2 := (mem_rowSet d arg5 t' y).mp hx'
  have := t.2.isLt; have := t'.2.isLt; have := t.1.1.isLt; have := t'.1.1.isLt
  exact h (Prod.ext (Prod.ext (Fin.ext (by omega)) (Fin.ext (by omega))) (Fin.ext (by omega)))

include harg5 in
/-- The rows are the whole array. -/
theorem rows_cover : (Finset.univ.biUnion fun t => rowSet d arg5 t) = Finset.univ := by
  refine Finset.eq_univ_of_forall fun x => Finset.mem_biUnion.mpr ?_
  obtain ⟨y, rfl⟩ := emb_onto d arg5 harg5 x
  have hx : (y 0).val < 128 := (y 0).isLt
  refine ⟨((⟨(y 0).val / 4 % 2, by omega⟩, ⟨(y 0).val / 8, by omega⟩), ⟨(y 0).val % 4, by omega⟩), Finset.mem_univ _, ?_⟩
  refine (mem_rowSet d arg5 _ y).mpr ?_
  dsimp only
  omega

variable (hh5 : Home arg5)

include harg5 in
/-- The result's array is its rows. -/
theorem rows_split (f : Buf (Elt F) (oLoc d arg5)) :
    (oLoc d arg5 ↦{fullShare} f : sProp 𝕄) = bigSep Finset.univ fun t : (Fin 2 × Fin 16) × Fin 4 => oLoc d arg5 ↦[rowSet d arg5 t]{fullShare} f := by
  rw [← rows_cover d arg5 harg5]
  exact pointsTo_biUnion _ _ fun t _ t' _ h => rows_disjoint d arg5 harg5 t t' h

include hh5 in
/-- A tile's four rows, out of the array at contents `f`. -/
theorem rows_outs (c : Fin 2) (j : Fin 16) (f : Buf (Elt F) (oLoc d arg5)) :
    (bigSep Finset.univ fun r : Fin 4 => oLoc d arg5 ↦[rowSet d arg5 ((c, j), r)]{fullShare} f : sProp 𝕄) ⊢ iprop(∃ A, Outs d (coordsV c j) arg5 A) := by
  rw [bigSep_univ_eq_bigSepL [0, 1, 2, 3] (by decide) (by decide)]
  simp only [← pts_home hh5 d (coordsV c j)]
  show iprop(Pts d (coordsV c j) (rowOut (coordsV c j) arg5 0) fullShare f ∗ Pts d (coordsV c j) (rowOut (coordsV c j) arg5 1) fullShare f
    ∗ Pts d (coordsV c j) (rowOut (coordsV c j) arg5 2) fullShare f ∗ Pts d (coordsV c j) (rowOut (coordsV c j) arg5 3) fullShare f) ⊢ iprop(∃ A, Outs d (coordsV c j) arg5 A)
  unfold Outs Reads
  iintro ⟨H0, H1, H2, H3⟩
  iexists fun r => (rowOut (coordsV c j) arg5 r).view.read (Elt F) f
  isplitl [H0]; · iexists f; isplitr; · ipureintro; rfl
                  iexact H0
  isplitl [H1]; · iexists f; isplitr; · ipureintro; rfl
                  iexact H1
  isplitl [H2]; · iexists f; isplitr; · ipureintro; rfl
                  iexact H2
  iexists f; isplitr; · ipureintro; rfl
  iexact H3

include harg5 hh5 in
/-- Of the array held, each tile has its rows. -/
theorem rows_deal (f : Buf (Elt F) (oLoc d arg5)) :
    (oLoc d arg5 ↦{fullShare} f : sProp 𝕄) ⊢ bigSep Finset.univ fun c : Fin 2 => bigSep Finset.univ fun j : Fin 16 => iprop(∃ A, Outs d (coordsV c j) arg5 A) := by
  rw [rows_split d arg5 harg5, bigSep_univ_prod, bigSep_univ_prod]
  exact bigSep_mono fun c _ => bigSep_mono fun j _ => rows_outs d arg5 hh5 c j f

include hh5 in
/-- A tile's four rows, each reading what `A` says, as rows of the array. -/
theorem outs_rows (c : Fin 2) (j : Fin 16) (A : Fin 4 → Row F) :
    Outs d (coordsV c j) arg5 A ⊢ (bigSep Finset.univ fun r : Fin 4 =>
      iprop(∃ f, ⌜(rowOut (coordsV c j) arg5 r).view.read (Elt F) f = A r⌝ ∗ oLoc d arg5 ↦[rowSet d arg5 ((c, j), r)]{fullShare} f) : sProp 𝕄) := by
  rw [bigSep_univ_eq_bigSepL [0, 1, 2, 3] (by decide) (by decide)]
  simp only [← pts_home hh5 d (coordsV c j)]
  exact BI.Entails.refl _

include harg5 hh5 in
/-- The rows of all tiles, put together: an array whose rows read what they did. -/
theorem rows_join (A : Fin 2 → Fin 16 → Fin 4 → Row F) :
    (bigSep Finset.univ fun c : Fin 2 => bigSep Finset.univ fun j : Fin 16 => Outs d (coordsV c j) arg5 (A c j) : sProp 𝕄)
      ⊢ iprop(∃ f, ⌜∀ c j r, (rowOut (coordsV c j) arg5 r).view.read (Elt F) f = A c j r⌝ ∗ oLoc d arg5 ↦{fullShare} f) := by
  have h1 : (bigSep Finset.univ fun c : Fin 2 => bigSep Finset.univ fun j : Fin 16 => Outs d (coordsV c j) arg5 (A c j) : sProp 𝕄)
      ⊢ bigSep Finset.univ fun t : (Fin 2 × Fin 16) × Fin 4 =>
        iprop(∃ f, ⌜(rowOut (coordsV t.1.1 t.1.2) arg5 t.2).view.read (Elt F) f = A t.1.1 t.1.2 t.2⌝ ∗ oLoc d arg5 ↦[rowSet d arg5 t]{fullShare} f) := by
    rw [bigSep_univ_prod, bigSep_univ_prod]
    exact bigSep_mono fun c _ => bigSep_mono fun j _ => outs_rows d arg5 hh5 c j (A c j)
  iintro H
  ihave H := h1 $$ H
  ihave H := (bigSep_exists_pi Finset.univ (fun (t : (Fin 2 × Fin 16) × Fin 4) (f : Buf (Elt F) (oLoc d arg5)) =>
    iprop(⌜(rowOut (coordsV t.1.1 t.1.2) arg5 t.2).view.read (Elt F) f = A t.1.1 t.1.2 t.2⌝ ∗ oLoc d arg5 ↦[rowSet d arg5 t]{fullShare} f))) $$ H
  icases H with ⟨%fs, H⟩
  ihave H := (bigSep_pure_sep Finset.univ (fun t : (Fin 2 × Fin 16) × Fin 4 => (rowOut (coordsV t.1.1 t.1.2) arg5 t.2).view.read (Elt F) (fs t) = A t.1.1 t.1.2 t.2)
    (fun t => oLoc d arg5 ↦[rowSet d arg5 t]{fullShare} fs t)) $$ H
  icases H with ⟨%hA, H⟩
  ihave H := (pointsTo_biUnion_join Finset.univ (rowSet d arg5) fs (fs ((0, 0), 0)) (fun t _ t' _ h => rows_disjoint d arg5 harg5 t t' h)) $$ H
  icases H with ⟨%f, %hf, H⟩
  iexists f
  isplitr
  · ipureintro
    intro c j r
    exact (View.read_congr (v := (rowOut (coordsV c j) arg5 r).view) fun i hi => hf ((c, j), r) (Finset.mem_univ _) i hi).trans (hA ((c, j), r) (Finset.mem_univ _))
  · rw [rows_cover d arg5 harg5]; iexact H

/-! ## All tiles at once -/

variable (arg2 : Memref sig .scVector .hbm S128x10240 .f32) (harg2 : arg2.IsWhole) (hh2 : Home arg2)
  (arg3 : Memref sig .scVector .hbm S320000 .i32) (harg3 : arg3.IsWhole) (hh3 : Home arg3)
  (arg4 : Memref sig .scVector .hbm S320000 .i32) (harg4 : arg4.IsWhole) (hh4 : Home arg4)
variable (g : Buf (Elt F) (arg2.view.loc (tile d L₀))) (fs : Buf (Elt F) (arg3.view.loc (tile d L₀))) (fd : Buf (Elt F) (arg4.view.loc (tile d L₀)))
  (src dst : ℕ → BitVec 32)

include harg2 hh2 harg3 hh3 harg4 hh4 in
/-- What a tile reads, as the arrays at its share. -/
theorem ins_eq (L : grid1.Coords) (q : PosShare TreeShare) :
    (Ins d L arg2 arg3 arg4 q g fs fd : sProp 𝕄)
      = iprop((arg2.view.loc (tile d L₀) ↦{q} g) ∗ (arg3.view.loc (tile d L₀) ↦{q} fs) ∗ arg4.view.loc (tile d L₀) ↦{q} fd) := by
  unfold Ins Pts
  rw [harg2.set_eq_univ, harg3.set_eq_univ, harg4.set_eq_univ, pts_home hh2, pts_home hh3, pts_home hh4]

include harg2 hh2 harg3 hh3 harg4 hh4 in
/-- What all tiles read is the arrays outright. -/
theorem ins_all :
    (bigSep Finset.univ fun c : Fin 2 => bigSep Finset.univ fun j : Fin 16 => Ins d (coordsV c j) arg2 arg3 arg4 (tok c j) g fs fd : sProp 𝕄)
      = iprop((arg2.view.loc (tile d L₀) ↦{fullShare} g) ∗ (arg3.view.loc (tile d L₀) ↦{fullShare} fs) ∗ arg4.view.loc (tile d L₀) ↦{fullShare} fd) := by
  simp only [ins_eq d arg2 harg2 hh2 arg3 harg3 hh3 arg4 harg4 hh4, bigSep_sep', ← share_split]

include harg2 hh2 harg3 hh3 harg4 hh4 harg5 hh5 in
/-- What the call takes, dealt to the tiles. -/
theorem go_all (f : Buf (Elt F) (oLoc d arg5)) :
    iprop((arg2.view.loc (tile d L₀) ↦{fullShare} g) ∗ (arg3.view.loc (tile d L₀) ↦{fullShare} fs) ∗ (arg4.view.loc (tile d L₀) ↦{fullShare} fd) ∗ oLoc d arg5 ↦{fullShare} f)
      ⊢ (bigSep Finset.univ fun c : Fin 2 => bigSep Finset.univ fun j : Fin 16 => goT d (coordsV c j) arg2 arg3 arg4 arg5 (tok c j) g fs fd : sProp 𝕄) := by
  unfold goT
  simp only [bigSep_sep', ins_all d arg2 harg2 hh2 arg3 harg3 hh3 arg4 harg4 hh4]
  iintro ⟨H1, H2, H3, Ho⟩
  isplitl [H1 H2 H3]
  · isplitl [H1]; · iexact H1
    isplitl [H2]; · iexact H2
    iexact H3
  iapply (rows_deal d arg5 harg5 hh5 f)
  iexact Ho

/-- Every row of the result is the running maxima of the same row of the features over some list of the edges that covers them. -/
def Good (f : Buf (Elt F) (oLoc d arg5)) : Prop :=
  ∀ (c : Fin 2) (j : Fin 16), ∃ M, Cov 320000 M ∧ ∀ r, (rowOut (coordsV c j) arg5 r).view.read (Elt F) f = run src dst (feat d (coordsV c j) arg2 g r) M

include harg2 hh2 harg3 hh3 harg4 hh4 harg5 hh5 in
/-- What the tiles give back, put together. -/
theorem td_all :
    (bigSep Finset.univ fun c : Fin 2 => bigSep Finset.univ fun j : Fin 16 => tdT d (coordsV c j) arg2 arg3 arg4 arg5 src dst (tok c j) g fs fd : sProp 𝕄)
      ⊢ iprop((arg2.view.loc (tile d L₀) ↦{fullShare} g) ∗ (arg3.view.loc (tile d L₀) ↦{fullShare} fs) ∗ (arg4.view.loc (tile d L₀) ↦{fullShare} fd)
          ∗ ∃ f, ⌜Good d arg5 arg2 g src dst f⌝ ∗ oLoc d arg5 ↦{fullShare} f) := by
  unfold tdT
  simp only [bigSep_sep', ins_all d arg2 harg2 hh2 arg3 harg3 hh3 arg4 harg4 hh4]
  iintro ⟨⟨H1, H2, H3⟩, Ho⟩
  isplitl [H1]; · iexact H1
  isplitl [H2]; · iexact H2
  isplitl [H3]; · iexact H3
  ihave Ho := (Entails.of_eq (bigSep_univ_prod (fun t : Fin 2 × Fin 16 => (iprop(∃ M, ⌜Cov 320000 M⌝ ∗ Outs d (coordsV t.1 t.2) arg5 (fun r => run src dst (feat d (coordsV t.1 t.2) arg2 g r) M)) : sProp 𝕄))).symm) $$ Ho
  ihave H := (bigSep_exists_pi Finset.univ (fun (t : Fin 2 × Fin 16) (M : List ℕ) =>
    (iprop(⌜Cov 320000 M⌝ ∗ Outs d (coordsV t.1 t.2) arg5 (fun r => run src dst (feat d (coordsV t.1 t.2) arg2 g r) M)) : sProp 𝕄))) $$ Ho
  icases H with ⟨%M, H⟩
  ihave H := (bigSep_pure_sep Finset.univ (fun t : Fin 2 × Fin 16 => Cov 320000 (M t))
    (fun t => (Outs d (coordsV t.1 t.2) arg5 (fun r => run src dst (feat d (coordsV t.1 t.2) arg2 g r) (M t)) : sProp 𝕄))) $$ H
  icases H with ⟨%hM, H⟩
  ihave H := (Entails.of_eq (bigSep_univ_prod (fun t : Fin 2 × Fin 16 => (Outs d (coordsV t.1 t.2) arg5 (fun r => run src dst (feat d (coordsV t.1 t.2) arg2 g r) (M t)) : sProp 𝕄)))) $$ H
  ihave H := (rows_join d arg5 harg5 hh5 (fun c j r => run src dst (feat d (coordsV c j) arg2 g r) (M (c, j)))) $$ H
  icases H with ⟨%f, %hf, H⟩
  iexists f
  isplitr
  · ipureintro; exact fun c j => ⟨M (c, j), hM (c, j) (Finset.mem_univ _), hf c j⟩
  · iexact H

include harg2 hh2 in
/-- Two tiles that hold shares of the features hold them at the same contents. -/
theorem ins_agree (L L' : grid1.Coords) (q q' : PosShare TreeShare) (X X' : Buf (Elt F) (arg2.view.loc (tile d L₀))) :
    iprop(Pts d L arg2 q X ∗ Pts d L' arg2 q' X') ⊢ (⌜X = X'⌝ : sProp 𝕄) := by
  unfold Pts
  rw [harg2.set_eq_univ, pts_home hh2, pts_home hh2]
  refine pointsTo_agree.trans (BI.pure_mono fun h => funext fun i => (h i ?_).1)
  rw [Finset.inter_self]
  exact Finset.mem_univ i

omit [FloatOps F] in
/-- Two of the tiles' parts, out of all of them. -/
theorem pick_two {t u : Fin 2 × Fin 16} (Φ : Fin 2 × Fin 16 → sProp 𝕄) (h : u ≠ t) :
    (bigSep Finset.univ Φ : sProp 𝕄) ⊢ iprop(Φ t ∗ Φ u ∗ bigSep ((Finset.univ.erase t).erase u) Φ) := by
  rw [bigSep_erase (Finset.mem_univ t), bigSep_erase (Finset.mem_erase.mpr ⟨h, Finset.mem_univ u⟩)]
  exact .rfl

include harg2 hh2 in
/-- What the tiles give back, each at features it knows only by `R`, is given back at one choice of the features. -/
theorem td_join (R : Buf (Elt F) (arg2.view.loc (tile d L₀)) → Prop) :
    (bigSep Finset.univ fun c : Fin 2 => bigSep Finset.univ fun j : Fin 16 =>
        iprop(∃ X, ⌜R X⌝ ∗ tdT d (coordsV c j) arg2 arg3 arg4 arg5 src dst (tok c j) X fs fd) : sProp 𝕄)
      ⊢ iprop(∃ X, ⌜R X⌝ ∗ bigSep Finset.univ fun c : Fin 2 => bigSep Finset.univ fun j : Fin 16 =>
          tdT d (coordsV c j) arg2 arg3 arg4 arg5 src dst (tok c j) X fs fd) := by
  iintro H
  ihave H := (Entails.of_eq (bigSep_univ_prod (fun t : Fin 2 × Fin 16 => (iprop(∃ X, ⌜R X⌝ ∗ tdT d (coordsV t.1 t.2) arg2 arg3 arg4 arg5 src dst (tok t.1 t.2) X fs fd) : sProp 𝕄))).symm) $$ H
  ihave H := (bigSep_exists_pi Finset.univ (fun (t : Fin 2 × Fin 16) (X : Buf (Elt F) (arg2.view.loc (tile d L₀))) =>
    (iprop(⌜R X⌝ ∗ tdT d (coordsV t.1 t.2) arg2 arg3 arg4 arg5 src dst (tok t.1 t.2) X fs fd) : sProp 𝕄))) $$ H
  icases H with ⟨%X, H⟩
  ihave H := (bigSep_pure_sep Finset.univ (fun t : Fin 2 × Fin 16 => R (X t))
    (fun t => (tdT d (coordsV t.1 t.2) arg2 arg3 arg4 arg5 src dst (tok t.1 t.2) (X t) fs fd : sProp 𝕄))) $$ H
  icases H with ⟨%hR, H⟩
  have hX : (bigSep Finset.univ fun t : Fin 2 × Fin 16 => (tdT d (coordsV t.1 t.2) arg2 arg3 arg4 arg5 src dst (tok t.1 t.2) (X t) fs fd : sProp 𝕄)) ⊢ (⌜∀ t, X t = X (0, 0)⌝ : sProp 𝕄) := by
    refine (forall_intro (Φ := fun t => (iprop(⌜X t = X (0, 0)⌝) : sProp 𝕄)) fun t => ?_).trans pure_forall.2
    by_cases h : t = (0, 0)
    · subst h; exact BI.pure_intro rfl
    · refine (pick_two _ (Ne.symm h)).trans ?_
      unfold tdT Ins
      iintro ⟨⟨⟨H1, -⟩, -⟩, ⟨⟨H2, -⟩, -⟩, -⟩
      iapply (ins_agree d arg2 harg2 hh2 (coordsV t.1 t.2) (coordsV ((0, 0) : Fin 2 × Fin 16).1 ((0, 0) : Fin 2 × Fin 16).2) _ _ (X t) (X (0, 0)))
      isplitl [H1] <;> iassumption
  ihave H := (persistent_entails_right hX) $$ H
  icases H with ⟨%he, H⟩
  iexists X (0, 0)
  isplitr; · ipureintro; exact hR _ (Finset.mem_univ _)
  ihave H := (Entails.of_eq (bigSep_univ_prod (fun t : Fin 2 × Fin 16 => (tdT d (coordsV t.1 t.2) arg2 arg3 arg4 arg5 src dst (tok t.1 t.2) (X t) fs fd : sProp 𝕄)))) $$ H
  simp only [he]
  iexact H

end Rows

end Cert.Proof

end
-- ==== Proof.Host.lean ====
/-
  The program on the TensorCore: its host operations and calls in order, and the arrays' contents between them.
-/
module

public import proofs.«01_k».proof.Proof.Calls
public import proofs.«01_k».proof.Proof.Split
public import Idealize.ShloMosaic.Lib.StableHlo.RunRead

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose arrRef arrRefs ucRefs)

variable {F : FTy → Type} [FloatOps F]

local notation "𝕄" => MT nD τ sig (HIx 3) (Elt F) ℕ UU ℕ

/-! ## The program, as its operations and calls -/

/-- The host's operations before the first call. -/
def opsA : List (HloOp τ sig (Elt F)) :=
  [StableHlo.unary main_arg0 main_v0 ((transpose S128x10000 [1, 0] · transposes_S10000x128_S128x10000_1_0) : (⟨S10000x128, .f32⟩ : BufTy).Contents (Elt F) → (⟨S128x10000, .f32⟩ : BufTy).Contents (Elt F)),
    StableHlo.nullary main_c (constantI S_ 32 0#32),
    StableHlo.TRef.unary (.of main_c : StableHlo.TRef sig ⟨S_, .i32⟩) main_call0.v0 (sitofp .f32),
    StableHlo.TRef.binary (.of main_v0 : StableHlo.TRef sig ⟨S128x10000, .f32⟩) main_call0.v0 main_call0.v1 (fun x v => pad S128x10240 ![0, 0] ![0, 240] ![0, 0] x v pads_S128x10000_S128x10240_000_02400 h_S_),
    StableHlo.unary main_arg1 main_v2 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v2 main_v3 (rfl : (.i32 : EltTy) = .i32) shapeCasts_S1x320000_S320000,
    StableHlo.unary main_arg1 main_v4 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v4 main_v5 (rfl : (.i32 : EltTy) = .i32) shapeCasts_S1x320000_S320000,
    StableHlo.unary main_arg2 main_v6 ((transpose S128x128 [1, 0] · transposes_S128x128_S128x128_1_0) : (⟨S128x128, .f32⟩ : BufTy).Contents (Elt F) → (⟨S128x128, .f32⟩ : BufTy).Contents (Elt F)),
    StableHlo.reshape main_arg3 main_v7 (rfl : (.f32 : EltTy) = .f32) shapeCasts_S128_S128x1,
    StableHlo.unary main_arg4 main_v8 ((transpose S128x128 [1, 0] · transposes_S128x128_S128x128_1_0) : (⟨S128x128, .f32⟩ : BufTy).Contents (Elt F) → (⟨S128x128, .f32⟩ : BufTy).Contents (Elt F)),
    StableHlo.reshape main_arg5 main_v9 (rfl : (.f32 : EltTy) = .f32) shapeCasts_S128_S128x1,
    StableHlo.unary main_arg6 main_v10 ((transpose S128x128 [1, 0] · transposes_S128x128_S128x128_1_0) : (⟨S128x128, .f32⟩ : BufTy).Contents (Elt F) → (⟨S128x128, .f32⟩ : BufTy).Contents (Elt F)),
    StableHlo.reshape main_arg7 main_v11 (rfl : (.f32 : EltTy) = .f32) shapeCasts_S128_S128x1,
    StableHlo.unary main_arg8 main_v12 ((transpose S3x128 [1, 0] · transposes_S128x3_S3x128_1_0) : (⟨S128x3, .f32⟩ : BufTy).Contents (Elt F) → (⟨S3x128, .f32⟩ : BufTy).Contents (Elt F)),
    StableHlo.reshape main_arg9 main_v13 (rfl : (.f32 : EltTy) = .f32) shapeCasts_S3_S3x1,
    StableHlo.unary main_arg10 main_v14 ((extractStridedSlice S3x128 ![128, 0] · slices_S131x128_S3x128_128_0) : (⟨S131x128, .f32⟩ : BufTy).Contents (Elt F) → (⟨S3x128, .f32⟩ : BufTy).Contents (Elt F)),
    StableHlo.unary main_v14 main_v15 ((transpose S128x3 [1, 0] · transposes_S3x128_S128x3_1_0) : (⟨S3x128, .f32⟩ : BufTy).Contents (Elt F) → (⟨S128x3, .f32⟩ : BufTy).Contents (Elt F)),
    StableHlo.reshape main_arg11 main_v16 (rfl : (.f32 : EltTy) = .f32) shapeCasts_S128_S128x1,
    StableHlo.unary main_arg12 main_v17 ((transpose S128x128 [1, 0] · transposes_S128x128_S128x128_1_0) : (⟨S128x128, .f32⟩ : BufTy).Contents (Elt F) → (⟨S128x128, .f32⟩ : BufTy).Contents (Elt F)),
    StableHlo.reshape main_arg13 main_v18 (rfl : (.f32 : EltTy) = .f32) shapeCasts_S128_S128x1,
    StableHlo.unary main_arg10 main_v19 ((extractStridedSlice S128x128 ![0, 0] · slices_S131x128_S128x128_0_0) : (⟨S131x128, .f32⟩ : BufTy).Contents (Elt F) → (⟨S128x128, .f32⟩ : BufTy).Contents (Elt F)),
    StableHlo.unary main_v19 main_v20 ((transpose S128x128 [1, 0] · transposes_S128x128_S128x128_1_0) : (⟨S128x128, .f32⟩ : BufTy).Contents (Elt F) → (⟨S128x128, .f32⟩ : BufTy).Contents (Elt F))]

/-- Those after it. -/
def opsB : List (HloOp τ sig (Elt F)) :=
  [StableHlo.unary main_arg12 main_v22 ((transpose S128x128 [1, 0] · transposes_S128x128_S128x128_1_0) : (⟨S128x128, .f32⟩ : BufTy).Contents (Elt F) → (⟨S128x128, .f32⟩ : BufTy).Contents (Elt F)),
    StableHlo.unary main_arg10 main_v23 ((extractStridedSlice S128x128 ![0, 0] · slices_S131x128_S128x128_0_0) : (⟨S131x128, .f32⟩ : BufTy).Contents (Elt F) → (⟨S128x128, .f32⟩ : BufTy).Contents (Elt F)),
    StableHlo.unary main_v23 main_v24 ((transpose S128x128 [1, 0] · transposes_S128x128_S128x128_1_0) : (⟨S128x128, .f32⟩ : BufTy).Contents (Elt F) → (⟨S128x128, .f32⟩ : BufTy).Contents (Elt F))]

/-- Those before the last call. -/
def opsC : List (HloOp τ sig (Elt F)) :=
  [StableHlo.unary main_arg14 main_v30 ((transpose S128x128 [1, 0] · transposes_S128x128_S128x128_1_0) : (⟨S128x128, .f32⟩ : BufTy).Contents (Elt F) → (⟨S128x128, .f32⟩ : BufTy).Contents (Elt F)),
    StableHlo.reshape main_arg15 main_v31 (rfl : (.f32 : EltTy) = .f32) shapeCasts_S128_S128x1]

/-- Those after it, to the result. -/
def opsD : List (HloOp τ sig (Elt F)) :=
  [StableHlo.unary main_v32 main_v33 ((extractStridedSlice S128x10000 ![0, 0] · slices_S128x10240_S128x10000_0_0) : (⟨S128x10240, .f32⟩ : BufTy).Contents (Elt F) → (⟨S128x10000, .f32⟩ : BufTy).Contents (Elt F)),
    StableHlo.unary main_v33 main_v34 ((transpose S10000x128 [1, 0] · transposes_S128x10000_S10000x128_1_0) : (⟨S128x10000, .f32⟩ : BufTy).Contents (Elt F) → (⟨S10000x128, .f32⟩ : BufTy).Contents (Elt F))]

/-- The program on a TensorCore. -/
theorem main_eq (d : Dev nD) : main (F := F) d = (StableHlo.seq opsA >>= fun _ => Prog.lift (.customCall (SparseCore.inner (Pipeline.entry 0)) ()) >>= fun _ =>
    StableHlo.seq opsB >>= fun _ => (K (F := F)).run d 0 >>= fun _ => Prog.lift (.customCall (SparseCore.inner (Pipeline.entry 1)) ()) >>= fun _ =>
    (K (F := F)).run d 1 >>= fun _ => Prog.lift (.customCall (SparseCore.inner (Pipeline.entry 2)) ()) >>= fun _ => (K (F := F)).run d 2 >>= fun _ =>
    StableHlo.seq opsC >>= fun _ => Prog.lift (.customCall (SparseCore.inner (Pipeline.entry 3)) ()) >>= fun _ => StableHlo.seq opsD >>= fun _ => pure ⟨⟩) := by
  simp only [StableHlo.seq_bind_seqK]
  rfl

/-- A line of operations that touch arrays which last through the program, and draw none anew. -/
def Line (ops : List (HloOp τ sig (Elt F))) : Prop := (∀ op ∈ ops, op.bufs ⊆ ucRefs τ sig) ∧ ∀ op ∈ ops, op.fresh = ∅

/-- A line of such operations, operation by operation. -/
theorem line_of {ops : List (HloOp τ sig (Elt F))} (h : ops.Forall fun op => op.bufs ⊆ StableHlo.tcRefs τ sig)
    (hf : ops.map HloOp.fresh = ops.map fun _ => (∅ : Finset (DevRef τ sig))) : Line ops :=
  ⟨fun op ho => Pipeline.sub_ucRefs op (List.forall_iff_forall_mem.mp h op ho), fun op ho => List.forall_iff_forall_mem.mp (StableHlo.forall_fresh_of_map hf) op ho⟩

/-- The program's four lines are such. -/
theorem opsA_line : Line (opsA (F := F)) := line_of (by delta opsA; simp) rfl
/-- As `opsA_line`. -/
theorem opsB_line : Line (opsB (F := F)) := line_of (by delta opsB; simp) rfl
/-- As `opsA_line`. -/
theorem opsC_line : Line (opsC (F := F)) := line_of (by delta opsC; simp) rfl
/-- As `opsA_line`. -/
theorem opsD_line : Line (opsD (F := F)) := line_of (by delta opsD; simp) rfl

/-! ## The arrays between -/

variable (m : (ℓ : Loc nD τ sig) → Buf (Elt F) ℓ)

/-- A device's arrays at the launch, as the first call finds them, and as the SparseCores' first call finds them. -/
def startV (d : Dev nD) : Valuation τ sig (Elt F) := fun b => m (d, b)
/-- As the first call finds them. -/
def firstV (d : Dev nD) : Valuation τ sig (Elt F) := StableHlo.after opsA (startV m d)
/-- As the SparseCores' first call finds them. -/
def baseV (d : Dev nD) : Valuation τ sig (Elt F) := StableHlo.after opsB (leave0 (firstV m d))

/-- The arrays the rounds after it write: features and maxima. -/
abbrev later : List (Ref sig .tc) := [main_v21_0, main_v25, main_v26, main_v27, main_v28, main_v29]

/-- Contents that differ from `B` at those alone. -/
def Agree (B V : Valuation τ sig (Elt F)) : Prop := ∀ r : Ref sig .tc, r ∉ later → V (at' r) = B (at' r)

/-- Contents agree with themselves. -/
theorem Agree.refl (B : Valuation τ sig (Elt F)) : Agree B B := fun _ _ => rfl

/-- Writing one of those keeps the agreement. -/
theorem Agree.update {B V : Valuation τ sig (Elt F)} (h : Agree B V) {r : Ref sig .tc} (hr : r ∈ later) (x : (at' r).ty.Contents (Elt F)) :
    Agree B (Function.update V (at' r) x) := fun r' hr' => by
  rw [Function.update_of_ne (StableHlo.devRef_ne_of_ne fun e : r' = r => hr' (by rw [e]; exact hr)), h r' hr']

/-! ## The words -/

/-- The edge index, a device's argument. -/
abbrev edges (d : Dev nD) : S2x320000.Idx → BitVec 32 := m ((SparseCore.T d).loc main_arg1)

/-- Word `n` of row `k` of an edge index. -/
def wordOf (e : S2x320000.Idx → BitVec 32) (k : Fin 2) (n : ℕ) : BitVec 32 := if h : n < 320000 then e (fun | 0 => k | 1 => ⟨n, h⟩ | ⟨_ + 2, h⟩ => absurd h (Nat.not_lt.2 (Nat.le_add_left _ _))) else 0

/-- A row of the edge index, sliced and reshaped, is its words. -/
theorem row_words (e : S2x320000.Idx → BitVec 32) (k : Fin 2) (off : Fin 2 → ℕ) (hoff : off = ![k.val, 0]) (hs : S2x320000.Slices off S1x320000)
    (hc : S1x320000.ShapeCasts S320000) (x : S320000.Idx) : shapeCast S320000 (extractStridedSlice S1x320000 off e hs) hc x = wordOf e k (x 0).val := by
  subst hoff
  have hx : (x 0).val < 320000 := (x 0).isLt
  rw [shapeCast_apply _ hc x (fun | 0 => ⟨0, by decide⟩ | 1 => ⟨(x 0).val, hx⟩ | ⟨_ + 2, h⟩ => absurd h (Nat.not_lt.2 (Nat.le_add_left _ _)))
    (by rw [Shape.rowMajor_val_two, Shape.rowMajor_val_one]; simp)]
  unfold wordOf
  rw [dif_pos hx]
  refine extractStridedSlice_apply _ _ _ _ _ fun a => ?_
  match a with
  | 0 => rfl
  | 1 => simp

/-- The second line and the first call leave alone what they do not write. -/
theorem base_of (d : Dev nD) {r : Ref sig .tc} (h : r ∉ [main_v22, main_v23, main_v24, main_v21_0, main_v21_1, main_v21_2]) :
    baseV m d (at' r) = firstV m d (at' r) := by
  simp only [List.mem_cons, List.not_mem_nil, or_false, not_or] at h
  obtain ⟨h1, h2, h3, h4, h5, h6⟩ := h
  unfold baseV
  rw [StableHlo.after_unwritten [main_v22, main_v23, main_v24] rfl (by simp [h1, h2, h3]),
    leave0_of_ne _ (StableHlo.devRef_ne_of_ne h4) (StableHlo.devRef_ne_of_ne h5) (StableHlo.devRef_ne_of_ne h6)]

/-- The source words, as the host leaves them. -/
theorem srcs_eq (d : Dev nD) : baseV m d (at' main_v3) = fun x => wordOf (edges m d) 0 ((x : S320000.Idx) 0).val := by
  rw [base_of m d (by decide)]
  delta firstV opsA
  after_results
  funext x
  exact row_words (edges m d) 0 ![0, 0] rfl _ _ x

/-- The destination words, as the host leaves them. -/
theorem dsts_eq (d : Dev nD) : baseV m d (at' main_v5) = fun x => wordOf (edges m d) 1 ((x : S320000.Idx) 0).val := by
  rw [base_of m d (by decide)]
  delta firstV opsA
  after_results
  funext x
  exact row_words (edges m d) 1 ![1, 0] rfl _ _ x

end Cert.Proof

end
-- ==== Proof.Steps.lean ====
/-
  The three SparseCore calls: what each hands its tiles and takes back, the features known by what the host's calls left in
  them; every tile's part; and a call as a step of the program.
-/
module

public import proofs.«01_k».proof.Proof.Host

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs)

variable {F : FTy → Type} [FloatOps F]

local notation "𝕄" => MT nD τ sig (HIx 3) (Elt F) ℕ UU ℕ

/-! ## A tile's part, at features it is not told -/

section Tile

variable (d : Dev nD) (c : Fin 2) (j : Fin 16)
variable (arg2 : Memref sig .scVector .hbm S128x10240 .f32) (arg3 : Memref sig .scVector .hbm S320000 .i32)
  (arg4 : Memref sig .scVector .hbm S320000 .i32) (arg5 : Memref sig .scVector .hbm S128x10240 .f32)
variable (src dst : ℕ → BitVec 32)
variable (R : Buf (Elt F) (arg2.view.loc (tile d L₀)) → Prop) (fs : Buf (Elt F) (arg3.view.loc (tile d L₀))) (fd : Buf (Elt F) (arg4.view.loc (tile d L₀)))

/-- What a tile is handed, its features only known to be such as `R` says. -/
def goE : sProp 𝕄 := iprop(∃ X, ⌜R X⌝ ∗ goT d (coordsV c j) arg2 arg3 arg4 arg5 (tok c j) X fs fd)

/-- What it hands back. -/
def tdE : sProp 𝕄 := iprop(∃ X, ⌜R X⌝ ∗ tdT d (coordsV c j) arg2 arg3 arg4 arg5 src dst (tok c j) X fs fd)

/-- Both are storable resources. -/
instance goE_storable : BI.Storable (upEmb : UEmb _ 𝕄) (goE d c j arg2 arg3 arg4 arg5 R fs fd) := by
  unfold goE; infer_instance

/-- As `goE_storable`. -/
instance tdE_storable : BI.Storable (upEmb : UEmb _ 𝕄) (tdE d c j arg2 arg3 arg4 arg5 src dst R fs fd) := by
  unfold tdE; infer_instance

variable {d c j arg2 arg3 arg4 arg5 src dst R fs fd}
/-- A tile handed its part at features such as `R` says is handed it so. -/
theorem goE_intro {X : Buf (Elt F) (arg2.view.loc (tile d L₀))} (hX : R X) :
    goT d (coordsV c j) arg2 arg3 arg4 arg5 (tok c j) X fs fd ⊢ (goE d c j arg2 arg3 arg4 arg5 R fs fd : sProp 𝕄) := by
  unfold goE
  iintro H
  iexists X
  isplitr; · ipureintro; exact hX
  iexact H

variable {harg2 : arg2.IsWhole} {harg3 : arg3.IsWhole} {harg4 : arg4.IsWhole} {harg5 : arg5.IsWhole}
  {arg6 : Memref sig .scVector .vmem S10240 .f32} {harg6 : arg6.IsWhole} {arg7 : Memref sig .scVector .vmem S10240 .f32} {harg7 : arg7.IsWhole}
  {arg8 : Memref sig .scVector .vmem S10240 .f32} {harg8 : arg8.IsWhole} {arg9 : Memref sig .scVector .vmem S10240 .f32} {harg9 : arg9.IsWhole}
  {arg10 : Memref sig .scVector .vmem S10240 .f32} {harg10 : arg10.IsWhole} {arg11 : Memref sig .scVector .vmem S10240 .f32} {harg11 : arg11.IsWhole}
  {arg12 : Memref sig .scVector .vmem S10240 .f32} {harg12 : arg12.IsWhole} {arg13 : Memref sig .scVector .vmem S10240 .f32} {harg13 : arg13.IsWhole}
  {arg14 : Memref sig .scVector .vmem S8000 .i32} {harg14 : arg14.IsWhole} {arg15 : Memref sig .scVector .vmem S8000 .i32} {harg15 : arg15.IsWhole}
  {arg16 : Memref sig .scVector .vmem S8000 .i32} {harg16 : arg16.IsWhole} {arg17 : Memref sig .scVector .vmem S8000 .i32} {harg17 : arg17.IsWhole}
  {arg18 : DmaSems sig S_} {arg19 : DmaSems sig S_} {arg20 : DmaSems sig S_} {arg21 : DmaSems sig S_} {v28_r0 : DmaSems sig S_}
  {v28_r1 : DmaSems sig S_} {v28_r2 : DmaSems sig S_} {v28_r3 : DmaSems sig S_} {v28_r4 : DmaSems sig S_} {v28_r5 : DmaSems sig S_}
  {v28_r6 : DmaSems sig S_} {v28_r7 : DmaSems sig S_} {v28_r8 : DmaSems sig S_} {v28_r9 : DmaSems sig S_} {v28_r10 : DmaSems sig S_}
  {v28_r11 : DmaSems sig S_}

/-- The tile's program, from the one to the other. -/
theorem tile_some {O : CellTallies nD τ sig (HIx 3)} {W : Waits sig (HIx 3)} {q : Fin 3} (hO : ∀ g, O g none = 0) (hsrc : Nodes src) (hdst : Nodes dst)
    (hfs : arg3.view.read (Elt F) fs = fun x => src (x 0).val) (hfd : arg4.view.read (Elt F) fd = fun x => dst (x 0).val)
    (hnd : (scratchRefs arg6 arg7 arg8 arg9 arg10 arg11 arg12 arg13 arg14 arg15 arg16 arg17).Nodup)
    (hown : ∀ r ∈ scratchRefs arg6 arg7 arg8 arg9 arg10 arg11 arg12 arg13 arg14 arg15 arg16 arg17, ((Proc.scVector (cV (coordsV c j)) (jV (coordsV c j)) : Proc τ).devRef r).owner = .proc (.scVector (cV (coordsV c j)) (jV (coordsV c j))))
    (hsem : (dmaSems arg18 arg19 arg20 arg21 v28_r0 v28_r1 v28_r2 v28_r3 v28_r4 v28_r5 v28_r6 v28_r7 v28_r8 v28_r9 v28_r10 v28_r11).Nodup) :
    iprop(levAts (K (F := F)).L (K (F := F)).lev ∗ emp ∗ goE d c j arg2 arg3 arg4 arg5 R fs fd ∗ scopedBufs (tile d (coordsV c j)) ∗ scopedSems0 (tile d (coordsV c j)) ∗ owes (tile d (coordsV c j)) O W)
      ⊢ wp frame (wpE (defs₀ (F := F)) 𝒱₀ (tile d (coordsV c j)) none) Set.univ
          (cc1__segmax (F := F) (coordsV c j) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11)
          fun _ => iprop(tdE d c j arg2 arg3 arg4 arg5 src dst R fs fd ∗ scopedBufs (tile d (coordsV c j)) ∗ scopedSems0 (tile d (coordsV c j))
            ∗ ∃ W', ⌜∀ p ∈ W', p ∈ W ∨ p.2 = none ∨ p.2 = some q⌝ ∗ owes (tile d (coordsV c j)) O W') := by
  unfold goE tdE
  iintro ⟨Hlv, He, ⟨%X, %hX, Hgo⟩, Hb, Hs, HO⟩
  iapply (wp_wand_r frame _ _)
  isplitl [Hlv He Hgo Hb Hs HO]
  · iapply (tile_body d (coordsV c j) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v28_r0 v28_r1 v28_r2 v28_r3 v28_r4 v28_r5 v28_r6 v28_r7 v28_r8 v28_r9 v28_r10 v28_r11 src dst (tok c j) X fs fd O W hO hsrc hdst hfs hfd hnd hown hsem)
    isplitl [Hlv]; · iexact Hlv
    isplitl [He]; · iexact He
    isplitl [Hgo]; · iexact Hgo
    isplitl [Hb]; · iexact Hb
    isplitl [Hs] <;> iassumption
  · iintro %_ ⟨Htd, Hb, Hs, %W', %hW', HO⟩
    isplitl [Htd]
    · iexists X
      isplitr; · ipureintro; exact hX
      iexact Htd
    isplitl [Hb]; · iexact Hb
    isplitl [Hs]; · iexact Hs
    iexists W'
    isplitr; · ipureintro; exact fun p hp => (hW' p hp).imp_right Or.inl
    iexact HO

end Tile

/-! ## All tiles at once -/

section Deal

variable (d : Dev nD) {arg2 : Memref sig .scVector .hbm S128x10240 .f32} (harg2 : arg2.IsWhole) (hh2 : Home arg2)
  {arg3 : Memref sig .scVector .hbm S320000 .i32} (harg3 : arg3.IsWhole) (hh3 : Home arg3)
  {arg4 : Memref sig .scVector .hbm S320000 .i32} (harg4 : arg4.IsWhole) (hh4 : Home arg4)
  {arg5 : Memref sig .scVector .hbm S128x10240 .f32} (harg5 : arg5.IsWhole) (hh5 : Home arg5)
variable {src dst : ℕ → BitVec 32}
variable {R : Buf (Elt F) (arg2.view.loc (tile d L₀)) → Prop} {fs : Buf (Elt F) (arg3.view.loc (tile d L₀))} {fd : Buf (Elt F) (arg4.view.loc (tile d L₀))}

include harg2 hh2 harg3 hh3 harg4 hh4 harg5 hh5

/-- The arrays, dealt to the tiles. -/
theorem deal_some {X : Buf (Elt F) (arg2.view.loc (tile d L₀))} (hX : R X) {f : Buf (Elt F) (oLoc d arg5)} :
    iprop((arg2.view.loc (tile d L₀) ↦{fullShare} X) ∗ (arg3.view.loc (tile d L₀) ↦{fullShare} fs) ∗ (arg4.view.loc (tile d L₀) ↦{fullShare} fd) ∗ oLoc d arg5 ↦{fullShare} f)
      ⊢ (bigSep Finset.univ fun c : Fin 2 => bigSep Finset.univ fun j : Fin 16 => goE d c j arg2 arg3 arg4 arg5 R fs fd : sProp 𝕄) := by
  refine (go_all d arg5 harg5 hh5 arg2 harg2 hh2 arg3 harg3 hh3 arg4 harg4 hh4 X fs fd f).trans (bigSep_mono fun c _ => bigSep_mono fun j _ => goE_intro hX)

/-- What the tiles give back, put together. -/
theorem gather_some :
    (bigSep Finset.univ fun c : Fin 2 => bigSep Finset.univ fun j : Fin 16 => tdE d c j arg2 arg3 arg4 arg5 src dst R fs fd : sProp 𝕄)
      ⊢ iprop(∃ X Y, ⌜R X ∧ Good d arg5 arg2 X src dst Y⌝ ∗ (arg2.view.loc (tile d L₀) ↦{fullShare} X) ∗ (arg3.view.loc (tile d L₀) ↦{fullShare} fs)
          ∗ (arg4.view.loc (tile d L₀) ↦{fullShare} fd) ∗ oLoc d arg5 ↦{fullShare} Y) := by
  unfold tdE
  iintro H
  ihave H := (td_join d arg5 arg2 harg2 hh2 arg3 arg4 fs fd src dst R) $$ H
  icases H with ⟨%X, %hX, H⟩
  ihave H := (td_all d arg5 harg5 hh5 arg2 harg2 hh2 arg3 harg3 hh3 arg4 harg4 hh4 X fs fd src dst) $$ H
  icases H with ⟨H1, H2, H3, %Y, %hY, H4⟩
  iexists X
  iexists Y
  isplitr; · ipureintro; exact ⟨hX, hY⟩
  isplitl [H1]; · iexact H1
  isplitl [H2]; · iexact H2
  isplitl [H3]; · iexact H3
  iexact H4

end Deal

/-! ## The calls -/

/-- The features a call reads. -/
abbrev featM : Fin 3 → Memref sig .scVector .hbm S128x10240 .f32 := fun | 0 => .whole main_v21_0_scv | 1 => .whole main_v26_scv | 2 => .whole main_v28_scv
/-- The maxima it writes. -/
abbrev outM : Fin 3 → Memref sig .scVector .hbm S128x10240 .f32 := fun | 0 => .whole main_v25_scv | 1 => .whole main_v27_scv | 2 => .whole main_v29_scv
/-- The words it reads. -/
abbrev srcM : Memref sig .scVector .hbm S320000 .i32 := .whole main_v3_scv
/-- As `srcM`. -/
abbrev dstM : Memref sig .scVector .hbm S320000 .i32 := .whole main_v5_scv

/-- What is known of the features of each call. -/
abbrev Known (F : FTy → Type) : Type := (q : Fin 3) → (d : Dev nD) → Buf (Elt F) ((featM q).view.loc (tile d L₀)) → Prop

/-- Each call's grid is the tiles'. -/
theorem core_le (q : Fin 3) : (K (F := F)).nCore q ≤ 2 := match q with | 0 => le_refl 2 | 1 => le_refl 2 | 2 => le_refl 2
/-- As `core_le`. -/
theorem sub_le (q : Fin 3) : (K (F := F)).nSub q ≤ 16 := match q with | 0 => le_refl 16 | 1 => le_refl 16 | 2 => le_refl 16

section Calls

variable (m : (ℓ : Loc nD τ sig) → Buf (Elt F) ℓ) (R : Known F)

/-- What call `q` hands a tile, and what it takes back. -/
abbrev goQ (q : Fin 3) (d : Dev nD) (c : Fin ((K (F := F)).nCore q)) (j : Fin ((K (F := F)).nSub q)) : sProp 𝕄 :=
  goE d (c.castLE (core_le q)) (j.castLE (sub_le q)) (featM q) srcM dstM (outM q) (R q d) (baseV m d (at' main_v3)) (baseV m d (at' main_v5))
/-- What it takes back. -/
abbrev tdQ (q : Fin 3) (d : Dev nD) (c : Fin ((K (F := F)).nCore q)) (j : Fin ((K (F := F)).nSub q)) : sProp 𝕄 :=
  tdE d (c.castLE (core_le q)) (j.castLE (sub_le q)) (featM q) srcM dstM (outM q) (wordOf (edges m d) 0) (wordOf (edges m d) 1) (R q d) (baseV m d (at' main_v3)) (baseV m d (at' main_v5))

/-- What the calls hand each SparseCore and each tile, and take back. -/
def P : (K (F := F)).Pay (nD := nD) (Val := Elt F) (Name := ℕ) (U := UU) where
  st q d c := bigSep Finset.univ fun j => goQ m R q d c j
  dn q d c := bigSep Finset.univ fun j => tdQ m R q d c j
  go q d c j := goQ m R q d c j
  td q d c j := tdQ m R q d c j
  x _ _ := iprop(emp)

/-- All of it is storable. -/
instance P_storable : (P m R).IsStorable where
  st q d c := (BI.Storable.bigSep _ _ _ : BI.Storable (upEmb : UEmb _ 𝕄) (bigSep Finset.univ fun j => goQ m R q d c j))
  dn q d c := (BI.Storable.bigSep _ _ _ : BI.Storable (upEmb : UEmb _ 𝕄) (bigSep Finset.univ fun j => tdQ m R q d c j))
  go q d c j := goE_storable ..
  td q d c j := tdE_storable ..

/-- Every word of both rows names a node. -/
def PreOK : Prop := ∀ d : Dev nD, Nodes (wordOf (edges m d) 0) ∧ Nodes (wordOf (edges m d) 1)

set_option maxHeartbeats 8000000 in
/-- Every tile runs its part of every call. -/
theorem tileObl (hpre : PreOK m) (q : Fin 3) : (K (F := F)).TileObl (D (F := F)) 𝒱 (P m R) v₀ q := by
  intro d c i O W hO _ _
  simp only [show (P m R).ox = fun _ _ => 0 from rfl, add_zero]
  match q with
  | 0 =>
    change _ ⊢ wp _ _ _ (Pipeline.liftProg (defs₀ (F := F) (.scVector ((K (F := F)).core 0 c) ((K (F := F)).sub 0 i)) 1 ())) _
    refine BI.Entails.trans ?_ (Pipeline.wp_liftProg (D (F := F)) (Pipeline.defs_kernel pcfgs defs₀) 𝒱₀ _ Set.univ none _ _)
    have hc : ((K (F := F)).core 0 c).val < grid1.bound 0 ∧ ((K (F := F)).sub 0 i).val < grid1.bound 1 := ⟨c.isLt, i.isLt⟩
    simp only [defs₀, SparseCore.onTile, hc, _root_.and_self, ↓reduceDIte]
    exact tile_some (q := 0) hO (hpre d).1 (hpre d).2 (srcs_eq m d) (dsts_eq m d) (by decide) (List.forall_iff_forall_mem.mp ⟨rfl, rfl, rfl, rfl, rfl, rfl, rfl, rfl, rfl, rfl, rfl, rfl⟩) (by decide)
  | 1 =>
    change _ ⊢ wp _ _ _ (Pipeline.liftProg (defs₀ (F := F) (.scVector ((K (F := F)).core 1 c) ((K (F := F)).sub 1 i)) 3 ())) _
    refine BI.Entails.trans ?_ (Pipeline.wp_liftProg (D (F := F)) (Pipeline.defs_kernel pcfgs defs₀) 𝒱₀ _ Set.univ none _ _)
    have hc : ((K (F := F)).core 1 c).val < grid3.bound 0 ∧ ((K (F := F)).sub 1 i).val < grid3.bound 1 := ⟨c.isLt, i.isLt⟩
    simp only [defs₀, SparseCore.onTile, hc, _root_.and_self, ↓reduceDIte, show @cc3__segmax F _ _ = @cc1__segmax F _ _ from rfl]
    exact tile_some (q := 1) hO (hpre d).1 (hpre d).2 (srcs_eq m d) (dsts_eq m d) (by decide) (List.forall_iff_forall_mem.mp ⟨rfl, rfl, rfl, rfl, rfl, rfl, rfl, rfl, rfl, rfl, rfl, rfl⟩) (by decide)
  | 2 =>
    change _ ⊢ wp _ _ _ (Pipeline.liftProg (defs₀ (F := F) (.scVector ((K (F := F)).core 2 c) ((K (F := F)).sub 2 i)) 5 ())) _
    refine BI.Entails.trans ?_ (Pipeline.wp_liftProg (D (F := F)) (Pipeline.defs_kernel pcfgs defs₀) 𝒱₀ _ Set.univ none _ _)
    have hc : ((K (F := F)).core 2 c).val < grid5.bound 0 ∧ ((K (F := F)).sub 2 i).val < grid5.bound 1 := ⟨c.isLt, i.isLt⟩
    simp only [defs₀, SparseCore.onTile, hc, _root_.and_self, ↓reduceDIte, show @cc5__segmax F _ _ = @cc1__segmax F _ _ from rfl]
    exact tile_some (q := 2) hO (hpre d).1 (hpre d).2 (srcs_eq m d) (dsts_eq m d) (by decide) (List.forall_iff_forall_mem.mp ⟨rfl, rfl, rfl, rfl, rfl, rfl, rfl, rfl, rfl, rfl, rfl, rfl⟩) (by decide)

/-- A SparseCore's part is its tiles'. -/
theorem vecSplit (q : Fin 3) : (K (F := F)).VecSplit' (P m R) q := by
  intro d c
  show (bigSep Finset.univ fun j => goQ m R q d c j) ⊢ |={Set.univ}=> iprop((bigSep Finset.univ fun j => goQ m R q d c j)
    ∗ ((bigSep Finset.univ fun j => tdQ m R q d c j) -∗ (bigSep Finset.univ fun j => tdQ m R q d c j)))
  iintro H; imodintro
  isplitl [H]; · iexact H
  iintro H; iexact H

end Calls

/-! ## A call as a step -/

/-- Of the arrays held, the four a call works on; and they put back at new features and maxima. -/
theorem held_four (d : Dev nD) (V : Valuation τ sig (Elt F)) (r2 r3 r4 r5 : Ref sig .tc) (hn : [r2, r3, r4, r5].Nodup) (hu : ∀ r ∈ [r2, r3, r4, r5], at' r ∈ ucRefs τ sig) :
    (held (SparseCore.T d) (ucRefs τ sig) V : sProp 𝕄) = iprop((((SparseCore.T d).loc r2 ↦{fullShare} V (at' r2)) ∗ ((SparseCore.T d).loc r3 ↦{fullShare} V (at' r3)) ∗ ((SparseCore.T d).loc r4 ↦{fullShare} V (at' r4))
      ∗ (SparseCore.T d).loc r5 ↦{fullShare} V (at' r5)) ∗ held (SparseCore.T d) (ucRefs τ sig \ ([r2, r3, r4, r5].map at').toFinset) V) :=
  bigSep_listed [r2, r3, r4, r5] at' (fun a b e => by_contra fun h => StableHlo.devRef_ne_of_ne h e) hn hu _

variable (m : (ℓ : Loc nD τ sig) → Buf (Elt F) ℓ) (R : Known F)

/-- A SparseCore call of the program: the arrays held keep their contents but for the features, which stay such as they are
    known to be, and the maxima, which are related to them: so they are such as `Post` says. -/
theorem sc_step (κ : GSem nD τ sig → ℕ) (d : Dev nD) (q : Fin 3) (V : Valuation τ sig (Elt F)) (r2 r3 r4 r5 : Ref sig .tc) (hn : [r2, r3, r4, r5].Nodup)
    (hu : ∀ r ∈ [r2, r3, r4, r5], at' r ∈ ucRefs τ sig) (Rel : (at' r2).ty.Contents (Elt F) → (at' r5).ty.Contents (Elt F) → Prop)
    (hst : iprop(((SparseCore.T d).loc r2 ↦{fullShare} V (at' r2)) ∗ ((SparseCore.T d).loc r3 ↦{fullShare} V (at' r3)) ∗ ((SparseCore.T d).loc r4 ↦{fullShare} V (at' r4)) ∗ (SparseCore.T d).loc r5 ↦{fullShare} V (at' r5))
      ⊢ (bigSep Finset.univ fun c => (P m R).st q d c : sProp 𝕄))
    (hdn : (bigSep Finset.univ fun c => (P m R).dn q d c : sProp 𝕄)
      ⊢ iprop(∃ (X : (at' r2).ty.Contents (Elt F)) (Y : (at' r5).ty.Contents (Elt F)), ⌜Rel X Y⌝ ∗ ((SparseCore.T d).loc r2 ↦{fullShare} X) ∗ ((SparseCore.T d).loc r3 ↦{fullShare} V (at' r3)) ∗ ((SparseCore.T d).loc r4 ↦{fullShare} V (at' r4)) ∗ (SparseCore.T d).loc r5 ↦{fullShare} Y))
    (Post : Valuation τ sig (Elt F) → Prop) (hpost : ∀ X Y, Rel X Y → Post (Function.update (Function.update V (at' r2) X) (at' r5) Y))
    {k : PUnit → Prog (TpuEff nD τ sig (Elt F) (SparseCore.Sig (ΛP (F := F)) 3) .tc) PUnit} {Q : PUnit → sProp 𝕄} :
    iprop((K (F := F)).ctx EH (P m R) κ ∗ (K (F := F)).tcSt EH d q.val ∗ held (SparseCore.T d) (ucRefs τ sig) V)
      ⊢ iprop((iprop((K (F := F)).tcSt EH d (q.val + 1) ∗ ∃ V', ⌜Post V'⌝ ∗ held (SparseCore.T d) (ucRefs τ sig) V')
            -∗ wp frame (wpE ((K (F := F)).defs (D (F := F))) 𝒱 (SparseCore.T d) none) Set.univ (k ⟨⟩) Q)
        -∗ wp frame (wpE ((K (F := F)).defs (D (F := F))) 𝒱 (SparseCore.T d) none) Set.univ ((K (F := F)).run d q >>= k) Q) := by
  have hn' := hn
  simp only [List.nodup_cons, List.mem_cons, List.not_mem_nil, or_false, not_or, not_false_eq_true, List.nodup_nil, and_true] at hn'
  obtain ⟨⟨h23, h24, h25⟩, ⟨h34, h35⟩, h45⟩ := hn'
  have hrest (X : (at' r2).ty.Contents (Elt F)) (Y : (at' r5).ty.Contents (Elt F)) :
      (held (SparseCore.T d) (ucRefs τ sig \ ([r2, r3, r4, r5].map at').toFinset) V : sProp 𝕄)
        = held (SparseCore.T d) (ucRefs τ sig \ ([r2, r3, r4, r5].map at').toFinset) (Function.update (Function.update V (at' r2) X) (at' r5) Y) := by
    refine StableHlo.held_congr (SparseCore.T d) fun b hb => ?_
    have hb' := (Finset.mem_sdiff.mp hb).2
    rw [List.mem_toFinset] at hb'
    rw [Function.update_of_ne fun e => hb' (by rw [e]; simp), Function.update_of_ne fun e => hb' (by rw [e]; simp)]
  rw [wp_bind, held_four d V r2 r3 r4 r5 hn hu]
  iintro ⟨#Hctx, Hst, Hf, Hr⟩ Hk
  iapply ((K (F := F)).wp_run (D (F := F)) 𝒱 (EH := EH) (P := P m R) κ d q)
  isplitr; · iexact Hctx
  isplitl [Hst]; · iexact Hst
  isplitl [Hf]; · iapply hst; iexact Hf
  iintro ⟨Hst, Hdn⟩
  ihave Hdn := hdn $$ Hdn
  icases Hdn with ⟨%X, %Y, %hXY, Hf⟩
  iapply Hk
  isplitl [Hst]; · iexact Hst
  iexists Function.update (Function.update V (at' r2) X) (at' r5) Y
  isplitr; · ipureintro; exact hpost X Y hXY
  rw [held_four d (Function.update (Function.update V (at' r2) X) (at' r5) Y) r2 r3 r4 r5 hn hu, Function.update_self,
    Function.update_of_ne (StableHlo.devRef_ne_of_ne h25), Function.update_self,
    Function.update_of_ne (StableHlo.devRef_ne_of_ne h35), Function.update_of_ne (StableHlo.devRef_ne_of_ne (Ne.symm h23)),
    Function.update_of_ne (StableHlo.devRef_ne_of_ne h45), Function.update_of_ne (StableHlo.devRef_ne_of_ne (Ne.symm h24))]
  isplitl [Hf]; · iexact Hf
  iapply (Entails.of_eq (hrest X Y))
  iexact Hr

end Cert.Proof

end
-- ==== Proof.Runs.lean ====
/-
  What is known of the arrays as the program goes on, and the SparseCore calls as steps from what is known to what is.
-/
module

public import proofs.«01_k».proof.Proof.Steps

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)
open Idealize.ShloMosaic.Pipeline (ucRefs)

variable {F : FTy → Type} [FloatOps F]

local notation "𝕄" => MT nD τ sig (HIx 3) (Elt F) ℕ UU ℕ

variable (m : (ℓ : Loc nD τ sig) → Buf (Elt F) ℓ)

/-! ## What is known as the program goes on -/

/-- Maxima `Y` are good for the features `X` of call `q`. -/
abbrev GoodQ (q : Fin 3) (d : Dev nD) (X : Buf (Elt F) ((featM q).view.loc (tile d L₀))) (Y : Buf (Elt F) ((outM q).view.loc (tile d L₀))) : Prop :=
  Good d (outM q) (featM q) X (wordOf (edges m d) 0) (wordOf (edges m d) 1) Y

/-- Contents after the first SparseCore call: the first features, and maxima good for them. -/
def Done0 (d : Dev nD) (V : Valuation τ sig (Elt F)) : Prop :=
  Agree (baseV m d) V ∧ V (at' main_v21_0) = baseV m d (at' main_v21_0) ∧ GoodQ m 0 d (V (at' main_v21_0)) (V (at' main_v25))

/-- The features the second layer's call leaves. -/
def Feat1 (d : Dev nD) (X : (at' main_v26).ty.Contents (Elt F)) : Prop := ∃ V, Done0 m d V ∧ X = leave2 V (at' main_v26)

/-- Contents after the second SparseCore call. -/
def Done1 (d : Dev nD) (V : Valuation τ sig (Elt F)) : Prop :=
  Agree (baseV m d) V ∧ Feat1 m d (V (at' main_v26)) ∧ GoodQ m 1 d (V (at' main_v26)) (V (at' main_v27))

/-- The features the third layer's call leaves. -/
def Feat2 (d : Dev nD) (X : (at' main_v28).ty.Contents (Elt F)) : Prop := ∃ V, Done1 m d V ∧ X = leave4 V (at' main_v28)

/-- Contents after the third SparseCore call. -/
def Done2 (d : Dev nD) (V : Valuation τ sig (Elt F)) : Prop :=
  Agree (baseV m d) V ∧ Feat2 m d (V (at' main_v28)) ∧ GoodQ m 2 d (V (at' main_v28)) (V (at' main_v29))

/-- What is known of each call's features. -/
def known : Known F := fun q d => match q with
  | 0 => fun X => X = baseV m d (at' main_v21_0)
  | 1 => Feat1 m d
  | 2 => Feat2 m d

/-- Contents at the program's end, from those after the third SparseCore call. -/
abbrev endV (V : Valuation τ sig (Elt F)) : Valuation τ sig (Elt F) := after opsD (leave6 (after opsC V))

/-! ## The SparseCore calls as steps -/

/-- Writing two of the arrays the rounds write keeps the agreement, and each reads what was written. -/
theorem done_two {B V : Valuation τ sig (Elt F)} (h : Agree B V) {r r' : Ref sig .tc} (hr : r ∈ later) (hr' : r' ∈ later) (hn : r ≠ r')
    (X : (at' r).ty.Contents (Elt F)) (Y : (at' r').ty.Contents (Elt F)) (R : (at' r).ty.Contents (Elt F) → Prop)
    (S : (at' r).ty.Contents (Elt F) → (at' r').ty.Contents (Elt F) → Prop) (hX : R X) (hY : S X Y) :
    Agree B (Function.update (Function.update V (at' r) X) (at' r') Y) ∧ R (Function.update (Function.update V (at' r) X) (at' r') Y (at' r))
      ∧ S (Function.update (Function.update V (at' r) X) (at' r') Y (at' r)) (Function.update (Function.update V (at' r) X) (at' r') Y (at' r')) := by
  rw [Function.update_self, Function.update_of_ne (StableHlo.devRef_ne_of_ne hn), Function.update_self]
  exact ⟨(h.update hr X).update hr' Y, hX, hY⟩

/-- What the first SparseCore call hands its tiles, all told, and what it takes back. -/
theorem st0_eq (R : Known F) (d : Dev nD) : (bigSep Finset.univ fun c => (P m R).st 0 d c : sProp 𝕄)
    = bigSep Finset.univ fun c : Fin 2 => bigSep Finset.univ fun j : Fin 16 => goE d c j (featM 0) srcM dstM (outM 0) (R 0 d) (baseV m d (at' main_v3)) (baseV m d (at' main_v5)) := rfl
/-- What it takes back. -/
theorem dn0_eq (R : Known F) (d : Dev nD) : (bigSep Finset.univ fun c => (P m R).dn 0 d c : sProp 𝕄)
    = bigSep Finset.univ fun c : Fin 2 => bigSep Finset.univ fun j : Fin 16 =>
      tdE d c j (featM 0) srcM dstM (outM 0) (wordOf (edges m d) 0) (wordOf (edges m d) 1) (R 0 d) (baseV m d (at' main_v3)) (baseV m d (at' main_v5)) := rfl

/-- What the second SparseCore call hands its tiles, all told, and what it takes back. -/
theorem st1_eq (R : Known F) (d : Dev nD) : (bigSep Finset.univ fun c => (P m R).st 1 d c : sProp 𝕄)
    = bigSep Finset.univ fun c : Fin 2 => bigSep Finset.univ fun j : Fin 16 => goE d c j (featM 1) srcM dstM (outM 1) (R 1 d) (baseV m d (at' main_v3)) (baseV m d (at' main_v5)) := rfl
/-- What it takes back. -/
theorem dn1_eq (R : Known F) (d : Dev nD) : (bigSep Finset.univ fun c => (P m R).dn 1 d c : sProp 𝕄)
    = bigSep Finset.univ fun c : Fin 2 => bigSep Finset.univ fun j : Fin 16 =>
      tdE d c j (featM 1) srcM dstM (outM 1) (wordOf (edges m d) 0) (wordOf (edges m d) 1) (R 1 d) (baseV m d (at' main_v3)) (baseV m d (at' main_v5)) := rfl

/-- What the third SparseCore call hands its tiles, all told, and what it takes back. -/
theorem st2_eq (R : Known F) (d : Dev nD) : (bigSep Finset.univ fun c => (P m R).st 2 d c : sProp 𝕄)
    = bigSep Finset.univ fun c : Fin 2 => bigSep Finset.univ fun j : Fin 16 => goE d c j (featM 2) srcM dstM (outM 2) (R 2 d) (baseV m d (at' main_v3)) (baseV m d (at' main_v5)) := rfl
/-- What it takes back. -/
theorem dn2_eq (R : Known F) (d : Dev nD) : (bigSep Finset.univ fun c => (P m R).dn 2 d c : sProp 𝕄)
    = bigSep Finset.univ fun c : Fin 2 => bigSep Finset.univ fun j : Fin 16 =>
      tdE d c j (featM 2) srcM dstM (outM 2) (wordOf (edges m d) 0) (wordOf (edges m d) 1) (R 2 d) (baseV m d (at' main_v3)) (baseV m d (at' main_v5)) := rfl

set_option maxHeartbeats 2000000 in
/-- The first SparseCore call, from arrays whose features are such as they are known to be. -/
theorem run0 (κ : GSem nD τ sig → ℕ) (d : Dev nD) (V : Valuation τ sig (Elt F)) (hA : Agree (baseV m d) V) (hX : V (at' main_v21_0) = baseV m d (at' main_v21_0))
    {k : PUnit → Prog (TpuEff nD τ sig (Elt F) (SparseCore.Sig (ΛP (F := F)) 3) .tc) PUnit} {Q : PUnit → sProp 𝕄} :
    iprop((K (F := F)).ctx EH (P m (known m)) κ ∗ (K (F := F)).tcSt EH d 0 ∗ held (SparseCore.T d) (ucRefs τ sig) V)
      ⊢ iprop((iprop((K (F := F)).tcSt EH d 1 ∗ ∃ V', ⌜Done0 m d V'⌝ ∗ held (SparseCore.T d) (ucRefs τ sig) V')
            -∗ wp frame (wpE ((K (F := F)).defs (D (F := F))) 𝒱 (SparseCore.T d) none) Set.univ (k ⟨⟩) Q)
        -∗ wp frame (wpE ((K (F := F)).defs (D (F := F))) 𝒱 (SparseCore.T d) none) Set.univ ((K (F := F)).run d 0 >>= k) Q) :=
  sc_step m (known m) κ d 0 V main_v21_0 main_v3 main_v5 main_v25 (by decide) (by decide) (fun X Y => known m 0 d X ∧ GoodQ m 0 d X Y)
    (by
      rw [hA main_v3 (by decide), hA main_v5 (by decide), st0_eq]
      exact deal_some d (arg2 := featM 0) (arg3 := srcM) (arg4 := dstM) (arg5 := outM 0) (Memref.isWhole_whole _) (fun _ => rfl) (Memref.isWhole_whole _) (fun _ => rfl)
        (Memref.isWhole_whole _) (fun _ => rfl) (Memref.isWhole_whole _) (fun _ => rfl) (R := known m 0 d) hX)
    (by
      rw [hA main_v3 (by decide), hA main_v5 (by decide), dn0_eq]
      exact gather_some d (arg2 := featM 0) (arg3 := srcM) (arg4 := dstM) (arg5 := outM 0) (Memref.isWhole_whole _) (fun _ => rfl) (Memref.isWhole_whole _) (fun _ => rfl)
        (Memref.isWhole_whole _) (fun _ => rfl) (Memref.isWhole_whole _) (fun _ => rfl) (R := known m 0 d))
    (Done0 m d) (fun X Y h => done_two (r := main_v21_0) (r' := main_v25) hA (by decide) (by decide) (by decide) X Y (known m 0 d) (GoodQ m 0 d) h.1 h.2)

set_option maxHeartbeats 2000000 in
/-- The second SparseCore call, from arrays whose features are such as they are known to be. -/
theorem run1 (κ : GSem nD τ sig → ℕ) (d : Dev nD) (V : Valuation τ sig (Elt F)) (hA : Agree (baseV m d) V) (hX : Feat1 m d (V (at' main_v26)))
    {k : PUnit → Prog (TpuEff nD τ sig (Elt F) (SparseCore.Sig (ΛP (F := F)) 3) .tc) PUnit} {Q : PUnit → sProp 𝕄} :
    iprop((K (F := F)).ctx EH (P m (known m)) κ ∗ (K (F := F)).tcSt EH d 1 ∗ held (SparseCore.T d) (ucRefs τ sig) V)
      ⊢ iprop((iprop((K (F := F)).tcSt EH d 2 ∗ ∃ V', ⌜Done1 m d V'⌝ ∗ held (SparseCore.T d) (ucRefs τ sig) V')
            -∗ wp frame (wpE ((K (F := F)).defs (D (F := F))) 𝒱 (SparseCore.T d) none) Set.univ (k ⟨⟩) Q)
        -∗ wp frame (wpE ((K (F := F)).defs (D (F := F))) 𝒱 (SparseCore.T d) none) Set.univ ((K (F := F)).run d 1 >>= k) Q) :=
  sc_step m (known m) κ d 1 V main_v26 main_v3 main_v5 main_v27 (by decide) (by decide) (fun X Y => known m 1 d X ∧ GoodQ m 1 d X Y)
    (by
      rw [hA main_v3 (by decide), hA main_v5 (by decide), st1_eq]
      exact deal_some d (arg2 := featM 1) (arg3 := srcM) (arg4 := dstM) (arg5 := outM 1) (Memref.isWhole_whole _) (fun _ => rfl) (Memref.isWhole_whole _) (fun _ => rfl)
        (Memref.isWhole_whole _) (fun _ => rfl) (Memref.isWhole_whole _) (fun _ => rfl) (R := known m 1 d) hX)
    (by
      rw [hA main_v3 (by decide), hA main_v5 (by decide), dn1_eq]
      exact gather_some d (arg2 := featM 1) (arg3 := srcM) (arg4 := dstM) (arg5 := outM 1) (Memref.isWhole_whole _) (fun _ => rfl) (Memref.isWhole_whole _) (fun _ => rfl)
        (Memref.isWhole_whole _) (fun _ => rfl) (Memref.isWhole_whole _) (fun _ => rfl) (R := known m 1 d))
    (Done1 m d) (fun X Y h => done_two (r := main_v26) (r' := main_v27) hA (by decide) (by decide) (by decide) X Y (known m 1 d) (GoodQ m 1 d) h.1 h.2)

set_option maxHeartbeats 2000000 in
/-- The third SparseCore call, from arrays whose features are such as they are known to be. -/
theorem run2 (κ : GSem nD τ sig → ℕ) (d : Dev nD) (V : Valuation τ sig (Elt F)) (hA : Agree (baseV m d) V) (hX : Feat2 m d (V (at' main_v28)))
    {k : PUnit → Prog (TpuEff nD τ sig (Elt F) (SparseCore.Sig (ΛP (F := F)) 3) .tc) PUnit} {Q : PUnit → sProp 𝕄} :
    iprop((K (F := F)).ctx EH (P m (known m)) κ ∗ (K (F := F)).tcSt EH d 2 ∗ held (SparseCore.T d) (ucRefs τ sig) V)
      ⊢ iprop((iprop((K (F := F)).tcSt EH d 3 ∗ ∃ V', ⌜Done2 m d V'⌝ ∗ held (SparseCore.T d) (ucRefs τ sig) V')
            -∗ wp frame (wpE ((K (F := F)).defs (D (F := F))) 𝒱 (SparseCore.T d) none) Set.univ (k ⟨⟩) Q)
        -∗ wp frame (wpE ((K (F := F)).defs (D (F := F))) 𝒱 (SparseCore.T d) none) Set.univ ((K (F := F)).run d 2 >>= k) Q) :=
  sc_step m (known m) κ d 2 V main_v28 main_v3 main_v5 main_v29 (by decide) (by decide) (fun X Y => known m 2 d X ∧ GoodQ m 2 d X Y)
    (by
      rw [hA main_v3 (by decide), hA main_v5 (by decide), st2_eq]
      exact deal_some d (arg2 := featM 2) (arg3 := srcM) (arg4 := dstM) (arg5 := outM 2) (Memref.isWhole_whole _) (fun _ => rfl) (Memref.isWhole_whole _) (fun _ => rfl)
        (Memref.isWhole_whole _) (fun _ => rfl) (Memref.isWhole_whole _) (fun _ => rfl) (R := known m 2 d) hX)
    (by
      rw [hA main_v3 (by decide), hA main_v5 (by decide), dn2_eq]
      exact gather_some d (arg2 := featM 2) (arg3 := srcM) (arg4 := dstM) (arg5 := outM 2) (Memref.isWhole_whole _) (fun _ => rfl) (Memref.isWhole_whole _) (fun _ => rfl)
        (Memref.isWhole_whole _) (fun _ => rfl) (Memref.isWhole_whole _) (fun _ => rfl) (R := known m 2 d))
    (Done2 m d) (fun X Y h => done_two (r := main_v28) (r' := main_v29) hA (by decide) (by decide) (by decide) X Y (known m 2 d) (GoodQ m 2 d) h.1 h.2)

end Cert.Proof

end
-- ==== Proof.Launch.lean ====
/-
  The launch: the run of the whole program, its arrays at the end such as are known.
-/
module

public import proofs.«01_k».proof.Proof.Runs

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)
open Idealize.ShloMosaic.Pipeline (ucRefs)

variable {F : FTy → Type} [FloatOps F]

local notation "𝕄" => MT nD τ sig (HIx 3) (Elt F) ℕ UU ℕ

variable (m : (ℓ : Loc nD τ sig) → Buf (Elt F) ℓ) (ρ : Dev nD → PrngReg)

variable [∀ e, Nonempty (Elt F e)]

/-! ## The program on the TensorCore -/

/-- What the program leaves: its arrays at contents such as are known. -/
abbrev FIN (d : Dev nD) : sProp 𝕄 := iprop(∃ V, ⌜Done2 m d V⌝ ∗ held (SparseCore.T d) (ucRefs τ sig) (endV V))

/-- What the launch deals a device's TensorCore: its calls' ghost state. -/
abbrev G (d : Dev nD) : sProp 𝕄 := iprop(callGhost (F := F) 0 d ∗ callGhost (F := F) 1 d ∗ callGhost (F := F) 2 d ∗ callGhost (F := F) 3 d)

set_option maxHeartbeats 2000000 in
/-- The program on a device's TensorCore. -/
theorem hmain (κ : GSem nD τ sig → ℕ) (d : Dev nD) :
    iprop((K (F := F)).ctx EH (P m (known m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 3 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (startV m d) from Pipeline.unscopedBufs_held d (startV m d), main_eq]
  iintro ⟨#Hctx, Hst, ⟨Hb, Hh, Hts, -⟩, HG0, HG1, HG2, HG3⟩
  iapply (StableHlo.wp_seq 𝒱 none Set.univ d (ucRefs τ sig) _ opsA opsA_line.1 opsA_line.2 (startV m d)) $$ [Hb Hh]
  · isplitl [Hb]; · iexact Hb
    iexact Hh
  iintro ⟨Hb, Hh⟩
  iapply (dense_step (P := P m (known m)) κ (pd (firstV m d) 0) 0 0 (firstV m d) (leave0 (firstV m d)) (call0 (firstV m d) 0) (leave0_rest (firstV m d)) d) $$ [Hst Hb Hh HG0]
  · isplitr; · iexact Hctx
    isplitl [Hst]; · iexact Hst
    isplitl [Hb]; · iexact Hb
    isplitl [Hh]; · iexact Hh
    iexact HG0
  iintro ⟨Hst, Hb, Hh⟩
  iapply (StableHlo.wp_seq 𝒱 none Set.univ d (ucRefs τ sig) _ opsB opsB_line.1 opsB_line.2 (leave0 (firstV m d))) $$ [Hb Hh]
  · isplitl [Hb]; · iexact Hb
    iexact Hh
  iintro ⟨Hb, Hh⟩
  iapply (run0 m κ d (baseV m d) (Agree.refl _) rfl) $$ [Hst Hh]
  · isplitr; · iexact Hctx
    isplitl [Hst]; · iexact Hst
    iexact Hh
  iintro ⟨Hst, %V₀, %hV₀, Hh⟩
  iapply (dense_step (P := P m (known m)) κ (pd V₀ 1) 1 1 V₀ (leave2 V₀) (call2 V₀ 1) (leave2_rest V₀) d) $$ [Hst Hb Hh HG1]
  · isplitr; · iexact Hctx
    isplitl [Hst]; · iexact Hst
    isplitl [Hb]; · iexact Hb
    isplitl [Hh]; · iexact Hh
    iexact HG1
  iintro ⟨Hst, Hb, Hh⟩
  iapply (run1 m κ d (leave2 V₀) (hV₀.1.update (r := main_v26) (by decide) _) ⟨V₀, hV₀, rfl⟩) $$ [Hst Hh]
  · isplitr; · iexact Hctx
    isplitl [Hst]; · iexact Hst
    iexact Hh
  iintro ⟨Hst, %V₁, %hV₁, Hh⟩
  iapply (dense_step (P := P m (known m)) κ (pd V₁ 2) 2 2 V₁ (leave4 V₁) (call4 V₁ 2) (leave4_rest V₁) d) $$ [Hst Hb Hh HG2]
  · isplitr; · iexact Hctx
    isplitl [Hst]; · iexact Hst
    isplitl [Hb]; · iexact Hb
    isplitl [Hh]; · iexact Hh
    iexact HG2
  iintro ⟨Hst, Hb, Hh⟩
  iapply (run2 m κ d (leave4 V₁) (hV₁.1.update (r := main_v28) (by decide) _) ⟨V₁, hV₁, rfl⟩) $$ [Hst Hh]
  · isplitr; · iexact Hctx
    isplitl [Hst]; · iexact Hst
    iexact Hh
  iintro ⟨Hst, %V₂, %hV₂, Hh⟩
  iapply (StableHlo.wp_seq 𝒱 none Set.univ d (ucRefs τ sig) _ opsC opsC_line.1 opsC_line.2 V₂) $$ [Hb Hh]
  · isplitl [Hb]; · iexact Hb
    iexact Hh
  iintro ⟨Hb, Hh⟩
  iapply (dense_step (P := P m (known m)) κ (pd (after opsC V₂) 3) 3 3 (after opsC V₂) (leave6 (after opsC V₂)) (call6 (after opsC V₂) 3) (leave6_rest (after opsC V₂)) d) $$ [Hst Hb Hh HG3]
  · isplitr; · iexact Hctx
    isplitl [Hst]; · iexact Hst
    isplitl [Hb]; · iexact Hb
    isplitl [Hh]; · iexact Hh
    iexact HG3
  iintro ⟨Hst, Hb, Hh⟩
  iapply (StableHlo.wp_seq 𝒱 none Set.univ d (ucRefs τ sig) _ opsD opsD_line.1 opsD_line.2 (leave6 (after opsC V₂))) $$ [Hb Hh]
  · isplitl [Hb]; · iexact Hb
    iexact Hh
  iintro ⟨Hb, Hh⟩
  rw [wp_pure]; imodintro
  isplitl [Hst]; · iexact Hst
  isplitl [Hh]
  · iexists V₂
    isplitr; · ipureintro; exact hV₂
    iexact Hh
  isplitl [Hb] <;> iassumption

/-! ## The launch element -/

/-- The handshakes' rounds and the calls' rounds, as the launch starts them. -/
def u₀ : UU := (initOf (K (F := F)).hsCells (K (F := F)).hsToks,
  (initOf (Pipeline.cells (Pipeline.pin (pcfgs (F := F)) adm) Gen.cellOf_inj) (Pipeline.launchToks (Pipeline.pin (pcfgs (F := F)) adm) Gen.cellOf_inj), 1))

/-- The calls' ghost state, device by device. -/
theorem ghost_deal : (iprop((bigSep Finset.univ fun c : Dev nD => bigSep Finset.univ fun p : Fin 4 => Pipeline.cellsGhost (Pipeline.pin (pcfgs (F := F)) adm) EP p c)
      ∗ (bigSep Finset.univ fun c : Dev nD => bigSep Finset.univ fun p : Fin 4 => Pipeline.toksInit (Pipeline.pin (pcfgs (F := F)) adm) EP p c)) : sProp 𝕄)
    = bigSep Finset.univ fun d : Dev nD => G (F := F) d := by
  rw [← bigSep_sep']
  refine bigSep_congr fun d _ => ?_
  rw [← bigSep_sep', bigSep_univ_eq_bigSepL [0, 1, 2, 3] (by decide) (by decide)]
  rfl

/-- Nothing, however often, is nothing. -/
theorem bigSep_none {I : Type} (s : Finset I) : (bigSep s fun _ => iprop(emp)) = (iprop(emp) : sProp 𝕄) := bigSep_emp_const s

/-- Of the launch element, the handshakes' part and each device's calls' ghost state. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 3 => (P m (known m)).x q thr) := by
  unfold u₀
  iintro Hu
  ihave H := (ownU_pair _ _) $$ Hu
  icases H with ⟨HH, HR⟩
  ihave H := (own_pair_emb _ _ _) $$ HR
  icases H with ⟨HP, -⟩
  imod (Pipeline.fund_ghost (Pipeline.pin (pcfgs (F := F)) adm) EP Gen.cellOf_inj) $$ HP with ⟨Hg, Ht⟩
  imodintro
  isplitl [HH]; · iexact HH
  isplitl [Hg Ht]
  · iapply (Entails.of_eq (ghost_deal (F := F)))
    isplitl [Hg] <;> iassumption
  unfold P; dsimp only
  rw [bigSep_congr fun _ _ => bigSep_none _, bigSep_none]
  iempintro

/-! ## The end -/

/-- Arrays held are what the memory holds. -/
theorem held_reads (d : Dev nD) (S : Finset (DevRef τ sig)) (V : Valuation τ sig (Elt F)) (s' : Phys nD τ sig (Elt F)) :
    iprop(held (SparseCore.T d) S V ∗ SI s') ⊢ (⌜∀ b : S, s'.mem.mem (d, b.1) = V b.1⌝ : sProp 𝕄) := by
  refine (forall_intro (Φ := fun b : S => (iprop(⌜s'.mem.mem (d, b.1) = V b.1⌝) : sProp 𝕄)) fun b => ?_).trans pure_forall.2
  have hb : (held (SparseCore.T d) S V : sProp 𝕄) = iprop(((d, b.1) ↦{fullShare} V b.1) ∗ bigSep (S.erase b.1) fun b => (d, b) ↦{fullShare} V b) := bigSep_erase b.2
  rw [hb]
  iintro ⟨⟨Hb, -⟩, HSI⟩
  ihave H := (SI_pointsTo_agree (st := s') (ℓ := (d, b.1)) (I := Finset.univ) (q := fullShare) (f := V b.1)) $$ [HSI Hb]
  · isplitl [HSI] <;> iassumption
  icases H with %h
  ipureintro
  exact funext fun i => h i (Finset.mem_univ i)

/-- What is read of the end on a device. -/
def Ends (d : Dev nD) (mem : (ℓ : Loc nD τ sig) → Buf (Elt F) ℓ) : Prop := ∃ V, Done2 m d V ∧ ∀ b ∈ ucRefs τ sig, mem (d, b) = endV V b

/-- The memory at the end is such. -/
theorem hfin (d : Dev nD) (s' : Phys nD τ sig (Elt F)) : iprop(FIN m d ∗ SI s') ⊢ (⌜Ends m d s'.mem.mem⌝ : sProp 𝕄) := by
  iintro ⟨⟨%V, %hV, Hh⟩, HSI⟩
  ihave H := (held_reads d (ucRefs τ sig) (endV V) s') $$ [Hh HSI]
  · isplitl [Hh] <;> iassumption
  icases H with %h
  ipureintro
  exact ⟨V, hV, fun b hb => h ⟨b, hb⟩⟩

/-- The end: every device's arrays such as are known, every semaphore at zero. -/
def QC : PUnit × MemSt nD τ sig (Elt F) → Prop := fun r => (∀ d : Dev nD, Ends m d r.2.mem) ∧ r.2.sem = fun _ => 0

/-- The run of the whole program, over any float interpretation. -/
theorem run_main (hpre : PreOK m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (known m)) (A := ∅) facts v₀
    (fun q hq => match q with | 0 => nomatch hq | 1 => nomatch hq | 2 => nomatch hq)
    (fun q _ => tileObl m (known m) hpre q)
    (fun q _ => SparseCore.Cfg.VecSplit.of_plain (vecSplit m (known m) q))
    m ρ main (fun d => G d) (FIN m) (u₀ (F := F)) (sep_elim_left.trans (hu₀ m)) (hmain m ρ) (fun d s' => Ends m d s'.mem.mem) (hfin m) (QC m) (fun _ h hz => ⟨h, hz⟩)

end Cert.Proof

end
-- ==== Proof.Ends.lean ====
/-
  The arrays the program does not write, at its end: they are as the launch found them, whatever the floats.
-/
module

public import proofs.«01_k».proof.Proof.Launch

@[expose] public section

set_option maxRecDepth 16384

noncomputable section

namespace Cert.Proof

open Cert.KernelIdeal Cert.KernelIdeal.Gen
open Idealize.ShloMosaic Idealize.SL.Sem

variable {F : FTy → Type} [FloatOps F] (m : (ℓ : Loc nD τ sig) → Buf (Elt F) ℓ)

/-- What the host writes before the first call. -/
abbrev wroteA : List (Ref sig .tc) := [main_v0, main_c, main_call0_v0, main_v1, main_v2, main_v3, main_v4, main_v5, main_v6, main_v7, main_v8, main_v9, main_v10, main_v11,
  main_v12, main_v13, main_v14, main_v15, main_v16, main_v17, main_v18, main_v19, main_v20]

/-- What is written from the first call to the last SparseCore call. -/
abbrev wroteB : List (Ref sig .tc) := [main_v22, main_v23, main_v24, main_v21_0, main_v21_1, main_v21_2]

/-- What is written after. -/
abbrev wroteC : List (Ref sig .tc) := [main_v30, main_v31, main_v32, main_v33, main_v34]

/-- What the host's first line leaves alone is as the launch found it. -/
theorem first_of (d : Dev nD) {r : Ref sig .tc} (h : r ∉ wroteA) : firstV m d (at' r) = m (d, at' r) :=
  StableHlo.after_unwritten wroteA rfl h _

/-- After the SparseCore calls too. -/
theorem kept_of {d : Dev nD} {V : Valuation τ sig (Elt F)} (hV : Agree (baseV m d) V) {r : Ref sig .tc} (hA : r ∉ wroteA) (hB : r ∉ wroteB) (hL : r ∉ later) :
    V (at' r) = m (d, at' r) :=
  (hV r hL).trans ((base_of m d hB).trans (first_of m d hA))

/-- At the end too. -/
theorem end_of {d : Dev nD} {V : Valuation τ sig (Elt F)} (hV : Agree (baseV m d) V) {r : Ref sig .tc} (hA : r ∉ wroteA) (hB : r ∉ wroteB) (hL : r ∉ later)
    (hC : r ∉ wroteC) : endV V (at' r) = m (d, at' r) := by
  simp only [List.mem_cons, List.not_mem_nil, or_false, not_or] at hC
  obtain ⟨h1, h2, h3, h4, h5⟩ := hC
  unfold endV
  rw [StableHlo.after_unwritten [main_v33, main_v34] rfl (by simp [h4, h5])]
  unfold leave6
  rw [Function.update_of_ne (StableHlo.devRef_ne_of_ne h3), StableHlo.after_unwritten [main_v30, main_v31] rfl (by simp [h1, h2])]
  exact kept_of m hV hA hB hL

/-- An argument is as the launch found it when the program is done. -/
theorem arg_kept {d : Dev nD} {mem : (ℓ : Loc nD τ sig) → Buf (Elt F) ℓ} (h : Ends m d mem) {r : Ref sig .tc} (hu : r.isScoped = false) (hA : r ∉ wroteA) (hB : r ∉ wroteB)
    (hL : r ∉ later) (hC : r ∉ wroteC) : mem (d, at' r) = m (d, at' r) := by
  obtain ⟨V, hV, hb⟩ := h
  exact (hb _ (Pipeline.devRef_mem_ucRefs hu)).trans (end_of m hV.1 hA hB hL hC)

/-- The arguments, all of them. -/
abbrev arguments : List (Ref sig .tc) := [main_arg0, main_arg1, main_arg2, main_arg3, main_arg4, main_arg5, main_arg6, main_arg7, main_arg8, main_arg9, main_arg10, main_arg11,
  main_arg12, main_arg13, main_arg14, main_arg15]

/-- None of them is written or scoped. -/
theorem arguments_kept : ∀ r ∈ arguments, r.isScoped = false ∧ r ∉ wroteA ∧ r ∉ wroteB ∧ r ∉ later ∧ r ∉ wroteC := by decide +kernel

/-- So every argument is as the launch found it. -/
theorem kept {d : Dev nD} {mem : (ℓ : Loc nD τ sig) → Buf (Elt F) ℓ} (h : Ends m d mem) {r : Ref sig .tc} (hr : r ∈ arguments) : mem (d, at' r) = m (d, at' r) :=
  have k := arguments_kept r hr
  arg_kept m h k.1 k.2.1 k.2.2.1 k.2.2.2.1 k.2.2.2.2

/-- What the program leaves at its arguments, one by one. -/
theorem args_kept {d : Dev nD} {mem : (ℓ : Loc nD τ sig) → Buf (Elt F) ℓ} (h : Ends m d mem) :
    mem ((SparseCore.T d).loc main_arg0) = m ((SparseCore.T d).loc main_arg0) ∧ mem ((SparseCore.T d).loc main_arg1) = m ((SparseCore.T d).loc main_arg1)
      ∧ mem ((SparseCore.T d).loc main_arg2) = m ((SparseCore.T d).loc main_arg2) ∧ mem ((SparseCore.T d).loc main_arg3) = m ((SparseCore.T d).loc main_arg3)
      ∧ mem ((SparseCore.T d).loc main_arg4) = m ((SparseCore.T d).loc main_arg4) ∧ mem ((SparseCore.T d).loc main_arg5) = m ((SparseCore.T d).loc main_arg5)
      ∧ mem ((SparseCore.T d).loc main_arg6) = m ((SparseCore.T d).loc main_arg6) ∧ mem ((SparseCore.T d).loc main_arg7) = m ((SparseCore.T d).loc main_arg7)
      ∧ mem ((SparseCore.T d).loc main_arg8) = m ((SparseCore.T d).loc main_arg8) ∧ mem ((SparseCore.T d).loc main_arg9) = m ((SparseCore.T d).loc main_arg9)
      ∧ mem ((SparseCore.T d).loc main_arg10) = m ((SparseCore.T d).loc main_arg10) ∧ mem ((SparseCore.T d).loc main_arg11) = m ((SparseCore.T d).loc main_arg11)
      ∧ mem ((SparseCore.T d).loc main_arg12) = m ((SparseCore.T d).loc main_arg12) ∧ mem ((SparseCore.T d).loc main_arg13) = m ((SparseCore.T d).loc main_arg13)
      ∧ mem ((SparseCore.T d).loc main_arg14) = m ((SparseCore.T d).loc main_arg14) ∧ mem ((SparseCore.T d).loc main_arg15) = m ((SparseCore.T d).loc main_arg15) :=
  have k := fun r hr => kept m h (r := r) hr
  ⟨k main_arg0 (by decide), k main_arg1 (by decide), k main_arg2 (by decide), k main_arg3 (by decide), k main_arg4 (by decide), k main_arg5 (by decide), k main_arg6 (by decide),
    k main_arg7 (by decide), k main_arg8 (by decide), k main_arg9 (by decide), k main_arg10 (by decide), k main_arg11 (by decide), k main_arg12 (by decide),
    k main_arg13 (by decide), k main_arg14 (by decide), k main_arg15 (by decide)⟩

end Cert.Proof

end
-- ==== Proof.Same.lean ====
/-
  The kernel as printed and its idealization are one text under two names.
-/
module

public import proofs.«01_k».proof.Proof.Gen.Kernel
public import proofs.«01_k».proof.Proof.Gen.KernelIdeal

@[expose] public section

noncomputable section

namespace Cert.Proof

open Idealize.ShloMosaic Idealize.SL.Sem

set_option maxHeartbeats 40000000 in
set_option smartUnfolding false in
/-- The kernel as printed and its idealization are one text under two names, so what holds of the second's runs holds of the
    first's. -/
theorem of_ideal {F : FTy → Type} [FloatOps F] {s : MemSt Cert.KernelIdeal.nD Cert.KernelIdeal.τ Cert.KernelIdeal.sig (Elt F)}
    {Q : PUnit × MemSt Cert.KernelIdeal.nD Cert.KernelIdeal.τ Cert.KernelIdeal.sig (Elt F) → Prop}
    (h : θ_run (Cert.KernelIdeal.defs (F := F)) (Cert.KernelIdeal.threads (F := F)) s Q) :
    θ_run (Cert.Kernel.defs (F := F)) (Cert.Kernel.threads (F := F)) s Q := h

end Cert.Proof

end
-- ==== Proof.Model.lean ====
/-
  The network over the extended reals. Where the entries that make the positions, the messages' weights and the layers' weights are
  real, a message is its source's part less its destination's position's, and the latter moves into the layer's bias.
-/
module

public import Mathlib.Data.EReal.Operations
public import Mathlib.Algebra.BigOperators.Fin
public import Mathlib.Tactic.Ring

@[expose] public section

noncomputable section

namespace Cert.Proof.Model

open scoped BigOperators

/-- An extended real that is a real. -/
def Real (x : EReal) : Prop := ∃ r : ℝ, x = (r : EReal)

/-- A sum of two is one. -/
theorem Real.add {x y : EReal} (hx : Real x) (hy : Real y) : Real (x + y) := by
  obtain ⟨a, rfl⟩ := hx
  obtain ⟨b, rfl⟩ := hy
  exact ⟨a + b, (EReal.coe_add a b).symm⟩

/-- A product of two is one. -/
theorem Real.mul {x y : EReal} (hx : Real x) (hy : Real y) : Real (x * y) := by
  obtain ⟨a, rfl⟩ := hx
  obtain ⟨b, rfl⟩ := hy
  exact ⟨a * b, (EReal.coe_mul a b).symm⟩

/-- The greater of two is one. -/
theorem Real.max {x y : EReal} (hx : Real x) (hy : Real y) : Real (max x y) := by
  rcases max_choice x y with h | h <;> rw [h] <;> assumption

/-- A sum of reals, as one of extended reals. -/
theorem coe_sum {K : ℕ} (f : Fin K → ℝ) : (∑ k, (f k : EReal)) = ((∑ k, f k : ℝ) : EReal) :=
  (map_sum (⟨⟨fun r : ℝ => (r : EReal), rfl⟩, EReal.coe_add⟩ : ℝ →+ EReal) f Finset.univ).symm

/-- It is a real. -/
theorem Real.sum {K : ℕ} {f : Fin K → EReal} (h : ∀ k, Real (f k)) : Real (∑ k, f k) := by
  choose g hg using h
  obtain rfl : f = fun k => (g k : EReal) := funext hg
  exact ⟨_, coe_sum g⟩

/-- A real taken from any value, and the difference by a real: the product is taken through. -/
theorem sub_mul_real (x : EReal) {q w : EReal} (hq : Real q) (hw : Real w) : (x - q) * w = x * w - q * w := by
  obtain ⟨b, rfl⟩ := hq
  obtain ⟨c, rfl⟩ := hw
  rw [← EReal.coe_mul b c]
  induction x with
  | coe a =>
    rw [← EReal.coe_sub, ← EReal.coe_mul, ← EReal.coe_mul, ← EReal.coe_sub, sub_mul]
  | top =>
    rw [EReal.top_sub_coe]
    rcases lt_trichotomy c 0 with h | rfl | h
    · rw [EReal.top_mul_coe_of_neg h]; rfl
    · simp
    · rw [EReal.top_mul_coe_of_pos h, EReal.top_sub_coe]
  | bot =>
    rw [EReal.bot_sub]
    rcases lt_trichotomy c 0 with h | rfl | h
    · rw [EReal.bot_mul_coe_of_neg h, EReal.top_sub_coe]
    · simp
    · rw [EReal.bot_mul_coe_of_pos h]; rfl

/-- A sum from which reals are taken. -/
theorem sum_sub_real {K : ℕ} (f : Fin K → EReal) {g : Fin K → EReal} (hg : ∀ k, Real (g k)) : (∑ k, (f k - g k)) = (∑ k, f k) - ∑ k, g k := by
  choose r hr using hg
  obtain rfl : g = fun k => (r k : EReal) := funext hr
  simp only [sub_eq_add_neg, ← EReal.coe_neg]
  rw [Finset.sum_add_distrib, coe_sum, coe_sum, Finset.sum_neg_distrib, EReal.coe_neg, ← EReal.coe_neg]

/-- A dense layer of one node: its row by the weights, and the bias. -/
def lin {K N : ℕ} (w : Fin K → Fin N → EReal) (b : Fin N → EReal) (v : Fin K → EReal) (n : Fin N) : EReal := (∑ k, v k * w k n) + b n

/-- The positive part of a row. -/
def relu {N : ℕ} (v : Fin N → EReal) (n : Fin N) : EReal := max (v n) 0

/-- A dense layer of reals is real. -/
theorem lin_real {K N : ℕ} {w : Fin K → Fin N → EReal} {b : Fin N → EReal} {v : Fin K → EReal} (hw : ∀ k n, Real (w k n)) (hb : ∀ n, Real (b n)) (hv : ∀ k, Real (v k)) (n : Fin N) :
    Real (lin w b v n) := (Real.sum fun k => (hv k).mul (hw k n)).add (hb n)

/-- So is a positive part. -/
theorem relu_real {N : ℕ} {v : Fin N → EReal} (hv : ∀ n, Real (v n)) (n : Fin N) : Real (relu v n) := (hv n).max ⟨0, rfl⟩

/-- The network's weights, its nodes' rows and its edges, self loops among them; and of which entries it is known that they are real. -/
structure Data where
  x : Fin 10000 → Fin 128 → EReal
  w0 : Fin 128 → Fin 128 → EReal
  b0 : Fin 128 → EReal
  w1 : Fin 128 → Fin 128 → EReal
  b1 : Fin 128 → EReal
  wp0 : Fin 128 → Fin 128 → EReal
  bp0 : Fin 128 → EReal
  wp1 : Fin 128 → Fin 3 → EReal
  bp1 : Fin 3 → EReal
  wl : Fin 131 → Fin 128 → EReal
  bl : Fin 128 → EReal
  wg : Fin 128 → Fin 128 → EReal
  bg : Fin 128 → EReal
  wf : Fin 128 → Fin 128 → EReal
  bf : Fin 128 → EReal
  src : Fin 330000 → Fin 10000
  dst : Fin 330000 → Fin 10000
  x_real : ∀ i k, Real (x i k)
  w0_real : ∀ i k, Real (w0 i k)
  b0_real : ∀ k, Real (b0 k)
  w1_real : ∀ i k, Real (w1 i k)
  b1_real : ∀ k, Real (b1 k)
  wp0_real : ∀ i k, Real (wp0 i k)
  bp0_real : ∀ k, Real (bp0 k)
  wp1_real : ∀ i k, Real (wp1 i k)
  bp1_real : ∀ k, Real (bp1 k)
  wl_real : ∀ i k, Real (wl i k)
  wg_real : ∀ i k, Real (wg i k)

namespace Data

variable (D : Data)

/-- The first rows. -/
def h0 (i : Fin 10000) : Fin 128 → EReal := lin D.w1 D.b1 (relu (lin D.w0 D.b0 (D.x i)))

/-- The positions. -/
def pos (i : Fin 10000) : Fin 3 → EReal := lin D.wp1 D.bp1 (relu (lin D.wp0 D.bp0 (D.h0 i)))

/-- They are real. -/
theorem pos_real (i : Fin 10000) (b : Fin 3) : Real (D.pos i b) :=
  lin_real D.wp1_real D.bp1_real (relu_real (lin_real D.wp0_real D.bp0_real (lin_real D.w1_real D.b1_real (relu_real (lin_real D.w0_real D.b0_real (D.x_real i)))))) b

/-- The weights of a row in a message. -/
def wh (a : Fin 128) : Fin 128 → EReal := D.wl ⟨a.val, by omega⟩
/-- Those of a position. -/
def wq (b : Fin 3) : Fin 128 → EReal := D.wl ⟨128 + b.val, by omega⟩

/-- A position's part of a message. -/
def p (i : Fin 10000) (f : Fin 128) : EReal := ∑ b : Fin 3, D.pos i b * D.wq b f

/-- It is real. -/
theorem p_real (i : Fin 10000) (f : Fin 128) : Real (D.p i f) := Real.sum fun b => (D.pos_real i b).mul (D.wl_real _ f)

variable (H : Fin 10000 → Fin 128 → EReal)

/-- A source's part of a message. -/
def feat (i : Fin 10000) (f : Fin 128) : EReal := (∑ a : Fin 128, H i a * D.wh a f) + (D.p i f + D.bl f)

/-- The message along an edge. -/
def msg (e : Fin 330000) (f : Fin 128) : EReal :=
  (∑ a : Fin 131, (if h : a.val < 128 then H (D.src e) ⟨a.val, h⟩ else D.pos (D.src e) ⟨a.val - 128, by omega⟩ - D.pos (D.dst e) ⟨a.val - 128, by omega⟩) * D.wl a f) + D.bl f

/-- A message is its source's part less its destination's position's. -/
theorem msg_eq (e : Fin 330000) (f : Fin 128) : D.msg H e f = D.feat H (D.src e) f - D.p (D.dst e) f := by
  have h : (∑ b : Fin 3, (D.pos (D.src e) b - D.pos (D.dst e) b) * D.wq b f) = D.p (D.src e) f - D.p (D.dst e) f :=
    (Finset.sum_congr rfl fun b _ => sub_mul_real _ (D.pos_real _ b) (D.wl_real _ f)).trans
      (sum_sub_real _ fun b => (D.pos_real _ b).mul (D.wl_real _ f))
  unfold msg feat
  rw [Fin.sum_univ_add (a := 128) (b := 3)]
  have h1 : ∀ a : Fin 128, (Fin.castAdd 3 a).val < 128 := fun a => a.isLt
  have h2 : ∀ b : Fin 3, ¬(Fin.natAdd 128 b).val < 128 := fun b => by simp
  have h3 : ∀ b : Fin 3, (⟨(Fin.natAdd 128 b).val - 128, by have := b.isLt; simp⟩ : Fin 3) = b := fun b => Fin.ext (by simp)
  simp only [h1, h2, dif_pos, dif_neg, not_false_eq_true, h3]
  refine (congrArg (fun y => _ + y + D.bl f) h).trans ?_
  simp only [sub_eq_add_neg]
  show (∑ a : Fin 128, H (D.src e) a * D.wh a f) + (D.p (D.src e) f + -D.p (D.dst e) f) + D.bl f = _
  ac_rfl

/-- The greatest source part sent to a node. -/
def agg (i : Fin 10000) (f : Fin 128) : EReal := ⨆ e : {e // D.dst e = i}, D.feat H (D.src e.1) f

/-- A value whose upper bounds are those of the source parts sent to a node is their greatest. -/
theorem eq_agg (i : Fin 10000) (f : Fin 128) (y : EReal) (h : ∀ x : EReal, y ≤ x ↔ ∀ e, D.dst e = i → D.feat H (D.src e) f ≤ x) : y = D.agg H i f := by
  refine eq_of_forall_ge_iff fun x => ?_
  rw [h, agg, iSup_le_iff]
  exact ⟨fun k e => k e.1 e.2, fun k e he => k ⟨e, he⟩⟩

/-- A value whose upper bounds are those of the messages sent to a node is the greatest source part less the node's position's. -/
theorem eq_agg_sub (i : Fin 10000) (f : Fin 128) (y : EReal) (h : ∀ x : EReal, y ≤ x ↔ ∀ e, D.dst e = i → D.msg H e f ≤ x) : y = D.agg H i f - D.p i f := by
  obtain ⟨q, hq⟩ := D.p_real i f
  have hsub : ∀ a x : EReal, a - (q : EReal) ≤ x ↔ a ≤ x + q := fun a x =>
    EReal.sub_le_iff_le_add (Or.inl (EReal.coe_ne_bot q)) (Or.inl (EReal.coe_ne_top q))
  refine eq_of_forall_ge_iff fun x => ?_
  rw [h, hq, hsub, agg, iSup_le_iff]
  refine ⟨fun k e => ?_, fun k e he => ?_⟩
  · have := k e.1 e.2
    rw [msg_eq, e.2, hq, hsub] at this
    exact this
  · rw [msg_eq, he, hq, hsub]
    exact k ⟨e, he⟩

/-- One layer's rows. -/
def next (i : Fin 10000) : Fin 128 → EReal := relu (lin D.wg D.bg fun a => D.agg H i a - D.p i a)

/-- The same with the position's part taken out of the bias. -/
theorem next_eq (i : Fin 10000) (a : Fin 128) :
    D.next H i a = max ((∑ b, D.agg H i b * D.wg b a) + (D.bg a - ∑ b, D.p i b * D.wg b a)) 0 := by
  have h : (∑ b, (D.agg H i b - D.p i b) * D.wg b a) = (∑ b, D.agg H i b * D.wg b a) - ∑ b, D.p i b * D.wg b a :=
    (Finset.sum_congr rfl fun b _ => sub_mul_real _ (D.p_real i b) (D.wg_real b a)).trans
      (sum_sub_real _ fun b => (D.p_real i b).mul (D.wg_real b a))
  unfold next relu lin
  rw [h]
  simp only [sub_eq_add_neg]
  congr 1
  ac_rfl

/-- The rows after `k` layers. -/
def rows : ℕ → Fin 10000 → Fin 128 → EReal
  | 0 => D.h0
  | k + 1 => D.next (rows k)

/-- The network's result. -/
def out (i : Fin 10000) : Fin 128 → EReal := lin D.wf D.bf (D.rows 3 i)

end Data

end Cert.Proof.Model

end
-- ==== Proof.Net.lean ====
/-
  The arguments of the two programs as a network.
-/
module

public import proofs.«01_k».proof.Proof.Model
public import proofs.«01_k».proof.Proof.Host
public import Idealize.ShloMosaic.Lib.IdealHost

@[expose] public section

noncomputable section

namespace Cert.Proof

open Idealize.ShloMosaic Idealize.ShloMosaic.ValueIdx

/-- A matrix and a vector of ideal values. -/
abbrev Mat (a b : ℕ) : Type := (⟨2, ![a, b]⟩ : Shape).Idx → EReal
/-- A vector of extended reals. -/
abbrev Vect (a : ℕ) : Type := (⟨1, ![a]⟩ : Shape).Idx → EReal

/-- The programs' arguments. -/
structure Args where
  a0 : Mat 10000 128
  a1 : (⟨2, ![2, 320000]⟩ : Shape).Idx → BitVec 32
  a2 : Mat 128 128
  a3 : Vect 128
  a4 : Mat 128 128
  a5 : Vect 128
  a6 : Mat 128 128
  a7 : Vect 128
  a8 : Mat 128 3
  a9 : Vect 3
  a10 : Mat 131 128
  a11 : Vect 128
  a12 : Mat 128 128
  a13 : Vect 128
  a14 : Mat 128 128
  a15 : Vect 128

/-- Row `k` of the edge index with the self loops after it. -/
def ext (e : (⟨2, ![2, 320000]⟩ : Shape).Idx → BitVec 32) (k : Fin 2) (n : ℕ) : BitVec 32 := if n < 320000 then wordOf e k n else BitVec.ofNat 32 (n - 320000)

/-- The arguments are a network's. -/
structure Means (A : Args) (D : Model.Data) : Prop where
  x : ∀ i k, A.a0 (ix2 i k) = D.x i k
  w0 : ∀ i k, A.a2 (ix2 i k) = D.w0 i k
  b0 : ∀ k, A.a3 (ix1 k) = D.b0 k
  w1 : ∀ i k, A.a4 (ix2 i k) = D.w1 i k
  b1 : ∀ k, A.a5 (ix1 k) = D.b1 k
  wp0 : ∀ i k, A.a6 (ix2 i k) = D.wp0 i k
  bp0 : ∀ k, A.a7 (ix1 k) = D.bp0 k
  wp1 : ∀ i k, A.a8 (ix2 i k) = D.wp1 i k
  bp1 : ∀ k, A.a9 (ix1 k) = D.bp1 k
  wl : ∀ i k, A.a10 (ix2 i k) = D.wl i k
  bl : ∀ k, A.a11 (ix1 k) = D.bl k
  wg : ∀ i k, A.a12 (ix2 i k) = D.wg i k
  bg : ∀ k, A.a13 (ix1 k) = D.bg k
  wf : ∀ i k, A.a14 (ix2 i k) = D.wf i k
  bf : ∀ k, A.a15 (ix1 k) = D.bf k
  src : ∀ n : Fin 330000, ext A.a1 0 n.val = BitVec.ofNat 32 (D.src n).val
  dst : ∀ n : Fin 330000, ext A.a1 1 n.val = BitVec.ofNat 32 (D.dst n).val

/-- Words that are numbers below 10000 are equal when the numbers are. -/
theorem word_inj {a b : ℕ} (ha : a < 10000) (hb : b < 10000) (h : BitVec.ofNat 32 a = BitVec.ofNat 32 b) : a = b := by
  have := congrArg BitVec.toNat h
  rw [BitVec.toNat_ofNat, BitVec.toNat_ofNat] at this
  omega

end Cert.Proof

end
-- ==== Proof.Payload.lean ====
/-
  What the dense calls' bodies compute, a column at a time at the ideal floats: a node's features from its own column alone.
-/
module

public import proofs.«01_k».proof.Proof.Net
public import proofs.«01_k».proof.Proof.Gen.KernelIdeal.Skeleton
public import Idealize.ShloMosaic.Lib.MatmulPlain
public import Idealize.ShloMosaic.Lib.ValueLayout
public import Idealize.ShloMosaic.Lib.Pipeline.Value

@[expose] public section

noncomputable section

namespace Cert.Proof

open Cert.KernelIdeal Cert.KernelIdeal.Gen
open Idealize.ShloMosaic Idealize.ShloMosaic.ValueIdx

/-- A matrix is weights turned round. -/
def Tr {M K : ℕ} (W : Mat M K) (w : Fin K → Fin M → EReal) : Prop := ∀ f k, W (ix2 f k) = w k f

/-- A matrix of one column is a bias. -/
def Col {M : ℕ} (B : Mat M 1) (b : Fin M → EReal) : Prop := ∀ f, B (ix2 f 0) = b f

/-- A matrix's column is a row. -/
def Is {K N : ℕ} (X : Mat K N) (n : Fin N) (v : Fin K → EReal) : Prop := ∀ k, X (ix2 k n) = v k

section Ops

variable {M K N : ℕ}

/-- A product's column. -/
theorem prod_col (d : DotDims ⟨2, ![M, K]⟩ ⟨2, ![K, N]⟩ ⟨2, ![M, N]⟩) (hd : d = DotDims.plain M K N) (W : Mat M K) (X : Mat K N) {w : Fin K → Fin M → EReal} {n : Fin N}
    {v : Fin K → EReal} (hW : Tr W w) (hX : Is X n v) :
    Is (matmul (F := Ideal) (φ₁ := .f32) (φ₂ := .f32) d none W X (constant (F := Ideal) ⟨2, ![M, N]⟩ .f32 0x00000000#32)) n (fun f => ∑ k, v k * w k f) := fun f => by
  subst hd
  refine (Ideal.matmul_plain_apply (φ₁ := .f32) (φ₂ := .f32) none W X _ f n).trans ?_
  show Ideal.ofBits .f32 0x00000000#32 + _ = _
  rw [Ideal.ofBits_zero_f32, zero_add]
  have hX' : ∀ k, X (ix2 k n) = v k := hX
  simp only [hW f, hX']
  exact Finset.sum_congr rfl fun k _ => EReal.mul_comm _ _

/-- A bias over the columns. -/
theorem bias_col (B : Mat M 1) (h : (⟨2, ![M, 1]⟩ : Shape).Broadcasts ⟨2, ![M, N]⟩) {b : Fin M → EReal} (hB : Col B b) (n : Fin N) :
    Is (broadcastTo ⟨2, ![M, N]⟩ B h) n b := fun f => by
  refine (broadcastTo_apply B h (ix2 f n) (ix2 f 0) fun a => ?_).trans (hB f)
  match a with
  | 0 =>
    show f.val = if M = 1 then 0 else f.val
    have := f.isLt
    split <;> omega
  | 1 => rfl

/-- A sum's column. -/
theorem add_col {X Y : Mat M N} {n : Fin N} {v u : Fin M → EReal} (hX : Is X n v) (hY : Is Y n u) :
    Is (addf (F := Ideal) (φ := .f32) X Y) n (fun f => v f + u f) := fun f => by
  show X (ix2 f n) + Y (ix2 f n) = _
  rw [hX f, hY f]

/-- A difference's column. -/
theorem sub_col {X Y : Mat M N} {n : Fin N} {v u : Fin M → EReal} (hX : Is X n v) (hY : Is Y n u) :
    Is (subf (F := Ideal) (φ := .f32) X Y) n (fun f => v f - u f) := fun f => by
  show X (ix2 f n) - Y (ix2 f n) = _
  rw [hX f, hY f]

/-- A positive part's column. -/
theorem relu_col {X : Mat M N} {n : Fin N} {v : Fin M → EReal} (hX : Is X n v) :
    Is (maximumf (F := Ideal) (φ := .f32) X (broadcast ⟨2, ![M, N]⟩ (Scalar.ofBits .f32 0x00000000#32))) n (Model.relu v) := fun f => by
  show max (X (ix2 f n)) (Ideal.ofBits .f32 0x00000000#32) = _
  rw [hX f, Ideal.ofBits_zero_f32]
  rfl

end Ops

/-! ## The bodies -/

variable {n : Fin 2048}

section First

variable {X : Mat 128 2048} {W0 W1 Wp : Mat 128 128} {B0 B1 Bp : Mat 128 1} {Wp1 : Mat 3 128} {Bp1 : Mat 3 1} {D : Model.Data} {i : Fin 10000}
  (hX : Is X n (D.x i)) (hW0 : Tr W0 D.w0) (hB0 : Col B0 D.b0) (hW1 : Tr W1 D.w1) (hB1 : Col B1 D.b1)

include hX hW0 hB0 hW1 hB1

/-- A node's first row. -/
theorem first_col : Is (k0_pay5 (F := Ideal) X W0 B0 W1 B1) n (D.h0 i) := by
  unfold k0_pay5
  simp only [shapeCast_self]
  exact add_col (prod_col _ rfl _ _ hW1 (relu_col (add_col (prod_col _ rfl _ _ hW0 hX) (bias_col _ _ hB0 n)))) (bias_col _ _ hB1 n)

/-- A node's position. -/
theorem pos_col (hWp : Tr Wp D.wp0) (hBp : Col Bp D.bp0) (hWp1 : Tr Wp1 D.wp1) (hBp1 : Col Bp1 D.bp1) :
    Is (k0_pay6 (F := Ideal) X W0 B0 W1 B1 Wp Bp Wp1 Bp1) n (D.pos i) := by
  unfold k0_pay6
  simp only [shapeCast_self]
  exact add_col (prod_col _ rfl _ _ hWp1 (relu_col (add_col (prod_col _ rfl _ _ hWp (first_col hX hW0 hB0 hW1 hB1)) (bias_col _ _ hBp n)))) (bias_col _ _ hBp1 n)

end First

section Features

variable {H : Mat 128 2048} {P : Mat 3 2048} {Wq : Mat 128 3} {Bl Bg : Mat 128 1} {Wg Wh Wf : Mat 128 128} {Bf : Mat 128 1} {D : Model.Data} {i : Fin 10000}

/-- A position's part of a message. -/
theorem part_col (hP : Is P n (D.pos i)) (hWq : Tr Wq D.wq) : Is (k0_pay1 (F := Ideal) P Wq) n (D.p i) := by
  unfold k0_pay1
  simp only [shapeCast_self]
  exact prod_col _ rfl _ _ hWq hP

/-- The same with the message's bias. -/
theorem biased_col (hP : Is P n (D.pos i)) (hWq : Tr Wq D.wq) (hBl : Col Bl D.bl) : Is (k0_pay2 (F := Ideal) P Wq Bl) n (fun f => D.p i f + D.bl f) := by
  unfold k0_pay2
  simp only [shapeCast_self]
  exact add_col (part_col hP hWq) (bias_col _ _ hBl n)

/-- The layer's bias less the position's part of it. -/
theorem less_col (hP : Is P n (D.pos i)) (hWq : Tr Wq D.wq) (hBg : Col Bg D.bg) (hWg : Tr Wg D.wg) :
    Is (k0_pay3 (F := Ideal) P Wq Bg Wg) n (fun f => D.bg f - ∑ b, D.p i b * D.wg b f) := by
  unfold k0_pay3
  simp only [shapeCast_self]
  exact sub_col (bias_col _ _ hBg n) (prod_col _ rfl _ _ hWg (part_col hP hWq))

/-- A source's part of a message, from its first row. -/
theorem feat_col (hH : Is H n (D.h0 i)) (hP : Is P n (D.pos i)) (hWq : Tr Wq D.wq) (hBl : Col Bl D.bl) (hWh : Tr Wh D.wh) :
    Is (k0_pay4 (F := Ideal) H P Wq Bl Wh) n (D.feat D.h0 i) := by
  unfold k0_pay4
  simp only [shapeCast_self]
  exact add_col (prod_col _ rfl _ _ hWh hH) (biased_col hP hWq hBl)

variable {G L C : Mat 128 2048} {R : Fin 10000 → Fin 128 → EReal}

/-- A node's next row, before its weights. -/
theorem next_col (hG : Is G n (D.agg R i)) (hL : Is L n (fun f => D.bg f - ∑ b, D.p i b * D.wg b f)) (hWg : Tr Wg D.wg) :
    Is (maximumf (F := Ideal) (φ := .f32) (addf (matmul (φ₁ := .f32) (φ₂ := .f32) dot_S128x128_S128x2048_S128x2048_1_0_0_1_n_n none Wg G (constant (F := Ideal) S128x2048 .f32 0x00000000#32)) L)
      (broadcast S128x2048 (Scalar.ofBits .f32 0x00000000#32))) n (D.next R i) := by
  have h := relu_col (add_col (prod_col dot_S128x128_S128x2048_S128x2048_1_0_0_1_n_n rfl Wg G hWg hG) hL)
  intro f
  rw [D.next_eq]
  exact h f

/-- A source's part of a message, from the last layer's greatest. -/
theorem layer_col (hG : Is G n (D.agg R i)) (hC : Is C n (fun f => D.p i f + D.bl f)) (hL : Is L n (fun f => D.bg f - ∑ b, D.p i b * D.wg b f)) (hWg : Tr Wg D.wg) (hWh : Tr Wh D.wh) :
    Is (k2_pay1 (F := Ideal) Wg G L Wh C) n (D.feat (D.next R) i) := by
  unfold k2_pay1
  simp only [shapeCast_self]
  exact add_col (prod_col _ rfl _ _ hWh (next_col hG hL hWg)) hC

/-- A node's result, from the last layer's greatest. -/
theorem final_col (hG : Is G n (D.agg R i)) (hL : Is L n (fun f => D.bg f - ∑ b, D.p i b * D.wg b f)) (hWg : Tr Wg D.wg) (hWf : Tr Wf D.wf) (hBf : Col Bf D.bf) :
    Is (k6_pay1 (F := Ideal) Wg G L Wf Bf) n (Model.lin D.wf D.bf (D.next R i)) := by
  unfold k6_pay1
  simp only [shapeCast_self]
  exact add_col (prod_col _ rfl _ _ hWf (next_col hG hL hWg)) (bias_col _ _ hBf n)

end Features

end Cert.Proof

end
-- ==== Proof.Maxima.lean ====
/-
  A SparseCore call's value at the ideal floats: the updates of any list of edges that covers the edges give each node the
  greatest of the features sent to it, its own among them.
-/
module

public import proofs.«01_k».proof.Proof.Net
public import proofs.«01_k».proof.Proof.Runs
public import proofs.«01_k».proof.Proof.Payload

@[expose] public section

noncomputable section

namespace Cert.Proof

open Cert.KernelIdeal Cert.KernelIdeal.Gen
open Idealize.ShloMosaic Idealize.ShloMosaic.ValueIdx Idealize.SL.Sem
open Idealize.ShloMosaic.SparseCore (S V T)

/-! ## A row's upper bounds -/

/-- An element's upper bounds after the updates of `L` from a row `A`. -/
theorem foldl_le (src dst : ℕ → BitVec 32) (G : Row Ideal) (L : List ℕ) (A : Row Ideal) (i : S10240.Idx) (x : EReal) :
    (L.foldl (rmw src dst G) A i : EReal) ≤ x ↔ (A i : EReal) ≤ x ∧ ∀ e ∈ L, (dst e).toNat = (i 0).val → (G (at10240 (src e).toNat) : EReal) ≤ x := by
  induction L generalizing A with
  | nil => exact ⟨fun h => ⟨h, fun e he => nomatch he⟩, fun h => h.1⟩
  | cons a L ih =>
    have ha : (rmw src dst G A a i : EReal) ≤ x ↔ (A i : EReal) ≤ x ∧ ((dst a).toNat = (i 0).val → (G (at10240 (src a).toNat) : EReal) ≤ x) := by
      unfold rmw upd
      by_cases h : (i 0).val = (dst a).toNat
      · rw [if_pos h]
        exact max_le_iff.trans (and_congr_right fun _ => ⟨fun hx _ => hx, fun hx => hx h.symm⟩)
      · rw [if_neg h]
        exact ⟨fun hx => ⟨hx, fun h' => absurd h'.symm h⟩, fun hx => hx.1⟩
    rw [List.foldl_cons, ih, ha]
    refine ⟨fun h => ⟨h.1.1, fun e he => ?_⟩, fun h => ⟨⟨h.1, h.2 a List.mem_cons_self⟩, fun e he => h.2 e (List.mem_cons_of_mem _ he)⟩⟩
    rcases List.mem_cons.mp he with rfl | he
    · exact h.1.2
    · exact h.2 e he

/-- The updates of a covering list of edges, as upper bounds. -/
theorem run_le (src dst : ℕ → BitVec 32) (G : Row Ideal) (M : List ℕ) (hM : Cov 320000 M) (i : S10240.Idx) (x : EReal) :
    (run src dst G M i : EReal) ≤ x ↔ (G i : EReal) ≤ x ∧ ∀ e < 320000, (dst e).toNat = (i 0).val → (G (at10240 (src e).toNat) : EReal) ≤ x :=
  (foldl_le src dst G M G i x).trans (and_congr_right fun _ => ⟨fun h e he => h e (hM.2 e he), fun h e he => h e (hM.1 e he)⟩)

/-- Row `8 j + 4 c + r` of the array. -/
def rowNo (c : Fin 2) (j : Fin 16) (r : Fin 4) : Fin 128 := ⟨8 * j.val + 4 * c.val + r.val, by have := c.isLt; have := j.isLt; have := r.isLt; omega⟩

/-- Every row is some tile's. -/
theorem row_tile (i : Fin 128) : ∃ c j r, i = rowNo c j r :=
  ⟨⟨i.val / 4 % 2, by omega⟩, ⟨i.val / 8, by omega⟩, ⟨i.val % 4, by omega⟩, Fin.ext (by show i.val = 8 * (i.val / 8) + 4 * (i.val / 4 % 2) + i.val % 4; omega)⟩

/-- A column, by its number. -/
def col (n : ℕ) : Fin 10240 := ⟨n % 10240, Nat.mod_lt _ (by decide)⟩

/-- A node's column. -/
def node (i : Fin 10000) : Fin 10240 := ⟨i.val, by have := i.isLt; omega⟩

/-- Position `y` of a row that starts at row `n`, in the array. -/
theorem row_emb {F : FTy → Type} [FloatOps F] (n : Fin 128) (off : Fin 2 → ℕ) (hoff : off = ![n.val, 0]) (inb) (hc : S1x10240.ShapeCasts S10240) (f : S128x10240.Idx → Elt F .f32) (y : S10240.Idx) :
    shapeCast S10240 (fun x => f ((Rect.unit (s := S128x10240) off S1x10240.size inb).emb x)) hc y = f (ix2 n (y 0)) := by
  subst hoff
  rw [shapeCast_apply _ hc y (ix2 0 (y 0)) (by rw [Shape.rowMajor_val_two, Shape.rowMajor_val_one]; simp)]
  refine congrArg f (funext fun a => Fin.ext ?_)
  rw [Rect.emb_apply]
  match a with
  | 0 => show n.val + 1 * 0 = n.val; omega
  | 1 => show 0 + 1 * (y 0).val = (y 0).val; omega

/-- `Y`'s upper bounds are those of the columns of `X` that the words send to each column, its own among them. -/
def Bounds (src dst : ℕ → BitVec 32) (X Y : Mat 128 10240) : Prop := ∀ (i : Fin 128) (n : Fin 10240) (x : EReal),
  Y (ix2 i n) ≤ x ↔ X (ix2 i n) ≤ x ∧ ∀ e < 320000, (dst e).toNat = n.val → X (ix2 i (col (src e).toNat)) ≤ x

/-- So they are where every tile's rows are right. -/
theorem bounds_of {d : Dev nD} {arg2 arg5 : Memref sig .scVector .hbm S128x10240 .f32} {g : Buf (Elt Ideal) (arg2.view.loc (tile d L₀))} {src dst : ℕ → BitVec 32}
    {f : Buf (Elt Ideal) (arg5.view.loc (tile d L₀))} (h : Good d arg5 arg2 g src dst f) (X Y : Mat 128 10240)
    (h5 : ∀ c j r (y : S10240.Idx), (rowOut (coordsV c j) arg5 r).view.read (Elt Ideal) f y = Y (ix2 (rowNo c j r) (y 0)))
    (h2 : ∀ c j r (y : S10240.Idx), feat d (coordsV c j) arg2 g r y = X (ix2 (rowNo c j r) (y 0))) : Bounds src dst X Y := fun i n x => by
  obtain ⟨c, j, r, rfl⟩ := row_tile i
  obtain ⟨M, hM, hr⟩ := h c j
  have e := (h5 c j r (ix1 n)).symm.trans (congrFun (hr r) (ix1 n))
  have k := run_le src dst (feat d (coordsV c j) arg2 g r) M hM (ix1 n) x
  rw [← e, show feat d (coordsV c j) arg2 g r = fun y => X (ix2 (rowNo c j r) (y 0)) from funext (h2 c j r)] at k
  exact k

variable {m : (ℓ : Loc nD τ sig) → Buf (Elt Ideal) ℓ} {d : Dev nD}

/-- The first call's maxima. -/
theorem bounds0 {X Y : Mat 128 10240} (h : GoodQ m 0 d X Y) : Bounds (wordOf (edges m d) 0) (wordOf (edges m d) 1) X Y :=
  bounds_of h X Y (fun c j r y => row_emb (F := Ideal) (rowNo c j r) _ (k1_off8_eq (coordsV c j) r) _ _ Y y) (fun c j r y => row_emb (F := Ideal) (rowNo c j r) _ (k1_off1_eq (coordsV c j) r) _ _ X y)

/-- The second's. -/
theorem bounds1 {X Y : Mat 128 10240} (h : GoodQ m 1 d X Y) : Bounds (wordOf (edges m d) 0) (wordOf (edges m d) 1) X Y :=
  bounds_of h X Y (fun c j r y => row_emb (F := Ideal) (rowNo c j r) _ (k1_off8_eq (coordsV c j) r) _ _ Y y) (fun c j r y => row_emb (F := Ideal) (rowNo c j r) _ (k1_off1_eq (coordsV c j) r) _ _ X y)

/-- The third's. -/
theorem bounds2 {X Y : Mat 128 10240} (h : GoodQ m 2 d X Y) : Bounds (wordOf (edges m d) 0) (wordOf (edges m d) 1) X Y :=
  bounds_of h X Y (fun c j r y => row_emb (F := Ideal) (rowNo c j r) _ (k1_off8_eq (coordsV c j) r) _ _ Y y) (fun c j r y => row_emb (F := Ideal) (rowNo c j r) _ (k1_off1_eq (coordsV c j) r) _ _ X y)

/-! ## The network's greatest -/

/-- A number below 10000, as a word and back. -/
theorem word_val {a : ℕ} (ha : a < 10000) : (BitVec.ofNat 32 a).toNat = a := by
  rw [BitVec.toNat_ofNat]
  omega

/-- From the network's source parts the maxima are the network's greatest. -/
theorem maxima {A : Args} {D : Model.Data} (hA : Means A D) {H : Fin 10000 → Fin 128 → EReal} {X Y : Mat 128 10240} (hX : ∀ i, Is X (node i) (D.feat H i))
    (h : Bounds (wordOf A.a1 0) (wordOf A.a1 1) X Y) (i : Fin 10000) : Is Y (node i) (D.agg H i) := fun f => by
  have real : ∀ e : Fin 330000, e.val < 320000 → wordOf A.a1 0 e.val = BitVec.ofNat 32 (D.src e).val ∧ wordOf A.a1 1 e.val = BitVec.ofNat 32 (D.dst e).val := fun e he => by
    have hs := hA.src e
    have hd := hA.dst e
    unfold ext at hs hd
    rw [if_pos he] at hs hd
    exact ⟨hs, hd⟩
  have loop : ∀ e : Fin 330000, ¬e.val < 320000 → (D.src e).val = e.val - 320000 ∧ (D.dst e).val = e.val - 320000 := fun e he => by
    have hs := hA.src e
    have hd := hA.dst e
    unfold ext at hs hd
    rw [if_neg he] at hs hd
    exact ⟨(word_inj (by have := e.isLt; omega) (D.src e).isLt hs).symm, (word_inj (by have := e.isLt; omega) (D.dst e).isLt hd).symm⟩
  have at_src : ∀ e : Fin 330000, e.val < 320000 → X (ix2 f (col (wordOf A.a1 0 e.val).toNat)) = D.feat H (D.src e) f := fun e he => by
    have hc : col (wordOf A.a1 0 e.val).toNat = node (D.src e) := by
      rw [(real e he).1, word_val (D.src e).isLt]
      exact Fin.ext (Nat.mod_eq_of_lt (by have := (D.src e).isLt; omega))
    rw [hc]
    exact hX (D.src e) f
  refine D.eq_agg H i f _ fun x => ?_
  rw [h f (node i) x, hX i f]
  refine ⟨fun k e he => ?_, fun k => ⟨?_, fun e hlt hd => ?_⟩⟩
  · by_cases hlt : e.val < 320000
    · rw [← at_src e hlt]
      refine k.2 e.val hlt ?_
      rw [(real e hlt).2, word_val (D.dst e).isLt, he]
      rfl
    · have hl := loop e hlt
      have hs : D.src e = i := (Fin.ext (hl.1.trans hl.2.symm)).trans he
      rw [hs]
      exact k.1
  · have hl := loop ⟨320000 + i.val, by have := i.isLt; omega⟩ (by show ¬320000 + i.val < 320000; omega)
    have e1 : D.src ⟨320000 + i.val, by have := i.isLt; omega⟩ = i := Fin.ext (hl.1.trans (by show 320000 + i.val - 320000 = i.val; omega))
    have e2 : D.dst ⟨320000 + i.val, by have := i.isLt; omega⟩ = i := Fin.ext (hl.2.trans (by show 320000 + i.val - 320000 = i.val; omega))
    have := k _ e2
    rw [e1] at this
    exact this
  · have hr := real ⟨e, by omega⟩ hlt
    have e2 : D.dst ⟨e, by omega⟩ = i := by
      refine Fin.ext ?_
      rw [← word_val (D.dst _).isLt, ← hr.2]
      exact hd
    rw [at_src ⟨e, by omega⟩ hlt]
    exact k _ e2

end Cert.Proof

end
-- ==== Proof.Values.lean ====
/-
  The program's value at the ideal floats: its arrays' columns are the network's, from the host's operations through the dense
  calls and the SparseCore calls to the result.
-/
module

public import proofs.«01_k».proof.Proof.Maxima
public import Idealize.ShloMosaic.Lib.Pipeline.ValueKit.Geometry
public import Idealize.ShloMosaic.Lib.KernelVsHost

@[expose] public section

set_option maxRecDepth 16384

noncomputable section

namespace Cert.Proof

open Cert.KernelIdeal Cert.KernelIdeal.Gen
open Idealize.ShloMosaic Idealize.ShloMosaic.ValueIdx Idealize.ShloMosaic.StableHlo Idealize.SL.Sem
open Idealize.ShloMosaic.Pipeline (Window)
open Idealize.ShloMosaic.SparseCore (S V T)
open Idealize.ShloMosaic.SparseCore.Cfg (HIx)

/-! ## The blocks -/

/-- The data windows' blocks follow each other along the columns. -/
theorem data_index : ∀ t : Fin 5, cc0_transform_0 (grid0.coords t) = ![0, t.val] := by decide

/-- The other windows' blocks are their arrays. -/
theorem whole_index : ∀ t : Fin 5, cc0_transform_1 (grid0.coords t) = ![0, 0] := by decide

/-- Where a block's element sits among the columns. -/
theorem data_emb {t : Fin 5} {k : Fin 128} {n : Fin 2048} {i : Fin 10000} (hn : 2048 * t.val + n.val = i.val) (e : S128x10240.Idx)
    (he : ∀ a : Fin 2, (e a).val = cc0_transform_0 (grid0.coords t) a * S128x2048.size a + ((ix2 k n : S128x2048.Idx) a).val) : e = ix2 k (node i) := by
  funext a
  refine Fin.ext ((he a).trans ?_)
  rw [data_index]
  match a with
  | 0 => show 0 * 128 + k.val = k.val; omega
  | 1 => show t.val * 2048 + n.val = i.val; omega

/-- A block's column is the array's. -/
theorem data_blk {t : Fin 5} {n : Fin 2048} {i : Fin 10000} (hn : 2048 * t.val + n.val = i.val) (b : Mat 128 2048) {X : Mat 128 10240} {v : Fin 128 → EReal} (hX : Is X (node i) v)
    (e : S128x2048.Idx → S128x10240.Idx) (hb : ∀ y, b y = X (e y))
    (he : ∀ (y : S128x2048.Idx) (a : Fin 2), (e y a).val = cc0_transform_0 (grid0.coords t) a * S128x2048.size a + (y a).val) : Is b n v := fun k => by
  rw [hb, data_emb hn (e (ix2 k n)) (he (ix2 k n))]
  exact hX k

/-- A block that is its array. -/
theorem whole_blk {t : Fin 5} {M N : ℕ} (b : Mat M N) {X : Mat M N} (e : (⟨2, ![M, N]⟩ : Shape).Idx → (⟨2, ![M, N]⟩ : Shape).Idx) (hb : ∀ y, b y = X (e y))
    (he : ∀ (y : (⟨2, ![M, N]⟩ : Shape).Idx) (a : Fin 2), (e y a).val = cc0_transform_1 (grid0.coords t) a * (⟨2, ![M, N]⟩ : Shape).size a + (y a).val) : b = X := by
  funext y
  rw [hb]
  refine congrArg X (funext fun a => Fin.ext ((he y a).trans ?_))
  rw [whole_index]
  match a with
  | 0 => show 0 * M + (y 0).val = (y 0).val; omega
  | 1 => show 0 * N + (y 1).val = (y 1).val; omega

/-- Which point's block a column is in, and where. -/
theorem place {t : Fin 5} {y : S128x2048.Idx} {f : Fin 128} {i : Fin 10000} (e : S128x10240.Idx)
    (he : ∀ a : Fin 2, (e a).val = cc0_transform_0 (grid0.coords t) a * S128x2048.size a + (y a).val) (h : e = ix2 f (node i)) :
    ∃ n : Fin 2048, 2048 * t.val + n.val = i.val ∧ y = ix2 f n := by
  subst h
  rw [data_index] at he
  have h0 : f.val = 0 * 128 + (y 0).val := he 0
  have h1 : i.val = t.val * 2048 + (y 1).val := he 1
  refine ⟨y 1, by omega, ?_⟩
  rw [eq_ix2 y]
  congr 1
  exact Fin.ext (by omega)

/-! ## The layers' calls -/

/-- What the layers read besides the maxima: the positions' part with its bias, the layer's bias less it, and the weights. -/
structure Layer (D : Model.Data) (C L : Mat 128 10240) (Wg Wh : Mat 128 128) : Prop where
  part : ∀ i, Is C (node i) (fun f => D.p i f + D.bl f)
  less : ∀ i, Is L (node i) (fun f => D.bg f - ∑ b, D.p i b * D.wg b f)
  wg : Tr Wg D.wg
  wh : Tr Wh D.wh

variable {D : Model.Data} {A : Valuation τ sig (Elt Ideal)} {R : Fin 10000 → Fin 128 → EReal}

/-- What holds of every element the blocks leave holds of the array: here, of each node's column. -/
theorem leave_col {cfg : Pipeline.Cfg sig Λ₀} (dt : Pipeline.Dat τ (Elt Ideal) (HIx 3) ℕ UU ℕ cfg (0 : Dev nD)) (w : Fin cfg.W) (hcov : (cfg.win w).Covers)
    (harr : (cfg.win w).arr.IsWhole) (toIdx : S128x10240.Idx → ((cfg.win w).arr.view.loc ((0 : Dev nD).tc : Thread nD τ)).2.ty.Idx)
    (val : (Elt Ideal) ((cfg.win w).arr.view.loc ((0 : Dev nD).tc : Thread nD τ)).2.ty.elt → EReal) (v : Fin 10000 → Fin 128 → EReal)
    (h : ∀ (t : Fin cfg.N) (y : ((cfg.win w).xblock (cfg.grid.coords t)).Idx) i f, ((cfg.win w).blk t).view.emb y = toIdx (ix2 f (node i))
      → val (_root_.cast (congrArg (Elt Ideal) ((cfg.win w).blk t).view.elt_eq.symm) (dt.after w t ((cfg.win w).xinj (cfg.grid.coords t) y))) = v i f) (i : Fin 10000) (f : Fin 128) :
    val (dt.arrAt w cfg.N (toIdx (ix2 f (node i)))) = v i f :=
  dt.arrAt_forall_of_covers w (fun j x => ∀ i f, j = toIdx (ix2 f (node i)) → val x = v i f) hcov (fun t _ y i f hy => h t y i f hy) _ harr i f rfl

/-- The second layer's call leaves the next rows' source parts. -/
theorem leave2_feat (h : Layer D (A (at' main_v21_1)) (A (at' main_v21_2)) (A (at' main_v22)) (A (at' main_v24))) (hG : ∀ i, Is (A (at' main_v25)) (node i) (D.agg R i)) (i : Fin 10000) :
    Is (leave2 A (at' main_v26)) (node i) (D.feat (D.next R) i) := fun f => by
  unfold leave2
  rw [Function.update_self]
  refine leave_col (dat cfg2 A (after2 A) 0 0) 5 (by decide +kernel) (Memref.isWhole_whole _) id id (D.feat (D.next R)) (fun t y i f hy => ?_) i f
  obtain ⟨n, hn, rfl⟩ := place _ (fun a => Window.rect_emb_val (cfg2.win 5) t y a) hy
  refine (layer_col (data_blk hn (blkOf cfg2 A 0 t) (hG i) _ (fun _ => rfl) (Window.rect_emb_val (cfg2.win 0) t))
    (data_blk hn (blkOf cfg2 A 1 t) (h.part i) _ (fun _ => rfl) (Window.rect_emb_val (cfg2.win 1) t))
    (data_blk hn (blkOf cfg2 A 2 t) (h.less i) _ (fun _ => rfl) (Window.rect_emb_val (cfg2.win 2) t)) ?_ ?_ f)
  · rw [whole_blk (t := t) (blkOf cfg2 A 3 t) (X := A (at' main_v22)) _ (fun _ => rfl) (Window.rect_emb_val (cfg2.win 3) t)]
    exact h.wg
  · rw [whole_blk (t := t) (blkOf cfg2 A 4 t) (X := A (at' main_v24)) _ (fun _ => rfl) (Window.rect_emb_val (cfg2.win 4) t)]
    exact h.wh

/-- So does the third's. -/
theorem leave4_feat (h : Layer D (A (at' main_v21_1)) (A (at' main_v21_2)) (A (at' main_v22)) (A (at' main_v24))) (hG : ∀ i, Is (A (at' main_v27)) (node i) (D.agg R i)) (i : Fin 10000) :
    Is (leave4 A (at' main_v28)) (node i) (D.feat (D.next R) i) := fun f => by
  unfold leave4
  rw [Function.update_self]
  refine leave_col (dat cfg4 A (after4 A) 0 0) 5 (by decide +kernel) (Memref.isWhole_whole _) id id (D.feat (D.next R)) (fun t y i f hy => ?_) i f
  obtain ⟨n, hn, rfl⟩ := place _ (fun a => Window.rect_emb_val (cfg4.win 5) t y a) hy
  refine (layer_col (data_blk hn (blkOf cfg4 A 0 t) (hG i) _ (fun _ => rfl) (Window.rect_emb_val (cfg4.win 0) t))
    (data_blk hn (blkOf cfg4 A 1 t) (h.part i) _ (fun _ => rfl) (Window.rect_emb_val (cfg4.win 1) t))
    (data_blk hn (blkOf cfg4 A 2 t) (h.less i) _ (fun _ => rfl) (Window.rect_emb_val (cfg4.win 2) t)) ?_ ?_ f)
  · rw [whole_blk (t := t) (blkOf cfg4 A 3 t) (X := A (at' main_v22)) _ (fun _ => rfl) (Window.rect_emb_val (cfg4.win 3) t)]
    exact h.wg
  · rw [whole_blk (t := t) (blkOf cfg4 A 4 t) (X := A (at' main_v24)) _ (fun _ => rfl) (Window.rect_emb_val (cfg4.win 4) t)]
    exact h.wh

/-- The last call leaves the results' columns. -/
theorem leave6_out (hL : ∀ i, Is (A (at' main_v21_2)) (node i) (fun f => D.bg f - ∑ b, D.p i b * D.wg b f)) (hWg : Tr (A (at' main_v22)) D.wg) (hWf : Tr (A (at' main_v30)) D.wf)
    (hBf : Col (A (at' main_v31)) D.bf) (hG : ∀ i, Is (A (at' main_v29)) (node i) (D.agg R i)) (i : Fin 10000) :
    Is (leave6 A (at' main_v32)) (node i) (Model.lin D.wf D.bf (D.next R i)) := fun f => by
  unfold leave6
  rw [Function.update_self]
  refine leave_col (dat cfg6 A (after6 A) 0 0) 5 (by decide +kernel) (Memref.isWhole_whole _) id id (fun i => Model.lin D.wf D.bf (D.next R i)) (fun t y i f hy => ?_) i f
  obtain ⟨n, hn, rfl⟩ := place _ (fun a => Window.rect_emb_val (cfg6.win 5) t y a) hy
  refine (final_col (data_blk hn (blkOf cfg6 A 0 t) (hG i) _ (fun _ => rfl) (Window.rect_emb_val (cfg6.win 0) t))
    (data_blk hn (blkOf cfg6 A 1 t) (hL i) _ (fun _ => rfl) (Window.rect_emb_val (cfg6.win 1) t)) ?_ ?_ ?_ f)
  · rw [whole_blk (t := t) (blkOf cfg6 A 2 t) (X := A (at' main_v22)) _ (fun _ => rfl) (Window.rect_emb_val (cfg6.win 2) t)]
    exact hWg
  · rw [whole_blk (t := t) (blkOf cfg6 A 3 t) (X := A (at' main_v30)) _ (fun _ => rfl) (Window.rect_emb_val (cfg6.win 3) t)]
    exact hWf
  · rw [whole_blk (t := t) (blkOf cfg6 A 4 t) (X := A (at' main_v31)) _ (fun _ => rfl) (Window.rect_emb_val (cfg6.win 4) t)]
    exact hBf

/-! ## The first call -/

/-- What the first call finds: the nodes' rows as columns, the weights turned round and the biases as columns. -/
structure Ready (D : Model.Data) (A : Valuation τ sig (Elt Ideal)) : Prop where
  x : ∀ i, Is (A (at' main_v1)) (node i) (D.x i)
  w0 : Tr (A (at' main_v6)) D.w0
  b0 : Col (A (at' main_v7)) D.b0
  w1 : Tr (A (at' main_v8)) D.w1
  b1 : Col (A (at' main_v9)) D.b1
  wp0 : Tr (A (at' main_v10)) D.wp0
  bp0 : Col (A (at' main_v11)) D.bp0
  wp1 : Tr (A (at' main_v12)) D.wp1
  bp1 : Col (A (at' main_v13)) D.bp1
  wq : Tr (A (at' main_v15)) D.wq
  bl : Col (A (at' main_v16)) D.bl
  wg : Tr (A (at' main_v17)) D.wg
  bg : Col (A (at' main_v18)) D.bg
  wh : Tr (A (at' main_v20)) D.wh

/-- A block of the first call's bodies: the arrays' columns and the whole weights. -/
theorem first_blk (h : Ready D A) {t : Fin cfg0.N} {n : Fin 2048} {i : Fin 10000} (hn : 2048 * t.val + n.val = i.val) :
    Is (blkOf cfg0 A 0 t) n (D.x i) ∧ Tr (blkOf cfg0 A 1 t) D.w0 ∧ Col (blkOf cfg0 A 2 t) D.b0 ∧ Tr (blkOf cfg0 A 3 t) D.w1 ∧ Col (blkOf cfg0 A 4 t) D.b1
      ∧ Tr (blkOf cfg0 A 5 t) D.wp0 ∧ Col (blkOf cfg0 A 6 t) D.bp0 ∧ Tr (blkOf cfg0 A 7 t) D.wp1 ∧ Col (blkOf cfg0 A 8 t) D.bp1 ∧ Tr (blkOf cfg0 A 9 t) D.wq
      ∧ Col (blkOf cfg0 A 10 t) D.bl ∧ Tr (blkOf cfg0 A 11 t) D.wg ∧ Col (blkOf cfg0 A 12 t) D.bg ∧ Tr (blkOf cfg0 A 13 t) D.wh := by
  rw [whole_blk (t := t) (blkOf cfg0 A 1 t) (X := A (at' main_v6)) _ (fun _ => rfl) (Window.rect_emb_val (cfg0.win 1) t),
    whole_blk (t := t) (blkOf cfg0 A 2 t) (X := A (at' main_v7)) _ (fun _ => rfl) (Window.rect_emb_val (cfg0.win 2) t),
    whole_blk (t := t) (blkOf cfg0 A 3 t) (X := A (at' main_v8)) _ (fun _ => rfl) (Window.rect_emb_val (cfg0.win 3) t),
    whole_blk (t := t) (blkOf cfg0 A 4 t) (X := A (at' main_v9)) _ (fun _ => rfl) (Window.rect_emb_val (cfg0.win 4) t),
    whole_blk (t := t) (blkOf cfg0 A 5 t) (X := A (at' main_v10)) _ (fun _ => rfl) (Window.rect_emb_val (cfg0.win 5) t),
    whole_blk (t := t) (blkOf cfg0 A 6 t) (X := A (at' main_v11)) _ (fun _ => rfl) (Window.rect_emb_val (cfg0.win 6) t),
    whole_blk (t := t) (blkOf cfg0 A 7 t) (X := A (at' main_v12)) _ (fun _ => rfl) (Window.rect_emb_val (cfg0.win 7) t),
    whole_blk (t := t) (blkOf cfg0 A 8 t) (X := A (at' main_v13)) _ (fun _ => rfl) (Window.rect_emb_val (cfg0.win 8) t),
    whole_blk (t := t) (blkOf cfg0 A 9 t) (X := A (at' main_v15)) _ (fun _ => rfl) (Window.rect_emb_val (cfg0.win 9) t),
    whole_blk (t := t) (blkOf cfg0 A 10 t) (X := A (at' main_v16)) _ (fun _ => rfl) (Window.rect_emb_val (cfg0.win 10) t),
    whole_blk (t := t) (blkOf cfg0 A 11 t) (X := A (at' main_v17)) _ (fun _ => rfl) (Window.rect_emb_val (cfg0.win 11) t),
    whole_blk (t := t) (blkOf cfg0 A 12 t) (X := A (at' main_v18)) _ (fun _ => rfl) (Window.rect_emb_val (cfg0.win 12) t),
    whole_blk (t := t) (blkOf cfg0 A 13 t) (X := A (at' main_v20)) _ (fun _ => rfl) (Window.rect_emb_val (cfg0.win 13) t)]
  exact ⟨data_blk hn (blkOf cfg0 A 0 t) (h.x i) _ (fun _ => rfl) (Window.rect_emb_val (cfg0.win 0) t), h.w0, h.b0, h.w1, h.b1, h.wp0, h.bp0, h.wp1, h.bp1, h.wq, h.bl, h.wg, h.bg, h.wh⟩

/-- The first call leaves the first rows' source parts. -/
theorem leave0_feat (h : Ready D A) (i : Fin 10000) : Is (leave0 A (at' main_v21_0)) (node i) (D.feat D.h0 i) := fun f => by
  unfold leave0
  rw [Function.update_of_ne (devRef_ne_of_ne (by decide)), Function.update_of_ne (devRef_ne_of_ne (by decide)), Function.update_self]
  refine leave_col (dat cfg0 A (after0 A) 0 0) 14 (by decide +kernel) (Memref.isWhole_whole _) id id (D.feat D.h0) (fun t y i f hy => ?_) i f
  obtain ⟨n, hn, rfl⟩ := place _ (fun a => Window.rect_emb_val (cfg0.win 14) t y a) hy
  obtain ⟨hx, hw0, hb0, hw1, hb1, hwp, hbp, hwp1, hbp1, hwq, hbl, -, -, hwh⟩ := first_blk h hn
  exact feat_col (first_col hx hw0 hb0 hw1 hb1) (pos_col hx hw0 hb0 hw1 hb1 hwp hbp hwp1 hbp1) hwq hbl hwh f

/-- And the positions' part with its bias. -/
theorem leave0_part (h : Ready D A) (i : Fin 10000) : Is (leave0 A (at' main_v21_1)) (node i) (fun f => D.p i f + D.bl f) := fun f => by
  unfold leave0
  rw [Function.update_of_ne (devRef_ne_of_ne (by decide)), Function.update_self]
  refine leave_col (dat cfg0 A (after0 A) 0 0) 15 (by decide +kernel) (Memref.isWhole_whole _) id id (fun i f => D.p i f + D.bl f) (fun t y i f hy => ?_) i f
  obtain ⟨n, hn, rfl⟩ := place _ (fun a => Window.rect_emb_val (cfg0.win 15) t y a) hy
  obtain ⟨hx, hw0, hb0, hw1, hb1, hwp, hbp, hwp1, hbp1, hwq, hbl, -, -, -⟩ := first_blk h hn
  exact biased_col (pos_col hx hw0 hb0 hw1 hb1 hwp hbp hwp1 hbp1) hwq hbl f

/-- And the layer's bias less it. -/
theorem leave0_less (h : Ready D A) (i : Fin 10000) : Is (leave0 A (at' main_v21_2)) (node i) (fun f => D.bg f - ∑ b, D.p i b * D.wg b f) := fun f => by
  unfold leave0
  rw [Function.update_self]
  refine leave_col (dat cfg0 A (after0 A) 0 0) 16 (by decide +kernel) (Memref.isWhole_whole _) id id (fun i f => D.bg f - ∑ b, D.p i b * D.wg b f) (fun t y i f hy => ?_) i f
  obtain ⟨n, hn, rfl⟩ := place _ (fun a => Window.rect_emb_val (cfg0.win 16) t y a) hy
  obtain ⟨hx, hw0, hb0, hw1, hb1, hwp, hbp, hwp1, hbp1, hwq, -, hwg, hbg, -⟩ := first_blk h hn
  exact less_col (pos_col hx hw0 hb0 hw1 hb1 hwp hbp hwp1 hbp1) hwq hbg hwg f

end Cert.Proof

end
-- ==== Proof.Network.lean ====
/-
  The program's result at the ideal floats: from the arguments to it, the arrays' columns are the network's.
-/
module

public import proofs.«01_k».proof.Proof.Values
public import proofs.«01_k».proof.Proof.Ends

@[expose] public section

set_option maxRecDepth 16384

noncomputable section

namespace Cert.Proof

open Cert.KernelIdeal Cert.KernelIdeal.Gen
open Idealize.ShloMosaic Idealize.ShloMosaic.ValueIdx Idealize.ShloMosaic.StableHlo Idealize.SL.Sem
open Idealize.ShloMosaic.SparseCore (S V T)

/-! ## Arrays turned round, sliced and padded -/

/-- A matrix turned round. -/
theorem tr_of {K M : ℕ} {X : Mat K M} {w : Fin K → Fin M → EReal} (hX : ∀ k f, X (ix2 k f) = w k f) (h) : Tr (transpose ⟨2, ![M, K]⟩ [1, 0] X h) w := fun f k =>
  (transpose_ix2_apply X h f k).trans (hX k f)

/-- A vector as a column. -/
theorem col_of {M : ℕ} {B : Vect M} {b : Fin M → EReal} (hB : ∀ f, B (ix1 f) = b f) (h : (⟨1, ![M]⟩ : Shape).ShapeCasts ⟨2, ![M, 1]⟩) :
    Col (shapeCast ⟨2, ![M, 1]⟩ B h) b := fun f =>
  (shapeCast_apply _ h _ (ix1 f) (by rw [Shape.rowMajor_val_two, Shape.rowMajor_val_one]; simp; rfl)).trans (hB f)

/-- A matrix's rows from `o` on. -/
theorem rows_of {K K' M : ℕ} {X : Mat K M} {w : Fin K → Fin M → EReal} (hX : ∀ k f, X (ix2 k f) = w k f) (o : ℕ) (ho : o + K' ≤ K) (h) (k : Fin K') (f : Fin M) :
    extractStridedSlice ⟨2, ![K', M]⟩ ![o, 0] X h (ix2 k f) = w ⟨o + k.val, by omega⟩ f :=
  (extractStridedSlice_apply _ _ h _ (ix2 ⟨o + k.val, by omega⟩ f) fun a => match a with
    | 0 => rfl
    | 1 => (Nat.zero_add _).symm).trans (hX _ _)

/-- The nodes' rows as columns, padded. -/
theorem padded {X : Mat 10000 128} {x : Fin 10000 → Fin 128 → EReal} (hX : ∀ i k, X (ix2 i k) = x i k) (h) {u : Shape} (v : u.Idx → EReal) (hp) (hu) (i : Fin 10000) :
    Is (pad S128x10240 ![0, 0] ![0, 240] ![0, 0] (transpose S128x10000 [1, 0] X h) v hp hu) (node i) (x i) := fun k =>
  (pad_apply_of_inside _ _ _ _ v hp hu _ (ix2 k i) fun a => match a with
    | 0 => by show k.val = 0 + k.val * (0 + 1); omega
    | 1 => by show i.val = 0 + i.val * (0 + 1); omega).trans ((transpose_ix2_apply X h k i).trans (hX i k))

variable (m : (ℓ : Loc nD τ sig) → Buf (Elt Ideal) ℓ) (d : Dev nD)

/-- The arguments of a launch memory. -/
def kargs : Args :=
  ⟨m ((SparseCore.T d).loc main_arg0), m ((SparseCore.T d).loc main_arg1), m ((SparseCore.T d).loc main_arg2), m ((SparseCore.T d).loc main_arg3), m ((SparseCore.T d).loc main_arg4), m ((SparseCore.T d).loc main_arg5),
   m ((SparseCore.T d).loc main_arg6), m ((SparseCore.T d).loc main_arg7), m ((SparseCore.T d).loc main_arg8), m ((SparseCore.T d).loc main_arg9), m ((SparseCore.T d).loc main_arg10), m ((SparseCore.T d).loc main_arg11),
   m ((SparseCore.T d).loc main_arg12), m ((SparseCore.T d).loc main_arg13), m ((SparseCore.T d).loc main_arg14), m ((SparseCore.T d).loc main_arg15)⟩

variable {m d} {D : Model.Data} (hA : Means (kargs m d) D)

include hA

/-- What the first call finds. -/
theorem first_ready : Ready D (firstV m d) where
  x := by delta firstV opsA; after_results; exact padded hA.x transposes_S10000x128_S128x10000_1_0 (sitofp (F := Ideal) .f32 (constantI S_ 32 0#32)) pads_S128x10000_S128x10240_000_02400 h_S_
  w0 := by delta firstV opsA; after_results; exact tr_of hA.w0 _
  b0 := by delta firstV opsA; after_results; exact col_of hA.b0 _
  w1 := by delta firstV opsA; after_results; exact tr_of hA.w1 _
  b1 := by delta firstV opsA; after_results; exact col_of hA.b1 _
  wp0 := by delta firstV opsA; after_results; exact tr_of hA.wp0 _
  bp0 := by delta firstV opsA; after_results; exact col_of hA.bp0 _
  wp1 := by delta firstV opsA; after_results; exact tr_of hA.wp1 _
  bp1 := by delta firstV opsA; after_results; exact col_of hA.bp1 _
  wq := by delta firstV opsA; after_results; exact tr_of (rows_of hA.wl 128 (by decide) _) _
  bl := by delta firstV opsA; after_results; exact col_of hA.bl _
  wg := by delta firstV opsA; after_results; exact tr_of hA.wg _
  bg := by delta firstV opsA; after_results; exact col_of hA.bg _
  wh := by
    delta firstV opsA
    after_results
    refine tr_of (fun k f => (rows_of hA.wl 0 (by decide) _ k f).trans ?_) _
    have : (⟨0 + k.val, by omega⟩ : Fin 131) = ⟨k.val, by omega⟩ := Fin.ext (Nat.zero_add _)
    rw [this]
    rfl

/-- What the first call leaves, for the SparseCores. -/
theorem base_feat (i : Fin 10000) : Is (baseV m d (at' main_v21_0)) (node i) (D.feat (D.rows 0) i) := by
  have e : baseV m d (at' main_v21_0) = leave0 (firstV m d) (at' main_v21_0) := after_unwritten [main_v22, main_v23, main_v24] rfl (by decide) _
  rw [e]
  exact leave0_feat (first_ready hA) i

/-- What it leaves for the layers. -/
theorem base_layer : Layer D (baseV m d (at' main_v21_1)) (baseV m d (at' main_v21_2)) (baseV m d (at' main_v22)) (baseV m d (at' main_v24)) where
  part := by
    have e : baseV m d (at' main_v21_1) = leave0 (firstV m d) (at' main_v21_1) := after_unwritten [main_v22, main_v23, main_v24] rfl (by decide) _
    rw [e]
    exact leave0_part (first_ready hA)
  less := by
    have e : baseV m d (at' main_v21_2) = leave0 (firstV m d) (at' main_v21_2) := after_unwritten [main_v22, main_v23, main_v24] rfl (by decide) _
    rw [e]
    exact leave0_less (first_ready hA)
  wg := by
    delta baseV opsB
    after_results
    refine tr_of (fun k f => ?_) _
    rw [leave0_of_ne _ (devRef_ne_of_ne (by decide)) (devRef_ne_of_ne (by decide)) (devRef_ne_of_ne (by decide)), first_of m d (by decide)]
    exact hA.wg k f
  wh := by
    delta baseV opsB
    after_results
    refine tr_of (fun k f => ?_) _
    rw [leave0_of_ne _ (devRef_ne_of_ne (by decide)) (devRef_ne_of_ne (by decide)) (devRef_ne_of_ne (by decide)), first_of m d (by decide)]
    refine (rows_of hA.wl 0 (by decide) _ k f).trans ?_
    have : (⟨0 + k.val, by omega⟩ : Fin 131) = ⟨k.val, by omega⟩ := Fin.ext (Nat.zero_add _)
    rw [this]
    rfl

/-! ## The layers -/

/-- The layers' arrays are there as long as the contents agree. -/
theorem layer_of {V : Valuation τ sig (Elt Ideal)} (hV : Agree (baseV m d) V) : Layer D (V (at' main_v21_1)) (V (at' main_v21_2)) (V (at' main_v22)) (V (at' main_v24)) := by
  rw [hV main_v21_1 (by decide), hV main_v21_2 (by decide), hV main_v22 (by decide), hV main_v24 (by decide)]
  exact base_layer hA

/-- The second layer's source parts. -/
theorem feat1_is {X : (at' main_v26).ty.Contents (Elt Ideal)} (h : Feat1 m d X) (i : Fin 10000) : Is X (node i) (D.feat (D.rows 1) i) := by
  obtain ⟨V, ⟨hV, h0, hG⟩, rfl⟩ := h
  exact leave2_feat (layer_of hA hV) (maxima hA (H := D.rows 0) (fun i => by rw [h0]; exact base_feat hA i) (bounds0 hG)) i

/-- The third's. -/
theorem feat2_is {X : (at' main_v28).ty.Contents (Elt Ideal)} (h : Feat2 m d X) (i : Fin 10000) : Is X (node i) (D.feat (D.rows 2) i) := by
  obtain ⟨V, ⟨hV, h1, hG⟩, rfl⟩ := h
  exact leave4_feat (layer_of hA hV) (maxima hA (H := D.rows 1) (feat1_is hA h1) (bounds1 hG)) i

/-- The rows the last call leaves. -/
theorem last_is {V : Valuation τ sig (Elt Ideal)} (h : Done2 m d V) (i : Fin 10000) : Is (leave6 (after opsC V) (at' main_v32)) (node i) (D.out i) := by
  obtain ⟨hV, h2, hG⟩ := h
  have hl := layer_of hA hV
  have e : ∀ {r : Ref sig .tc}, r ∉ [main_v30, main_v31] → after opsC V (at' r) = V (at' r) := fun hr => after_unwritten [main_v30, main_v31] rfl hr _
  refine leave6_out (R := D.rows 2) ?_ ?_ ?_ ?_ ?_ i
  · rw [e (by decide)]
    exact hl.less
  · rw [e (by decide)]
    exact hl.wg
  · delta opsC
    after_results
    refine tr_of (fun k f => ?_) _
    rw [kept_of m hV (by decide) (by decide) (by decide)]
    exact hA.wf k f
  · delta opsC
    after_results
    refine col_of (fun f => ?_) _
    rw [kept_of m hV (by decide) (by decide) (by decide)]
    exact hA.bf f
  · rw [e (by decide)]
    exact maxima hA (feat2_is hA h2) (bounds2 hG)

/-- The result is the network's. -/
theorem end_is {V : Valuation τ sig (Elt Ideal)} (h : Done2 m d V) (i : Fin 10000) (f : Fin 128) :
    (endV V (at' main_v34) : Mat 10000 128) (ix2 i f) = D.out i f := by
  delta endV opsD
  after_results
  refine (transpose_ix2_apply _ _ i f).trans ((extractStridedSlice_apply _ _ _ _ (ix2 f (node i)) fun a => ?_).trans (last_is hA h i f))
  match a with
  | 0 => exact (Nat.zero_add _).symm
  | 1 => exact (Nat.zero_add _).symm

end Cert.Proof

end
-- ==== Proof.Inputs.lean ====
/-
  What the precondition says of the arguments: their words name nodes and the floats it names are real, so they are a network's.
-/
module

public import proofs.«01_k».proof.Proof.Net
public import proofs.«01_k».proof.Proof.Runs
public import proofs.«01_k».proof.Proof.Gen.Pre_inputs
public import Idealize.ShloMosaic.Lib.ReduceAll

@[expose] public section

noncomputable section

namespace Cert.Proof

open Idealize.ShloMosaic Idealize.ShloMosaic.ValueIdx
open Cert.Pre_inputs

/-- The words of an edge index are numbers of nodes. -/
def Named (e : (⟨2, ![2, 320000]⟩ : Shape).Idx → BitVec 32) : Prop := ∀ x, (e x).toNat < 10000

/-- An array's entries compare less than infinity. -/
def Finite {F : FTy → Type} [FloatOps F] {s : Shape} (a : s.Idx → F .f32) : Prop :=
  ∀ x, FloatOps.cmpf .olt (FloatOps.hostAbsf (a x)) (FloatOps.ofBits (F := F) .f32 0x7F800000#32) = 1#1

/-- What the precondition's last word being one says of each argument. -/
theorem inputs_read {F : FTy → Type} [FloatOps F] {a0 : FVec F S10000x128 .f32} {a1 : IVec S2x320000 32} {a2 : FVec F S128x128 .f32} {a3 : FVec F S128 .f32}
    {a4 : FVec F S128x128 .f32} {a5 : FVec F S128 .f32} {a6 : FVec F S128x128 .f32} {a7 : FVec F S128 .f32} {a8 : FVec F S128x3 .f32} {a9 : FVec F S3 .f32}
    {a10 : FVec F S131x128 .f32} {a11 : FVec F S128 .f32} {a12 : FVec F S128x128 .f32} {a13 : FVec F S128 .f32} {a14 : FVec F S128x128 .f32} {a15 : FVec F S128 .f32}
    (h : Cert.Pre_inputs.fn (F := F) a0 a1 a2 a3 a4 a5 a6 a7 a8 a9 a10 a11 a12 a13 a14 a15 = fun _ => 1#1) :
    Named a1 ∧ Finite a0 ∧ Finite a2 ∧ Finite a3 ∧ Finite a4 ∧ Finite a5 ∧ Finite a6 ∧ Finite a7 ∧ Finite a8 ∧ Finite a9 ∧ Finite a10 ∧ Finite a12 := by
  haveI : Subsingleton S_.Idx := ⟨fun a b => funext fun k => Fin.elim0 k⟩
  have k := congrFun h (fun k => Fin.elim0 k)
  obtain ⟨k, h12⟩ := IntOp.andi_eq_one.1 k
  obtain ⟨k, h10⟩ := IntOp.andi_eq_one.1 k
  obtain ⟨k, h9⟩ := IntOp.andi_eq_one.1 k
  obtain ⟨k, h8⟩ := IntOp.andi_eq_one.1 k
  obtain ⟨k, h7⟩ := IntOp.andi_eq_one.1 k
  obtain ⟨k, h6⟩ := IntOp.andi_eq_one.1 k
  obtain ⟨k, h5⟩ := IntOp.andi_eq_one.1 k
  obtain ⟨k, h4⟩ := IntOp.andi_eq_one.1 k
  obtain ⟨k, h3⟩ := IntOp.andi_eq_one.1 k
  obtain ⟨k, h2⟩ := IntOp.andi_eq_one.1 k
  obtain ⟨k, h0⟩ := IntOp.andi_eq_one.1 k
  refine ⟨fun x => ?_, Host.reduce_andi_all _ _ _ _ _ h0, Host.reduce_andi_all _ _ _ _ _ h2, Host.reduce_andi_all _ _ _ _ _ h3, Host.reduce_andi_all _ _ _ _ _ h4,
    Host.reduce_andi_all _ _ _ _ _ h5, Host.reduce_andi_all _ _ _ _ _ h6, Host.reduce_andi_all _ _ _ _ _ h7, Host.reduce_andi_all _ _ _ _ _ h8,
    Host.reduce_andi_all _ _ _ _ _ h9, Host.reduce_andi_all _ _ _ _ _ h10, Host.reduce_andi_all _ _ _ _ _ h12⟩
  have k' : IntOp.andi (IntOp.cmpi .sge (a1 x) 0#32) (IntOp.cmpi .slt (a1 x) 10000#32) = 1#1 := Host.reduce_andi_all _ _ _ _ _ k x
  generalize a1 x = w at k' ⊢
  simp only [IntOp.andi_eq_one, IntOp.cmpi_sge, IntOp.cmpi_slt, BitVec.toInt_eq_toNat_cond, BitVec.toNat_ofNat, Nat.reducePow, Nat.reduceMod] at k'
  omega

/-- A row of such an edge index names nodes. -/
theorem nodes_of {e : (⟨2, ![2, 320000]⟩ : Shape).Idx → BitVec 32} (h : Named e) (k : Fin 2) : Nodes (wordOf e k) := fun n => by
  unfold wordOf
  split
  · exact (h _).trans (by decide)
  · decide

/-- With the self loops after it, every word is a node's number. -/
theorem ext_lt {e : (⟨2, ![2, 320000]⟩ : Shape).Idx → BitVec 32} (h : Named e) (k : Fin 2) (n : Fin 330000) : (ext e k n.val).toNat < 10000 := by
  have hn := n.isLt
  unfold ext
  split
  · unfold wordOf
    rw [dif_pos ‹_›]
    exact h _
  · rw [BitVec.toNat_ofNat]
    omega

/-- An ideal value less than infinity both ways is a real. -/
theorem real_of {s : Shape} {a : s.Idx → EReal} (h : Finite (F := Ideal) a) (x : s.Idx) : Model.Real (a x) := by
  have htop : Ideal.ofBits .f32 0x7F800000#32 = ⊤ := by simp [Ideal.ofBits, Ideal.ieee]
  have k : Ideal.cmp .olt (max (a x) (-(a x))) (Ideal.ofBits .f32 0x7F800000#32) = 1#1 := h x
  rw [htop] at k
  have hlt : max (a x) (-(a x)) < ⊤ := by
    by_contra hn
    simp [Ideal.cmp, hn] at k
  rw [max_lt_iff] at hlt
  refine ⟨(a x).toReal, (EReal.coe_toReal hlt.1.ne fun hb => ?_).symm⟩
  rw [hb] at hlt
  simp at hlt

/-- The precondition at the ideal floats. -/
abbrev Pre (A : Args) : Prop := Cert.Pre_inputs.fn (F := Ideal) A.a0 A.a1 A.a2 A.a3 A.a4 A.a5 A.a6 A.a7 A.a8 A.a9 A.a10 A.a11 A.a12 A.a13 A.a14 A.a15 = fun _ => 1#1

/-- The network of the arguments: their entries, the edges and the self loops after them. -/
def net (A : Args) (h : Pre A) : Model.Data where
  x i k := A.a0 (ix2 i k)
  w0 i k := A.a2 (ix2 i k)
  b0 k := A.a3 (ix1 k)
  w1 i k := A.a4 (ix2 i k)
  b1 k := A.a5 (ix1 k)
  wp0 i k := A.a6 (ix2 i k)
  bp0 k := A.a7 (ix1 k)
  wp1 i k := A.a8 (ix2 i k)
  bp1 k := A.a9 (ix1 k)
  wl i k := A.a10 (ix2 i k)
  bl k := A.a11 (ix1 k)
  wg i k := A.a12 (ix2 i k)
  bg k := A.a13 (ix1 k)
  wf i k := A.a14 (ix2 i k)
  bf k := A.a15 (ix1 k)
  src n := ⟨(ext A.a1 0 n.val).toNat, ext_lt (inputs_read h).1 0 n⟩
  dst n := ⟨(ext A.a1 1 n.val).toNat, ext_lt (inputs_read h).1 1 n⟩
  x_real _ _ := real_of (inputs_read h).2.1 _
  w0_real _ _ := real_of (inputs_read h).2.2.1 _
  b0_real _ := real_of (inputs_read h).2.2.2.1 _
  w1_real _ _ := real_of (inputs_read h).2.2.2.2.1 _
  b1_real _ := real_of (inputs_read h).2.2.2.2.2.1 _
  wp0_real _ _ := real_of (inputs_read h).2.2.2.2.2.2.1 _
  bp0_real _ := real_of (inputs_read h).2.2.2.2.2.2.2.1 _
  wp1_real _ _ := real_of (inputs_read h).2.2.2.2.2.2.2.2.1 _
  bp1_real _ := real_of (inputs_read h).2.2.2.2.2.2.2.2.2.1 _
  wl_real _ _ := real_of (inputs_read h).2.2.2.2.2.2.2.2.2.2.1 _
  wg_real _ _ := real_of (inputs_read h).2.2.2.2.2.2.2.2.2.2.2 _

/-- Arguments of which the precondition holds are that network's. -/
theorem means_net (A : Args) (h : Pre A) : Means A (net A h) :=
  ⟨fun _ _ => rfl, fun _ _ => rfl, fun _ => rfl, fun _ _ => rfl, fun _ => rfl, fun _ _ => rfl, fun _ => rfl, fun _ _ => rfl, fun _ => rfl, fun _ _ => rfl, fun _ => rfl, fun _ _ => rfl, fun _ => rfl, fun _ _ => rfl, fun _ => rfl,
    fun n => by simp [net], fun n => by simp [net]⟩

end Cert.Proof

end
-- ==== Proof.Ref.lean ====
/-
  The reference's value at the ideal floats: the network's.
-/
module

public import proofs.«01_k».proof.Proof.Net
public import proofs.«01_k».proof.Proof.Gen.ReferenceIdeal.Run
public import proofs.«01_k».proof.Proof.Gen.ReferenceIdeal.Step
public import Idealize.ShloMosaic.Lib.Routing.Ops
public import Idealize.ShloMosaic.Lib.ValueLayout
public import Idealize.ShloMosaic.Lib.DynamicIndex
public import Idealize.ShloMosaic.Lib.WordCmp
public import Idealize.ShloMosaic.Lib.StackMember

@[expose] public section

noncomputable section

namespace Cert.Proof.Ref

open Cert.ReferenceIdeal Cert.ReferenceIdeal.Step Cert.ReferenceIdeal.Gen Cert.ReferenceIdeal.Value
open Idealize.ShloMosaic Idealize.ShloMosaic.ValueIdx Idealize.ShloMosaic.StackMember

/-! ## The operations at an index -/

/-- A dense layer of one row. -/
theorem dense {n K N : ℕ} (d : DotDims ⟨2, ![n, K]⟩ ⟨2, ![K, N]⟩ ⟨2, ![n, N]⟩) (hd : d = DotDims.plain n K N) (X : Mat n K) (W : Mat K N) (B : Vect N)
    (h₁ : (⟨1, ![N]⟩ : Shape).BroadcastsInDim ⟨2, ![1, N]⟩ ![1]) (h₂ : (⟨2, ![1, N]⟩ : Shape).BroadcastsInDim ⟨2, ![n, N]⟩ ![0, 1]) (i : Fin n) (f : Fin N)
    (v : Fin K → EReal) (w : Fin K → Fin N → EReal) (b : Fin N → EReal) (hX : ∀ k, X (ix2 i k) = v k) (hW : ∀ k f, W (ix2 k f) = w k f) (hB : ∀ f, B (ix1 f) = b f) :
    addf (F := Ideal) (φ := .f32) (Host.dotGeneral (φ₁ := .f32) (φ₂ := .f32) d none X W) (broadcastInDim ⟨2, ![n, N]⟩ ![0, 1] h₂ (broadcastInDim ⟨2, ![1, N]⟩ ![1] h₁ B)) (ix2 i f)
      = Model.lin w b v f := by
  subst hd
  show (Host.dotGeneral (F := Ideal) (φ₁ := .f32) (φ₂ := .f32) (DotDims.plain n K N) none X W (ix2 i f) : EReal) + broadcastInDim ⟨2, ![n, N]⟩ ![0, 1] h₂ (broadcastInDim ⟨2, ![1, N]⟩ ![1] h₁ B) (ix2 i f) = _
  rw [dotGeneral_plain_apply, Routing.bcCols h₁ h₂ B i f, hB]
  simp only [hX, hW]
  rfl

/-- The positive part of a row. -/
theorem positive {n N : ℕ} (X : Mat n N) (h : S_.BroadcastsInDim ⟨2, ![n, N]⟩ ![]) (i : Fin n) (f : Fin N) (v : Fin N → EReal) (hX : X (ix2 i f) = v f) :
    maximumf (F := Ideal) (φ := .f32) X (broadcastInDim ⟨2, ![n, N]⟩ ![] h (constant S_ .f32 0x00000000#32)) (ix2 i f) = Model.relu v f := by
  show max (X (ix2 i f)) (broadcastInDim ⟨2, ![n, N]⟩ ![] h (constant (F := Ideal) S_ .f32 0x00000000#32) (ix2 i f)) = _
  rw [broadcastInDim_scalar_apply, hX]
  show max (v f) (Ideal.ofBits .f32 0x00000000#32) = _
  rw [Ideal.ofBits_zero_f32]
  rfl

/-- A row of the edge index joined with the nodes' numbers. -/
theorem joined (e : S2x320000.Idx → BitVec 32) (k : Fin 2) (a : S320000.Idx → BitVec 32) (ha : ∀ x : S320000.Idx, a x = wordOf e k (x 0).val)
    (h : Shape.Concatenates [S320000, S10000] S330000 0) (x : S330000.Idx) :
    concatenate S330000 0 [⟨S320000, a⟩, ⟨S10000, (iotaInDim S10000 32 0 : IVec S10000 32)⟩] h x = ext e k (x 0).val := by
  have hx : (x 0).val < 330000 := (x 0).isLt
  unfold ext
  by_cases hlt : (x 0).val < 320000
  · rw [if_pos hlt, concatenate_pair_apply_left 0 _ _ h x rfl (ix1 ⟨(x 0).val, hlt⟩) (fun b => by
      obtain rfl : b = 0 := Subsingleton.elim _ _
      rfl), ha]
  · rw [if_neg hlt, concatenate_pair_apply_right 0 _ _ h x rfl rfl (ix1 ⟨(x 0).val - 320000, by omega⟩) (fun b hb => absurd (Subsingleton.elim _ _) hb)
      (by show (x 0).val - 320000 + 320000 = (x 0).val; omega)]
    rfl

/-- The rows of a table that words name, its negative words wrapped. -/
theorem rows_at {B : ℕ} (d : GatherDims ⟨2, ![10000, B]⟩ ⟨2, ![330000, 1]⟩ ⟨2, ![330000, B]⟩) (hoff : d.offsetDims = [1]) (hcoll : d.collapsedSliceDims = [0])
    (hob : d.operandBatchingDims = []) (hsim : d.startIndexMap = [0]) (hivd : d.indexVectorDim = 1) (X : Mat 10000 B) (w : S330000.Idx → BitVec 32) (u : IVec S330000 32)
    (h : S330000.BroadcastsInDim S330000x1 ![0]) (e : Fin 330000) (y : Fin B) (b : Fin 10000) (hb : w (ix1 e) = BitVec.ofNat 32 b.val) :
    Host.gather d X (broadcastInDim S330000x1 ![0] h (select (cmpi .slt w (constantI S330000 32 0#32)) u w)) (ix2 e y) = X (ix2 b y) := by
  have hlt := b.isLt
  refine Routing.gather_row d hoff hcoll hob hsim hivd X _ e y b ?_ (by decide)
  rw [Routing.bcCol h, select_slt_zero_of_nonneg _ _ _ _ (by rw [hb, toInt_ofNat_of_lt (by omega)]; exact Int.natCast_nonneg _), hb]

/-- An element's upper bounds after a fold of greatest values. -/
theorem foldl_max_le {ι : Type} (g : ι → EReal) (l : List ι) (a x : EReal) : l.foldl (fun r i => max r (g i)) a ≤ x ↔ a ≤ x ∧ ∀ i ∈ l, g i ≤ x := by
  induction l generalizing a with
  | nil => exact ⟨fun h => ⟨h, fun i hi => nomatch hi⟩, fun h => h.1⟩
  | cons b l ih =>
    rw [List.foldl_cons, ih, max_le_iff, List.forall_mem_cons, and_assoc]

/-! ## One layer -/

section Layer

variable (j : ℕ) (s : State Ideal)

/-- What the greatest value is taken of. -/
theorem sent (e : Fin 330000) (i : Fin 10000) (f : Fin 128) :
    b29 j s (ix3 e i f) = if s.main_v42_4 (ix1 e) = BitVec.ofNat 32 i.val then b15 j s (ix2 e f) else (⊥ : EReal) := by
  have h21 : b21 j s (ix2 e i) = IntOp.cmpi .eq (s.main_v42_4 (ix1 e)) (BitVec.ofNat 32 i.val) := by
    have h19 : b19 j s (ix2 e i) = s.main_v42_4 (ix1 e) := Routing.bcRows _ _ s.main_v42_4 e i
    have h20 : b20 j s (ix2 e i) = BitVec.ofNat 32 i.val := Routing.bcCols _ _ (b17 j s) e i
    show IntOp.cmpi .eq (b19 j s (ix2 e i)) (b20 j s (ix2 e i)) = _
    rw [h19, h20]
  have h26 : b26 j s (ix3 e i f) = b21 j s (ix2 e i) :=
    (broadcastInDim_apply _ _ (b22 j s) _ (ix3 e i 0) (fun a => match a with | 0 => rfl | 1 => rfl | 2 => rfl)).trans
      (broadcastInDim_apply _ _ (b21 j s) _ (ix2 e i) (fun a => match a with | 0 => rfl | 1 => rfl))
  have h27 : b27 j s (ix3 e i f) = b15 j s (ix2 e f) :=
    (broadcastInDim_apply _ _ (b23 j s) _ (ix3 e 0 f) (fun a => match a with | 0 => rfl | 1 => rfl | 2 => rfl)).trans
      (broadcastInDim_apply _ _ (b15 j s) _ (ix2 e f) (fun a => match a with | 0 => rfl | 1 => rfl))
  have h28 : b28 j s (ix3 e i f) = (⊥ : EReal) := by
    refine (broadcastInDim_scalar_apply _ (b25 j s) _).trans ?_
    show Ideal.ofBits .f32 0xFF800000#32 = ⊥
    simp [Ideal.ofBits, Ideal.ieee]
  show Scalar.select (b26 j s (ix3 e i f)) (b27 j s (ix3 e i f)) (b28 j s (ix3 e i f)) = _
  rw [h26, h27, h28, h21, WordCmp.cmpi_eq_eq]
  unfold Scalar.select
  by_cases h : s.main_v42_4 (ix1 e) = BitVec.ofNat 32 i.val
  · rw [if_pos h, decide_eq_true h]; rfl
  · rw [if_neg h, decide_eq_false h]; rfl

/-- The greatest message's upper bounds. -/
theorem greatest_le (i : Fin 10000) (f : Fin 128) (x : EReal) :
    b31 j s (ix2 i f) ≤ x ↔ ∀ e : Fin 330000, s.main_v42_4 (ix1 e) = BitVec.ofNat 32 i.val → b15 j s (ix2 e f) ≤ x := by
  have hb : b30 j s (Shape.Idx.first h_S_) = (⊥ : EReal) := by
    show Ideal.ofBits .f32 0xFF800000#32 = ⊥
    simp [Ideal.ofBits, Ideal.ieee]
  unfold b31
  rw [Host.reduce_eq_foldl]
  refine (foldl_max_le (b29 j s) _ _ x).trans ?_
  rw [hb]
  refine ⟨fun h e he => ?_, fun h => ⟨bot_le, fun y hy => ?_⟩⟩
  · have := h.2 (ix3 e i f) (List.mem_filter.2 ⟨List.mem_map.2 ⟨S330000x10000x128.rowMajor (ix3 e i f), List.mem_finRange _, Equiv.symm_apply_apply _ _⟩, decide_eq_true ?_⟩)
    · rwa [sent, if_pos he] at this
    · funext b
      match b with
      | 0 => rfl
      | 1 => rfl
  · have hy' := of_decide_eq_true (List.mem_filter.1 hy).2
    obtain ⟨e, i', f', rfl⟩ : ∃ (e : Fin 330000) (i' : Fin 10000) (f' : Fin 128), y = ix3 e i' f' := ⟨y 0, y 1, y 2, eq_ix3 y⟩
    obtain rfl : i' = i := congrFun hy' 0
    obtain rfl : f' = f := congrFun hy' 1
    rw [sent]
    split
    · exact h e ‹_›
    · exact bot_le

end Layer

/-! ## The network -/

section Network

variable {A : Args} {D : Model.Data} (hA : Means A D)

/-- The loop's first state. -/
abbrev first (A : Args) : State Ideal := init A.a10 A.a11 A.a12 A.a13 A.a0 A.a1 A.a2 A.a3 A.a4 A.a5 A.a6 A.a7 A.a8 A.a9

include hA

/-- The first rows. -/
theorem rows0 (i : Fin 10000) (f : Fin 128) : A_main_v9 (F := Ideal) A.a0 A.a1 A.a2 A.a3 A.a4 A.a5 A.a6 A.a7 A.a8 A.a9 (ix2 i f) = D.h0 i f :=
  dense _ rfl (A_main_v5 (F := Ideal) A.a0 A.a1 A.a2 A.a3 A.a4 A.a5 A.a6 A.a7 A.a8 A.a9) A.a4 A.a5 _ _ i f _ D.w1 D.b1 (fun k =>
    positive (A_main_v3 (F := Ideal) A.a0 A.a1 A.a2 A.a3 A.a4 A.a5 A.a6 A.a7 A.a8 A.a9) _ i k _ (dense _ rfl A.a0 A.a2 A.a3 _ _ i k _ D.w0 D.b0 (hA.x i) hA.w0 hA.b0)) hA.w1 hA.b1

/-- The positions. -/
theorem positions (i : Fin 10000) (b : Fin 3) : A_main_v19 (F := Ideal) A.a0 A.a1 A.a2 A.a3 A.a4 A.a5 A.a6 A.a7 A.a8 A.a9 (ix2 i b) = D.pos i b :=
  dense _ rfl (A_main_v15 (F := Ideal) A.a0 A.a1 A.a2 A.a3 A.a4 A.a5 A.a6 A.a7 A.a8 A.a9) A.a8 A.a9 _ _ i b _ D.wp1 D.bp1 (fun k =>
    positive (A_main_v13 (F := Ideal) A.a0 A.a1 A.a2 A.a3 A.a4 A.a5 A.a6 A.a7 A.a8 A.a9) _ i k _
      (dense _ rfl (A_main_v9 (F := Ideal) A.a0 A.a1 A.a2 A.a3 A.a4 A.a5 A.a6 A.a7 A.a8 A.a9) A.a6 A.a7 _ _ i k _ D.wp0 D.bp0 (rows0 hA i) hA.wp0 hA.bp0)) hA.wp1 hA.bp1

/-- The sources, with the self loops. -/
theorem sources (e : Fin 330000) : A_main_v23 (F := Ideal) A.a0 A.a1 A.a2 A.a3 A.a4 A.a5 A.a6 A.a7 A.a8 A.a9 (ix1 e) = BitVec.ofNat 32 (D.src e).val :=
  (joined A.a1 0 _ (fun y => row_words A.a1 0 ![0, 0] rfl _ _ y) _ (ix1 e)).trans (hA.src e)

/-- The destinations, with the self loops. -/
theorem dests (e : Fin 330000) : A_main_v26 (F := Ideal) A.a0 A.a1 A.a2 A.a3 A.a4 A.a5 A.a6 A.a7 A.a8 A.a9 (ix1 e) = BitVec.ofNat 32 (D.dst e).val :=
  (joined A.a1 1 _ (fun y => row_words A.a1 1 ![1, 0] rfl _ _ y) _ (ix1 e)).trans (hA.dst e)

/-- The positions' differences along the edges. -/
theorem differences (e : Fin 330000) (b : Fin 3) : A_main_v41 (F := Ideal) A.a0 A.a1 A.a2 A.a3 A.a4 A.a5 A.a6 A.a7 A.a8 A.a9 (ix2 e b) = D.pos (D.src e) b - D.pos (D.dst e) b := by
  have hs : A_main_v33 (F := Ideal) A.a0 A.a1 A.a2 A.a3 A.a4 A.a5 A.a6 A.a7 A.a8 A.a9 (ix2 e b) = D.pos (D.src e) b :=
    (rows_at gather_S10000x3_S330000x1_S330000x3_1_0_n_n_0_1_13 rfl rfl rfl rfl rfl (A_main_v19 (F := Ideal) A.a0 A.a1 A.a2 A.a3 A.a4 A.a5 A.a6 A.a7 A.a8 A.a9) _ _ _ e b (D.src e) (sources hA e)).trans (positions hA _ _)
  have hd : A_main_v40 (F := Ideal) A.a0 A.a1 A.a2 A.a3 A.a4 A.a5 A.a6 A.a7 A.a8 A.a9 (ix2 e b) = D.pos (D.dst e) b :=
    (rows_at gather_S10000x3_S330000x1_S330000x3_1_0_n_n_0_1_13 rfl rfl rfl rfl rfl (A_main_v19 (F := Ideal) A.a0 A.a1 A.a2 A.a3 A.a4 A.a5 A.a6 A.a7 A.a8 A.a9) _ _ _ e b (D.dst e) (dests hA e)).trans (positions hA _ _)
  show A_main_v33 (F := Ideal) A.a0 A.a1 A.a2 A.a3 A.a4 A.a5 A.a6 A.a7 A.a8 A.a9 (ix2 e b) - A_main_v40 (F := Ideal) A.a0 A.a1 A.a2 A.a3 A.a4 A.a5 A.a6 A.a7 A.a8 A.a9 (ix2 e b) = _
  rw [hs, hd]

/-- What a layer leaves alone of a state. -/
def Rest (s : State Ideal) := (s.main_v42_0, s.main_v42_1, s.main_v42_2, s.main_v42_3, s.main_v42_4, s.main_v42_5, s.main_v42_6)

omit hA in
/-- It is not the rows. -/
theorem rest_mk (a : Mat 10000 128) (s : State Ideal) :
    Rest ⟨a, s.main_v42_0, s.main_v42_1, s.main_v42_2, s.main_v42_3, s.main_v42_4, s.main_v42_5, s.main_v42_6⟩ = Rest s := rfl

omit hA in
/-- A layer leaves it alone. -/
theorem rest_step (j : ℕ) (s : State Ideal) : Rest (step j s) = Rest s :=
  (congrArg Rest (step.eq_1 j s)).trans (rest_mk _ s)

/-- A state of the loop with the network's rows. -/
def At (A : Args) (H : Fin 10000 → Fin 128 → EReal) (s : State Ideal) : Prop :=
  Rest s = Rest (first A) ∧ ∀ i f, s.main_v42_9 (ix2 i f) = H i f

/-- A layer takes the network's rows to its next. -/
theorem at_step (j : ℕ) (s : State Ideal) (H : Fin 10000 → Fin 128 → EReal) (h : At A H s) : At A (D.next H) (step j s) := by
  obtain ⟨hk, hH⟩ := h
  refine ⟨(rest_step j s).trans hk, fun i f => ?_⟩
  rw [Step.step_main_v42_9]
  simp only [Rest, Prod.mk.injEq] at hk
  obtain ⟨k0, k1, k2, k3, k4, k5, k6⟩ := hk
  have h10 : ∀ (e : Fin 330000) (a : Fin 128), b10 j s (ix2 e a) = H (D.src e) a := fun e a =>
    (rows_at gather_S10000x128_S330000x1_S330000x128_1_0_n_n_0_1_1128 rfl rfl rfl rfl rfl s.main_v42_9 s.main_v42_0 _ _ e a (D.src e) (by rw [k0]; exact sources hA e)).trans (hH _ _)
  have h11 : ∀ (e : Fin 330000) (a : Fin 131), b11 j s (ix2 e a)
      = (if h : a.val < 128 then H (D.src e) ⟨a.val, h⟩ else D.pos (D.src e) ⟨a.val - 128, by omega⟩ - D.pos (D.dst e) ⟨a.val - 128, by omega⟩) := fun e a => by
    by_cases ha : a.val < 128
    · rw [dif_pos ha]
      refine Eq.trans ?_ (h10 e ⟨a.val, ha⟩)
      exact concatenate_pair_apply_left (t := S330000x131) (s₁ := S330000x128) (s₂ := S330000x3) (1 : Fin 2) (b10 j s) s.main_v42_1 concatenates_S330000x128_S330000x3_S330000x131_d1 (ix2 e a) rfl (ix2 e ⟨a.val, ha⟩) (fun b => match b with | 0 => rfl | 1 => rfl)
    · rw [dif_neg ha]
      refine Eq.trans ?_ (differences hA e ⟨a.val - 128, by omega⟩)
      refine Eq.trans ?_ (congrFun k1 _)
      exact concatenate_pair_apply_right (t := S330000x131) (s₁ := S330000x128) (s₂ := S330000x3) (1 : Fin 2) (b10 j s) s.main_v42_1 concatenates_S330000x128_S330000x3_S330000x131_d1 (ix2 e a) rfl rfl (ix2 e ⟨a.val - 128, by omega⟩) (fun b hb => match b with | 0 => rfl | 1 => absurd rfl hb)
        (by show a.val - 128 + 128 = a.val; omega)
  have h15 : ∀ (e : Fin 330000) (g : Fin 128), b15 j s (ix2 e g) = D.msg H e g := fun e g =>
    dense _ rfl (b11 j s) s.main_v42_2 s.main_v42_3 _ _ e g _ D.wl D.bl (h11 e) (by rw [k2]; exact hA.wl) (by rw [k3]; exact hA.bl)
  have h31 : ∀ a : Fin 128, b31 j s (ix2 i a) = D.agg H i a - D.p i a := fun a =>
    D.eq_agg_sub H i a _ fun x => (greatest_le j s i a x).trans (forall_congr' fun e => by
      have hd : s.main_v42_4 (ix1 e) = BitVec.ofNat 32 (D.dst e).val := by rw [k4]; exact dests hA e
      rw [hd, h15]
      exact imp_congr_left ⟨fun h => Fin.ext (word_inj (D.dst e).isLt i.isLt h), fun h => by rw [h]⟩)
  exact positive (b35 j s) _ i f _ (dense _ rfl (b31 j s) s.main_v42_5 s.main_v42_6 _ _ i f _ D.wg D.bg h31 (by rw [k5]; exact hA.wg) (by rw [k6]; exact hA.bg))

/-- The loop's states. -/
def states (A : Args) : ℕ → State Ideal
  | 0 => first A
  | k + 1 => step k (states A k)

/-- They have the network's rows. -/
theorem at_states (k : ℕ) : At A (D.rows k) (states A k) := by
  induction k with
  | zero => exact ⟨rfl, rows0 hA⟩
  | succ k ih => exact at_step hA k _ _ ih

/-- The result is the network's. -/
theorem result (i : Fin 10000) (f : Fin 128) : R_main_v46 (states A 3) A.a14 A.a15 (ix2 i f) = D.out i f :=
  dense _ rfl (states A 3).main_v42_9 A.a14 A.a15 _ _ i f _ D.wf D.bf ((at_states hA 3).2 i) hA.wf hA.bf

end Network

/-! ## The loop -/

section Loop

open Idealize.ShloMosaic.TcCoe Idealize.SL.Sem Idealize.ShloMosaic.StableHlo

/-- A valuation holds a state and the number of layers done. -/
def Keeps (X : Valuation τ sig (Elt Ideal)) (s : State Ideal) (j : ℕ) : Prop :=
  X (Proc.devRef .tc main_v42_9) = s.main_v42_9 ∧ X (Proc.devRef .tc main_v42_0) = s.main_v42_0 ∧ X (Proc.devRef .tc main_v42_1) = s.main_v42_1
    ∧ X (Proc.devRef .tc main_v42_2) = s.main_v42_2 ∧ X (Proc.devRef .tc main_v42_3) = s.main_v42_3 ∧ X (Proc.devRef .tc main_v42_4) = s.main_v42_4
    ∧ X (Proc.devRef .tc main_v42_5) = s.main_v42_5 ∧ X (Proc.devRef .tc main_v42_6) = s.main_v42_6

/-- A trip of the loop is a step of the state. -/
theorem keeps_step (X : Valuation τ sig (Elt Ideal)) (s : State Ideal) (j : ℕ) (h : Keeps X s j) : Keeps (STEP X) (step j s) (j + 1) := by
  obtain ⟨h9, h0, h1, h2, h3, h4, h5, h6⟩ := h
  have hr := rest_step j s
  simp only [Rest, Prod.mk.injEq] at hr
  obtain ⟨r0, r1, r2, r3, r4, r5, r6⟩ := hr
  rw [Keeps, r0, r1, r2, r3, r4, r5, r6, Step.step_main_v42_9]
  refine ⟨(STEP_main_v42_9 X).trans ?_, (STEP_main_v42_0 X).trans h0, (STEP_main_v42_1 X).trans h1, (STEP_main_v42_2 X).trans h2, (STEP_main_v42_3 X).trans h3,
    (STEP_main_v42_4 X).trans h4, (STEP_main_v42_5 X).trans h5, (STEP_main_v42_6 X).trans h6⟩
  delta Value.step_main_v42_9
  rw [h9, h0, h1, h2, h3, h4, h5, h6]
  rfl

variable (m : (ℓ : Loc nD τ sig) → Buf (Elt Ideal) ℓ) (c : Dev nD)

/-- The arguments of a launch memory. -/
def args : Args :=
  ⟨m ((c.tc : Thread nD τ).loc main_arg0), m ((c.tc : Thread nD τ).loc main_arg1), m ((c.tc : Thread nD τ).loc main_arg2), m ((c.tc : Thread nD τ).loc main_arg3),
   m ((c.tc : Thread nD τ).loc main_arg4), m ((c.tc : Thread nD τ).loc main_arg5), m ((c.tc : Thread nD τ).loc main_arg6), m ((c.tc : Thread nD τ).loc main_arg7),
   m ((c.tc : Thread nD τ).loc main_arg8), m ((c.tc : Thread nD τ).loc main_arg9), m ((c.tc : Thread nD τ).loc main_arg10), m ((c.tc : Thread nD τ).loc main_arg11),
   m ((c.tc : Thread nD τ).loc main_arg12), m ((c.tc : Thread nD τ).loc main_arg13), m ((c.tc : Thread nD τ).loc main_arg14), m ((c.tc : Thread nD τ).loc main_arg15)⟩

set_option maxRecDepth 65536 in
set_option maxHeartbeats 8000000 in
/-- What is there when the loop is entered. -/
theorem keeps_entry : Keeps (entryContents preI m c) (states (args m c) 0) 0 := by
  refine ⟨?_, ?_, ?_, ?_, ?_, ?_, ?_, ?_⟩ <;> (simp only [entryContents, afterL_cons, afterL_nil]; after_reads_simp) <;> rfl

/-- What is there after `k` layers. -/
theorem keeps_iter (k : ℕ) : Keeps (STEP^[k] (entryContents preI m c)) (states (args m c) k) k := by
  induction k with
  | zero => exact keeps_entry m c
  | succ k ih =>
    rw [Function.iterate_succ_apply']
    exact keeps_step _ _ k ih

/-- What the loop's last contents make the result. -/
theorem out_eq : out_main_v46 (STEP^[3] (entryContents preI m c)) = R_main_v46 (states (args m c) 3) (args m c).a14 (args m c).a15 := by
  delta out_main_v46 R_main_v46
  rw [(keeps_iter m c 3).1, iter_main_arg14 m c 3, iter_main_arg15 m c 3]
  rfl

end Loop

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_inputs
public import proofs.«01_k».proof.Proof.Launch
public import proofs.«01_k».proof.Proof.Ends
public import proofs.«01_k».proof.Proof.Same
public import proofs.«01_k».proof.Proof.Network
public import proofs.«01_k».proof.Proof.Inputs
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.SL.Sem

/-- The kernel as printed runs, leaves its arguments and every semaphore as it found them. -/
theorem frame_kernel : Cert.quiescent_Kernel := fun m ρ hpre =>
  of_ideal ((θ_run Cert.KernelIdeal.defs _ _).mono (fun _ h => ⟨fun c => args_kept m (h.1 c), h.2⟩)
    (run_main (F := Bits) m ρ fun d => have hn := (inputs_read (hpre d)).1; ⟨nodes_of hn 0, nodes_of hn 1⟩))

/-- So does its idealization, by the same run. -/
theorem frame_ideal : Cert.quiescent_KernelIdeal := fun m ρ hpre =>
  (θ_run Cert.KernelIdeal.defs _ _).mono (fun _ h => ⟨fun c => args_kept m (h.1 c), h.2⟩)
    (run_main (F := Ideal) m ρ fun d => have hn := (inputs_read (hpre d)).1; ⟨nodes_of hn 0, nodes_of hn 1⟩)

/-- The reference runs and leaves its arguments as it found them. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- The kernel's result is the reference's, where their arguments are. -/
theorem result_eq {m mem : (ℓ : Loc Cert.KernelIdeal.nD Cert.KernelIdeal.τ Cert.KernelIdeal.sig) → Buf (Elt Ideal) ℓ} {d : Dev Cert.KernelIdeal.nD} (h : Ends m d mem)
    {D : Model.Data} (hA : Means (kargs m d) D) {A : Args} (e : A = kargs m d) :
    mem ((SparseCore.T d).loc Cert.KernelIdeal.main_v34) = Cert.ReferenceIdeal.Step.R_main_v46 (Ref.states A 3) A.a14 A.a15 := by
  subst e
  obtain ⟨V, hV, hb⟩ := h
  refine (hb _ (Pipeline.devRef_mem_ucRefs (b := Cert.KernelIdeal.main_v34) rfl)).trans (funext fun y => ?_)
  obtain ⟨i, f, rfl⟩ : ∃ i f, y = ix2 i f := ⟨y 0, y 1, eq_ix2 y⟩
  exact (end_is hA hV i f).trans (Ref.result hA i f).symm

/-- The two programs' arguments are the same where each of them is. -/
theorem args_eq {m : (ℓ : Loc Cert.KernelIdeal.nD Cert.KernelIdeal.τ Cert.KernelIdeal.sig) → Buf (Elt Ideal) ℓ} {d : Dev Cert.KernelIdeal.nD} {A : Args}
    (h : A.a0 = (kargs m d).a0 ∧ A.a1 = (kargs m d).a1 ∧ A.a2 = (kargs m d).a2 ∧ A.a3 = (kargs m d).a3 ∧ A.a4 = (kargs m d).a4 ∧ A.a5 = (kargs m d).a5
      ∧ A.a6 = (kargs m d).a6 ∧ A.a7 = (kargs m d).a7 ∧ A.a8 = (kargs m d).a8 ∧ A.a9 = (kargs m d).a9 ∧ A.a10 = (kargs m d).a10 ∧ A.a11 = (kargs m d).a11
      ∧ A.a12 = (kargs m d).a12 ∧ A.a13 = (kargs m d).a13 ∧ A.a14 = (kargs m d).a14 ∧ A.a15 = (kargs m d).a15) : A = kargs m d := by
  obtain ⟨h0, h1, h2, h3, h4, h5, h6, h7, h8, h9, h10, h11, h12, h13, h14, h15⟩ := h
  cases A
  simp only at h0 h1 h2 h3 h4 h5 h6 h7 h8 h9 h10 h11 h12 h13 h14 h15
  subst h0 h1 h2 h3 h4 h5 h6 h7 h8 h9 h10 h11 h12 h13 h14 h15
  rfl

/-- The two end with the same result. -/
theorem value : Cert.algebraic_KernelIdeal_ReferenceIdeal := fun m ρ m' ρ' hpre hag =>
  ⟨fun c => Cert.ReferenceIdeal.Step.R_main_v46 (Ref.states (Ref.args m' c) 3) (Ref.args m' c).a14 (Ref.args m' c).a15,
    (θ_run Cert.KernelIdeal.defs _ _).mono (fun _ h c => ⟨result_eq (h.1 c) (means_net (kargs m c) (hpre c)) (args_eq (hag c)), args_kept m (h.1 c)⟩)
      (run_main (F := Ideal) m ρ fun d => have hn := (inputs_read (hpre d)).1; ⟨nodes_of hn 0, nodes_of hn 1⟩),
    (θ_run Cert.ReferenceIdeal.defs _ _).mono (fun _ h c => ⟨(h c).1.trans (Ref.out_eq m' c), (h c).2⟩) (Cert.ReferenceIdeal.Value.run m' ρ')⟩

/-- Every claim of the certificate. -/
theorem claim : Cert.Claim := ⟨Cert.Kernel.Gen.facts, Cert.KernelIdeal.Gen.facts, Cert.ReferenceIdeal.Gen.facts, Cert.Pre_inputs.Gen.facts,
  frame_kernel, frame_ideal, frame_reference, fun m ρ _ => frame_reference m ρ trivial, trivial, value⟩

end Cert.Proof

end
